-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_inputs7 [hPre_finite_inputs7 : Cert.Pre_finite_inputs7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_inputs7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_inputs7 [hPre_finite_inputs7 : Cert.Pre_finite_inputs7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_inputs7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Kernel7Ideal_pre_finite_inputs7 [hKernel7Ideal : Cert.Kernel7Ideal.Facts] [hPre_finite_inputs7 : Cert.Pre_finite_inputs7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_inputs7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Reference7Ideal_pre_finite_inputs7 [hReference7Ideal : Cert.Reference7Ideal.Facts] [hPre_finite_inputs7 : Cert.Pre_finite_inputs7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_inputs7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v46_0)) (v1 : (c : Dev Cert.KernelIdeal.nD) → Buf (Elt Ideal) ((c.tc : Thread Cert.KernelIdeal.nD Cert.KernelIdeal.τ).loc Cert.KernelIdeal.main_v46_1)) (v2 : (c : Dev Cert.KernelIdeal.nD) → Buf (Elt Ideal) ((c.tc : Thread Cert.KernelIdeal.nD Cert.KernelIdeal.τ).loc Cert.KernelIdeal.main_v46_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46_0) = v0 c
          ∧ r.2.mem ((c.tc : Thread Cert.KernelIdeal.nD Cert.KernelIdeal.τ).loc Cert.KernelIdeal.main_v46_1) = v1 c
          ∧ r.2.mem ((c.tc : Thread Cert.KernelIdeal.nD Cert.KernelIdeal.τ).loc Cert.KernelIdeal.main_v46_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_v65) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal_pre_finite_inputs7 [hKernel7Ideal : Cert.Kernel7Ideal.Facts] [hReference7Ideal : Cert.Reference7Ideal.Facts] [hPre_finite_inputs7 : Cert.Pre_finite_inputs7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_inputs7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v46_0)) (v1 : (c : Dev Cert.Kernel7Ideal.nD) → Buf (Elt Ideal) ((c.tc : Thread Cert.Kernel7Ideal.nD Cert.Kernel7Ideal.τ).loc Cert.Kernel7Ideal.main_v46_1)) (v2 : (c : Dev Cert.Kernel7Ideal.nD) → Buf (Elt Ideal) ((c.tc : Thread Cert.Kernel7Ideal.nD Cert.Kernel7Ideal.τ).loc Cert.Kernel7Ideal.main_v46_2)) (v3 : (c : Dev Cert.Kernel7Ideal.nD) → Buf (Elt Ideal) ((c.tc : Thread Cert.Kernel7Ideal.nD Cert.Kernel7Ideal.τ).loc Cert.Kernel7Ideal.main_v46_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v46_0) = v0 c
          ∧ r.2.mem ((c.tc : Thread Cert.Kernel7Ideal.nD Cert.Kernel7Ideal.τ).loc Cert.Kernel7Ideal.main_v46_1) = v1 c
          ∧ r.2.mem ((c.tc : Thread Cert.Kernel7Ideal.nD Cert.Kernel7Ideal.τ).loc Cert.Kernel7Ideal.main_v46_2) = v2 c
          ∧ r.2.mem ((c.tc : Thread Cert.Kernel7Ideal.nD Cert.Kernel7Ideal.τ).loc Cert.Kernel7Ideal.main_v46_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v115) = v0 c
          ∧ r.2.mem ((c.tc : Thread Cert.Reference7Ideal.nD Cert.Reference7Ideal.τ).loc Cert.Reference7Ideal.main_v114) = v1 c
          ∧ r.2.mem ((c.tc : Thread Cert.Reference7Ideal.nD Cert.Reference7Ideal.τ).loc Cert.Reference7Ideal.main_v116) = v2 c
          ∧ r.2.mem ((c.tc : Thread Cert.Reference7Ideal.nD Cert.Reference7Ideal.τ).loc Cert.Reference7Ideal.main_v117) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v4_0)) (v1 : (c : Dev Cert.Kernel9Ideal.nD) → Buf (Elt Ideal) ((c.tc : Thread Cert.Kernel9Ideal.nD Cert.Kernel9Ideal.τ).loc Cert.Kernel9Ideal.main_v4_1)) (v2 : (c : Dev Cert.Kernel9Ideal.nD) → Buf (Elt Ideal) ((c.tc : Thread Cert.Kernel9Ideal.nD Cert.Kernel9Ideal.τ).loc Cert.Kernel9Ideal.main_v4_2)) (v3 : (c : Dev Cert.Kernel9Ideal.nD) → Buf (Elt Ideal) ((c.tc : Thread Cert.Kernel9Ideal.nD Cert.Kernel9Ideal.τ).loc Cert.Kernel9Ideal.main_v4_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4_0) = v0 c
          ∧ r.2.mem ((c.tc : Thread Cert.Kernel9Ideal.nD Cert.Kernel9Ideal.τ).loc Cert.Kernel9Ideal.main_v4_1) = v1 c
          ∧ r.2.mem ((c.tc : Thread Cert.Kernel9Ideal.nD Cert.Kernel9Ideal.τ).loc Cert.Kernel9Ideal.main_v4_2) = v2 c
          ∧ r.2.mem ((c.tc : Thread Cert.Kernel9Ideal.nD Cert.Kernel9Ideal.τ).loc Cert.Kernel9Ideal.main_v4_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v44) = v0 c
          ∧ r.2.mem ((c.tc : Thread Cert.Reference9Ideal.nD Cert.Reference9Ideal.τ).loc Cert.Reference9Ideal.main_v45) = v1 c
          ∧ r.2.mem ((c.tc : Thread Cert.Reference9Ideal.nD Cert.Reference9Ideal.τ).loc Cert.Reference9Ideal.main_v46) = v2 c
          ∧ r.2.mem ((c.tc : Thread Cert.Reference9Ideal.nD Cert.Reference9Ideal.τ).loc Cert.Reference9Ideal.main_v47) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)) →
    ∃ (v0 : (c : Dev Cert.Kernel10Ideal.nD) → Buf (Elt Ideal) ((c.tc : Thread Cert.Kernel10Ideal.nD Cert.Kernel10Ideal.τ).loc Cert.Kernel10Ideal.main_v11_0)) (v1 : (c : Dev Cert.Kernel10Ideal.nD) → Buf (Elt Ideal) ((c.tc : Thread Cert.Kernel10Ideal.nD Cert.Kernel10Ideal.τ).loc Cert.Kernel10Ideal.main_v11_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v11_0) = v0 c
          ∧ r.2.mem ((c.tc : Thread Cert.Kernel10Ideal.nD Cert.Kernel10Ideal.τ).loc Cert.Kernel10Ideal.main_v11_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v19) = v0 c
          ∧ r.2.mem ((c.tc : Thread Cert.Reference10Ideal.nD Cert.Reference10Ideal.τ).loc Cert.Reference10Ideal.main_v20) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite_inputs : Cert.Pre_finite_inputs.Facts) (hPre_finite_inputs7 : Cert.Pre_finite_inputs7.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite_inputs7 (hKernel7Ideal := hKernel7Ideal) (hPre_finite_inputs7 := hPre_finite_inputs7)
    ∧ quiescent_Reference7Ideal (hReference7Ideal := hReference7Ideal)
    ∧ quiescent_Reference7Ideal_pre_finite_inputs7 (hReference7Ideal := hReference7Ideal) (hPre_finite_inputs7 := hPre_finite_inputs7)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite_inputs7 (hKernel7Ideal := hKernel7Ideal) (hReference7Ideal := hReference7Ideal) (hPre_finite_inputs7 := hPre_finite_inputs7)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_finite_inputs.lean ====
abbrev S8192x2304 : Shape := ⟨2, ![8192, 2304]⟩
abbrev S8192x512 : Shape := ⟨2, ![8192, 512]⟩
abbrev S8192x1536 : Shape := ⟨2, ![8192, 1536]⟩
abbrev S8192x2048 : Shape := ⟨2, ![8192, 2048]⟩
abbrev S_ : Shape := ⟨0, ![]⟩

class Facts : Prop where
  slices_S8192x2304_S8192x1536_0_512 : S8192x2304.Slices ![0, 512] S8192x1536
  bitsLt_bf16_f32 : FTy.bits .bf16 < FTy.bits .f32
  concatenates_S8192x1536_S8192x512_S8192x2048_d1 : Shape.Concatenates [S8192x1536, S8192x512] S8192x2048 1
  bcast_S_S8192x2048 : S_.BroadcastsInDim S8192x2048 (![] : Fin 0 → Fin S8192x2048.rank)

variable [Facts]

def fn {F : FTy → Type} [FloatOps F] (main_arg0 : FVec F S8192x2304 .bf16) (main_arg1 : FVec F S8192x512 .f32) : IVec S8192x2048 1 :=
  let main_v0 : FVec F S8192x1536 .bf16 := (extractStridedSlice S8192x1536 ![0, 512] · slices_S8192x2304_S8192x1536_0_512) main_arg0
  let main_v1 : FVec F S8192x1536 .f32 := (extf .f32 · bitsLt_bf16_f32) main_v0
  let main_v2 : FVec F S8192x2048 .f32 := (fun a b => concatenate S8192x2048 1 [⟨S8192x1536, a⟩, ⟨S8192x512, b⟩] concatenates_S8192x1536_S8192x512_S8192x2048_d1) main_v1 main_arg1
  let main_v3 : FVec F S8192x2048 .f32 := Host.absf main_v2
  let main_cst : FVec F S_ .f32 := constant S_ .f32 0x7F800000#32
  let main_v4 : FVec F S8192x2048 .f32 := broadcastInDim S8192x2048 ![] bcast_S_S8192x2048 main_cst
  let main_v5 : IVec S8192x2048 1 := cmpf .olt main_v3 main_v4
  main_v5
-- ==== Pre_finite_inputs7.lean ====
abbrev S8192x1024 : Shape := ⟨2, ![8192, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S8388608 : Shape := ⟨1, ![8388608]⟩
abbrev S5767168 : Shape := ⟨1, ![5767168]⟩
abbrev S16896 : Shape := ⟨1, ![16896]⟩
abbrev S2883584 : Shape := ⟨1, ![2883584]⟩
abbrev S25451520 : Shape := ⟨1, ![25451520]⟩
abbrev S_ : Shape := ⟨0, ![]⟩

class Facts : Prop where
  shapeCasts_S8192x1024_S8388608 : S8192x1024.ShapeCasts S8388608
  bitsLt_bf16_f32 : FTy.bits .bf16 < FTy.bits .f32
  shapeCasts_S1024x5632_S5767168 : S1024x5632.ShapeCasts S5767168
  shapeCasts_S3x5632_S16896 : S3x5632.ShapeCasts S16896
  shapeCasts_S2816x1024_S2883584 : S2816x1024.ShapeCasts S2883584
  concatenates_S8388608_S1024_S5767168_S16896_S5632_S2883584_S8388608_S25451520_d0 : Shape.Concatenates [S8388608, S1024, S5767168, S16896, S5632, S2883584, S8388608] S25451520 0
  bcast_S_S25451520 : S_.BroadcastsInDim S25451520 (![] : Fin 0 → Fin S25451520.rank)

variable [Facts]

def fn {F : FTy → Type} [FloatOps F] (main_arg0 : FVec F S8192x1024 .f32) (main_arg1 : FVec F S1024 .f32) (main_arg2 : FVec F S1024x5632 .bf16) (main_arg3 : FVec F S3x5632 .f32) (main_arg4 : FVec F S5632 .f32) (main_arg5 : FVec F S2816x1024 .bf16) (main_arg6 : FVec F S8192x1024 .f32) : IVec S25451520 1 :=
  let main_v0 : FVec F S8388608 .f32 := shapeCast S8388608 main_arg0 shapeCasts_S8192x1024_S8388608
  let main_v1 : FVec F S1024x5632 .f32 := (extf .f32 · bitsLt_bf16_f32) main_arg2
  let main_v2 : FVec F S5767168 .f32 := shapeCast S5767168 main_v1 shapeCasts_S1024x5632_S5767168
  let main_v3 : FVec F S16896 .f32 := shapeCast S16896 main_arg3 shapeCasts_S3x5632_S16896
  let main_v4 : FVec F S2816x1024 .f32 := (extf .f32 · bitsLt_bf16_f32) main_arg5
  let main_v5 : FVec F S2883584 .f32 := shapeCast S2883584 main_v4 shapeCasts_S2816x1024_S2883584
  let main_v6 : FVec F S8388608 .f32 := shapeCast S8388608 main_arg6 shapeCasts_S8192x1024_S8388608
  let main_v7 : FVec F S25451520 .f32 := concatenate S25451520 0 [⟨S8388608, main_v0⟩, ⟨S1024, main_arg1⟩, ⟨S5767168, main_v2⟩, ⟨S16896, main_v3⟩, ⟨S5632, main_arg4⟩, ⟨S2883584, main_v5⟩, ⟨S8388608, main_v6⟩] concatenates_S8388608_S1024_S5767168_S16896_S5632_S2883584_S8388608_S25451520_d0
  let main_v8 : FVec F S25451520 .f32 := Host.absf main_v7
  let main_cst : FVec F S_ .f32 := constant S_ .f32 0x7F800000#32
  let main_v9 : FVec F S25451520 .f32 := broadcastInDim S25451520 ![] bcast_S_S25451520 main_cst
  let main_v10 : IVec S25451520 1 := cmpf .olt main_v8 main_v9
  main_v10
-- ==== Kernel.lean ====
abbrev S8192x2304 : Shape := ⟨2, ![8192, 2304]⟩
abbrev S8192x512 : Shape := ⟨2, ![8192, 512]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S8192x1536 : Shape := ⟨2, ![8192, 1536]⟩
abbrev S8192x3x8x64 : Shape := ⟨4, ![8192, 3, 8, 64]⟩
abbrev S8192x1x8x64 : Shape := ⟨4, ![8192, 1, 8, 64]⟩
abbrev S8192x8x64 : Shape := ⟨3, ![8192, 8, 64]⟩
abbrev S8x8192x64 : Shape := ⟨3, ![8, 8192, 64]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S2x4x32x256x32x256 : Shape := ⟨6, ![2, 4, 32, 256, 32, 256]⟩
abbrev S2x4x32x256x32x1 : Shape := ⟨6, ![2, 4, 32, 256, 32, 1]⟩
abbrev S2x4x32x256x32 : Shape := ⟨5, ![2, 4, 32, 256, 32]⟩
abbrev S2x32x4x256x32 : Shape := ⟨5, ![2, 32, 4, 256, 32]⟩
abbrev S2x32x1024x32 : Shape := ⟨4, ![2, 32, 1024, 32]⟩
abbrev S2x32x1024x128 : Shape := ⟨4, ![2, 32, 1024, 128]⟩
abbrev S8192x256 : Shape := ⟨2, ![8192, 256]⟩
abbrev S1x1x1024x128 : Shape := ⟨4, ![1, 1, 1024, 128]⟩
abbrev S1024x256 : Shape := ⟨2, ![1024, 256]⟩
abbrev S1024x128 : Shape := ⟨2, ![1024, 128]⟩
abbrev S8x128 : Shape := ⟨2, ![8, 128]⟩
abbrev S1x1x8x128 : Shape := ⟨4, ![1, 1, 8, 128]⟩
abbrev S1x8x128 : Shape := ⟨3, ![1, 8, 128]⟩
abbrev S1 : Shape := ⟨1, ![1]⟩
abbrev S1x1x1 : Shape := ⟨3, ![1, 1, 1]⟩
abbrev S1024x1 : Shape := ⟨2, ![1024, 1]⟩
abbrev S1024 : Shape := ⟨1, ![1024]⟩

abbrev nBuf : Space → Nat
  | .hbm => 77
  | .vmem => 15
  | .smem => 0
  | _ => 0

abbrev bufTy : (tb : Table) → Fin (tcTables nBuf tb) → BufTy
  | .hbm, ⟨0, _⟩ => ⟨S8192x2304, .bf16⟩
  | .hbm, ⟨1, _⟩ => ⟨S8192x512, .f32⟩
  | .hbm, ⟨2, _⟩ => ⟨S256, .i32⟩
  | .hbm, ⟨3, _⟩ => ⟨S256x1, .i32⟩
  | .hbm, ⟨4, _⟩ => ⟨S1x256, .i32⟩
  | .hbm, ⟨5, _⟩ => ⟨S256x256, .i32⟩
  | .hbm, ⟨6, _⟩ => ⟨S256x256, .i32⟩
  | .hbm, ⟨7, _⟩ => ⟨S256x256, .i1⟩
  | .hbm, ⟨8, _⟩ => ⟨S256x256, .bf16⟩
  | .hbm, ⟨9, _⟩ => ⟨S8192x2304, .f32⟩
  | .hbm, ⟨10, _⟩ => ⟨S8192x1536, .f32⟩
  | .hbm, ⟨11, _⟩ => ⟨S8192x3x8x64, .f32⟩
  | .hbm, ⟨12, _⟩ => ⟨S8192x1x8x64, .f32⟩
  | .hbm, ⟨13, _⟩ => ⟨S8192x8x64, .f32⟩
  | .hbm, ⟨14, _⟩ => ⟨S8x8192x64, .f32⟩
  | .hbm, ⟨15, _⟩ => ⟨S8192x1x8x64, .f32⟩
  | .hbm, ⟨16, _⟩ => ⟨S8192x8x64, .f32⟩
  | .hbm, ⟨17, _⟩ => ⟨S8x8192x64, .f32⟩
  | .hbm, ⟨18, _⟩ => ⟨S8x8192x8192, .f32⟩
  | .hbm, ⟨19, _⟩ => ⟨S_, .f32⟩
  | .hbm, ⟨20, _⟩ => ⟨S8x8192x8192, .f32⟩
  | .hbm, ⟨21, _⟩ => ⟨S8x8192x8192, .f32⟩
  | .hbm, ⟨22, _⟩ => ⟨S8192, .i32⟩
  | .hbm, ⟨23, _⟩ => ⟨S1x8192, .i32⟩
  | .hbm, ⟨24, _⟩ => ⟨S8192x1, .i32⟩
  | .hbm, ⟨25, _⟩ => ⟨S8192x8192, .i32⟩
  | .hbm, ⟨26, _⟩ => ⟨S8192x8192, .i32⟩
  | .hbm, ⟨27, _⟩ => ⟨S8192x8192, .i1⟩
  | .hbm, ⟨28, _⟩ => ⟨S1x8192x8192, .i1⟩
  | .hbm, ⟨29, _⟩ => ⟨S8x8192x8192, .f32⟩
  | .hbm, ⟨30, _⟩ => ⟨S8x8192x8192, .f32⟩
  | .hbm, ⟨31, _⟩ => ⟨S_, .f32⟩
  | .hbm, ⟨32, _⟩ => ⟨S8x8192x8192, .f32⟩
  | .hbm, ⟨33, _⟩ => ⟨S8x8192x8192, .f32⟩
  | .hbm, ⟨34, _⟩ => ⟨S8x8192x8192, .f32⟩
  | .hbm, ⟨35, _⟩ => ⟨S8x8192x8192, .f32⟩
  | .hbm, ⟨36, _⟩ => ⟨S8x8192x8192, .i1⟩
  | .hbm, ⟨37, _⟩ => ⟨S8x8192x8192, .f32⟩
  | .hbm, ⟨38, _⟩ => ⟨S8x8192x8192, .f32⟩
  | .hbm, ⟨39, _⟩ => ⟨S8x8192x8192, .f32⟩
  | .hbm, ⟨40, _⟩ => ⟨S8x8192x8192, .f32⟩
  | .hbm, ⟨41, _⟩ => ⟨S8x8192x8192, .f32⟩
  | .hbm, ⟨42, _⟩ => ⟨S8x8192x8192, .f32⟩
  | .hbm, ⟨43, _⟩ => ⟨S8x8192x8192, .f32⟩
  | .hbm, ⟨44, _⟩ => ⟨S8x8192x8192, .f32⟩
  | .hbm, ⟨45, _⟩ => ⟨S8x8192x8192, .f32⟩
  | .hbm, ⟨46, _⟩ => ⟨S_, .f32⟩
  | .hbm, ⟨47, _⟩ => ⟨S_, .f32⟩
  | .hbm, ⟨48, _⟩ => ⟨S8x8192x8192, .i1⟩
  | .hbm, ⟨49, _⟩ => ⟨S8x8192x8192, .f32⟩
  | .hbm, ⟨50, _⟩ => ⟨S8x8192x8192, .f32⟩
  | .hbm, ⟨51, _⟩ => ⟨S_, .f32⟩
  | .hbm, ⟨52, _⟩ => ⟨S_, .f32⟩
  | .hbm, ⟨53, _⟩ => ⟨S8x8192x8192, .f32⟩
  | .hbm, ⟨54, _⟩ => ⟨S8x8192x8192, .f32⟩
  | .hbm, ⟨55, _⟩ => ⟨S2x4x32x256x32x256, .f32⟩
  | .hbm, ⟨56, _⟩ => ⟨S2x4x32x256x32x1, .f32⟩
  | .hbm, ⟨57, _⟩ => ⟨S2x4x32x256x32, .f32⟩
  | .hbm, ⟨58, _⟩ => ⟨S2x32x4x256x32, .f32⟩
  | .hbm, ⟨59, _⟩ => ⟨S2x32x1024x32, .f32⟩
  | .hbm, ⟨60, _⟩ => ⟨S_, .i32⟩
  | .hbm, ⟨61, _⟩ => ⟨S_, .f32⟩
  | .hbm, ⟨62, _⟩ => ⟨S2x32x1024x128, .f32⟩
  | .hbm, ⟨63, _⟩ => ⟨S2x32x1024x128, .i32⟩
  | .hbm, ⟨64, _⟩ => ⟨S2x32x1024x128, .i32⟩
  | .hbm, ⟨65, _⟩ => ⟨S_, .i32⟩
  | .hbm, ⟨66, _⟩ => ⟨S2x32x1024x128, .i32⟩
  | .hbm, ⟨67, _⟩ => ⟨S2x32x1024x128, .i32⟩
  | .hbm, ⟨68, _⟩ => ⟨S_, .i32⟩
  | .hbm, ⟨69, _⟩ => ⟨S2x32x1024x128, .i32⟩
  | .hbm, ⟨70, _⟩ => ⟨S2x32x1024x128, .i1⟩
  | .hbm, ⟨71, _⟩ => ⟨S2x32x1024x128, .f32⟩
  | .hbm, ⟨72, _⟩ => ⟨S2x32x1024x128, .f32⟩
  | .hbm, ⟨73, _⟩ => ⟨S256x256, .bf16⟩
  | .hbm, ⟨74, _⟩ => ⟨S8192x512, .bf16⟩
  | .hbm, ⟨75, _⟩ => ⟨S8192x512, .f32⟩
  | .hbm, ⟨76, _⟩ => ⟨S8192x512, .f32⟩
  | .local _ .vmem, ⟨0, _⟩ => ⟨S256x256, .bf16⟩
  | .local _ .vmem, ⟨1, _⟩ => ⟨S256x256, .bf16⟩
  | .local _ .vmem, ⟨2, _⟩ => ⟨S8192x256, .bf16⟩
  | .local _ .vmem, ⟨3, _⟩ => ⟨S8192x256, .bf16⟩
  | .local _ .vmem, ⟨4, _⟩ => ⟨S256x256, .f32⟩
  | .local _ .vmem, ⟨5, _⟩ => ⟨S256x256, .f32⟩
  | .local _ .vmem, ⟨6, _⟩ => ⟨S1x1x1024x128, .f32⟩
  | .local _ .vmem, ⟨7, _⟩ => ⟨S1x1x1024x128, .f32⟩
  | .local _ .vmem, ⟨8, _⟩ => ⟨S256x256, .bf16⟩
  | .local _ .vmem, ⟨9, _⟩ => ⟨S256x256, .bf16⟩
  | .local _ .vmem, ⟨10, _⟩ => ⟨S256x256, .bf16⟩
  | .local _ .vmem, ⟨11, _⟩ => ⟨S256x256, .bf16⟩
  | .local _ .vmem, ⟨12, _⟩ => ⟨S8192x256, .f32⟩
  | .local _ .vmem, ⟨13, _⟩ => ⟨S8192x256, .f32⟩
  | .local _ .vmem, ⟨14, _⟩ => ⟨S1024x256, .f32⟩
  | _, _ => ⟨S8192x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_cst : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_call0_v0 : Ref sig .tc := ⟨.hbm, 30, rfl⟩
abbrev main_call0_call0_cst : Ref sig .tc := ⟨.hbm, 31, rfl⟩
abbrev main_call0_call0_v0 : Ref sig .tc := ⟨.hbm, 32, rfl⟩
abbrev main_call0_call0_v1 : Ref sig .tc := ⟨.hbm, 33, rfl⟩
abbrev main_call0_call0_v2 : Ref sig .tc := ⟨.hbm, 34, rfl⟩
abbrev main_call0_call0_v3 : Ref sig .tc := ⟨.hbm, 35, rfl⟩
abbrev main_call0_call0_v4 : Ref sig .tc := ⟨.hbm, 36, rfl⟩
abbrev main_call0_call0_v5 : Ref sig .tc := ⟨.hbm, 37, rfl⟩
abbrev main_call0_call0_v6 : Ref sig .tc := ⟨.hbm, 38, rfl⟩
abbrev main_call0_call0_v7 : Ref sig .tc := ⟨.hbm, 39, rfl⟩
abbrev main_call0_call0_v8 : Ref sig .tc := ⟨.hbm, 40, rfl⟩
abbrev main_call0_call0_v9 : Ref sig .tc := ⟨.hbm, 41, rfl⟩
abbrev main_call0_call0_v10 : Ref sig .tc := ⟨.hbm, 42, rfl⟩
abbrev main_call0_call0_v11 : Ref sig .tc := ⟨.hbm, 43, rfl⟩
abbrev main_call0_v1 : Ref sig .tc := ⟨.hbm, 44, rfl⟩
abbrev main_v27 : Ref sig .tc := ⟨.hbm, 45, rfl⟩
abbrev main_cst_0 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v28 : Ref sig .tc := ⟨.hbm, 50, rfl⟩
abbrev main_call2_cst : Ref sig .tc := ⟨.hbm, 51, rfl⟩
abbrev main_call2_v0 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_c : Ref sig .tc := ⟨.hbm, 60, rfl⟩
abbrev main_call3_v0 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_c_1 : Ref sig .tc := ⟨.hbm, 65, rfl⟩
abbrev main_v39 : Ref sig .tc := ⟨.hbm, 66, rfl⟩
abbrev main_v40 : Ref sig .tc := ⟨.hbm, 67, rfl⟩
abbrev main_c_2 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46_0 : Ref sig .tc := ⟨.hbm, 74, rfl⟩
abbrev main_v46_1 : Ref sig .tc := ⟨.hbm, 75, rfl⟩
abbrev main_v46_2 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨2, ![2, 32], ![false, false]⟩

@[reducible] def k0_t1_loop (i : grid0.Coords) (v115 : BitVec 32) : Scf.Loop 32 :=
  let arg1 : BitVec 32 := BitVec.ofNat 32 (i 1).val
  let c1_i32_37 : BitVec 32 := 1#32
  let v103 : BitVec 32 := Scalar.muli arg1 c1_i32_37
  let c0_i32_44 : BitVec 32 := 0#32
  let v116 : BitVec 32 := Scalar.maxsi c0_i32_44 v115
  let v117 : BitVec 32 := Scalar.minsi v103 v116
  let v164 : BitVec 32 := Scalar.subi v103 v117
  let c1_i32_62 : BitVec 32 := 1#32
  let v165 : BitVec 32 := Scalar.subi v103 c1_i32_62
  let v167 : BitVec 32 := Scalar.subi v165 v164
  let c1_i32_64 : BitVec 32 := 1#32
  let v169 : BitVec 32 := Scalar.divsi v167 c1_i32_64
  let v170 : BitVec 32 := Scalar.muli v169 c1_i32_64
  let v171 : BitVec 32 := Scalar.addi v164 v170
  let c1_i32_65 : BitVec 32 := 1#32
  ⟨v164, v171, c1_i32_65⟩
def k0_cond2 (i : grid0.Coords) (v115 : BitVec 32) : BitVec 1 :=
  let arg1 : BitVec 32 := BitVec.ofNat 32 (i 1).val
  let c1_i32_37 : BitVec 32 := 1#32
  let v103 : BitVec 32 := Scalar.muli arg1 c1_i32_37
  let c0_i32_44 : BitVec 32 := 0#32
  let v116 : BitVec 32 := Scalar.maxsi c0_i32_44 v115
  let v117 : BitVec 32 := Scalar.minsi v103 v116
  let c0_i32_45 : BitVec 32 := 0#32
  let v118 : BitVec 1 := Scalar.cmpi .sgt v117 c0_i32_45
  let v119 : BitVec 32 := Scalar.extui v118
  let c0_i32_46 : BitVec 32 := 0#32
  let v120 : BitVec 1 := Scalar.cmpi .ne v119 c0_i32_46
  v120

def k0_mult1 (i : grid0.Coords) (v115 : BitVec 32) (k0_t1 : Fin (k0_t1_loop i v115).trips) : BitVec 32 :=
  let arg1 : BitVec 32 := BitVec.ofNat 32 (i 1).val
  let c1_i32_37 : BitVec 32 := 1#32
  let v103 : BitVec 32 := Scalar.muli arg1 c1_i32_37
  let c0_i32_44 : BitVec 32 := 0#32
  let v116 : BitVec 32 := Scalar.maxsi c0_i32_44 v115
  let v117 : BitVec 32 := Scalar.minsi v103 v116
  let v164 : BitVec 32 := Scalar.subi v103 v117
  let c1_i32_65 : BitVec 32 := 1#32
  let arg13 : BitVec 32 := Scf.iv v164 c1_i32_65 k0_t1
  let c256_i32_129 : BitVec 32 := 256#32
  let v326 : BitVec 32 := Scalar.muli arg13 c256_i32_129
  v326
def k0_off1 (i : grid0.Coords) (v115 : BitVec 32) (k0_t1 : Fin (k0_t1_loop i v115).trips) : Fin 2 → Nat :=
  let arg1 : BitVec 32 := BitVec.ofNat 32 (i 1).val
  let c1_i32_37 : BitVec 32 := 1#32
  let v103 : BitVec 32 := Scalar.muli arg1 c1_i32_37
  let c0_i32_44 : BitVec 32 := 0#32
  let v116 : BitVec 32 := Scalar.maxsi c0_i32_44 v115
  let v117 : BitVec 32 := Scalar.minsi v103 v116
  let v164 : BitVec 32 := Scalar.subi v103 v117
  let c1_i32_65 : BitVec 32 := 1#32
  let arg13 : BitVec 32 := Scf.iv v164 c1_i32_65 k0_t1
  let c256_i32_129 : BitVec 32 := 256#32
  let v326 : BitVec 32 := Scalar.muli arg13 c256_i32_129
  let v327 : BitVec 32 := v326
  let v328 : Index := Scalar.indexCast v327
  let c0_130 : Index := 0#32
  ![v328.toNat, 0]
@[reducible] def k0_t2_loop (i : grid0.Coords) (v115 : BitVec 32) : Scf.Loop 32 :=
  let arg1 : BitVec 32 := BitVec.ofNat 32 (i 1).val
  let c1_i32_37 : BitVec 32 := 1#32
  let v103 : BitVec 32 := Scalar.muli arg1 c1_i32_37
  let c0_i32_44 : BitVec 32 := 0#32
  let v116 : BitVec 32 := Scalar.maxsi c0_i32_44 v115
  let v117 : BitVec 32 := Scalar.minsi v103 v116
  let v164 : BitVec 32 := Scalar.subi v103 v117
  let c1_i32_62 : BitVec 32 := 1#32
  let v165 : BitVec 32 := Scalar.subi v103 c1_i32_62
  let v167 : BitVec 32 := Scalar.subi v165 v164
  let c1_i32_64 : BitVec 32 := 1#32
  let v169 : BitVec 32 := Scalar.divsi v167 c1_i32_64
  let v170 : BitVec 32 := Scalar.muli v169 c1_i32_64
  let v171 : BitVec 32 := Scalar.addi v164 v170
  let v168 : BitVec 32 := Scalar.addi v164 v167
  let c1_i32_66 : BitVec 32 := 1#32
  ⟨v171, v168, c1_i32_66⟩
def k0_mult2 (i : grid0.Coords) (v115 : BitVec 32) (k0_t2 : Fin (k0_t2_loop i v115).trips) : BitVec 32 :=
  let arg1 : BitVec 32 := BitVec.ofNat 32 (i 1).val
  let c1_i32_37 : BitVec 32 := 1#32
  let v103 : BitVec 32 := Scalar.muli arg1 c1_i32_37
  let c0_i32_44 : BitVec 32 := 0#32
  let v116 : BitVec 32 := Scalar.maxsi c0_i32_44 v115
  let v117 : BitVec 32 := Scalar.minsi v103 v116
  let v164 : BitVec 32 := Scalar.subi v103 v117
  let c1_i32_62 : BitVec 32 := 1#32
  let v165 : BitVec 32 := Scalar.subi v103 c1_i32_62
  let v167 : BitVec 32 := Scalar.subi v165 v164
  let c1_i32_64 : BitVec 32 := 1#32
  let v169 : BitVec 32 := Scalar.divsi v167 c1_i32_64
  let v170 : BitVec 32 := Scalar.muli v169 c1_i32_64
  let v171 : BitVec 32 := Scalar.addi v164 v170
  let c1_i32_66 : BitVec 32 := 1#32
  let arg13 : BitVec 32 := Scf.iv v171 c1_i32_66 k0_t2
  let c256_i32_129 : BitVec 32 := 256#32
  let v326 : BitVec 32 := Scalar.muli arg13 c256_i32_129
  v326
def k0_off2 (i : grid0.Coords) (v115 : BitVec 32) (k0_t2 : Fin (k0_t2_loop i v115).trips) : Fin 2 → Nat :=
  let arg1 : BitVec 32 := BitVec.ofNat 32 (i 1).val
  let c1_i32_37 : BitVec 32 := 1#32
  let v103 : BitVec 32 := Scalar.muli arg1 c1_i32_37
  let c0_i32_44 : BitVec 32 := 0#32
  let v116 : BitVec 32 := Scalar.maxsi c0_i32_44 v115
  let v117 : BitVec 32 := Scalar.minsi v103 v116
  let v164 : BitVec 32 := Scalar.subi v103 v117
  let c1_i32_62 : BitVec 32 := 1#32
  let v165 : BitVec 32 := Scalar.subi v103 c1_i32_62
  let v167 : BitVec 32 := Scalar.subi v165 v164
  let c1_i32_64 : BitVec 32 := 1#32
  let v169 : BitVec 32 := Scalar.divsi v167 c1_i32_64
  let v170 : BitVec 32 := Scalar.muli v169 c1_i32_64
  let v171 : BitVec 32 := Scalar.addi v164 v170
  let c1_i32_66 : BitVec 32 := 1#32
  let arg13 : BitVec 32 := Scf.iv v171 c1_i32_66 k0_t2
  let c256_i32_129 : BitVec 32 := 256#32
  let v326 : BitVec 32 := Scalar.muli arg13 c256_i32_129
  let v327 : BitVec 32 := v326
  let v328 : Index := Scalar.indexCast v327
  let c0_130 : Index := 0#32
  ![v328.toNat, 0]
def k0_mult3 (i : grid0.Coords) : BitVec 32 :=
  let arg1 : BitVec 32 := BitVec.ofNat 32 (i 1).val
  let c1_i32_37 : BitVec 32 := 1#32
  let v103 : BitVec 32 := Scalar.muli arg1 c1_i32_37
  let c1_i32_67 : BitVec 32 := 1#32
  let v174 : BitVec 32 := Scalar.subi v103 c1_i32_67
  let c256_i32 : BitVec 32 := 256#32
  let v175 : BitVec 32 := Scalar.muli v174 c256_i32
  v175
def k0_off3 (i : grid0.Coords) : Fin 2 → Nat :=
  let arg1 : BitVec 32 := BitVec.ofNat 32 (i 1).val
  let c1_i32_37 : BitVec 32 := 1#32
  let v103 : BitVec 32 := Scalar.muli arg1 c1_i32_37
  let c1_i32_67 : BitVec 32 := 1#32
  let v174 : BitVec 32 := Scalar.subi v103 c1_i32_67
  let c256_i32 : BitVec 32 := 256#32
  let v175 : BitVec 32 := Scalar.muli v174 c256_i32
  let v176 : BitVec 32 := v175
  let v177 : Index := Scalar.indexCast v176
  let c0_68 : Index := 0#32
  ![v177.toNat, 0]

def k0_chk1 (i : grid0.Coords) (v115 : BitVec 32) : Prop :=
  (∀ (k0_h2 : k0_cond2 i v115 = 1#1), (k0_t1_loop i v115).OK) ∧
  (∀ k0_t1 : Fin (k0_t1_loop i v115).trips, ∀ (k0_h2 : k0_cond2 i v115 = 1#1), 256 ∣ (k0_mult1 i v115 k0_t1).toNat) ∧
  (∀ k0_t1 : Fin (k0_t1_loop i v115).trips, ∀ (k0_h2 : k0_cond2 i v115 = 1#1), ∀ a, (k0_off1 i v115 k0_t1) a + S256x256.size a ≤ S8192x256.size a) ∧
  (∀ (k0_h2 : k0_cond2 i v115 = 1#1), (k0_t2_loop i v115).OK) ∧
  (∀ k0_t2 : Fin (k0_t2_loop i v115).trips, ∀ (k0_h2 : k0_cond2 i v115 = 1#1), 256 ∣ (k0_mult2 i v115 k0_t2).toNat) ∧
  (∀ k0_t2 : Fin (k0_t2_loop i v115).trips, ∀ (k0_h2 : k0_cond2 i v115 = 1#1), ∀ a, (k0_off2 i v115 k0_t2) a + S256x256.size a ≤ S8192x256.size a) ∧
  (∀ (k0_h2 : k0_cond2 i v115 = 1#1), ∀ a, (k0_off3 i) a + S256x256.size a ≤ S8192x256.size a)
theorem k0_t1_ok : ∀ (i : grid0.Coords) (v115 : BitVec 32) (k0_hw1 : k0_chk1 i v115), ∀ (k0_h2 : k0_cond2 i v115 = 1#1), (k0_t1_loop i v115).OK := fun i v115 k0_hw1 k0_h2 => k0_hw1.1 k0_h2
theorem k0_mult1_dvd : ∀ (i : grid0.Coords) (v115 : BitVec 32) (k0_hw1 : k0_chk1 i v115) (k0_t1 : Fin (k0_t1_loop i v115).trips), ∀ (k0_h2 : k0_cond2 i v115 = 1#1), 256 ∣ (k0_mult1 i v115 k0_t1).toNat := fun i v115 k0_hw1 k0_t1 k0_h2 => k0_hw1.2.1 k0_t1 k0_h2
theorem k0_off1_inb : ∀ (i : grid0.Coords) (v115 : BitVec 32) (k0_hw1 : k0_chk1 i v115) (k0_t1 : Fin (k0_t1_loop i v115).trips), ∀ (k0_h2 : k0_cond2 i v115 = 1#1), ∀ a, (k0_off1 i v115 k0_t1) a + S256x256.size a ≤ S8192x256.size a := fun i v115 k0_hw1 k0_t1 k0_h2 => k0_hw1.2.2.1 k0_t1 k0_h2
theorem k0_t2_ok : ∀ (i : grid0.Coords) (v115 : BitVec 32) (k0_hw1 : k0_chk1 i v115), ∀ (k0_h2 : k0_cond2 i v115 = 1#1), (k0_t2_loop i v115).OK := fun i v115 k0_hw1 k0_h2 => k0_hw1.2.2.2.1 k0_h2
theorem k0_mult2_dvd : ∀ (i : grid0.Coords) (v115 : BitVec 32) (k0_hw1 : k0_chk1 i v115) (k0_t2 : Fin (k0_t2_loop i v115).trips), ∀ (k0_h2 : k0_cond2 i v115 = 1#1), 256 ∣ (k0_mult2 i v115 k0_t2).toNat := fun i v115 k0_hw1 k0_t2 k0_h2 => k0_hw1.2.2.2.2.1 k0_t2 k0_h2
theorem k0_off2_inb : ∀ (i : grid0.Coords) (v115 : BitVec 32) (k0_hw1 : k0_chk1 i v115) (k0_t2 : Fin (k0_t2_loop i v115).trips), ∀ (k0_h2 : k0_cond2 i v115 = 1#1), ∀ a, (k0_off2 i v115 k0_t2) a + S256x256.size a ≤ S8192x256.size a := fun i v115 k0_hw1 k0_t2 k0_h2 => k0_hw1.2.2.2.2.2.1 k0_t2 k0_h2
theorem k0_off3_inb : ∀ (i : grid0.Coords) (v115 : BitVec 32) (k0_hw1 : k0_chk1 i v115), ∀ (k0_h2 : k0_cond2 i v115 = 1#1), ∀ a, (k0_off3 i) a + S256x256.size a ≤ S8192x256.size a := fun i v115 k0_hw1 k0_h2 => k0_hw1.2.2.2.2.2.2 k0_h2

def k0_mult4 (i : grid0.Coords) : BitVec 32 :=
  let arg1 : BitVec 32 := BitVec.ofNat 32 (i 1).val
  let c1_i32_95 : BitVec 32 := 1#32
  let v245 : BitVec 32 := Scalar.muli arg1 c1_i32_95
  let c0_i32_96 : BitVec 32 := 0#32
  let v246 : BitVec 32 := Scalar.addi v245 c0_i32_96
  let c256_i32_97 : BitVec 32 := 256#32
  let v247 : BitVec 32 := Scalar.muli v246 c256_i32_97
  v247
def k0_off4 (i : grid0.Coords) : Fin 2 → Nat :=
  let arg1 : BitVec 32 := BitVec.ofNat 32 (i 1).val
  let c1_i32_95 : BitVec 32 := 1#32
  let v245 : BitVec 32 := Scalar.muli arg1 c1_i32_95
  let c0_i32_96 : BitVec 32 := 0#32
  let v246 : BitVec 32 := Scalar.addi v245 c0_i32_96
  let c256_i32_97 : BitVec 32 := 256#32
  let v247 : BitVec 32 := Scalar.muli v246 c256_i32_97
  let v248 : BitVec 32 := v247
  let v249 : Index := Scalar.indexCast v248
  let c0_98 : Index := 0#32
  ![v249.toNat, 0]
def k0_mult5 (i : grid0.Coords) : BitVec 32 :=
  let arg1 : BitVec 32 := BitVec.ofNat 32 (i 1).val
  let c1_i32_63 : BitVec 32 := 1#32
  let v165 : BitVec 32 := Scalar.muli arg1 c1_i32_63
  let c0_i32_64 : BitVec 32 := 0#32
  let v166 : BitVec 32 := Scalar.addi v165 c0_i32_64
  let c256_i32 : BitVec 32 := 256#32
  let v167 : BitVec 32 := Scalar.muli v166 c256_i32
  v167
def k0_off5 (i : grid0.Coords) : Fin 2 → Nat :=
  let arg1 : BitVec 32 := BitVec.ofNat 32 (i 1).val
  let c1_i32_63 : BitVec 32 := 1#32
  let v165 : BitVec 32 := Scalar.muli arg1 c1_i32_63
  let c0_i32_64 : BitVec 32 := 0#32
  let v166 : BitVec 32 := Scalar.addi v165 c0_i32_64
  let c256_i32 : BitVec 32 := 256#32
  let v167 : BitVec 32 := Scalar.muli v166 c256_i32
  let v168 : BitVec 32 := v167
  let v169 : Index := Scalar.indexCast v168
  let c0_65 : Index := 0#32
  ![v169.toNat, 0]
def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8192x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S8192x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S8192x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

abbrev stage0_9 : Fin 1 → Memref sig .tc .vmem S8192x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]
-- ==== ReferenceIdeal.lean ====
abbrev S8192x2304 : Shape := ⟨2, ![8192, 2304]⟩
abbrev S8192x512 : Shape := ⟨2, ![8192, 512]⟩
abbrev S8192x1536 : Shape := ⟨2, ![8192, 1536]⟩
abbrev S1x8192x1536 : Shape := ⟨3, ![1, 8192, 1536]⟩
abbrev S1x8192x3x8x64 : Shape := ⟨5, ![1, 8192, 3, 8, 64]⟩
abbrev S1x8192x1x8x64 : Shape := ⟨5, ![1, 8192, 1, 8, 64]⟩
abbrev S1x8192x8x64 : Shape := ⟨4, ![1, 8192, 8, 64]⟩
abbrev S1x8x8192x64 : Shape := ⟨4, ![1, 8, 8192, 64]⟩
abbrev S1x8x8192x8192 : Shape := ⟨4, ![1, 8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x1x8192x8192 : Shape := ⟨4, ![1, 1, 8192, 8192]⟩
abbrev S1x8192x512 : Shape := ⟨3, ![1, 8192, 512]⟩
abbrev S1x8x64x8192 : Shape := ⟨4, ![1, 8, 64, 8192]⟩

abbrev nBuf : Space → Nat
  | .hbm => 189
  | .vmem => 0
  | .smem => 0
  | _ => 0

abbrev hbmTy0_0 (i : Nat) : BufTy := match i % 128 with
  | 0 => ⟨S8192x2304, .bf16⟩
  | 1 => ⟨S8192x512, .f32⟩
  | 2 => ⟨S8192x2304, .f32⟩
  | 3 => ⟨S8192x1536, .f32⟩
  | 4 => ⟨S1x8192x1536, .f32⟩
  | 5 => ⟨S1x8192x3x8x64, .f32⟩
  | 6 => ⟨S1x8192x1x8x64, .f32⟩
  | 7 => ⟨S1x8192x1x8x64, .f32⟩
  | 8 => ⟨S1x8192x1x8x64, .f32⟩
  | 9 => ⟨S1x8192x8x64, .f32⟩
  | 10 => ⟨S1x8192x8x64, .f32⟩
  | 11 => ⟨S1x8192x8x64, .f32⟩
  | 12 => ⟨S1x8x8192x64, .f32⟩
  | 13 => ⟨S1x8x8192x64, .f32⟩
  | 14 => ⟨S1x8x8192x64, .f32⟩
  | 15 => ⟨S1x8x8192x8192, .f32⟩
  | 16 => ⟨S_, .f32⟩
  | 17 => ⟨S1x8x8192x8192, .f32⟩
  | 18 => ⟨S1x8x8192x8192, .f32⟩
  | 19 => ⟨S8192, .i32⟩
  | 20 => ⟨S_, .i32⟩
  | 21 => ⟨S8192, .i32⟩
  | 22 => ⟨S8192, .i32⟩
  | 23 => ⟨S8192, .i32⟩
  | 24 => ⟨S1x8192, .i32⟩
  | 25 => ⟨S8192x1, .i32⟩
  | 26 => ⟨S8192x8192, .i32⟩
  | 27 => ⟨S8192x8192, .i32⟩
  | 28 => ⟨S8192x8192, .i1⟩
  | 29 => ⟨S1x1x8192x8192, .i1⟩
  | 30 => ⟨S1x8x8192x8192, .f32⟩
  | 31 => ⟨S1x8x8192x8192, .f32⟩
  | 32 => ⟨S_, .f32⟩
  | 33 => ⟨S1x8x8192x8192, .f32⟩
  | 34 => ⟨S1x8x8192x8192, .f32⟩
  | 35 => ⟨S1x8x8192x8192, .f32⟩
  | 36 => ⟨S1x8x8192x8192, .f32⟩
  | 37 => ⟨S1x8x8192x8192, .i1⟩
  | 38 => ⟨S1x8x8192x8192, .f32⟩
  | 39 => ⟨S1x8x8192x8192, .f32⟩
  | 40 => ⟨S1x8x8192x8192, .f32⟩
  | 41 => ⟨S1x8x8192x8192, .f32⟩
  | 42 => ⟨S1x8x8192x8192, .f32⟩
  | 43 => ⟨S1x8x8192x8192, .f32⟩
  | 44 => ⟨S1x8x8192x8192, .f32⟩
  | 45 => ⟨S1x8x8192x8192, .f32⟩
  | 46 => ⟨S_, .f32⟩
  | 47 => ⟨S1x8x8192x8192, .f32⟩
  | 48 => ⟨S1x8x8192x8192, .i1⟩
  | 49 => ⟨S_, .f32⟩
  | 50 => ⟨S1x8x8192x8192, .f32⟩
  | 51 => ⟨S1x8x8192x8192, .f32⟩
  | 52 => ⟨S_, .f32⟩
  | 53 => ⟨S1x8x8192x8192, .f32⟩
  | 54 => ⟨S1x8x8192x8192, .i1⟩
  | 55 => ⟨S_, .f32⟩
  | 56 => ⟨S1x8x8192x8192, .f32⟩
  | 57 => ⟨S1x8x8192x8192, .f32⟩
  | 58 => ⟨S1x8x8192x8192, .f32⟩
  | 59 => ⟨S1x8x8192x8192, .f32⟩
  | 60 => ⟨S_, .f32⟩
  | 61 => ⟨S_, .f32⟩
  | 62 => ⟨S_, .i1⟩
  | 63 => ⟨S_, .f32⟩
  | 64 => ⟨S_, .f32⟩
  | 65 => ⟨S_, .f32⟩
  | 66 => ⟨S_, .f32⟩
  | 67 => ⟨S1x8x8192x8192, .f32⟩
  | 68 => ⟨S1x8x8192x8192, .i1⟩
  | 69 => ⟨S_, .f32⟩
  | 70 => ⟨S1x8x8192x8192, .f32⟩
  | 71 => ⟨S1x8x8192x8192, .f32⟩
  | 72 => ⟨S1x8x8192x8192, .f32⟩
  | 73 => ⟨S1x8x8192x8192, .f32⟩
  | 74 => ⟨S1x8x8192x8192, .f32⟩
  | 75 => ⟨S_, .f32⟩
  | 76 => ⟨S1x8x8192x8192, .f32⟩
  | 77 => ⟨S1x8x8192x8192, .f32⟩
  | 78 => ⟨S1x8x8192x8192, .f32⟩
  | 79 => ⟨S_, .f32⟩
  | 80 => ⟨S_, .f32⟩
  | 81 => ⟨S1x8x8192x8192, .i1⟩
  | 82 => ⟨S1x8x8192x8192, .f32⟩
  | 83 => ⟨S1x8x8192x8192, .f32⟩
  | 84 => ⟨S_, .f32⟩
  | 85 => ⟨S1x8x8192x8192, .f32⟩
  | 86 => ⟨S_, .f32⟩
  | 87 => ⟨S_, .f32⟩
  | 88 => ⟨S1x8x8192x8192, .f32⟩
  | 89 => ⟨S1x8x8192x8192, .f32⟩
  | 90 => ⟨S1x8x8192x8192, .f32⟩
  | 91 => ⟨S_, .f32⟩
  | 92 => ⟨S1x8x8192x8192, .f32⟩
  | 93 => ⟨S1x8x8192x8192, .f32⟩
  | 94 => ⟨S1x8x8192x8192, .f32⟩
  | 95 => ⟨S1x8x8192x8192, .f32⟩
  | 96 => ⟨S1x8x8192x8192, .i1⟩
  | 97 => ⟨S1x8x8192x8192, .f32⟩
  | 98 => ⟨S1x8x8192x8192, .f32⟩
  | 99 => ⟨S1x8x8192x8192, .f32⟩
  | 100 => ⟨S1x8x8192x8192, .f32⟩
  | 101 => ⟨S1x8x8192x8192, .f32⟩
  | 102 => ⟨S1x8x8192x8192, .f32⟩
  | 103 => ⟨S1x8x8192x8192, .f32⟩
  | 104 => ⟨S1x8x8192x8192, .f32⟩
  | 105 => ⟨S_, .f32⟩
  | 106 => ⟨S1x8x8192x8192, .f32⟩
  | 107 => ⟨S1x8x8192x8192, .i1⟩
  | 108 => ⟨S_, .f32⟩
  | 109 => ⟨S1x8x8192x8192, .f32⟩
  | 110 => ⟨S1x8x8192x8192, .f32⟩
  | 111 => ⟨S_, .f32⟩
  | 112 => ⟨S1x8x8192x8192, .f32⟩
  | 113 => ⟨S1x8x8192x8192, .i1⟩
  | 114 => ⟨S_, .f32⟩
  | 115 => ⟨S1x8x8192x8192, .f32⟩
  | 116 => ⟨S1x8x8192x8192, .f32⟩
  | 117 => ⟨S1x8x8192x8192, .f32⟩
  | 118 => ⟨S1x8x8192x8192, .f32⟩
  | 119 => ⟨S_, .f32⟩
  | 120 => ⟨S_, .f32⟩
  | 121 => ⟨S_, .i1⟩
  | 122 => ⟨S_, .f32⟩
  | 123 => ⟨S_, .f32⟩
  | 124 => ⟨S_, .f32⟩
  | 125 => ⟨S_, .f32⟩
  | 126 => ⟨S1x8x8192x8192, .f32⟩
  | 127 => ⟨S1x8x8192x8192, .i1⟩
  | _ => ⟨S8192x2304, .bf16⟩

abbrev hbmTy0_1 (i : Nat) : BufTy := match i % 128 with
  | 0 => ⟨S_, .f32⟩
  | 1 => ⟨S1x8x8192x8192, .f32⟩
  | 2 => ⟨S1x8x8192x8192, .f32⟩
  | 3 => ⟨S1x8x8192x8192, .f32⟩
  | 4 => ⟨S1x8x8192x8192, .f32⟩
  | 5 => ⟨S1x8x8192x8192, .f32⟩
  | 6 => ⟨S_, .f32⟩
  | 7 => ⟨S1x8x8192x8192, .f32⟩
  | 8 => ⟨S1x8x8192x8192, .f32⟩
  | 9 => ⟨S1x8x8192x8192, .f32⟩
  | 10 => ⟨S1x8x8192x8192, .f32⟩
  | 11 => ⟨S1x8x8192x8192, .f32⟩
  | 12 => ⟨S_, .f32⟩
  | 13 => ⟨S_, .f32⟩
  | 14 => ⟨S1x8x8192x8192, .i1⟩
  | 15 => ⟨S1x8x8192x8192, .f32⟩
  | 16 => ⟨S1x8x8192x8192, .f32⟩
  | 17 => ⟨S_, .f32⟩
  | 18 => ⟨S1x8x8192x8192, .f32⟩
  | 19 => ⟨S1x8x8192x64, .f32⟩
  | 20 => ⟨S1x8192x8x64, .f32⟩
  | 21 => ⟨S1x8192x512, .f32⟩
  | 22 => ⟨S8192x512, .f32⟩
  | 23 => ⟨S1x8192x512, .f32⟩
  | 24 => ⟨S1x8192x8x64, .f32⟩
  | 25 => ⟨S1x8x8192x64, .f32⟩
  | 26 => ⟨S1x8x64x8192, .f32⟩
  | 27 => ⟨S1x8x8192x64, .f32⟩
  | 28 => ⟨S1x8x8192x8192, .f32⟩
  | 29 => ⟨S_, .f32⟩
  | 30 => ⟨S1x8x8192x8192, .f32⟩
  | 31 => ⟨S1x8x8192x8192, .f32⟩
  | 32 => ⟨S1x8x8192x8192, .f32⟩
  | 33 => ⟨S1x8x8192x8192, .f32⟩
  | 34 => ⟨S1x8x8192x8192, .f32⟩
  | 35 => ⟨S1x8x8192x8192, .f32⟩
  | 36 => ⟨S1x8x8192x8192, .f32⟩
  | 37 => ⟨S_, .f32⟩
  | 38 => ⟨S_, .f32⟩
  | 39 => ⟨S1x8x8192x8192, .f32⟩
  | 40 => ⟨S1x8x8192x8192, .f32⟩
  | 41 => ⟨S_, .f32⟩
  | 42 => ⟨S1x8x8192x8192, .f32⟩
  | 43 => ⟨S1x8x8192x8192, .f32⟩
  | 44 => ⟨S1x8x8192x8192, .f32⟩
  | 45 => ⟨S1x8x8192x8192, .f32⟩
  | 46 => ⟨S1x8x8192x8192, .f32⟩
  | 47 => ⟨S1x8x8192x8192, .f32⟩
  | 48 => ⟨S1x8x8192x8192, .f32⟩
  | 49 => ⟨S_, .f32⟩
  | 50 => ⟨S1x8x8192x8192, .f32⟩
  | 51 => ⟨S1x8x8192x8192, .f32⟩
  | 52 => ⟨S1x8x8192x64, .f32⟩
  | 53 => ⟨S1x8x8192x64, .f32⟩
  | 54 => ⟨S1x8192x8x64, .f32⟩
  | 55 => ⟨S1x8192x8x64, .f32⟩
  | 56 => ⟨S1x8192x8x64, .f32⟩
  | 57 => ⟨S8192x512, .f32⟩
  | 58 => ⟨S8192x512, .bf16⟩
  | 59 => ⟨S8192x512, .f32⟩
  | 60 => ⟨S8192x512, .f32⟩
  | _ => ⟨S8192x2304, .bf16⟩

abbrev hbmTy (i : Nat) : BufTy := match i / 128 with
  | 0 => hbmTy0_0 i
  | 1 => hbmTy0_1 i
  | _ => ⟨S8192x2304, .bf16⟩

abbrev bufTy : (tb : Table) → Fin (tcTables nBuf tb) → BufTy
  | .hbm, ⟨i, _⟩ => hbmTy i
  | _, _ => ⟨S8192x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_cst : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_c : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_call0_v0 : Ref sig .tc := ⟨.hbm, 31, rfl⟩
abbrev main_call0_call0_cst : Ref sig .tc := ⟨.hbm, 32, rfl⟩
abbrev main_call0_call0_v0 : Ref sig .tc := ⟨.hbm, 33, rfl⟩
abbrev main_call0_call0_v1 : Ref sig .tc := ⟨.hbm, 34, rfl⟩
abbrev main_call0_call0_v2 : Ref sig .tc := ⟨.hbm, 35, rfl⟩
abbrev main_call0_call0_v3 : Ref sig .tc := ⟨.hbm, 36, rfl⟩
abbrev main_call0_call0_v4 : Ref sig .tc := ⟨.hbm, 37, rfl⟩
abbrev main_call0_call0_v5 : Ref sig .tc := ⟨.hbm, 38, rfl⟩
abbrev main_call0_call0_v6 : Ref sig .tc := ⟨.hbm, 39, rfl⟩
abbrev main_call0_call0_v7 : Ref sig .tc := ⟨.hbm, 40, rfl⟩
abbrev main_call0_call0_v8 : Ref sig .tc := ⟨.hbm, 41, rfl⟩
abbrev main_call0_call0_v9 : Ref sig .tc := ⟨.hbm, 42, rfl⟩
abbrev main_call0_call0_v10 : Ref sig .tc := ⟨.hbm, 43, rfl⟩
abbrev main_call0_call0_v11 : Ref sig .tc := ⟨.hbm, 44, rfl⟩
abbrev main_call0_v1_0 : Ref sig .tc := ⟨.hbm, 45, rfl⟩
abbrev main_call0_call0_cst_0 : Ref sig .tc := ⟨.hbm, 46, rfl⟩
abbrev main_call0_call0_v13 : Ref sig .tc := ⟨.hbm, 47, rfl⟩
abbrev main_call0_call0_v14 : Ref sig .tc := ⟨.hbm, 48, rfl⟩
abbrev main_call0_call0_cst_1 : Ref sig .tc := ⟨.hbm, 49, rfl⟩
abbrev main_call0_call0_v15 : Ref sig .tc := ⟨.hbm, 50, rfl⟩
abbrev main_call0_call0_v16 : Ref sig .tc := ⟨.hbm, 51, rfl⟩
abbrev main_call0_call0_cst_2 : Ref sig .tc := ⟨.hbm, 52, rfl⟩
abbrev main_call0_call0_v17 : Ref sig .tc := ⟨.hbm, 53, rfl⟩
abbrev main_call0_call0_v18 : Ref sig .tc := ⟨.hbm, 54, rfl⟩
abbrev main_call0_call0_cst_3 : Ref sig .tc := ⟨.hbm, 55, rfl⟩
abbrev main_call0_call0_v19 : Ref sig .tc := ⟨.hbm, 56, rfl⟩
abbrev main_call0_call0_v20 : Ref sig .tc := ⟨.hbm, 57, rfl⟩
abbrev main_call0_call0_v21 : Ref sig .tc := ⟨.hbm, 58, rfl⟩
abbrev main_v27_1 : Ref sig .tc := ⟨.hbm, 59, rfl⟩
abbrev main_call0_call0_cst_4 : Ref sig .tc := ⟨.hbm, 60, rfl⟩
abbrev main_call0_call0_cst_5 : Ref sig .tc := ⟨.hbm, 61, rfl⟩
abbrev main_call0_call0_v23 : Ref sig .tc := ⟨.hbm, 62, rfl⟩
abbrev main_call0_call0_cst_6 : Ref sig .tc := ⟨.hbm, 63, rfl⟩
abbrev main_call0_call0_cst_7 : Ref sig .tc := ⟨.hbm, 64, rfl⟩
abbrev main_call0_call0_v24 : Ref sig .tc := ⟨.hbm, 65, rfl⟩
abbrev main_call0_call0_cst_8 : Ref sig .tc := ⟨.hbm, 66, rfl⟩
abbrev main_call0_call0_v25 : Ref sig .tc := ⟨.hbm, 67, rfl⟩
abbrev main_call0_call0_v26 : Ref sig .tc := ⟨.hbm, 68, rfl⟩
abbrev main_call0_call0_cst_9 : Ref sig .tc := ⟨.hbm, 69, rfl⟩
abbrev main_call0_call0_v27 : Ref sig .tc := ⟨.hbm, 70, rfl⟩
abbrev main_call0_call0_v28 : Ref sig .tc := ⟨.hbm, 71, rfl⟩
abbrev main_call0_call0_v29 : Ref sig .tc := ⟨.hbm, 72, rfl⟩
abbrev main_call0_call0_v30 : Ref sig .tc := ⟨.hbm, 73, rfl⟩
abbrev main_call0_call0_v31 : Ref sig .tc := ⟨.hbm, 74, rfl⟩
abbrev main_call0_call0_cst_10 : Ref sig .tc := ⟨.hbm, 75, rfl⟩
abbrev main_call0_call0_v32 : Ref sig .tc := ⟨.hbm, 76, rfl⟩
abbrev main_v27_2 : Ref sig .tc := ⟨.hbm, 77, rfl⟩
abbrev main_v27_0 : Ref sig .tc := ⟨.hbm, 78, rfl⟩
abbrev main_cst_0 : Ref sig .tc := ⟨.hbm, 79, rfl⟩
abbrev main_call1_v0 : Ref sig .tc := ⟨.hbm, 80, rfl⟩
abbrev main_v28_1 : Ref sig .tc := ⟨.hbm, 81, rfl⟩
abbrev main_call1_v2 : Ref sig .tc := ⟨.hbm, 82, rfl⟩
abbrev main_v28_0 : Ref sig .tc := ⟨.hbm, 83, rfl⟩
abbrev main_call1_cst : Ref sig .tc := ⟨.hbm, 84, rfl⟩
abbrev main_v28_2 : Ref sig .tc := ⟨.hbm, 85, rfl⟩
abbrev main_call2_cst : Ref sig .tc := ⟨.hbm, 86, rfl⟩
abbrev main_call2_v0 : Ref sig .tc := ⟨.hbm, 87, rfl⟩
abbrev main_v29 : Ref sig .tc := ⟨.hbm, 88, rfl⟩
abbrev main_v30 : Ref sig .tc := ⟨.hbm, 89, rfl⟩
abbrev main_call3_v0 : Ref sig .tc := ⟨.hbm, 90, rfl⟩
abbrev main_call3_call0_cst : Ref sig .tc := ⟨.hbm, 91, rfl⟩
abbrev main_call3_call0_v0 : Ref sig .tc := ⟨.hbm, 92, rfl⟩
abbrev main_call3_call0_v1 : Ref sig .tc := ⟨.hbm, 93, rfl⟩
abbrev main_call3_call0_v2 : Ref sig .tc := ⟨.hbm, 94, rfl⟩
abbrev main_call3_call0_v3 : Ref sig .tc := ⟨.hbm, 95, rfl⟩
abbrev main_call3_call0_v4 : Ref sig .tc := ⟨.hbm, 96, rfl⟩
abbrev main_call3_call0_v5 : Ref sig .tc := ⟨.hbm, 97, rfl⟩
abbrev main_call3_call0_v6 : Ref sig .tc := ⟨.hbm, 98, rfl⟩
abbrev main_call3_call0_v7 : Ref sig .tc := ⟨.hbm, 99, rfl⟩
abbrev main_call3_call0_v8 : Ref sig .tc := ⟨.hbm, 100, rfl⟩
abbrev main_call3_call0_v9 : Ref sig .tc := ⟨.hbm, 101, rfl⟩
abbrev main_call3_call0_v10 : Ref sig .tc := ⟨.hbm, 102, rfl⟩
abbrev main_call3_call0_v11 : Ref sig .tc := ⟨.hbm, 103, rfl⟩
abbrev main_call3_v1_0 : Ref sig .tc := ⟨.hbm, 104, rfl⟩
abbrev main_call3_call0_cst_0 : Ref sig .tc := ⟨.hbm, 105, rfl⟩
abbrev main_call3_call0_v13 : Ref sig .tc := ⟨.hbm, 106, rfl⟩
abbrev main_call3_call0_v14 : Ref sig .tc := ⟨.hbm, 107, rfl⟩
abbrev main_call3_call0_cst_1 : Ref sig .tc := ⟨.hbm, 108, rfl⟩
abbrev main_call3_call0_v15 : Ref sig .tc := ⟨.hbm, 109, rfl⟩
abbrev main_call3_call0_v16 : Ref sig .tc := ⟨.hbm, 110, rfl⟩
abbrev main_call3_call0_cst_2 : Ref sig .tc := ⟨.hbm, 111, rfl⟩
abbrev main_call3_call0_v17 : Ref sig .tc := ⟨.hbm, 112, rfl⟩
abbrev main_call3_call0_v18 : Ref sig .tc := ⟨.hbm, 113, rfl⟩
abbrev main_call3_call0_cst_3 : Ref sig .tc := ⟨.hbm, 114, rfl⟩
abbrev main_call3_call0_v19 : Ref sig .tc := ⟨.hbm, 115, rfl⟩
abbrev main_call3_call0_v20 : Ref sig .tc := ⟨.hbm, 116, rfl⟩
abbrev main_call3_call0_v21 : Ref sig .tc := ⟨.hbm, 117, rfl⟩
abbrev main_v31_1 : Ref sig .tc := ⟨.hbm, 118, rfl⟩
abbrev main_call3_call0_cst_4 : Ref sig .tc := ⟨.hbm, 119, rfl⟩
abbrev main_call3_call0_cst_5 : Ref sig .tc := ⟨.hbm, 120, rfl⟩
abbrev main_call3_call0_v23 : Ref sig .tc := ⟨.hbm, 121, rfl⟩
abbrev main_call3_call0_cst_6 : Ref sig .tc := ⟨.hbm, 122, rfl⟩
abbrev main_call3_call0_cst_7 : Ref sig .tc := ⟨.hbm, 123, rfl⟩
abbrev main_call3_call0_v24 : Ref sig .tc := ⟨.hbm, 124, rfl⟩
abbrev main_call3_call0_cst_8 : Ref sig .tc := ⟨.hbm, 125, rfl⟩
abbrev main_call3_call0_v25 : Ref sig .tc := ⟨.hbm, 126, rfl⟩
abbrev main_call3_call0_v26 : Ref sig .tc := ⟨.hbm, 127, rfl⟩
abbrev main_call3_call0_cst_9 : Ref sig .tc := ⟨.hbm, 128, rfl⟩
abbrev main_call3_call0_v27 : Ref sig .tc := ⟨.hbm, 129, rfl⟩
abbrev main_call3_call0_v28 : Ref sig .tc := ⟨.hbm, 130, rfl⟩
abbrev main_call3_call0_v29 : Ref sig .tc := ⟨.hbm, 131, rfl⟩
abbrev main_call3_call0_v30 : Ref sig .tc := ⟨.hbm, 132, rfl⟩
abbrev main_call3_call0_v31 : Ref sig .tc := ⟨.hbm, 133, rfl⟩
abbrev main_call3_call0_cst_10 : Ref sig .tc := ⟨.hbm, 134, rfl⟩
abbrev main_call3_call0_v32 : Ref sig .tc := ⟨.hbm, 135, rfl⟩
abbrev main_v31_2 : Ref sig .tc := ⟨.hbm, 136, rfl⟩
abbrev main_v31_0 : Ref sig .tc := ⟨.hbm, 137, rfl⟩
abbrev main_v32 : Ref sig .tc := ⟨.hbm, 138, rfl⟩
abbrev main_v33 : Ref sig .tc := ⟨.hbm, 139, rfl⟩
abbrev main_cst_1 : Ref sig .tc := ⟨.hbm, 140, rfl⟩
abbrev main_call4_v0 : Ref sig .tc := ⟨.hbm, 141, rfl⟩
abbrev main_v34_1 : Ref sig .tc := ⟨.hbm, 142, rfl⟩
abbrev main_call4_v2 : Ref sig .tc := ⟨.hbm, 143, rfl⟩
abbrev main_v34_0 : Ref sig .tc := ⟨.hbm, 144, rfl⟩
abbrev main_call4_cst : Ref sig .tc := ⟨.hbm, 145, rfl⟩
abbrev main_v34_2 : Ref sig .tc := ⟨.hbm, 146, rfl⟩
abbrev main_v35 : Ref sig .tc := ⟨.hbm, 147, rfl⟩
abbrev main_v36 : Ref sig .tc := ⟨.hbm, 148, rfl⟩
abbrev main_v37 : Ref sig .tc := ⟨.hbm, 149, rfl⟩
abbrev main_v38 : Ref sig .tc := ⟨.hbm, 150, rfl⟩
abbrev main_v39 : Ref sig .tc := ⟨.hbm, 151, rfl⟩
abbrev main_v40 : Ref sig .tc := ⟨.hbm, 152, rfl⟩
abbrev main_v41 : Ref sig .tc := ⟨.hbm, 153, rfl⟩
abbrev main_v42 : Ref sig .tc := ⟨.hbm, 154, rfl⟩
abbrev main_v43 : Ref sig .tc := ⟨.hbm, 155, rfl⟩
abbrev main_v44 : Ref sig .tc := ⟨.hbm, 156, rfl⟩
abbrev main_call5_cst : Ref sig .tc := ⟨.hbm, 157, rfl⟩
abbrev main_call5_v0 : Ref sig .tc := ⟨.hbm, 158, rfl⟩
abbrev main_v45 : Ref sig .tc := ⟨.hbm, 159, rfl⟩
abbrev main_v46 : Ref sig .tc := ⟨.hbm, 160, rfl⟩
abbrev main_call6_v0 : Ref sig .tc := ⟨.hbm, 161, rfl⟩
abbrev main_call6_v1 : Ref sig .tc := ⟨.hbm, 162, rfl⟩
abbrev main_v47 : Ref sig .tc := ⟨.hbm, 163, rfl⟩
abbrev main_v48 : Ref sig .tc := ⟨.hbm, 164, rfl⟩
abbrev main_call7_cst : Ref sig .tc := ⟨.hbm, 165, rfl⟩
abbrev main_call7_v0 : Ref sig .tc := ⟨.hbm, 166, rfl⟩
abbrev main_v49 : Ref sig .tc := ⟨.hbm, 167, rfl⟩
abbrev main_v50 : Ref sig .tc := ⟨.hbm, 168, rfl⟩
abbrev main_call8_cst : Ref sig .tc := ⟨.hbm, 169, rfl⟩
abbrev main_call8_v0 : Ref sig .tc := ⟨.hbm, 170, rfl⟩
abbrev main_v51 : Ref sig .tc := ⟨.hbm, 171, rfl⟩
abbrev main_call9_v0 : Ref sig .tc := ⟨.hbm, 172, rfl⟩
abbrev main_call9_v1 : Ref sig .tc := ⟨.hbm, 173, rfl⟩
abbrev main_v52 : Ref sig .tc := ⟨.hbm, 174, rfl⟩
abbrev main_v53 : Ref sig .tc := ⟨.hbm, 175, rfl⟩
abbrev main_v54 : Ref sig .tc := ⟨.hbm, 176, rfl⟩
abbrev main_cst_2 : Ref sig .tc := ⟨.hbm, 177, rfl⟩
abbrev main_v55 : Ref sig .tc := ⟨.hbm, 178, rfl⟩
abbrev main_v56 : Ref sig .tc := ⟨.hbm, 179, rfl⟩
abbrev main_v57 : Ref sig .tc := ⟨.hbm, 180, rfl⟩
abbrev main_v58 : Ref sig .tc := ⟨.hbm, 181, rfl⟩
abbrev main_v59 : Ref sig .tc := ⟨.hbm, 182, rfl⟩
abbrev main_v60 : Ref sig .tc := ⟨.hbm, 183, rfl⟩
abbrev main_v61 : Ref sig .tc := ⟨.hbm, 184, rfl⟩
abbrev main_v62 : Ref sig .tc := ⟨.hbm, 185, rfl⟩
abbrev main_v63 : Ref sig .tc := ⟨.hbm, 186, rfl⟩
abbrev main_v64 : Ref sig .tc := ⟨.hbm, 187, rfl⟩
abbrev main_v65 : Ref sig .tc := ⟨.hbm, 188, rfl⟩

abbrev nD : Nat := 1
abbrev τ : Topo := Topo.v7x

variable {F : FTy → Type} [FloatOps F]
-- ==== Kernel2.lean ====
abbrev S8192x1024 : Shape := ⟨2, ![8192, 1024]⟩
abbrev S8192x5632 : Shape := ⟨2, ![8192, 5632]⟩
abbrev S4x1024x1408 : Shape := ⟨3, ![4, 1024, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S8192x1024, .bf16⟩
  | .hbm, ⟨3, _⟩ => ⟨S8192x5632, .bf16⟩
  | .hbm, ⟨4, _⟩ => ⟨S4x1024x1408, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .f32⟩
  | .local _ .vmem, ⟨5, _⟩ => ⟨S1x1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8192x1024 : Shape := ⟨2, ![8192, 1024]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S_, .f32⟩
  | .hbm, ⟨3, _⟩ => ⟨S1024x5632, .f32⟩
  | .hbm, ⟨4, _⟩ => ⟨S8192x5632, .f32⟩
  | .hbm, ⟨5, _⟩ => ⟨S5632x1024, .f32⟩
  | .hbm, ⟨6, _⟩ => ⟨S1024x5632, .f32⟩
  | .hbm, ⟨7, _⟩ => ⟨S1024x4x1408, .f32⟩
  | .hbm, ⟨8, _⟩ => ⟨S4x1024x1408, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel3.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x2816, .bf16⟩
  | .hbm, ⟨3, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .f32⟩
  | .local _ .vmem, ⟨3, _⟩ => ⟨S2048x1024, .f32⟩
  | .local _ .vmem, ⟨4, _⟩ => ⟨S1408x1024, .f32⟩
  | .local _ .vmem, ⟨5, _⟩ => ⟨S1408x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x1024, .f32⟩
  | .hbm, ⟨5, _⟩ => ⟨S1024x2816, .f32⟩
  | .hbm, ⟨6, _⟩ => ⟨S2816x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel4.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference4Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel5.lean ====
abbrev S8192x1024 : Shape := ⟨2, ![8192, 1024]⟩
abbrev S8192x512 : Shape := ⟨2, ![8192, 512]⟩
abbrev S1024x512 : Shape := ⟨2, ![1024, 512]⟩
abbrev S2048x1024 : Shape := ⟨2, ![2048, 1024]⟩
abbrev S2048x512 : Shape := ⟨2, ![2048, 512]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x1024, .bf16⟩
  | .hbm, ⟨3, _⟩ => ⟨S8192x512, .bf16⟩
  | .hbm, ⟨4, _⟩ => ⟨S1024x512, .f32⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference5Ideal.lean ====
abbrev S8192x1024 : Shape := ⟨2, ![8192, 1024]⟩
abbrev S8192x512 : Shape := ⟨2, ![8192, 512]⟩
abbrev S_ : Shape := ⟨0, ![]⟩
abbrev S1024x512 : Shape := ⟨2, ![1024, 512]⟩
abbrev S512x1024 : Shape := ⟨2, ![512, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S_, .f32⟩
  | .hbm, ⟨3, _⟩ => ⟨S1024x512, .f32⟩
  | .hbm, ⟨4, _⟩ => ⟨S8192x512, .f32⟩
  | .hbm, ⟨5, _⟩ => ⟨S512x1024, .f32⟩
  | .hbm, ⟨6, _⟩ => ⟨S1024x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel6.lean ====
abbrev S8192x1024 : Shape := ⟨2, ![8192, 1024]⟩
abbrev S8192x1792 : Shape := ⟨2, ![8192, 1792]⟩
abbrev S1024x1792 : Shape := ⟨2, ![1024, 1792]⟩
abbrev S2048x1024 : Shape := ⟨2, ![2048, 1024]⟩
abbrev S2048x896 : Shape := ⟨2, ![2048, 896]⟩
abbrev S1024x896 : Shape := ⟨2, ![1024, 896]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1792, .f32⟩
  | .hbm, ⟨2, _⟩ => ⟨S8192x1024, .bf16⟩
  | .hbm, ⟨3, _⟩ => ⟨S8192x1792, .bf16⟩
  | .hbm, ⟨4, _⟩ => ⟨S1024x1792, .f32⟩
  | .local _ .vmem, ⟨0, _⟩ => ⟨S2048x1024, .bf16⟩
  | .local _ .vmem, ⟨1, _⟩ => ⟨S2048x1024, .bf16⟩
  | .local _ .vmem, ⟨2, _⟩ => ⟨S2048x896, .bf16⟩
  | .local _ .vmem, ⟨3, _⟩ => ⟨S2048x896, .bf16⟩
  | .local _ .vmem, ⟨4, _⟩ => ⟨S1024x896, .f32⟩
  | .local _ .vmem, ⟨5, _⟩ => ⟨S1024x896, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x1024 : Shape := ⟨2, ![8192, 1024]⟩
abbrev S8192x1792 : Shape := ⟨2, ![8192, 1792]⟩
abbrev S_ : Shape := ⟨0, ![]⟩
abbrev S1024x1792 : Shape := ⟨2, ![1024, 1792]⟩
abbrev S1792x1024 : Shape := ⟨2, ![1792, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1792, .f32⟩
  | .hbm, ⟨2, _⟩ => ⟨S_, .f32⟩
  | .hbm, ⟨3, _⟩ => ⟨S1024x1792, .f32⟩
  | .hbm, ⟨4, _⟩ => ⟨S8192x1792, .f32⟩
  | .hbm, ⟨5, _⟩ => ⟨S1792x1024, .f32⟩
  | .hbm, ⟨6, _⟩ => ⟨S1024x1792, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel7.lean ====
abbrev S8192x1024 : Shape := ⟨2, ![8192, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S2x5632 : Shape := ⟨2, ![2, 5632]⟩
abbrev S8194x5632 : Shape := ⟨2, ![8194, 5632]⟩
abbrev S1x5632 : Shape := ⟨2, ![1, 5632]⟩
abbrev S4x5632 : Shape := ⟨2, ![4, 5632]⟩
abbrev S8x5632 : Shape := ⟨2, ![8, 5632]⟩
abbrev S256x5632 : Shape := ⟨2, ![256, 5632]⟩
abbrev S16x5632 : Shape := ⟨2, ![16, 5632]⟩
abbrev S256x1024 : Shape := ⟨2, ![256, 1024]⟩
abbrev S16x1024 : Shape := ⟨2, ![16, 1024]⟩
abbrev S272x1024 : Shape := ⟨2, ![272, 1024]⟩
abbrev S8x1408 : Shape := ⟨2, ![8, 1408]⟩
abbrev S256x1408 : Shape := ⟨2, ![256, 1408]⟩
abbrev S16x1408 : Shape := ⟨2, ![16, 1408]⟩
abbrev S272x1408 : Shape := ⟨2, ![272, 1408]⟩
abbrev S1408x1024 : Shape := ⟨2, ![1408, 1024]⟩
abbrev S1408 : Shape := ⟨1, ![1408]⟩
abbrev S1x1408 : Shape := ⟨2, ![1, 1408]⟩
abbrev S1024x1408 : Shape := ⟨2, ![1024, 1408]⟩
abbrev S256 : Shape := ⟨1, ![256]⟩
abbrev S256x1 : Shape := ⟨2, ![256, 1]⟩

abbrev nBuf : Space → Nat
  | .hbm => 62
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .bf16⟩
  | .hbm, ⟨3, _⟩ => ⟨S3x5632, .f32⟩
  | .hbm, ⟨4, _⟩ => ⟨S5632, .f32⟩
  | .hbm, ⟨5, _⟩ => ⟨S2816x1024, .bf16⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S1024x5632, .f32⟩
  | .hbm, ⟨24, _⟩ => ⟨S8192x5632, .f32⟩
  | .hbm, ⟨25, _⟩ => ⟨S_, .f32⟩
  | .hbm, ⟨26, _⟩ => ⟨S2x5632, .f32⟩
  | .hbm, ⟨27, _⟩ => ⟨S8194x5632, .f32⟩
  | .hbm, ⟨28, _⟩ => ⟨S8192x5632, .f32⟩
  | .hbm, ⟨29, _⟩ => ⟨S1x5632, .f32⟩
  | .hbm, ⟨30, _⟩ => ⟨S5632, .f32⟩
  | .hbm, ⟨31, _⟩ => ⟨S1x5632, .f32⟩
  | .hbm, ⟨32, _⟩ => ⟨S8192x5632, .f32⟩
  | .hbm, ⟨33, _⟩ => ⟨S8192x5632, .f32⟩
  | .hbm, ⟨34, _⟩ => ⟨S1x5632, .f32⟩
  | .hbm, ⟨35, _⟩ => ⟨S8192x5632, .f32⟩
  | .hbm, ⟨36, _⟩ => ⟨S8192x5632, .f32⟩
  | .hbm, ⟨37, _⟩ => ⟨S8192x5632, .f32⟩
  | .hbm, ⟨38, _⟩ => ⟨S1x5632, .f32⟩
  | .hbm, ⟨39, _⟩ => ⟨S5632, .f32⟩
  | .hbm, ⟨40, _⟩ => ⟨S1x5632, .f32⟩
  | .hbm, ⟨41, _⟩ => ⟨S8192x5632, .f32⟩
  | .hbm, ⟨42, _⟩ => ⟨S8192x5632, .f32⟩
  | .hbm, ⟨43, _⟩ => ⟨S8192x5632, .f32⟩
  | .hbm, ⟨44, _⟩ => ⟨S8192x5632, .f32⟩
  | .hbm, ⟨45, _⟩ => ⟨S1x5632, .f32⟩
  | .hbm, ⟨46, _⟩ => ⟨S5632, .f32⟩
  | .hbm, ⟨47, _⟩ => ⟨S1x5632, .f32⟩
  | .hbm, ⟨48, _⟩ => ⟨S8192x5632, .f32⟩
  | .hbm, ⟨49, _⟩ => ⟨S8192x5632, .f32⟩
  | .hbm, ⟨50, _⟩ => ⟨S8192x5632, .f32⟩
  | .hbm, ⟨51, _⟩ => ⟨S1x5632, .f32⟩
  | .hbm, ⟨52, _⟩ => ⟨S_, .f32⟩
  | .hbm, ⟨53, _⟩ => ⟨S4x5632, .f32⟩
  | .hbm, ⟨54, _⟩ => ⟨S8x5632, .f32⟩
  | .hbm, ⟨55, _⟩ => ⟨S8192x5632, .bf16⟩
  | .hbm, ⟨56, _⟩ => ⟨S8192x5632, .bf16⟩
  | .hbm, ⟨57, _⟩ => ⟨S1x1024, .f32⟩
  | .hbm, ⟨58, _⟩ => ⟨S8192x5632, .bf16⟩
  | .hbm, ⟨59, _⟩ => ⟨S8x5632, .f32⟩
  | .hbm, ⟨60, _⟩ => ⟨S8192x1024, .f32⟩
  | .hbm, ⟨61, _⟩ => ⟨S1x1024, .f32⟩
  | .local _ .vmem, ⟨0, _⟩ => ⟨S256x5632, .bf16⟩
  | .local _ .vmem, ⟨1, _⟩ => ⟨S256x5632, .bf16⟩
  | .local _ .vmem, ⟨2, _⟩ => ⟨S256x5632, .bf16⟩
  | .local _ .vmem, ⟨3, _⟩ => ⟨S256x5632, .bf16⟩
  | .local _ .vmem, ⟨4, _⟩ => ⟨S16x5632, .bf16⟩
  | .local _ .vmem, ⟨5, _⟩ => ⟨S16x5632, .bf16⟩
  | .local _ .vmem, ⟨6, _⟩ => ⟨S8x5632, .f32⟩
  | .local _ .vmem, ⟨7, _⟩ => ⟨S1024x5632, .bf16⟩
  | .local _ .vmem, ⟨8, _⟩ => ⟨S2816x1024, .bf16⟩
  | .local _ .vmem, ⟨9, _⟩ => ⟨S256x1024, .f32⟩
  | .local _ .vmem, ⟨10, _⟩ => ⟨S256x1024, .f32⟩
  | .local _ .vmem, ⟨11, _⟩ => ⟨S1x1024, .f32⟩
  | .local _ .vmem, ⟨12, _⟩ => ⟨S256x1024, .f32⟩
  | .local _ .vmem, ⟨13, _⟩ => ⟨S256x1024, .f32⟩
  | .local _ .vmem, ⟨14, _⟩ => ⟨S16x1024, .f32⟩
  | .local _ .vmem, ⟨15, _⟩ => ⟨S16x1024, .f32⟩
  | .local _ .vmem, ⟨16, _⟩ => ⟨S256x5632, .bf16⟩
  | .local _ .vmem, ⟨17, _⟩ => ⟨S256x5632, .bf16⟩
  | .local _ .vmem, ⟨18, _⟩ => ⟨S8x5632, .f32⟩
  | .local _ .vmem, ⟨19, _⟩ => ⟨S256x1024, .f32⟩
  | .local _ .vmem, ⟨20, _⟩ => ⟨S256x1024, .f32⟩
  | .local _ .vmem, ⟨21, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_3 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46_0 : Ref sig .tc := ⟨.hbm, 58, rfl⟩
abbrev main_v46_1 : Ref sig .tc := ⟨.hbm, 59, rfl⟩
abbrev main_v46_2 : Ref sig .tc := ⟨.hbm, 60, rfl⟩
abbrev main_v46_3 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem12_1 : DmaSem sig := 20
abbrev cc0_sem13_0 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x5632 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x5632 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference7Ideal.lean ====
abbrev S8192x1024 : Shape := ⟨2, ![8192, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S2x5632 : Shape := ⟨2, ![2, 5632]⟩
abbrev S8194x5632 : Shape := ⟨2, ![8194, 5632]⟩
abbrev S1x5632 : Shape := ⟨2, ![1, 5632]⟩
abbrev S8192x2816 : Shape := ⟨2, ![8192, 2816]⟩
abbrev S4x5632 : Shape := ⟨2, ![4, 5632]⟩
abbrev S8x5632 : Shape := ⟨2, ![8, 5632]⟩

abbrev nBuf : Space → Nat
  | .hbm => 166
  | .vmem => 0
  | .smem => 0
  | _ => 0

abbrev hbmTy0_0 (i : Nat) : BufTy := match i % 128 with
  | 0 => ⟨S8192x1024, .f32⟩
  | 1 => ⟨S1024, .f32⟩
  | 2 => ⟨S1024x5632, .bf16⟩
  | 3 => ⟨S3x5632, .f32⟩
  | 4 => ⟨S5632, .f32⟩
  | 5 => ⟨S2816x1024, .bf16⟩
  | 6 => ⟨S8192x1024, .f32⟩
  | 7 => ⟨S8192x1024, .f32⟩
  | 8 => ⟨S_, .f32⟩
  | 9 => ⟨S8192, .f32⟩
  | 10 => ⟨S8192x1, .f32⟩
  | 11 => ⟨S_, .f32⟩
  | 12 => ⟨S8192x1, .f32⟩
  | 13 => ⟨S8192x1, .f32⟩
  | 14 => ⟨S_, .f32⟩
  | 15 => ⟨S8192x1, .f32⟩
  | 16 => ⟨S8192x1, .f32⟩
  | 17 => ⟨S8192x1, .f32⟩
  | 18 => ⟨S8192x1, .f32⟩
  | 19 => ⟨S_, .f32⟩
  | 20 => ⟨S8192x1, .f32⟩
  | 21 => ⟨S8192x1, .f32⟩
  | 22 => ⟨S8192x1024, .f32⟩
  | 23 => ⟨S8192x1024, .f32⟩
  | 24 => ⟨S1x1024, .f32⟩
  | 25 => ⟨S8192x1024, .f32⟩
  | 26 => ⟨S8192x1024, .f32⟩
  | 27 => ⟨S1024x5632, .f32⟩
  | 28 => ⟨S8192x5632, .f32⟩
  | 29 => ⟨S_, .f32⟩
  | 30 => ⟨S2x5632, .f32⟩
  | 31 => ⟨S8194x5632, .f32⟩
  | 32 => ⟨S_, .f32⟩
  | 33 => ⟨S2x5632, .f32⟩
  | 34 => ⟨S8192x5632, .f32⟩
  | 35 => ⟨S1x5632, .f32⟩
  | 36 => ⟨S5632, .f32⟩
  | 37 => ⟨S1x5632, .f32⟩
  | 38 => ⟨S8192x5632, .f32⟩
  | 39 => ⟨S8192x5632, .f32⟩
  | 40 => ⟨S1x5632, .f32⟩
  | 41 => ⟨S8192x5632, .f32⟩
  | 42 => ⟨S8192x5632, .f32⟩
  | 43 => ⟨S8192x5632, .f32⟩
  | 44 => ⟨S1x5632, .f32⟩
  | 45 => ⟨S5632, .f32⟩
  | 46 => ⟨S1x5632, .f32⟩
  | 47 => ⟨S8192x5632, .f32⟩
  | 48 => ⟨S8192x5632, .f32⟩
  | 49 => ⟨S8192x5632, .f32⟩
  | 50 => ⟨S8192x5632, .f32⟩
  | 51 => ⟨S1x5632, .f32⟩
  | 52 => ⟨S5632, .f32⟩
  | 53 => ⟨S1x5632, .f32⟩
  | 54 => ⟨S8192x5632, .f32⟩
  | 55 => ⟨S8192x5632, .f32⟩
  | 56 => ⟨S8192x5632, .f32⟩
  | 57 => ⟨S8192x2816, .f32⟩
  | 58 => ⟨S8192x2816, .f32⟩
  | 59 => ⟨S8192x2816, .f32⟩
  | 60 => ⟨S8192x2816, .f32⟩
  | 61 => ⟨S_, .f32⟩
  | 62 => ⟨S8192x2816, .f32⟩
  | 63 => ⟨S8192x2816, .f32⟩
  | 64 => ⟨S_, .f32⟩
  | 65 => ⟨S8192x2816, .f32⟩
  | 66 => ⟨S8192x2816, .f32⟩
  | 67 => ⟨S_, .f32⟩
  | 68 => ⟨S8192x2816, .f32⟩
  | 69 => ⟨S8192x2816, .f32⟩
  | 70 => ⟨S8192x2816, .f32⟩
  | 71 => ⟨S8192x2816, .f32⟩
  | 72 => ⟨S8192x2816, .f32⟩
  | 73 => ⟨S2816x1024, .f32⟩
  | 74 => ⟨S8192x1024, .f32⟩
  | 75 => ⟨S8192x2816, .f32⟩
  | 76 => ⟨S8192x2816, .f32⟩
  | 77 => ⟨S8192x2816, .f32⟩
  | 78 => ⟨S8192x2816, .f32⟩
  | 79 => ⟨S8192x2816, .f32⟩
  | 80 => ⟨S8192x2816, .f32⟩
  | 81 => ⟨S8192x2816, .f32⟩
  | 82 => ⟨S8192x5632, .f32⟩
  | 83 => ⟨S8192x5632, .f32⟩
  | 84 => ⟨S_, .f32⟩
  | 85 => ⟨S5632, .f32⟩
  | 86 => ⟨S1x5632, .f32⟩
  | 87 => ⟨S8192x5632, .f32⟩
  | 88 => ⟨S8192x5632, .f32⟩
  | 89 => ⟨S_, .f32⟩
  | 90 => ⟨S5632, .f32⟩
  | 91 => ⟨S1x5632, .f32⟩
  | 92 => ⟨S_, .f32⟩
  | 93 => ⟨S3x5632, .f32⟩
  | 94 => ⟨S_, .f32⟩
  | 95 => ⟨S8194x5632, .f32⟩
  | 96 => ⟨S8192x5632, .f32⟩
  | 97 => ⟨S_, .f32⟩
  | 98 => ⟨S5632, .f32⟩
  | 99 => ⟨S1x5632, .f32⟩
  | 100 => ⟨S8192x5632, .f32⟩
  | 101 => ⟨S8192x5632, .f32⟩
  | 102 => ⟨S_, .f32⟩
  | 103 => ⟨S5632, .f32⟩
  | 104 => ⟨S1x5632, .f32⟩
  | 105 => ⟨S_, .f32⟩
  | 106 => ⟨S3x5632, .f32⟩
  | 107 => ⟨S3x5632, .f32⟩
  | 108 => ⟨S_, .f32⟩
  | 109 => ⟨S8194x5632, .f32⟩
  | 110 => ⟨S8194x5632, .f32⟩
  | 111 => ⟨S_, .f32⟩
  | 112 => ⟨S5632, .f32⟩
  | 113 => ⟨S1x5632, .f32⟩
  | 114 => ⟨S_, .f32⟩
  | 115 => ⟨S5632, .f32⟩
  | 116 => ⟨S8192x5632, .f32⟩
  | 117 => ⟨S_, .f32⟩
  | 118 => ⟨S5632, .f32⟩
  | 119 => ⟨S1x5632, .f32⟩
  | 120 => ⟨S8192x5632, .f32⟩
  | 121 => ⟨S8192x5632, .f32⟩
  | 122 => ⟨S_, .f32⟩
  | 123 => ⟨S5632, .f32⟩
  | 124 => ⟨S1x5632, .f32⟩
  | 125 => ⟨S_, .f32⟩
  | 126 => ⟨S3x5632, .f32⟩
  | 127 => ⟨S3x5632, .f32⟩
  | _ => ⟨S8192x1024, .f32⟩

abbrev hbmTy0_1 (i : Nat) : BufTy := match i % 128 with
  | 0 => ⟨S_, .f32⟩
  | 1 => ⟨S8194x5632, .f32⟩
  | 2 => ⟨S8194x5632, .f32⟩
  | 3 => ⟨S2x5632, .f32⟩
  | 4 => ⟨S8192x5632, .f32⟩
  | 5 => ⟨S8192x1024, .f32⟩
  | 6 => ⟨S8192x1024, .f32⟩
  | 7 => ⟨S_, .f32⟩
  | 8 => ⟨S1024, .f32⟩
  | 9 => ⟨S1x1024, .f32⟩
  | 10 => ⟨S8192x1024, .f32⟩
  | 11 => ⟨S8192x1024, .f32⟩
  | 12 => ⟨S_, .f32⟩
  | 13 => ⟨S1024, .f32⟩
  | 14 => ⟨S8192x1024, .f32⟩
  | 15 => ⟨S_, .f32⟩
  | 16 => ⟨S8192, .f32⟩
  | 17 => ⟨S8192x1, .f32⟩
  | 18 => ⟨S8192x1024, .f32⟩
  | 19 => ⟨S8192x1024, .f32⟩
  | 20 => ⟨S8192x1, .f32⟩
  | 21 => ⟨S_, .f32⟩
  | 22 => ⟨S8192x1, .f32⟩
  | 23 => ⟨S8192x1, .f32⟩
  | 24 => ⟨S_, .f32⟩
  | 25 => ⟨S8192, .f32⟩
  | 26 => ⟨S8192x1024, .f32⟩
  | 27 => ⟨S8192x1024, .f32⟩
  | 28 => ⟨S8192x1024, .f32⟩
  | 29 => ⟨S8192x1024, .f32⟩
  | 30 => ⟨S8192x1024, .f32⟩
  | 31 => ⟨S1x5632, .f32⟩
  | 32 => ⟨S_, .f32⟩
  | 33 => ⟨S4x5632, .f32⟩
  | 34 => ⟨S8x5632, .f32⟩
  | 35 => ⟨S8192x5632, .bf16⟩
  | 36 => ⟨S8192x1024, .f32⟩
  | 37 => ⟨S1x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_call0_v0 : Ref sig .tc := ⟨.hbm, 59, rfl⟩
abbrev main_call0_v1 : Ref sig .tc := ⟨.hbm, 60, rfl⟩
abbrev main_call0_cst : Ref sig .tc := ⟨.hbm, 61, rfl⟩
abbrev main_call0_v2 : Ref sig .tc := ⟨.hbm, 62, rfl⟩
abbrev main_call0_v3 : Ref sig .tc := ⟨.hbm, 63, rfl⟩
abbrev main_call0_cst_0 : Ref sig .tc := ⟨.hbm, 64, rfl⟩
abbrev main_call0_v4 : Ref sig .tc := ⟨.hbm, 65, rfl⟩
abbrev main_v46_2 : Ref sig .tc := ⟨.hbm, 66, rfl⟩
abbrev main_call0_cst_1 : Ref sig .tc := ⟨.hbm, 67, rfl⟩
abbrev main_call0_v6 : Ref sig .tc := ⟨.hbm, 68, rfl⟩
abbrev main_call0_v7 : Ref sig .tc := ⟨.hbm, 69, rfl⟩
abbrev main_v46_1 : Ref sig .tc := ⟨.hbm, 70, rfl⟩
abbrev main_v46_0 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_call1_v0 : Ref sig .tc := ⟨.hbm, 78, rfl⟩
abbrev main_call1_v1 : Ref sig .tc := ⟨.hbm, 79, rfl⟩
abbrev main_call1_v2 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_5 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_6 : Ref sig .tc := ⟨.hbm, 89, rfl⟩
abbrev main_v60 : Ref sig .tc := ⟨.hbm, 90, rfl⟩
abbrev main_v61 : Ref sig .tc := ⟨.hbm, 91, rfl⟩
abbrev main_cst_7 : Ref sig .tc := ⟨.hbm, 92, rfl⟩
abbrev main_v62 : Ref sig .tc := ⟨.hbm, 93, rfl⟩
abbrev main_cst_8 : Ref sig .tc := ⟨.hbm, 94, rfl⟩
abbrev main_v63 : Ref sig .tc := ⟨.hbm, 95, rfl⟩
abbrev main_v64 : Ref sig .tc := ⟨.hbm, 96, rfl⟩
abbrev main_cst_9 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_10 : Ref sig .tc := ⟨.hbm, 102, rfl⟩
abbrev main_v69 : Ref sig .tc := ⟨.hbm, 103, rfl⟩
abbrev main_v70 : Ref sig .tc := ⟨.hbm, 104, rfl⟩
abbrev main_cst_11 : Ref sig .tc := ⟨.hbm, 105, rfl⟩
abbrev main_v71 : Ref sig .tc := ⟨.hbm, 106, rfl⟩
abbrev main_v72 : Ref sig .tc := ⟨.hbm, 107, rfl⟩
abbrev main_cst_12 : Ref sig .tc := ⟨.hbm, 108, rfl⟩
abbrev main_v73 : Ref sig .tc := ⟨.hbm, 109, rfl⟩
abbrev main_v74 : Ref sig .tc := ⟨.hbm, 110, rfl⟩
abbrev main_cst_13 : Ref sig .tc := ⟨.hbm, 111, rfl⟩
abbrev main_v75 : Ref sig .tc := ⟨.hbm, 112, rfl⟩
abbrev main_v76 : Ref sig .tc := ⟨.hbm, 113, rfl⟩
abbrev main_cst_14 : Ref sig .tc := ⟨.hbm, 114, rfl⟩
abbrev main_v77 : Ref sig .tc := ⟨.hbm, 115, rfl⟩
abbrev main_v78 : Ref sig .tc := ⟨.hbm, 116, rfl⟩
abbrev main_cst_15 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_cst_16 : Ref sig .tc := ⟨.hbm, 122, rfl⟩
abbrev main_v83 : Ref sig .tc := ⟨.hbm, 123, rfl⟩
abbrev main_v84 : Ref sig .tc := ⟨.hbm, 124, rfl⟩
abbrev main_cst_17 : Ref sig .tc := ⟨.hbm, 125, rfl⟩
abbrev main_v85 : Ref sig .tc := ⟨.hbm, 126, rfl⟩
abbrev main_v86 : Ref sig .tc := ⟨.hbm, 127, rfl⟩
abbrev main_cst_18 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_cst_19 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_cst_20 : Ref sig .tc := ⟨.hbm, 140, rfl⟩
abbrev main_v97 : Ref sig .tc := ⟨.hbm, 141, rfl⟩
abbrev main_v98 : Ref sig .tc := ⟨.hbm, 142, rfl⟩
abbrev main_cst_21 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_cst_22 : Ref sig .tc := ⟨.hbm, 149, rfl⟩
abbrev main_v104 : Ref sig .tc := ⟨.hbm, 150, rfl⟩
abbrev main_v105 : Ref sig .tc := ⟨.hbm, 151, rfl⟩
abbrev main_cst_23 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_cst_24 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩

abbrev nD : Nat := 1
abbrev τ : Topo := Topo.v7x

variable {F : FTy → Type} [FloatOps F]
-- ==== Kernel8.lean ====
abbrev S8192x2816 : Shape := ⟨2, ![8192, 2816]⟩
abbrev S2816x1024 : Shape := ⟨2, ![2816, 1024]⟩
abbrev S8192x1024 : Shape := ⟨2, ![8192, 1024]⟩
abbrev S512x2816 : Shape := ⟨2, ![512, 2816]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S2816x1024, .bf16⟩
  | .hbm, ⟨2, _⟩ => ⟨S8192x1024, .f32⟩
  | .hbm, ⟨3, _⟩ => ⟨S8192x2816, .bf16⟩
  | .hbm, ⟨4, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference8Ideal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S2816x1024, .bf16⟩
  | .hbm, ⟨2, _⟩ => ⟨S8192x1024, .f32⟩
  | .hbm, ⟨3, _⟩ => ⟨S2816x1024, .f32⟩
  | .hbm, ⟨4, _⟩ => ⟨S8192x1024, .f32⟩
  | .hbm, ⟨5, _⟩ => ⟨S8192x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel9.lean ====
abbrev S8192x1024 : Shape := ⟨2, ![8192, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S1x5632 : Shape := ⟨2, ![1, 5632]⟩
abbrev S_ : Shape := ⟨0, ![]⟩
abbrev S4x5632 : Shape := ⟨2, ![4, 5632]⟩
abbrev S8x5632 : Shape := ⟨2, ![8, 5632]⟩
abbrev S1x1024 : Shape := ⟨2, ![1, 1024]⟩
abbrev S8192x5632 : Shape := ⟨2, ![8192, 5632]⟩
abbrev S8192x2816 : Shape := ⟨2, ![8192, 2816]⟩
abbrev S512x1024 : Shape := ⟨2, ![512, 1024]⟩
abbrev S512x5632 : Shape := ⟨2, ![512, 5632]⟩
abbrev S512x2816 : Shape := ⟨2, ![512, 2816]⟩
abbrev S16x5632 : Shape := ⟨2, ![16, 5632]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S16x1408 : Shape := ⟨2, ![16, 1408]⟩
abbrev S8x1408 : Shape := ⟨2, ![8, 1408]⟩
abbrev S528x1408 : Shape := ⟨2, ![528, 1408]⟩
abbrev S1x1408 : Shape := ⟨2, ![1, 1408]⟩

abbrev nBuf : Space → Nat
  | .hbm => 14
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .bf16⟩
  | .hbm, ⟨3, _⟩ => ⟨S3x5632, .f32⟩
  | .hbm, ⟨4, _⟩ => ⟨S5632, .f32⟩
  | .hbm, ⟨5, _⟩ => ⟨S1x5632, .f32⟩
  | .hbm, ⟨6, _⟩ => ⟨S_, .f32⟩
  | .hbm, ⟨7, _⟩ => ⟨S4x5632, .f32⟩
  | .hbm, ⟨8, _⟩ => ⟨S8x5632, .f32⟩
  | .hbm, ⟨9, _⟩ => ⟨S1x1024, .f32⟩
  | .hbm, ⟨10, _⟩ => ⟨S8192x1024, .bf16⟩
  | .hbm, ⟨11, _⟩ => ⟨S8192x5632, .bf16⟩
  | .hbm, ⟨12, _⟩ => ⟨S8192x5632, .bf16⟩
  | .hbm, ⟨13, _⟩ => ⟨S8192x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S8x5632, .f32⟩
  | .local _ .vmem, ⟨5, _⟩ => ⟨S512x1024, .bf16⟩
  | .local _ .vmem, ⟨6, _⟩ => ⟨S512x1024, .bf16⟩
  | .local _ .vmem, ⟨7, _⟩ => ⟨S512x5632, .bf16⟩
  | .local _ .vmem, ⟨8, _⟩ => ⟨S512x5632, .bf16⟩
  | .local _ .vmem, ⟨9, _⟩ => ⟨S512x5632, .bf16⟩
  | .local _ .vmem, ⟨10, _⟩ => ⟨S512x5632, .bf16⟩
  | .local _ .vmem, ⟨11, _⟩ => ⟨S512x2816, .bf16⟩
  | .local _ .vmem, ⟨12, _⟩ => ⟨S512x2816, .bf16⟩
  | .local _ .vmem, ⟨13, _⟩ => ⟨S16x5632, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x5632 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x5632 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference9Ideal.lean ====
abbrev S8192x1024 : Shape := ⟨2, ![8192, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S2x5632 : Shape := ⟨2, ![2, 5632]⟩
abbrev S8194x5632 : Shape := ⟨2, ![8194, 5632]⟩
abbrev S1x5632 : Shape := ⟨2, ![1, 5632]⟩
abbrev S8192x2816 : Shape := ⟨2, ![8192, 2816]⟩

abbrev nBuf : Space → Nat
  | .hbm => 65
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .bf16⟩
  | .hbm, ⟨3, _⟩ => ⟨S3x5632, .f32⟩
  | .hbm, ⟨4, _⟩ => ⟨S5632, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S1024x5632, .f32⟩
  | .hbm, ⟨22, _⟩ => ⟨S8192x5632, .f32⟩
  | .hbm, ⟨23, _⟩ => ⟨S_, .f32⟩
  | .hbm, ⟨24, _⟩ => ⟨S2x5632, .f32⟩
  | .hbm, ⟨25, _⟩ => ⟨S8194x5632, .f32⟩
  | .hbm, ⟨26, _⟩ => ⟨S8192x5632, .f32⟩
  | .hbm, ⟨27, _⟩ => ⟨S1x5632, .f32⟩
  | .hbm, ⟨28, _⟩ => ⟨S5632, .f32⟩
  | .hbm, ⟨29, _⟩ => ⟨S1x5632, .f32⟩
  | .hbm, ⟨30, _⟩ => ⟨S8192x5632, .f32⟩
  | .hbm, ⟨31, _⟩ => ⟨S8192x5632, .f32⟩
  | .hbm, ⟨32, _⟩ => ⟨S1x5632, .f32⟩
  | .hbm, ⟨33, _⟩ => ⟨S8192x5632, .f32⟩
  | .hbm, ⟨34, _⟩ => ⟨S8192x5632, .f32⟩
  | .hbm, ⟨35, _⟩ => ⟨S8192x5632, .f32⟩
  | .hbm, ⟨36, _⟩ => ⟨S1x5632, .f32⟩
  | .hbm, ⟨37, _⟩ => ⟨S5632, .f32⟩
  | .hbm, ⟨38, _⟩ => ⟨S1x5632, .f32⟩
  | .hbm, ⟨39, _⟩ => ⟨S8192x5632, .f32⟩
  | .hbm, ⟨40, _⟩ => ⟨S8192x5632, .f32⟩
  | .hbm, ⟨41, _⟩ => ⟨S8192x5632, .f32⟩
  | .hbm, ⟨42, _⟩ => ⟨S8192x5632, .f32⟩
  | .hbm, ⟨43, _⟩ => ⟨S1x5632, .f32⟩
  | .hbm, ⟨44, _⟩ => ⟨S5632, .f32⟩
  | .hbm, ⟨45, _⟩ => ⟨S1x5632, .f32⟩
  | .hbm, ⟨46, _⟩ => ⟨S8192x5632, .f32⟩
  | .hbm, ⟨47, _⟩ => ⟨S8192x5632, .f32⟩
  | .hbm, ⟨48, _⟩ => ⟨S8192x5632, .f32⟩
  | .hbm, ⟨49, _⟩ => ⟨S8192x2816, .f32⟩
  | .hbm, ⟨50, _⟩ => ⟨S8192x2816, .f32⟩
  | .hbm, ⟨51, _⟩ => ⟨S8192x2816, .f32⟩
  | .hbm, ⟨52, _⟩ => ⟨S8192x2816, .f32⟩
  | .hbm, ⟨53, _⟩ => ⟨S_, .f32⟩
  | .hbm, ⟨54, _⟩ => ⟨S8192x2816, .f32⟩
  | .hbm, ⟨55, _⟩ => ⟨S8192x2816, .f32⟩
  | .hbm, ⟨56, _⟩ => ⟨S_, .f32⟩
  | .hbm, ⟨57, _⟩ => ⟨S8192x2816, .f32⟩
  | .hbm, ⟨58, _⟩ => ⟨S8192x2816, .f32⟩
  | .hbm, ⟨59, _⟩ => ⟨S8192x2816, .f32⟩
  | .hbm, ⟨60, _⟩ => ⟨S8192x2816, .f32⟩
  | .hbm, ⟨61, _⟩ => ⟨S8192x1024, .bf16⟩
  | .hbm, ⟨62, _⟩ => ⟨S8192x5632, .bf16⟩
  | .hbm, ⟨63, _⟩ => ⟨S8192x5632, .bf16⟩
  | .hbm, ⟨64, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_call0_v0 : Ref sig .tc := ⟨.hbm, 51, rfl⟩
abbrev main_call0_v1 : Ref sig .tc := ⟨.hbm, 52, rfl⟩
abbrev main_call0_cst : Ref sig .tc := ⟨.hbm, 53, rfl⟩
abbrev main_call0_v2 : Ref sig .tc := ⟨.hbm, 54, rfl⟩
abbrev main_call0_v3 : Ref sig .tc := ⟨.hbm, 55, rfl⟩
abbrev main_call0_cst_0 : Ref sig .tc := ⟨.hbm, 56, rfl⟩
abbrev main_call0_v4 : Ref sig .tc := ⟨.hbm, 57, rfl⟩
abbrev main_call0_v5 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩

abbrev nD : Nat := 1
abbrev τ : Topo := Topo.v7x

variable {F : FTy → Type} [FloatOps F]
-- ==== Kernel10.lean ====
abbrev S8192x256 : Shape := ⟨2, ![8192, 256]⟩
abbrev S8192x512 : Shape := ⟨2, ![8192, 512]⟩
abbrev S1024 : Shape := ⟨1, ![1024]⟩
abbrev S1024x1024 : Shape := ⟨2, ![1024, 1024]⟩
abbrev S8192x1024 : Shape := ⟨2, ![8192, 1024]⟩
abbrev S1x1024 : Shape := ⟨2, ![1, 1024]⟩
abbrev S128 : Shape := ⟨1, ![128]⟩
abbrev S128x1 : Shape := ⟨2, ![128, 1]⟩
abbrev S_ : Shape := ⟨0, ![]⟩
abbrev S1x128 : Shape := ⟨2, ![1, 128]⟩
abbrev S128x128 : Shape := ⟨2, ![128, 128]⟩
abbrev S512x256 : Shape := ⟨2, ![512, 256]⟩
abbrev S512x512 : Shape := ⟨2, ![512, 512]⟩
abbrev S512x1024 : Shape := ⟨2, ![512, 1024]⟩
abbrev S512x128 : Shape := ⟨2, ![512, 128]⟩

abbrev nBuf : Space → Nat
  | .hbm => 57
  | .vmem => 15
  | .smem => 0
  | _ => 0

abbrev bufTy : (tb : Table) → Fin (tcTables nBuf tb) → BufTy
  | .hbm, ⟨0, _⟩ => ⟨S8192x256, .f32⟩
  | .hbm, ⟨1, _⟩ => ⟨S8192x512, .f32⟩
  | .hbm, ⟨2, _⟩ => ⟨S8192x256, .f32⟩
  | .hbm, ⟨3, _⟩ => ⟨S1024, .f32⟩
  | .hbm, ⟨4, _⟩ => ⟨S1024x1024, .bf16⟩
  | .hbm, ⟨5, _⟩ => ⟨S8192x1024, .f32⟩
  | .hbm, ⟨6, _⟩ => ⟨S1x1024, .f32⟩
  | .hbm, ⟨7, _⟩ => ⟨S128, .i32⟩
  | .hbm, ⟨8, _⟩ => ⟨S128x1, .i32⟩
  | .hbm, ⟨9, _⟩ => ⟨S_, .i32⟩
  | .hbm, ⟨10, _⟩ => ⟨S_, .i32⟩
  | .hbm, ⟨11, _⟩ => ⟨S128x1, .i32⟩
  | .hbm, ⟨12, _⟩ => ⟨S128x1, .i32⟩
  | .hbm, ⟨13, _⟩ => ⟨S128x1, .i32⟩
  | .hbm, ⟨14, _⟩ => ⟨S_, .i32⟩
  | .hbm, ⟨15, _⟩ => ⟨S128x1, .i32⟩
  | .hbm, ⟨16, _⟩ => ⟨S128x1, .i1⟩
  | .hbm, ⟨17, _⟩ => ⟨S128x1, .i32⟩
  | .hbm, ⟨18, _⟩ => ⟨S128x1, .i32⟩
  | .hbm, ⟨19, _⟩ => ⟨S_, .i32⟩
  | .hbm, ⟨20, _⟩ => ⟨S128x1, .i32⟩
  | .hbm, ⟨21, _⟩ => ⟨S128x1, .i1⟩
  | .hbm, ⟨22, _⟩ => ⟨S128x1, .i1⟩
  | .hbm, ⟨23, _⟩ => ⟨S_, .i32⟩
  | .hbm, ⟨24, _⟩ => ⟨S128x1, .i32⟩
  | .hbm, ⟨25, _⟩ => ⟨S128x1, .i32⟩
  | .hbm, ⟨26, _⟩ => ⟨S128x1, .i32⟩
  | .hbm, ⟨27, _⟩ => ⟨S1x128, .i32⟩
  | .hbm, ⟨28, _⟩ => ⟨S_, .i32⟩
  | .hbm, ⟨29, _⟩ => ⟨S_, .i32⟩
  | .hbm, ⟨30, _⟩ => ⟨S1x128, .i32⟩
  | .hbm, ⟨31, _⟩ => ⟨S1x128, .i32⟩
  | .hbm, ⟨32, _⟩ => ⟨S1x128, .i32⟩
  | .hbm, ⟨33, _⟩ => ⟨S_, .i32⟩
  | .hbm, ⟨34, _⟩ => ⟨S1x128, .i32⟩
  | .hbm, ⟨35, _⟩ => ⟨S1x128, .i1⟩
  | .hbm, ⟨36, _⟩ => ⟨S1x128, .i32⟩
  | .hbm, ⟨37, _⟩ => ⟨S1x128, .i32⟩
  | .hbm, ⟨38, _⟩ => ⟨S_, .i32⟩
  | .hbm, ⟨39, _⟩ => ⟨S1x128, .i32⟩
  | .hbm, ⟨40, _⟩ => ⟨S1x128, .i1⟩
  | .hbm, ⟨41, _⟩ => ⟨S1x128, .i1⟩
  | .hbm, ⟨42, _⟩ => ⟨S_, .i32⟩
  | .hbm, ⟨43, _⟩ => ⟨S1x128, .i32⟩
  | .hbm, ⟨44, _⟩ => ⟨S1x128, .i32⟩
  | .hbm, ⟨45, _⟩ => ⟨S1x128, .i32⟩
  | .hbm, ⟨46, _⟩ => ⟨S128x128, .i32⟩
  | .hbm, ⟨47, _⟩ => ⟨S128x128, .i32⟩
  | .hbm, ⟨48, _⟩ => ⟨S128x128, .i1⟩
  | .hbm, ⟨49, _⟩ => ⟨S_, .f32⟩
  | .hbm, ⟨50, _⟩ => ⟨S_, .f32⟩
  | .hbm, ⟨51, _⟩ => ⟨S128x128, .f32⟩
  | .hbm, ⟨52, _⟩ => ⟨S128x128, .f32⟩
  | .hbm, ⟨53, _⟩ => ⟨S128x128, .f32⟩
  | .hbm, ⟨54, _⟩ => ⟨S128x128, .bf16⟩
  | .hbm, ⟨55, _⟩ => ⟨S8192x1024, .f32⟩
  | .hbm, ⟨56, _⟩ => ⟨S8192x1024, .bf16⟩
  | .local _ .vmem, ⟨0, _⟩ => ⟨S512x256, .f32⟩
  | .local _ .vmem, ⟨1, _⟩ => ⟨S512x256, .f32⟩
  | .local _ .vmem, ⟨2, _⟩ => ⟨S512x512, .f32⟩
  | .local _ .vmem, ⟨3, _⟩ => ⟨S512x512, .f32⟩
  | .local _ .vmem, ⟨4, _⟩ => ⟨S512x256, .f32⟩
  | .local _ .vmem, ⟨5, _⟩ => ⟨S512x256, .f32⟩
  | .local _ .vmem, ⟨6, _⟩ => ⟨S1x1024, .f32⟩
  | .local _ .vmem, ⟨7, _⟩ => ⟨S1024x1024, .bf16⟩
  | .local _ .vmem, ⟨8, _⟩ => ⟨S512x1024, .f32⟩
  | .local _ .vmem, ⟨9, _⟩ => ⟨S512x1024, .f32⟩
  | .local _ .vmem, ⟨10, _⟩ => ⟨S128x128, .bf16⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v3 : Ref sig .tc := ⟨.hbm, 26, rfl⟩
abbrev main_v4 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v5 : Ref sig .tc := ⟨.hbm, 45, rfl⟩
abbrev main_v6 : Ref sig .tc := ⟨.hbm, 46, rfl⟩
abbrev main_v7 : Ref sig .tc := ⟨.hbm, 47, rfl⟩
abbrev main_v8 : Ref sig .tc := ⟨.hbm, 48, rfl⟩
abbrev main_cst : Ref sig .tc := ⟨.hbm, 49, rfl⟩
abbrev main_cst_1 : Ref sig .tc := ⟨.hbm, 50, rfl⟩
abbrev main_call2_v0 : Ref sig .tc := ⟨.hbm, 51, rfl⟩
abbrev main_call2_v1 : Ref sig .tc := ⟨.hbm, 52, rfl⟩
abbrev main_v9 : Ref sig .tc := ⟨.hbm, 53, rfl⟩
abbrev main_v10 : Ref sig .tc := ⟨.hbm, 54, rfl⟩
abbrev main_v11_0 : Ref sig .tc := ⟨.hbm, 55, rfl⟩
abbrev main_v11_1 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference10Ideal.lean ====
abbrev S8192x256 : Shape := ⟨2, ![8192, 256]⟩
abbrev S8192x512 : Shape := ⟨2, ![8192, 512]⟩
abbrev S1024 : Shape := ⟨1, ![1024]⟩
abbrev S1024x1024 : Shape := ⟨2, ![1024, 1024]⟩
abbrev S8192x1024 : Shape := ⟨2, ![8192, 1024]⟩
abbrev S8192x16x64 : Shape := ⟨3, ![8192, 16, 64]⟩
abbrev S16x64 : Shape := ⟨2, ![16, 64]⟩
abbrev S_ : Shape := ⟨0, ![]⟩
abbrev S8192x16 : Shape := ⟨2, ![8192, 16]⟩
abbrev S8192x16x1 : Shape := ⟨3, ![8192, 16, 1]⟩
abbrev S1x16x64 : Shape := ⟨3, ![1, 16, 64]⟩

abbrev nBuf : Space → Nat
  | .hbm => 30
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x512, .f32⟩
  | .hbm, ⟨2, _⟩ => ⟨S8192x256, .f32⟩
  | .hbm, ⟨3, _⟩ => ⟨S1024, .f32⟩
  | .hbm, ⟨4, _⟩ => ⟨S1024x1024, .bf16⟩
  | .hbm, ⟨5, _⟩ => ⟨S8192x1024, .f32⟩
  | .hbm, ⟨6, _⟩ => ⟨S8192x1024, .f32⟩
  | .hbm, ⟨7, _⟩ => ⟨S8192x16x64, .f32⟩
  | .hbm, ⟨8, _⟩ => ⟨S16x64, .f32⟩
  | .hbm, ⟨9, _⟩ => ⟨S8192x16x64, .f32⟩
  | .hbm, ⟨10, _⟩ => ⟨S_, .f32⟩
  | .hbm, ⟨11, _⟩ => ⟨S8192x16, .f32⟩
  | .hbm, ⟨12, _⟩ => ⟨S8192x16x1, .f32⟩
  | .hbm, ⟨13, _⟩ => ⟨S_, .f32⟩
  | .hbm, ⟨14, _⟩ => ⟨S8192x16x1, .f32⟩
  | .hbm, ⟨15, _⟩ => ⟨S8192x16x1, .f32⟩
  | .hbm, ⟨16, _⟩ => ⟨S_, .f32⟩
  | .hbm, ⟨17, _⟩ => ⟨S8192x16x1, .f32⟩
  | .hbm, ⟨18, _⟩ => ⟨S8192x16x1, .f32⟩
  | .hbm, ⟨19, _⟩ => ⟨S8192x16x1, .f32⟩
  | .hbm, ⟨20, _⟩ => ⟨S8192x16x64, .f32⟩
  | .hbm, ⟨21, _⟩ => ⟨S8192x16x64, .f32⟩
  | .hbm, ⟨22, _⟩ => ⟨S1x16x64, .f32⟩
  | .hbm, ⟨23, _⟩ => ⟨S8192x16x64, .f32⟩
  | .hbm, ⟨24, _⟩ => ⟨S8192x16x64, .f32⟩
  | .hbm, ⟨25, _⟩ => ⟨S8192x1024, .f32⟩
  | .hbm, ⟨26, _⟩ => ⟨S1024x1024, .f32⟩
  | .hbm, ⟨27, _⟩ => ⟨S8192x1024, .f32⟩
  | .hbm, ⟨28, _⟩ => ⟨S8192x1024, .f32⟩
  | .hbm, ⟨29, _⟩ => ⟨S8192x1024, .bf16⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Proof.Weight2.lean ====
/-
  The weight gradient of the up projection: the accumulated blocks of the kernel are the reference's product, the sum over
  the 8192 rows taken in four blocks of 2048.
-/
module

public import proofs.«01_k».proof.Proof.Gen.Kernel2Ideal.Frame
public import proofs.«01_k».proof.Proof.Gen.Reference2Ideal
public import proofs.«01_k».proof.Proof.Gen.Reference2Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel2Ideal.Weight

open Cert.Kernel2Ideal Cert.Kernel2Ideal.Gen

variable (m : (ℓ : Loc nD τ sig) → Buf (Elt Ideal) ℓ)

/-- The reference's term over the layer's input `x` and the gradient `dy` of its output. -/
abbrev REF (x : FVec Ideal S8192x1024 .f32) (dy : FVec Ideal S8192x5632 .f32) : FVec Ideal S4x1024x1408 .f32 :=
  transpose Cert.Reference2Ideal.S4x1024x1408 [1, 0, 2] (shapeCast Cert.Reference2Ideal.S1024x4x1408 (transpose Cert.Reference2Ideal.S1024x5632 [1, 0] (Host.dotGeneral (F := Ideal) (φ₁ := .f32) (φ₂ := .f32) Cert.Reference2Ideal.dot_S8192x5632_S8192x1024_S5632x1024_0_0_1_1_n_n none dy x) Cert.Reference2Ideal.Gen.transposes_S5632x1024_S1024x5632_1_0) Cert.Reference2Ideal.Gen.shapeCasts_S1024x5632_S1024x4x1408) Cert.Reference2Ideal.Gen.transposes_S1024x4x1408_S4x1024x1408_1_0_2

/-- A column of a tile is a column of the weight. -/
theorem col_lt (y : S4x1024x1408.Idx) : (y 0).val * 1408 + (y 2).val < 5632 := by
  have h0 : (y 0).val < 4 := (y 0).isLt
  have h2 : (y 2).val < 1408 := (y 2).isLt
  omega

/-- The reference's entry: a sum over the rows. -/
theorem ref_at (x : FVec Ideal S8192x1024 .f32) (dy : FVec Ideal S8192x5632 .f32) (y : S4x1024x1408.Idx) :
    REF x dy y = ∑ l : Fin 8192, x (ix2 l (y 1)) * dy (ix2 l ⟨(y 0).val * 1408 + (y 2).val, col_lt y⟩) := by
  pointwise [REF]
  exact Finset.sum_congr rfl fun l _ => mul_comm (_ : EReal) _

/-- The zero fill. -/
theorem zero_at (y) : k0_pay1 (F := Ideal) y = 0 := by pointwise [k0_pay1]

/-- What a point adds to its block. -/
theorem pay_at (acc : Vec Ideal S1x1024x1408 .f32) (a : Vec Ideal S2048x1024 .bf16) (b : Vec Ideal S2048x1408 .bf16) (y : S1x1024x1408.Idx) :
    k0_pay2 acc a b y = acc y + ∑ k : Fin 2048, a (ix2 k (y 1)) * b (ix2 k (y 2)) := by
  pointwise [k0_pay2]

/-- Which block each point works on. -/
theorem idx : ∀ t : Fin cfg0.N, win0_0.index t = ![t.val % 4, 0] ∧ win0_1.index t = ![t.val % 4, t.val / 4] ∧ win0_2.index t = ![t.val / 4, 0, 0] :=
  (by decide +kernel : ∀ t : Fin grid0.N, _)

/-- The array after the run is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0) _
    (fun t h j => by rw [outsAt0_A m c t h]; frame_out; rw [pay_at, zero_at]) (fun t h j => by rw [outsAt0_B m c t h]; frame_out; rw [pay_at])
    t ((flush0_2 t).mp hf) _, zero_add]
  rw [ref_at]
  refine Fin.sum_mul_add_congr fun s k hl => ?_
  blk_point [iblk, V, idx t, idx ⟨_, Pipeline.run_point_lt_of_flush t ((flush0_2 t).mp hf) s⟩]

end Cert.Kernel2Ideal.Weight

end
-- ==== Proof.Weight3.lean ====
/-
  The weight gradient of the down projection: the accumulated blocks of the kernel are the reference's product, the sum over
  the 8192 rows taken in four blocks of 2048.
-/
module

public import proofs.«01_k».proof.Proof.Gen.Kernel3Ideal.Frame
public import proofs.«01_k».proof.Proof.Gen.Reference3Ideal
public import proofs.«01_k».proof.Proof.Gen.Reference3Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel3Ideal.Weight

open Cert.Kernel3Ideal Cert.Kernel3Ideal.Gen

variable (m : (ℓ : Loc nD τ sig) → Buf (Elt Ideal) ℓ)

/-- The reference's term over the layer's input `x` and the gradient `dy` of its output. -/
abbrev REF (x : FVec Ideal S8192x2816 .f32) (dy : FVec Ideal S8192x1024 .f32) : FVec Ideal S2816x1024 .f32 :=
  transpose Cert.Reference3Ideal.S2816x1024 [1, 0] (Host.dotGeneral (F := Ideal) (φ₁ := .f32) (φ₂ := .f32) Cert.Reference3Ideal.dot_S8192x1024_S8192x2816_S1024x2816_0_0_1_1_n_n none dy x) Cert.Reference3Ideal.Gen.transposes_S1024x2816_S2816x1024_1_0

/-- The reference's entry: a sum over the rows. -/
theorem ref_at (x : FVec Ideal S8192x2816 .f32) (dy : FVec Ideal S8192x1024 .f32) (y : S2816x1024.Idx) :
    REF x dy y = ∑ l : Fin 8192, x (ix2 l (y 0)) * dy (ix2 l (y 1)) := by
  pointwise [REF]
  exact Finset.sum_congr rfl fun l _ => mul_comm (_ : EReal) _

/-- The zero fill. -/
theorem zero_at (y) : k0_pay1 (F := Ideal) y = 0 := by pointwise [k0_pay1]

/-- What a point adds to its block. -/
theorem pay_at (acc : Vec Ideal S1408x1024 .f32) (a : Vec Ideal S2048x1408 .bf16) (b : Vec Ideal S2048x1024 .f32) (y : S1408x1024.Idx) :
    k0_pay2 acc a b y = acc y + ∑ k : Fin 2048, a (ix2 k (y 0)) * b (ix2 k (y 1)) := by
  pointwise [k0_pay2]

/-- Which block each point works on. -/
theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

/-- The array after the run is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0) _
    (fun t h j => by rw [outsAt0_A m c t h]; frame_out; rw [pay_at, zero_at]) (fun t h j => by rw [outsAt0_B m c t h]; frame_out; rw [pay_at])
    t ((flush0_2 t).mp hf) _, zero_add]
  rw [ref_at]
  refine Fin.sum_mul_add_congr fun s k hl => ?_
  blk_point [iblk, V, idx t, idx ⟨_, Pipeline.run_point_lt_of_flush t ((flush0_2 t).mp hf) s⟩]

end Cert.Kernel3Ideal.Weight

end
-- ==== Proof.Weight4.lean ====
/-
  The weight gradient of the attention's output projection: the accumulated blocks of the kernel are the reference's product, the sum over
  the 8192 rows taken in four blocks of 2048.
-/
module

public import proofs.«01_k».proof.Proof.Gen.Kernel4Ideal.Frame
public import proofs.«01_k».proof.Proof.Gen.Reference4Ideal
public import proofs.«01_k».proof.Proof.Gen.Reference4Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel4Ideal.Weight

open Cert.Kernel4Ideal Cert.Kernel4Ideal.Gen

variable (m : (ℓ : Loc nD τ sig) → Buf (Elt Ideal) ℓ)

/-- The reference's term over the layer's input `x` and the gradient `dy` of its output. -/
abbrev REF (x : FVec Ideal S8192x1024 .f32) (dy : FVec Ideal S8192x1024 .f32) : FVec Ideal S1024x1024 .f32 :=
  transpose Cert.Reference4Ideal.S1024x1024 [1, 0] (Host.dotGeneral (F := Ideal) (φ₁ := .f32) (φ₂ := .f32) Cert.Reference4Ideal.dot_S8192x1024_S8192x1024_S1024x1024_0_0_1_1_n_n none dy x) Cert.Reference4Ideal.Gen.transposes_S1024x1024_S1024x1024_1_0

/-- The reference's entry: a sum over the rows. -/
theorem ref_at (x : FVec Ideal S8192x1024 .f32) (dy : FVec Ideal S8192x1024 .f32) (y : S1024x1024.Idx) :
    REF x dy y = ∑ l : Fin 8192, x (ix2 l (y 0)) * dy (ix2 l (y 1)) := by
  pointwise [REF]
  exact Finset.sum_congr rfl fun l _ => mul_comm (_ : EReal) _

/-- The zero fill. -/
theorem zero_at (y) : k0_pay1 (F := Ideal) y = 0 := by pointwise [k0_pay1]

/-- What a point adds to its block. -/
theorem pay_at (acc : Vec Ideal S1024x1024 .f32) (a : Vec Ideal S2048x1024 .bf16) (b : Vec Ideal S2048x1024 .f32) (y : S1024x1024.Idx) :
    k0_pay2 acc a b y = acc y + ∑ k : Fin 2048, a (ix2 k (y 0)) * b (ix2 k (y 1)) := by
  pointwise [k0_pay2]

/-- Which block each point works on. -/
theorem idx : ∀ t : Fin cfg0.N, win0_0.index t = ![t.val % 4, 0] ∧ win0_1.index t = ![t.val % 4, 0] ∧ win0_2.index t = ![0, 0] :=
  (by decide +kernel : ∀ t : Fin grid0.N, _)

/-- The array after the run is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0) _
    (fun t h j => by rw [outsAt0_A m c t h]; frame_out; rw [pay_at, zero_at]) (fun t h j => by rw [outsAt0_B m c t h]; frame_out; rw [pay_at])
    t ((flush0_2 t).mp hf) _, zero_add]
  rw [ref_at]
  refine Fin.sum_mul_add_congr fun s k hl => ?_
  blk_point [iblk, V, idx t, idx ⟨_, Pipeline.run_point_lt_of_flush t ((flush0_2 t).mp hf) s⟩]

end Cert.Kernel4Ideal.Weight

end
-- ==== Proof.Weight5.lean ====
/-
  The weight gradient of the input projection's first columns: the accumulated blocks of the kernel are the reference's product, the sum over
  the 8192 rows taken in four blocks of 2048.
-/
module

public import proofs.«01_k».proof.Proof.Gen.Kernel5Ideal.Frame
public import proofs.«01_k».proof.Proof.Gen.Reference5Ideal
public import proofs.«01_k».proof.Proof.Gen.Reference5Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel5Ideal.Weight

open Cert.Kernel5Ideal Cert.Kernel5Ideal.Gen

variable (m : (ℓ : Loc nD τ sig) → Buf (Elt Ideal) ℓ)

/-- The reference's term over the layer's input `x` and the gradient `dy` of its output. -/
abbrev REF (x : FVec Ideal S8192x1024 .f32) (dy : FVec Ideal S8192x512 .f32) : FVec Ideal S1024x512 .f32 :=
  transpose Cert.Reference5Ideal.S1024x512 [1, 0] (Host.dotGeneral (F := Ideal) (φ₁ := .f32) (φ₂ := .f32) Cert.Reference5Ideal.dot_S8192x512_S8192x1024_S512x1024_0_0_1_1_n_n none dy x) Cert.Reference5Ideal.Gen.transposes_S512x1024_S1024x512_1_0

/-- The reference's entry: a sum over the rows. -/
theorem ref_at (x : FVec Ideal S8192x1024 .f32) (dy : FVec Ideal S8192x512 .f32) (y : S1024x512.Idx) :
    REF x dy y = ∑ l : Fin 8192, x (ix2 l (y 0)) * dy (ix2 l (y 1)) := by
  pointwise [REF]
  exact Finset.sum_congr rfl fun l _ => mul_comm (_ : EReal) _

/-- The zero fill. -/
theorem zero_at (y) : k0_pay1 (F := Ideal) y = 0 := by pointwise [k0_pay1]

/-- What a point adds to its block. -/
theorem pay_at (acc : Vec Ideal S1024x512 .f32) (a : Vec Ideal S2048x1024 .bf16) (b : Vec Ideal S2048x512 .bf16) (y : S1024x512.Idx) :
    k0_pay2 acc a b y = acc y + ∑ k : Fin 2048, a (ix2 k (y 0)) * b (ix2 k (y 1)) := by
  pointwise [k0_pay2]

/-- Which block each point works on. -/
theorem idx : ∀ t : Fin cfg0.N, win0_0.index t = ![t.val % 4, 0] ∧ win0_1.index t = ![t.val % 4, 0] ∧ win0_2.index t = ![0, 0] :=
  (by decide +kernel : ∀ t : Fin grid0.N, _)

/-- The array after the run is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0) _
    (fun t h j => by rw [outsAt0_A m c t h]; frame_out; rw [pay_at, zero_at]) (fun t h j => by rw [outsAt0_B m c t h]; frame_out; rw [pay_at])
    t ((flush0_2 t).mp hf) _, zero_add]
  rw [ref_at]
  refine Fin.sum_mul_add_congr fun s k hl => ?_
  blk_point [iblk, V, idx t, idx ⟨_, Pipeline.run_point_lt_of_flush t ((flush0_2 t).mp hf) s⟩]

end Cert.Kernel5Ideal.Weight

end
-- ==== Proof.Weight6.lean ====
/-
  The weight gradient of the input projection's other columns: the accumulated blocks of the kernel are the reference's product, the sum over
  the 8192 rows taken in four blocks of 2048.
-/
module

public import proofs.«01_k».proof.Proof.Gen.Kernel6Ideal.Frame
public import proofs.«01_k».proof.Proof.Gen.Reference6Ideal
public import proofs.«01_k».proof.Proof.Gen.Reference6Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel6Ideal.Weight

open Cert.Kernel6Ideal Cert.Kernel6Ideal.Gen

variable (m : (ℓ : Loc nD τ sig) → Buf (Elt Ideal) ℓ)

/-- The reference's term over the layer's input `x` and the gradient `dy` of its output. -/
abbrev REF (x : FVec Ideal S8192x1024 .f32) (dy : FVec Ideal S8192x1792 .f32) : FVec Ideal S1024x1792 .f32 :=
  transpose Cert.Reference6Ideal.S1024x1792 [1, 0] (Host.dotGeneral (F := Ideal) (φ₁ := .f32) (φ₂ := .f32) Cert.Reference6Ideal.dot_S8192x1792_S8192x1024_S1792x1024_0_0_1_1_n_n none dy x) Cert.Reference6Ideal.Gen.transposes_S1792x1024_S1024x1792_1_0

/-- The reference's entry: a sum over the rows. -/
theorem ref_at (x : FVec Ideal S8192x1024 .f32) (dy : FVec Ideal S8192x1792 .f32) (y : S1024x1792.Idx) :
    REF x dy y = ∑ l : Fin 8192, x (ix2 l (y 0)) * dy (ix2 l (y 1)) := by
  pointwise [REF]
  exact Finset.sum_congr rfl fun l _ => mul_comm (_ : EReal) _

/-- The zero fill. -/
theorem zero_at (y) : k0_pay1 (F := Ideal) y = 0 := by pointwise [k0_pay1]

/-- What a point adds to its block. -/
theorem pay_at (acc : Vec Ideal S1024x896 .f32) (a : Vec Ideal S2048x1024 .bf16) (b : Vec Ideal S2048x896 .bf16) (y : S1024x896.Idx) :
    k0_pay2 acc a b y = acc y + ∑ k : Fin 2048, a (ix2 k (y 0)) * b (ix2 k (y 1)) := by
  pointwise [k0_pay2]

/-- Which block each point works on. -/
theorem idx : ∀ t : Fin cfg0.N, win0_0.index t = ![t.val % 4, 0] ∧ win0_1.index t = ![t.val % 4, t.val / 4] ∧ win0_2.index t = ![0, t.val / 4] :=
  (by decide +kernel : ∀ t : Fin grid0.N, _)

/-- The array after the run is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0) _
    (fun t h j => by rw [outsAt0_A m c t h]; frame_out; rw [pay_at, zero_at]) (fun t h j => by rw [outsAt0_B m c t h]; frame_out; rw [pay_at])
    t ((flush0_2 t).mp hf) _, zero_add]
  rw [ref_at]
  refine Fin.sum_mul_add_congr fun s k hl => ?_
  blk_point [iblk, V, idx t, idx ⟨_, Pipeline.run_point_lt_of_flush t ((flush0_2 t).mp hf) s⟩]

end Cert.Kernel6Ideal.Weight

end
-- ==== Proof.Words.lean ====
/-
  The words of the kernel. A grid point `i` is a query block; the body reads from its saved sums the word `v` that says how
  many earlier key blocks to walk, clips it to `[0, i]`, and goes from block `i - walk` to block `i - 1` before its own block.
  Here are the facts about those words: the side condition of the body holds whatever `v` is, the first counted loop makes
  `walk - 1` trips, the second none, and every key block lies at 256 times its number.
-/
module

public import proofs.«01_k».proof.KernelIdeal
public import Idealize.ShloMosaic.Lib.Affine

@[expose] public section

namespace Cert.Proof

open Cert.KernelIdeal
open Idealize.ShloMosaic Idealize.ShloMosaic.Affine

/-- The number of earlier key blocks that point `i` walks when the word read is `v`. -/
def walk (i : grid0.Coords) (v : BitVec 32) : Int := min ((i 1).val : Int) (max 0 v.toInt)

theorem walk_range (i : grid0.Coords) (v : BitVec 32) : 0 ≤ walk i v ∧ walk i v ≤ (i 1).val ∧ (i 1).val < 32 := by
  have h : (i 1).val < 32 := (i 1).isLt
  unfold walk; omega

/-- The query block as the kernel's scalar unit computes it. -/
theorem own_isInt (i : grid0.Coords) : IsInt (Scalar.muli (BitVec.ofNat 32 (i 1).val) 1#32) (i 1).val := by
  have h : (i 1).val < 32 := (i 1).isLt
  exact Affine.muli (ea := (i 1).val) (eb := 1) (Affine.ofNat _ ⟨rfl, by omega⟩) (Affine.ofNat 1 ⟨rfl, by decide⟩) ⟨by omega, by omega, by omega⟩

/-- The clipped word is the walk. -/
theorem walk_isInt (i : grid0.Coords) (v : BitVec 32) :
    IsInt (Scalar.minsi (Scalar.muli (BitVec.ofNat 32 (i 1).val) 1#32) (Scalar.maxsi 0#32 v)) (walk i v) :=
  Affine.minsi (own_isInt i) (Affine.maxsi (Affine.ofNat 0 ⟨rfl, by decide⟩) (Affine.word v) rfl) rfl

/-- The walk is taken exactly when it is positive. -/
theorem cond2_iff (i : grid0.Coords) (v : BitVec 32) : k0_cond2 i v = 1#1 ↔ 0 < walk i v := by
  have h0 : IsInt (0#32) 0 := Affine.ofNat 0 ⟨rfl, by decide⟩
  have hw := walk_isInt i v
  by_cases h : 0 < walk i v
  · have h1 := Affine.sgt_holds hw h0 h
    exact iff_of_true (Affine.ne_holds (Affine.extui_holds h1 rfl) h0 (by decide)) h
  · have h1 := Affine.sgt_fails hw h0 h
    exact iff_of_false (Affine.ne_fails (Affine.extui_fails h1 rfl) h0 rfl) h

/-- The first key block of the walk. -/
theorem first_isInt (i : grid0.Coords) (v : BitVec 32) :
    IsInt (Scalar.subi (Scalar.muli (BitVec.ofNat 32 (i 1).val) 1#32)
      (Scalar.minsi (Scalar.muli (BitVec.ofNat 32 (i 1).val) 1#32) (Scalar.maxsi 0#32 v))) ((i 1).val - walk i v) := by
  have h := walk_range i v
  exact Affine.subi (own_isInt i) (walk_isInt i v) ⟨rfl, by omega, by omega⟩

/-- The block before the query's own. -/
theorem last_isInt (i : grid0.Coords) :
    IsInt (Scalar.subi (Scalar.muli (BitVec.ofNat 32 (i 1).val) 1#32) 1#32) ((i 1).val - 1) := by
  have h : (i 1).val < 32 := (i 1).isLt
  exact Affine.subi (own_isInt i) (Affine.ofNat 1 ⟨rfl, by decide⟩) ⟨by omega, by omega, by omega⟩

theorem t1_lb (i : grid0.Coords) (v : BitVec 32) : IsInt (k0_t1_loop i v).lb ((i 1).val - walk i v) := first_isInt i v

theorem t1_st (i : grid0.Coords) (v : BitVec 32) : IsInt (k0_t1_loop i v).st 1 := Affine.ofNat 1 ⟨rfl, by decide⟩

/-- The loops meet at the block before the query's own. -/
theorem t1_ub (i : grid0.Coords) (v : BitVec 32) : IsInt (k0_t1_loop i v).ub ((i 1).val - 1) := by
  have h := walk_range i v
  have one : IsInt (1#32) 1 := Affine.ofNat 1 ⟨rfl, by decide⟩
  have h1 := Affine.subi (e := walk i v - 1) (last_isInt i) (first_isInt i v) ⟨by omega, by omega, by omega⟩
  have h2 := Affine.divsi_one h1 one ⟨rfl, rfl⟩
  have h3 := Affine.muli (e := walk i v - 1) h2 one ⟨by omega, by omega, by omega⟩
  exact Affine.addi (first_isInt i v) h3 ⟨by omega, by omega, by omega⟩

theorem t2_ub (i : grid0.Coords) (v : BitVec 32) : IsInt (k0_t2_loop i v).ub ((i 1).val - 1) := by
  have h := walk_range i v
  have h1 := Affine.subi (e := walk i v - 1) (last_isInt i) (first_isInt i v) ⟨by omega, by omega, by omega⟩
  exact Affine.addi (first_isInt i v) h1 ⟨by omega, by omega, by omega⟩

/-- The first loop makes one trip less than the walk. -/
theorem t1_trips (i : grid0.Coords) (v : BitVec 32) : (k0_t1_loop i v).trips = (walk i v - 1).toNat := by
  have h := walk_range i v
  by_cases hw : 0 < walk i v
  · exact Affine.trips_eq (t1_lb i v) (t1_ub i v) (t1_st i v) _ ⟨by omega, by omega⟩
  · have := Affine.trips_le (t1_lb i v) (t1_ub i v) (t1_st i v) 0 ⟨by omega, by omega⟩
    have h2 : (k0_t1_loop i v).trips ≤ 0 := this
    omega

/-- The second loop makes no trip. -/
theorem t2_trips (i : grid0.Coords) (v : BitVec 32) : (k0_t2_loop i v).trips = 0 := by
  have := Affine.trips_le (t1_ub i v) (t2_ub i v) (t1_st i v) 0 ⟨by omega, by omega⟩
  exact Nat.le_zero.mp this

/-- The key block of trip `t` of the first loop. -/
theorem t1_block (i : grid0.Coords) (v : BitVec 32) (t : Fin (k0_t1_loop i v).trips) :
    IsInt (Scf.iv (k0_t1_loop i v).lb (k0_t1_loop i v).st t) ((i 1).val - walk i v + t.val) := by
  have h := walk_range i v
  have ht := t.isLt.trans_eq (t1_trips i v)
  exact Affine.iv (t1_lb i v) (t1_st i v) t ⟨by omega, by omega, by omega⟩

theorem t1_row (i : grid0.Coords) (v : BitVec 32) (t : Fin (k0_t1_loop i v).trips) :
    IsInt (k0_mult1 i v t) (((i 1).val - walk i v + t.val) * 256) := by
  have h := walk_range i v
  have ht := t.isLt.trans_eq (t1_trips i v)
  exact Affine.muli (t1_block i v t) (Affine.ofNat 256 ⟨rfl, by decide⟩) ⟨by omega, by omega, by omega⟩

theorem last_row (i : grid0.Coords) (hi : 0 < (i 1).val) : IsInt (k0_mult3 i) (((i 1).val - 1) * 256) := by
  have h : (i 1).val < 32 := (i 1).isLt
  exact Affine.muli (last_isInt i) (Affine.ofNat 256 ⟨rfl, by decide⟩) ⟨by omega, by omega, by omega⟩

theorem own_row (i : grid0.Coords) : IsInt (k0_mult4 i) ((i 1).val * 256) := by
  have h : (i 1).val < 32 := (i 1).isLt
  have h1 := Affine.addi (e := ((i 1).val : Int)) (own_isInt i) (Affine.ofNat 0 ⟨rfl, by decide⟩) ⟨by omega, by omega, by omega⟩
  exact Affine.muli h1 (Affine.ofNat 256 ⟨rfl, by decide⟩) ⟨by omega, by omega, by omega⟩

/-- The number of the key block of trip `t`. -/
def blockOf (i : grid0.Coords) (v : BitVec 32) (t : ℕ) : ℕ := ((i 1).val - walk i v).toNat + t

theorem off1_eq (i : grid0.Coords) (v : BitVec 32) (t : Fin (k0_t1_loop i v).trips) :
    k0_off1 i v t = ![blockOf i v t * 256, 0] := by
  have h := walk_range i v
  have := Affine.toNat_of (t1_row i v t) (by omega)
  show ![(k0_mult1 i v t).toNat, 0] = _
  unfold blockOf
  congr 1; omega

theorem off3_eq (i : grid0.Coords) (hi : 0 < (i 1).val) : k0_off3 i = ![((i 1).val - 1) * 256, 0] := by
  have := Affine.toNat_of (last_row i hi) (by omega)
  show ![(k0_mult3 i).toNat, 0] = _
  congr 1; omega

theorem off4_eq (i : grid0.Coords) : k0_off4 i = ![(i 1).val * 256, 0] := by
  have := Affine.toNat_of (own_row i) (by omega)
  show ![(k0_mult4 i).toNat, 0] = _
  congr 1; omega

theorem off5_eq (i : grid0.Coords) : k0_off5 i = ![(i 1).val * 256, 0] := off4_eq i

theorem pos_of_cond2 {i : grid0.Coords} {v : BitVec 32} (h : k0_cond2 i v = 1#1) : 0 < (i 1).val := by
  have h1 := (cond2_iff i v).mp h
  have := walk_range i v
  omega

/-- The side condition of the body holds whatever word is read. -/
theorem chk1_all (i : grid0.Coords) (v : BitVec 32) : k0_chk1 i v := by
  have h := walk_range i v
  refine ⟨fun _ => ?_, fun t _ => ?_, fun t _ => ?_, fun _ => ?_, fun t => ?_, fun t => ?_, fun hc => ?_⟩
  · exact Affine.ok (t1_lb i v) (t1_ub i v) (t1_st i v) ⟨by omega, by omega⟩
  · exact Affine.dvd_of (t1_row i v t) 256 ⟨by omega, by omega⟩
  · have ht := t.isLt.trans_eq (t1_trips i v)
    exact Affine.inb_cons (t1_row i v t) ⟨by omega, by omega⟩ (by decide)
  · exact Affine.ok (t1_ub i v) (t2_ub i v) (t1_st i v) ⟨by omega, by omega⟩
  · exact absurd (t.isLt.trans_eq (t2_trips i v)) (by omega)
  · exact absurd (t.isLt.trans_eq (t2_trips i v)) (by omega)
  · have := pos_of_cond2 hc
    exact Affine.inb_cons (last_row i this) ⟨by omega, by omega⟩ (by decide)

end Cert.Proof
-- ==== Proof.Block.lean ====
module

public import proofs.«01_k».proof.Proof.Gen.KernelIdeal.Frame
public import proofs.«01_k».proof.Proof.Gen.KernelIdeal.Skeleton
public import proofs.«01_k».proof.Proof.Words
public import Idealize.ShloMosaic.Lib.VecWindow
public import Idealize.ShloMosaic.Lib.Pointwise.Index

/-
  What one grid point of the gradient kernel computes, as plain functions of the blocks it reads.

  A grid point owns 256 queries of a group of four heads, stacked into 1024 rows. It walks the key blocks before its own
  and then its own block; each block adds to the gradients of the queries, of the keys and of the values and carries a
  running sum of the weights' gradients over the keys seen so far.
-/

@[expose] public section

set_option maxRecDepth 16384

noncomputable section

namespace Cert.Proof

open Cert.KernelIdeal Cert.KernelIdeal.Gen
open Idealize.ShloMosaic Idealize.ShloMosaic.TcCoe
open Idealize.ShloMosaic.Affine (IsInt)

variable {F : FTy → Type} [FloatOps F]

/-- Rows `256 b … 256 b + 255` of an array of 8192 rows. -/
def rowsOf {e : EltTy} (x : Vec F S8192x256 e) (b : ℕ) : Vec F S256x256 e :=
  fun y => x (ix2 ⟨(b * 256 + (y 0).val) % 8192, Nat.mod_lt _ (by decide)⟩ (y 1))

/-- The same array with other rows `256 b … 256 b + 255`. -/
def putRows {e : EltTy} (x : Vec F S8192x256 e) (b : ℕ) (w : Vec F S256x256 e) : Vec F S8192x256 e :=
  VecWindow.put x ![b * 256, 0] S256x256.size w

theorem window_rows {e : EltTy} (x : Vec F S8192x256 e) (b : ℕ) (inb : ∀ a, (![b * 256, 0] : Fin 2 → ℕ) a + S256x256.size a ≤ S8192x256.size a) :
    VecWindow.window x ![b * 256, 0] S256x256.size inb = rowsOf x b := by
  funext y
  have h0 : (y 0).val < 256 := (y 0).isLt
  have hb : b * 256 + 256 ≤ 8192 := inb 0
  refine congrArg x (funext fun a => Fin.ext ?_)
  match a with
  | ⟨0, _⟩ => show b * 256 + 1 * (y 0).val = (b * 256 + (y 0).val) % 8192; omega
  | ⟨1, _⟩ => show 0 + 1 * (y 1).val = (y 1).val; omega

/-- The lane numbers of a row of the saved running sums. -/
abbrev lanes : IVec S1024x128 32 := iota .tc S1024x128 32 [1] iota_S1024x128_d1_w32

/-- The word a grid point reads off the saved running sums: how many key blocks to walk. -/
def wordOf (rb : Vec F S1x1x1024x128 .f32) : BitVec 32 :=
  Scalar.fptosi 32 (k0_pay77 lanes (VecWindow.window rb ![0, 0, 0, 0] S1x1x8x128.size inb_S1x1x1024x128_S1x1x8x128_0_0_0_0))

/-- The saved running sum of block `w`, one per row. -/
def runAt (w : BitVec 32) (rb : Vec F S1x1x1024x128 .f32) : FVec F S1024x1 .f32 :=
  have v196 : IVec S1024x128 32 := broadcast S1024x128 w
  have v197 : IVec S1024x128 1 := cmpi .eq lanes v196
  have v199 : FVec F S1024x128 .f32 := shapeCast S1024x128 rb shapeCasts_S1x1x1024x128_S1024x128
  have cst_78 : F .f32 := Scalar.ofBits .f32 0x00000000#32
  have v200 : FVec F S1024x128 .f32 := broadcast S1024x128 cst_78
  have v201 : FVec F S1024x128 .f32 := select v197 v199 v200
  have v202 : FVec F S1024 .f32 := multiReduction .add [1] S1024 v201 0x00000000#32 reduces_S1024x128_S1024 (.inl rfl) rfl
  have v203 : FVec F S1024x1 .f32 := shapeCast S1024x1 v202 shapeCasts_S1024_S1024x1
  v203

/-- The stacked queries. -/
def stackQ (q : Vec F S256x256 .bf16) : FVec F S1024x256 .bf16 := k0_pay65 (k0_pay60 q) k0_pay61 (k0_pay62 q) (k0_pay63 q) (k0_pay64 q)

/-- The stacked gradients of the attention's output. -/
def stackD (d : Vec F S256x256 .f32) : FVec F S1024x256 .bf16 := k0_pay71 d k0_pay66 (k0_pay67 d) (k0_pay68 d) k0_pay69 k0_pay70

/-- What a walk carries: the running sum, the gradients of the keys and the values, the stacked gradient of the queries. -/
abbrev Acc (F : FTy → Type) [FloatOps F] : Type :=
  FVec F S1024x1 .f32 × Vec F S8192x256 .f32 × Vec F S8192x256 .f32 × FVec F S1024x256 .f32

/-- One key block before the query's own. -/
def pastStep (q2 d2 : FVec F S1024x256 .bf16) (tri trit : FVec F S256x256 .bf16) (K V : Vec F S8192x256 .bf16) (rb : Vec F S1x1x1024x128 .f32)
    (b : ℕ) (s : Acc F) : Acc F :=
  (k0_pay39 d2 trit s.1 (rowsOf V b) (runAt (BitVec.ofNat 32 b) rb) (k0_pay31 q2 tri (rowsOf K b)),
    putRows s.2.1 b (k0_pay37 q2 d2 trit s.1 (rowsOf V b) (k0_pay29 q2 (rowsOf K b)) (runAt (BitVec.ofNat 32 b) rb) (k0_pay31 q2 tri (rowsOf K b)) (rowsOf s.2.1 b)),
    putRows s.2.2.1 b (k0_pay38 d2 (runAt (BitVec.ofNat 32 b) rb) (k0_pay31 q2 tri (rowsOf K b)) (rowsOf s.2.2.1 b)),
    k0_pay36 d2 trit s.1 (rowsOf K b) (rowsOf V b) (k0_pay29 q2 (rowsOf K b)) (runAt (BitVec.ofNat 32 b) rb) (k0_pay31 q2 tri (rowsOf K b)) s.2.2.2)

/-- The query's own key block, masked to the keys strictly before each query. -/
def ownStep (q2 d2 : FVec F S1024x256 .bf16) (tri trit : FVec F S256x256 .bf16) (K V : Vec F S8192x256 .bf16) (rb : Vec F S1x1x1024x128 .f32)
    (b : ℕ) (s : Acc F) : Acc F :=
  (s.1,
    putRows s.2.1 b (k0_pay58 q2 d2 trit s.1 (rowsOf V b) (k0_pay51 q2 (rowsOf K b)) k0_pay52 (k0_pay53 q2 tri (rowsOf K b)) (runAt (BitVec.ofNat 32 b) rb) (rowsOf s.2.1 b)),
    putRows s.2.2.1 b (k0_pay59 d2 (k0_pay51 q2 (rowsOf K b)) k0_pay52 (k0_pay53 q2 tri (rowsOf K b)) (runAt (BitVec.ofNat 32 b) rb) (rowsOf s.2.2.1 b)),
    k0_pay57 d2 trit s.1 (rowsOf K b) (rowsOf V b) (k0_pay51 q2 (rowsOf K b)) k0_pay52 (k0_pay53 q2 tri (rowsOf K b)) (runAt (BitVec.ofNat 32 b) rb) s.2.2.2)

/-- A walk of `n` key blocks from block `a`. -/
def pastWalk (q2 d2 : FVec F S1024x256 .bf16) (tri trit : FVec F S256x256 .bf16) (K V : Vec F S8192x256 .bf16) (rb : Vec F S1x1x1024x128 .f32)
    (a : ℕ) (s : Acc F) : ℕ → Acc F
  | 0 => s
  | n + 1 => pastStep q2 d2 tri trit K V rb (a + n) (pastWalk q2 d2 tri trit K V rb a s n)

/-- What a grid point leaves: the walk, then its own block. -/
def pointAcc (i : grid0.Coords) (q : Vec F S256x256 .bf16) (K V : Vec F S8192x256 .bf16) (d : Vec F S256x256 .f32) (rb : Vec F S1x1x1024x128 .f32)
    (tri trit : Vec F S256x256 .bf16) (dk dv : Vec F S8192x256 .f32) : Acc F :=
  ownStep (stackQ q) (stackD d) (k0_pay72 tri) (k0_pay73 trit) K V rb (i 1).val
    (pastWalk (stackQ q) (stackD d) (k0_pay72 tri) (k0_pay73 trit) K V rb ((i 1).val - walk i (wordOf rb)).toNat (k0_pay17, dk, dv, k0_pay76) (walk i (wordOf rb)).toNat)

/-- A word of a known value is the word of that value. -/
theorem eq_ofNat_of_isInt {w : BitVec 32} {e : Int} (n : ℕ) (h : IsInt w e) (hn : e = n) (hlt : n < 32) : w = BitVec.ofNat 32 n := by
  have h1 := Affine.toNat_of h (by omega)
  exact BitVec.eq_of_toNat_eq (by rw [BitVec.toNat_ofNat]; omega)

/-- The word of the query's own block. -/
theorem own_word (i : grid0.Coords) : Scalar.addi (Scalar.muli (BitVec.ofNat 32 (i 1).val) 1#32) 0#32 = BitVec.ofNat 32 (i 1).val := by
  have h : (i 1).val < 32 := (i 1).isLt
  exact eq_ofNat_of_isInt _ (Affine.addi (e := ((i 1).val : Int)) (own_isInt i) (Affine.ofNat 0 ⟨rfl, by decide⟩) ⟨by omega, by omega, by omega⟩) rfl h

/-- The word of the block before it. -/
theorem last_word (i : grid0.Coords) (hi : 0 < (i 1).val) :
    Scalar.subi (Scalar.muli (BitVec.ofNat 32 (i 1).val) 1#32) 1#32 = BitVec.ofNat 32 ((i 1).val - 1) := by
  have h : (i 1).val < 32 := (i 1).isLt
  exact eq_ofNat_of_isInt _ (last_isInt i) (by omega) (by omega)

/-- The word of the block of a trip. -/
theorem trip_word (i : grid0.Coords) (v : BitVec 32) (t : Fin (k0_t1_loop i v).trips) :
    Scf.iv (k0_t1_loop i v).lb (k0_t1_loop i v).st t = BitVec.ofNat 32 (blockOf i v t) := by
  have h := walk_range i v
  have ht := t.isLt.trans_eq (t1_trips i v)
  exact eq_ofNat_of_isInt _ (t1_block i v t) (by unfold blockOf; omega) (by unfold blockOf; omega)

/-- The printed copies of the running-sum reading are `runAt`. -/
theorem pay54_eq (w : BitVec 32) (rb : Vec F S1x1x1024x128 .f32) :
    k0_pay54 w lanes rb = runAt (Scalar.addi (Scalar.muli w 1#32) 0#32) rb := rfl

theorem pay30_eq (w : BitVec 32) (rb : Vec F S1x1x1024x128 .f32) : k0_pay30 lanes w rb = runAt (Scalar.subi w 1#32) rb := rfl

section Own
variable (q2 d2 : FVec F S1024x256 .bf16) (tri trit : FVec F S256x256 .bf16) (k v : Vec F S256x256 .bf16) (w : BitVec 32) (rb : Vec F S1x1x1024x128 .f32)
  (pre : FVec F S1024x1 .f32)

/-- The own block after a walk is the own block. -/
theorem pay46_eq (dq : FVec F S1024x256 .f32) :
    k0_pay46 d2 trit pre k v (k0_pay41 q2 k) k0_pay42 (k0_pay43 lanes q2 tri w k rb) dq
      = k0_pay57 d2 trit pre k v (k0_pay51 q2 k) k0_pay52 (k0_pay53 q2 tri k) (runAt (Scalar.addi w 0#32) rb) dq := rfl

theorem pay47_eq (dk : Vec F S256x256 .f32) :
    k0_pay47 q2 d2 trit pre v (k0_pay41 q2 k) k0_pay42 (k0_pay43 lanes q2 tri w k rb) dk
      = k0_pay58 q2 d2 trit pre v (k0_pay51 q2 k) k0_pay52 (k0_pay53 q2 tri k) (runAt (Scalar.addi w 0#32) rb) dk := rfl

theorem pay48_eq (dv : Vec F S256x256 .f32) :
    k0_pay48 d2 k0_pay42 (k0_pay43 lanes q2 tri w k rb) dv
      = k0_pay59 d2 (k0_pay51 q2 k) k0_pay52 (k0_pay53 q2 tri k) (runAt (Scalar.addi w 0#32) rb) dv := rfl

/-- A trip's block is a past block. -/
theorem pay19_eq (i : grid0.Coords) (x : BitVec 32) (lb st : BitVec 32) (t : Fin (k0_t1_loop i x).trips) (dq : FVec F S1024x256 .f32) :
    k0_pay19 k (k0_pay4 q2 k) (k0_pay7 i lanes q2 d2 tri x lb st t k v rb) (k0_pay8 i lanes q2 d2 tri trit x lb st t pre k v rb) dq
      = k0_pay36 d2 trit pre k v (k0_pay29 q2 k) (runAt (Scf.iv lb st t) rb) (k0_pay31 q2 tri k) dq := rfl

theorem pay20_eq (i : grid0.Coords) (x : BitVec 32) (lb st : BitVec 32) (t : Fin (k0_t1_loop i x).trips) (dk : Vec F S256x256 .f32) :
    k0_pay20 q2 (k0_pay4 q2 k) (k0_pay7 i lanes q2 d2 tri x lb st t k v rb) (k0_pay8 i lanes q2 d2 tri trit x lb st t pre k v rb) dk
      = k0_pay37 q2 d2 trit pre v (k0_pay29 q2 k) (runAt (Scf.iv lb st t) rb) (k0_pay31 q2 tri k) dk := rfl

theorem pay21_eq (i : grid0.Coords) (x : BitVec 32) (lb st : BitVec 32) (t : Fin (k0_t1_loop i x).trips) (dv : Vec F S256x256 .f32) :
    k0_pay21 d2 (k0_pay3 i lanes q2 tri x lb st t k rb) dv
      = k0_pay38 d2 (runAt (Scf.iv lb st t) rb) (k0_pay31 q2 tri k) dv := rfl

theorem pay22_eq (i : grid0.Coords) (x : BitVec 32) (lb st : BitVec 32) (t : Fin (k0_t1_loop i x).trips) :
    k0_pay22 pre (k0_pay5 i lanes q2 d2 tri x lb st t k v rb) (k0_pay6 i lanes q2 d2 tri trit x lb st t k v rb)
      = k0_pay39 d2 trit pre v (runAt (Scf.iv lb st t) rb) (k0_pay31 q2 tri k) := rfl

end Own

theorem pay49_eq : k0_pay49 (F := F) = k0_pay17 := rfl

end Cert.Proof

end
-- ==== Proof.Body.lean ====
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.Block
public import Idealize.ShloMosaic.Lib.Tactic
public import Idealize.ShloMosaic.Lib.VecWindow

/-
  The body of the gradient kernel at a grid point, over any float values: run on whole buffers it leaves the inputs as they
  were and in the three results what `pointAcc` says.
-/

@[expose] public section

set_option maxRecDepth 16384

noncomputable section

namespace Cert.Proof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Affine (IsInt)

variable {F : FTy → Type} [FloatOps F]

local notation "𝕄" => MT nD τ sig Unit (Elt F) ℕ (UR sig nD τ) ℕ

/-- No call of the launch reads a variant. -/
abbrev 𝒱₀ : Variants := Variants.none

/-- The word condition of the first query block. -/
theorem first_iff (i : grid0.Coords) :
    Scalar.cmpi .ne (Scalar.extui (Scalar.cmpi .eq (BitVec.ofNat 32 (i 1).val) 0#32)) 0#32 = 1#1 ↔ (i 1).val = 0 := by
  have h : (i 1).val < 32 := (i 1).isLt
  generalize (i 1).val = n at h
  revert n; decide

/-- Loads of the saved sums' first rows, by values. -/
theorem word_read (arg6 : Memref sig .tc .vmem S1x1x1024x128 .f32) (harg6 : arg6.IsWhole) (x6 : Vec F S1x1x1024x128 .f32) :
    Scalar.fptosi 32 (k0_pay77 (F := F) (iota .tc S1024x128 32 [1] iota_S1024x128_d1_w32)
      (View.readAt (Elt F) arg6.view (Rect.unit (s := S1x1x1024x128) ![0, 0, 0, 0] S1x1x8x128.size inb_S1x1x1024x128_S1x1x8x128_0_0_0_0).toLoadRect (harg6.unread x6)))
      = wordOf x6 := by
  rw [View.readAt_unit _ _ _ rfl inb_S1x1x1024x128_S1x1x8x128_0_0_0_0, harg6.read_unread]; rfl

section Rows
variable {κ : Kind} {sp : Space} {e : EltTy}

/-- A load of 256 rows reads those rows of what the buffer holds. -/
theorem load_rows (v : View sig κ sp S8192x256 e) (f : v.ty.Contents (Elt F)) {off : Fin 2 → ℕ} {b : ℕ} (h : off = ![b * 256, 0])
    (inb : ∀ a, off a + S256x256.size a ≤ S8192x256.size a) :
    View.readAt (Elt F) v (Rect.unit (s := S8192x256) off S256x256.size inb).toLoadRect f = rowsOf (View.read (Elt F) v f) b := by
  subst h
  exact (View.readAt_unit v f inb rfl inb).trans (window_rows _ b inb)

/-- A store of 256 rows puts them in what the buffer held. -/
theorem store_rows (v : View sig κ sp S8192x256 e) (f : v.ty.Contents (Elt F)) {off : Fin 2 → ℕ} {b : ℕ} (h : off = ![b * 256, 0])
    (inb : ∀ a, off a + S256x256.size a ≤ S8192x256.size a) (w : Vec F S256x256 e) (L : List (View.Piece (Elt F) S8192x256 e)) :
    View.read (Elt F) v (v.writes (Elt F) f (⟨Rect.unit (s := S8192x256) off S256x256.size inb, w⟩ :: L))
      = putRows (View.read (Elt F) v (v.writes (Elt F) f L)) b w :=
  View.read_writes_cons_put v f inb w L h

/-- A load of a whole buffer reads what it holds. -/
theorem load_whole {s : Shape} {M : Memref sig .tc .vmem s e} (h : M.IsWhole) (x : Vec F s e) {off : Fin s.rank → ℕ} (inb : ∀ a, off a + s.size a ≤ s.size a) :
    View.readAt (Elt F) M.view (Rect.unit off s.size inb).toLoadRect (h.unread x) = x := by
  rw [View.readAt_full, h.read_unread]

/-- Of a walk of no blocks a grid point leaves its own block's step. -/
theorem pointAcc_zero (i : grid0.Coords) (q : Vec F S256x256 .bf16) (K V : Vec F S8192x256 .bf16) (d : Vec F S256x256 .f32) (rb : Vec F S1x1x1024x128 .f32)
    (tri trit : Vec F S256x256 .bf16) (dk dv : Vec F S8192x256 .f32) (h : walk i (wordOf rb) = 0) :
    pointAcc i q K V d rb tri trit dk dv
      = ownStep (stackQ q) (stackD d) (k0_pay72 tri) (k0_pay73 trit) K V rb (i 1).val (k0_pay17, dk, dv, k0_pay76) := by
  unfold pointAcc; rw [h]; rfl

/-- The saved running sum of the query's own block. -/
theorem own_run (i : grid0.Coords) (rb : Vec F S1x1x1024x128 .f32) :
    k0_pay54 (F := F) (BitVec.ofNat 32 (i 1).val) (iota .tc S1024x128 32 [1] iota_S1024x128_d1_w32) rb = runAt (BitVec.ofNat 32 (i 1).val) rb :=
  (pay54_eq _ rb).trans (congrArg (runAt · rb) (own_word i))

end Rows

/-- Run on whole buffers the body leaves its inputs and, in the three results, the given values. -/
def Leaves (c : Dev nD) (i : grid0.Coords)
  (arg2 : Memref sig .tc .vmem S256x256 .bf16) (harg2 : arg2.IsWhole)
  (arg3 : Memref sig .tc .vmem S8192x256 .bf16) (harg3 : arg3.IsWhole)
  (arg4 : Memref sig .tc .vmem S8192x256 .bf16) (harg4 : arg4.IsWhole)
  (arg5 : Memref sig .tc .vmem S256x256 .f32) (harg5 : arg5.IsWhole)
  (arg6 : Memref sig .tc .vmem S1x1x1024x128 .f32) (harg6 : arg6.IsWhole)
  (arg7 : Memref sig .tc .vmem S256x256 .bf16) (harg7 : arg7.IsWhole)
  (arg8 : Memref sig .tc .vmem S256x256 .bf16) (harg8 : arg8.IsWhole)
  (arg9 : Memref sig .tc .vmem S256x256 .bf16) (harg9 : arg9.IsWhole)
  (arg10 : Memref sig .tc .vmem S8192x256 .f32) (harg10 : arg10.IsWhole)
  (arg11 : Memref sig .tc .vmem S8192x256 .f32) (harg11 : arg11.IsWhole)
  (arg12 : Memref sig .tc .vmem S1024x256 .f32) (harg12 : arg12.IsWhole)
  (x2 : Vec F S256x256 .bf16) (x3 x4 : Vec F S8192x256 .bf16) (x5 : Vec F S256x256 .f32) (x6 : Vec F S1x1x1024x128 .f32) (x7 x8 : Vec F S256x256 .bf16)
  (y10 y11 : Vec F S8192x256 .f32) (Y : Acc F) : Prop :=
  ∀ (E : Set ℕ) (K : PUnit → sProp 𝕄),
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8
        ∗ (∃ d, owns (c : Thread nD τ) arg9 fullShare d) ∗ owns (c : Thread nD τ) arg10 fullShare y10 ∗ owns (c : Thread nD τ) arg11 fullShare y11 ∗ (∃ d, owns (c : Thread nD τ) arg12 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8
          ∗ owns (c : Thread nD τ) arg9 fullShare (k0_pay78 Y.2.2.2) ∗ owns (c : Thread nD τ) arg10 fullShare Y.2.1 ∗ owns (c : Thread nD τ) arg11 fullShare Y.2.2.1 ∗ (∃ d, owns (c : Thread nD τ) arg12 fullShare d)) -∗ K ⟨⟩))
      ⊢ wp frame (wpE (defs₀ (F := F)) 𝒱₀ c none) E (cc0_sb_bwd i arg2 harg2 arg3 harg3 arg4 harg4 arg5 harg5 arg6 harg6 arg7 harg7 arg8 harg8 arg9 harg9 arg10 harg10 arg11 harg11 arg12 harg12) K

end Cert.Proof

end
-- ==== Proof.BodyOwn.lean ====
module

public import proofs.«01_k».proof.Proof.Body

/-
  The body at a grid point that walks no earlier key block.
-/

@[expose] public section

set_option maxRecDepth 16384

noncomputable section

namespace Cert.Proof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Affine (IsInt)

variable {F : FTy → Type} [FloatOps F]

local notation "𝕄" => MT nD τ sig Unit (Elt F) ℕ (UR sig nD τ) ℕ

section Body
variable (c : Dev nD) (i : grid0.Coords)
  (arg2 : Memref sig .tc .vmem S256x256 .bf16) (harg2 : arg2.IsWhole)
  (arg3 : Memref sig .tc .vmem S8192x256 .bf16) (harg3 : arg3.IsWhole)
  (arg4 : Memref sig .tc .vmem S8192x256 .bf16) (harg4 : arg4.IsWhole)
  (arg5 : Memref sig .tc .vmem S256x256 .f32) (harg5 : arg5.IsWhole)
  (arg6 : Memref sig .tc .vmem S1x1x1024x128 .f32) (harg6 : arg6.IsWhole)
  (arg7 : Memref sig .tc .vmem S256x256 .bf16) (harg7 : arg7.IsWhole)
  (arg8 : Memref sig .tc .vmem S256x256 .bf16) (harg8 : arg8.IsWhole)
  (arg9 : Memref sig .tc .vmem S256x256 .bf16) (harg9 : arg9.IsWhole)
  (arg10 : Memref sig .tc .vmem S8192x256 .f32) (harg10 : arg10.IsWhole)
  (arg11 : Memref sig .tc .vmem S8192x256 .f32) (harg11 : arg11.IsWhole)
  (arg12 : Memref sig .tc .vmem S1024x256 .f32) (harg12 : arg12.IsWhole)
  (x2 : Vec F S256x256 .bf16) (x3 x4 : Vec F S8192x256 .bf16) (x5 : Vec F S256x256 .f32) (x6 : Vec F S1x1x1024x128 .f32) (x7 x8 : Vec F S256x256 .bf16)
  (y10 y11 : Vec F S8192x256 .f32)

set_option maxHeartbeats 0 in
/-- A later query block with no walk. -/
theorem leaves_own (hi : (i 1).val ≠ 0) (hn : ¬ 0 < walk i (wordOf x6)) :
    Leaves c i arg2 harg2 arg3 harg3 arg4 harg4 arg5 harg5 arg6 harg6 arg7 harg7 arg8 harg8 arg9 harg9 arg10 harg10 arg11 harg11 arg12 harg12 x2 x3 x4 x5 x6 x7 x8 y10 y11
      (pointAcc i x2 x3 x4 x5 x6 x7 x8 y10 y11) := by
  intro E K
  have hw := word_read arg6 harg6 x6
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%d12, %f12, -, H12⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7; obtain rfl := harg8.eq_unread hf8
  obtain rfl := harg10.eq_unread hf10; obtain rfl := harg11.eq_unread hf11
  have h2 : ¬ k0_cond2 i (Scalar.fptosi 32 (k0_pay77 (F := F) (iota .tc S1024x128 32 [1] iota_S1024x128_d1_w32)
      (View.readAt (Elt F) arg6.view (Rect.unit (s := S1x1x1024x128) ![0, 0, 0, 0] S1x1x8x128.size inb_S1x1x1024x128_S1x1x8x128_0_0_0_0).toLoadRect (harg6.unread x6)))) = 1#1 := by
    rw [hw, cond2_iff]; omega
  have h1 := (not_congr (first_iff i)).mpr hi
  sl_unfold [cc0_sb_bwd]
  sl_exec_parts! (disch := first | sl_exact h1 | sl_exact h2 | exact chk1_all _ _)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; swap; · iexact H9
    ipureintro
    sl_unfold_run_names
    rw [View.read_writes_full, View.readCov_full, View.readCov_full, load_whole harg2 x2 inb_S256x256_S256x256_0_0, load_whole harg5 x5 inb_S256x256_S256x256_0_0, load_whole harg7 x7 inb_S256x256_S256x256_0_0, load_whole harg8 x8 inb_S256x256_S256x256_0_0, load_whole harg6 x6 inb_S1x1x1024x128_S1x1x1024x128_0_0_0_0, load_rows arg3.view (harg3.unread x3) (off5_eq i) (k0_off5_inb i), harg3.read_unread, load_rows arg4.view (harg4.unread x4) (off5_eq i) (k0_off5_inb i), harg4.read_unread]
    rw [own_run]
    rw [pointAcc_zero i x2 x3 x4 x5 x6 x7 x8 y10 y11 (by have := walk_range i (wordOf x6); omega)]
    rfl
  isplitl [H10]
  · iexists _; isplitr; swap; · iexact H10
    ipureintro
    sl_unfold_run_names
    rw [store_rows arg10.view _ (off5_eq i), View.writes_nil, load_rows arg10.view (harg10.unread y10) (off5_eq i) (k0_off5_inb i), harg10.read_unread, load_whole harg2 x2 inb_S256x256_S256x256_0_0, load_whole harg5 x5 inb_S256x256_S256x256_0_0, load_whole harg7 x7 inb_S256x256_S256x256_0_0, load_whole harg8 x8 inb_S256x256_S256x256_0_0, load_whole harg6 x6 inb_S1x1x1024x128_S1x1x1024x128_0_0_0_0, load_rows arg3.view (harg3.unread x3) (off5_eq i) (k0_off5_inb i), harg3.read_unread, load_rows arg4.view (harg4.unread x4) (off5_eq i) (k0_off5_inb i), harg4.read_unread]
    rw [own_run]
    rw [pointAcc_zero i x2 x3 x4 x5 x6 x7 x8 y10 y11 (by have := walk_range i (wordOf x6); omega)]
    rfl
  isplitl [H11]
  · iexists _; isplitr; swap; · iexact H11
    ipureintro
    sl_unfold_run_names
    rw [store_rows arg11.view _ (off5_eq i), View.writes_nil, load_rows arg11.view (harg11.unread y11) (off5_eq i) (k0_off5_inb i), harg11.read_unread, load_whole harg2 x2 inb_S256x256_S256x256_0_0, load_whole harg5 x5 inb_S256x256_S256x256_0_0, load_whole harg7 x7 inb_S256x256_S256x256_0_0, load_whole harg6 x6 inb_S1x1x1024x128_S1x1x1024x128_0_0_0_0, load_rows arg3.view (harg3.unread x3) (off5_eq i) (k0_off5_inb i), harg3.read_unread]
    rw [own_run]
    rw [pointAcc_zero i x2 x3 x4 x5 x6 x7 x8 y10 y11 (by have := walk_range i (wordOf x6); omega)]
    rfl
  iexists _, _; isplitr; swap; · iexact H12
  ipureintro; rfl

set_option maxHeartbeats 0 in
/-- The first query block, which starts the gradients of the keys and the values at zero. -/
theorem leaves_first (hi : (i 1).val = 0) (hn : ¬ 0 < walk i (wordOf x6)) :
    Leaves c i arg2 harg2 arg3 harg3 arg4 harg4 arg5 harg5 arg6 harg6 arg7 harg7 arg8 harg8 arg9 harg9 arg10 harg10 arg11 harg11 arg12 harg12 x2 x3 x4 x5 x6 x7 x8 y10 y11
      (pointAcc i x2 x3 x4 x5 x6 x7 x8 k0_pay74 k0_pay75) := by
  intro E K
  have hw := word_read arg6 harg6 x6
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%d12, %f12, -, H12⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7; obtain rfl := harg8.eq_unread hf8
  obtain rfl := harg10.eq_unread hf10; obtain rfl := harg11.eq_unread hf11
  have h2 : ¬ k0_cond2 i (Scalar.fptosi 32 (k0_pay77 (F := F) (iota .tc S1024x128 32 [1] iota_S1024x128_d1_w32)
      (View.readAt (Elt F) arg6.view (Rect.unit (s := S1x1x1024x128) ![0, 0, 0, 0] S1x1x8x128.size inb_S1x1x1024x128_S1x1x8x128_0_0_0_0).toLoadRect (harg6.unread x6)))) = 1#1 := by
    rw [hw, cond2_iff]; omega
  have h1 := (first_iff i).mpr hi
  sl_unfold [cc0_sb_bwd]
  sl_exec_parts! (disch := first | sl_exact h1 | sl_exact h2 | exact chk1_all _ _)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; swap; · iexact H9
    ipureintro
    sl_unfold_run_names
    rw [View.read_writes_full, View.readCov_full, View.readCov_full, load_whole harg2 x2 inb_S256x256_S256x256_0_0, load_whole harg5 x5 inb_S256x256_S256x256_0_0, load_whole harg7 x7 inb_S256x256_S256x256_0_0, load_whole harg8 x8 inb_S256x256_S256x256_0_0, load_whole harg6 x6 inb_S1x1x1024x128_S1x1x1024x128_0_0_0_0, load_rows arg3.view (harg3.unread x3) (off5_eq i) (k0_off5_inb i), harg3.read_unread, load_rows arg4.view (harg4.unread x4) (off5_eq i) (k0_off5_inb i), harg4.read_unread]
    rw [own_run]
    rw [pointAcc_zero i x2 x3 x4 x5 x6 x7 x8 k0_pay74 k0_pay75 (by have := walk_range i (wordOf x6); omega)]
    rfl
  isplitl [H10]
  · iexists _; isplitr; swap; · iexact H10
    ipureintro
    sl_unfold_run_names
    rw [store_rows arg10.view _ (off5_eq i), View.read_writes_full, load_rows arg10.view _ (off5_eq i) (k0_off5_inb i), View.read_writes_full, load_whole harg2 x2 inb_S256x256_S256x256_0_0, load_whole harg5 x5 inb_S256x256_S256x256_0_0, load_whole harg7 x7 inb_S256x256_S256x256_0_0, load_whole harg8 x8 inb_S256x256_S256x256_0_0, load_whole harg6 x6 inb_S1x1x1024x128_S1x1x1024x128_0_0_0_0, load_rows arg3.view (harg3.unread x3) (off5_eq i) (k0_off5_inb i), harg3.read_unread, load_rows arg4.view (harg4.unread x4) (off5_eq i) (k0_off5_inb i), harg4.read_unread]
    rw [own_run]
    rw [pointAcc_zero i x2 x3 x4 x5 x6 x7 x8 k0_pay74 k0_pay75 (by have := walk_range i (wordOf x6); omega)]
    rfl
  isplitl [H11]
  · iexists _; isplitr; swap; · iexact H11
    ipureintro
    sl_unfold_run_names
    rw [store_rows arg11.view _ (off5_eq i), View.read_writes_full, load_rows arg11.view _ (off5_eq i) (k0_off5_inb i), View.read_writes_full, load_whole harg2 x2 inb_S256x256_S256x256_0_0, load_whole harg5 x5 inb_S256x256_S256x256_0_0, load_whole harg7 x7 inb_S256x256_S256x256_0_0, load_whole harg6 x6 inb_S1x1x1024x128_S1x1x1024x128_0_0_0_0, load_rows arg3.view (harg3.unread x3) (off5_eq i) (k0_off5_inb i), harg3.read_unread]
    rw [own_run]
    rw [pointAcc_zero i x2 x3 x4 x5 x6 x7 x8 k0_pay74 k0_pay75 (by have := walk_range i (wordOf x6); omega)]
    rfl
  iexists _, _; isplitr; swap; · iexact H12
  ipureintro; rfl

end Body

end Cert.Proof

end
-- ==== Proof.Loop.lean ====
module

public import proofs.«01_k».proof.Proof.Body

/-
  The counted loop of the body: a trip is one key block before the query's own, and the trips are the walk.
-/

@[expose] public section

set_option maxRecDepth 16384

noncomputable section

namespace Cert.Proof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Affine (IsInt)

variable {F : FTy → Type} [FloatOps F]

local notation "𝕄" => MT nD τ sig Unit (Elt F) ℕ (UR sig nD τ) ℕ

/-- The word of the block of a trip, the step spelled out. -/
theorem trip_word_one (i : grid0.Coords) (v : BitVec 32) (t : Fin (k0_t1_loop i v).trips) :
    Scf.iv (k0_t1_loop i v).lb 1#32 t = BitVec.ofNat 32 (blockOf i v t) := trip_word i v t

section Loop
variable (c : Dev nD) (i : grid0.Coords)
  (arg2 : Memref sig .tc .vmem S256x256 .bf16) (harg2 : arg2.IsWhole)
  (arg3 : Memref sig .tc .vmem S8192x256 .bf16) (harg3 : arg3.IsWhole)
  (arg4 : Memref sig .tc .vmem S8192x256 .bf16) (harg4 : arg4.IsWhole)
  (arg5 : Memref sig .tc .vmem S256x256 .f32) (harg5 : arg5.IsWhole)
  (arg6 : Memref sig .tc .vmem S1x1x1024x128 .f32) (harg6 : arg6.IsWhole)
  (arg7 : Memref sig .tc .vmem S256x256 .bf16) (harg7 : arg7.IsWhole)
  (arg8 : Memref sig .tc .vmem S256x256 .bf16) (harg8 : arg8.IsWhole)
  (arg9 : Memref sig .tc .vmem S256x256 .bf16) (harg9 : arg9.IsWhole)
  (arg10 : Memref sig .tc .vmem S8192x256 .f32) (harg10 : arg10.IsWhole)
  (arg11 : Memref sig .tc .vmem S8192x256 .f32) (harg11 : arg11.IsWhole)
  (arg12 : Memref sig .tc .vmem S1024x256 .f32) (harg12 : arg12.IsWhole)
  (x3 x4 : Vec F S8192x256 .bf16) (x6 : Vec F S1x1x1024x128 .f32)
  (q2 d2 : FVec F S1024x256 .bf16) (tri trit : FVec F S256x256 .bf16) (v103 w : BitVec 32) (hw1 : k0_chk1 i w) (v117 : BitVec 32) (h2 : k0_cond2 i w = 1#1)

set_option maxHeartbeats 0 in
/-- What a trip yields. -/
theorem trip_pre (k : Fin (k0_t1_loop i w).trips) (acc : FVec F S1024x1 .f32)
    (f10 : BufTy.Contents (Elt F) arg10.view.ty) (f11 : BufTy.Contents (Elt F) arg11.view.ty) (f12 : BufTy.Contents (Elt F) arg12.view.ty) :
    tripR_k0_t1 𝒱₀ c none i arg2 harg2 arg3 harg3 arg4 harg4 arg5 harg5 arg6 harg6 arg7 harg7 arg8 harg8 arg9 harg9 arg10 harg10 arg11 harg11 arg12 harg12 lanes q2 d2 tri trit v103 w hw1 v117 h2 (k0_t1_loop i w).lb (harg3.unread x3) (harg4.unread x4) (harg6.unread x6) k acc f10 f11 f12 = (pastStep q2 d2 tri trit x3 x4 x6 (blockOf i w k) (acc, View.read (Elt F) arg10.view f10, View.read (Elt F) arg11.view f11, View.read (Elt F) arg12.view f12)).1 := by
  have h : tripR_k0_t1 𝒱₀ c none i arg2 harg2 arg3 harg3 arg4 harg4 arg5 harg5 arg6 harg6 arg7 harg7 arg8 harg8 arg9 harg9 arg10 harg10 arg11 harg11 arg12 harg12 lanes q2 d2 tri trit v103 w hw1 v117 h2 (k0_t1_loop i w).lb (harg3.unread x3) (harg4.unread x4) (harg6.unread x6) k acc f10 f11 f12 = k0_pay22 acc (k0_pay5 i lanes q2 d2 tri w (k0_t1_loop i w).lb 1#32 k (View.readAt (Elt F) arg3.view (Rect.unit (s := S8192x256) (k0_off1 i w k) S256x256.size (k0_off1_inb i w hw1 k h2)).toLoadRect (harg3.unread x3)) (View.readAt (Elt F) arg4.view (Rect.unit (s := S8192x256) (k0_off1 i w k) S256x256.size (k0_off1_inb i w hw1 k h2)).toLoadRect (harg4.unread x4)) (View.readAt (Elt F) arg6.view (Rect.unit (s := S1x1x1024x128) ![0, 0, 0, 0] S1x1x1024x128.size inb_S1x1x1024x128_S1x1x1024x128_0_0_0_0).toLoadRect (harg6.unread x6))) (k0_pay6 i lanes q2 d2 tri trit w (k0_t1_loop i w).lb 1#32 k (View.readAt (Elt F) arg3.view (Rect.unit (s := S8192x256) (k0_off1 i w k) S256x256.size (k0_off1_inb i w hw1 k h2)).toLoadRect (harg3.unread x3)) (View.readAt (Elt F) arg4.view (Rect.unit (s := S8192x256) (k0_off1 i w k) S256x256.size (k0_off1_inb i w hw1 k h2)).toLoadRect (harg4.unread x4)) (View.readAt (Elt F) arg6.view (Rect.unit (s := S1x1x1024x128) ![0, 0, 0, 0] S1x1x1024x128.size inb_S1x1x1024x128_S1x1x1024x128_0_0_0_0).toLoadRect (harg6.unread x6))) := by
    unfold tripR_k0_t1 trip_k0_t1; rfl
  rw [h, load_rows arg3.view (harg3.unread x3) (off1_eq i w k) (k0_off1_inb i w hw1 k h2), harg3.read_unread, load_rows arg4.view (harg4.unread x4) (off1_eq i w k) (k0_off1_inb i w hw1 k h2), harg4.read_unread, load_whole harg6 x6 inb_S1x1x1024x128_S1x1x1024x128_0_0_0_0, pay22_eq, trip_word_one]
  rfl

set_option maxHeartbeats 0 in
/-- What a trip leaves of the gradient of the keys. -/
theorem trip_dk (k : Fin (k0_t1_loop i w).trips) (acc : FVec F S1024x1 .f32)
    (f10 : BufTy.Contents (Elt F) arg10.view.ty) (f11 : BufTy.Contents (Elt F) arg11.view.ty) (f12 : BufTy.Contents (Elt F) arg12.view.ty) :
    View.read (Elt F) arg10.view (arg10.view.writes (Elt F) f10 (tripL_k0_t1 𝒱₀ c none i arg2 harg2 arg3 harg3 arg4 harg4 arg5 harg5 arg6 harg6 arg7 harg7 arg8 harg8 arg9 harg9 arg10 harg10 arg11 harg11 arg12 harg12 lanes q2 d2 tri trit v103 w hw1 v117 h2 (k0_t1_loop i w).lb (harg3.unread x3) (harg4.unread x4) (harg6.unread x6) k acc f10 f11 f12).1) = (pastStep q2 d2 tri trit x3 x4 x6 (blockOf i w k) (acc, View.read (Elt F) arg10.view f10, View.read (Elt F) arg11.view f11, View.read (Elt F) arg12.view f12)).2.1 := by
  have h : (tripL_k0_t1 𝒱₀ c none i arg2 harg2 arg3 harg3 arg4 harg4 arg5 harg5 arg6 harg6 arg7 harg7 arg8 harg8 arg9 harg9 arg10 harg10 arg11 harg11 arg12 harg12 lanes q2 d2 tri trit v103 w hw1 v117 h2 (k0_t1_loop i w).lb (harg3.unread x3) (harg4.unread x4) (harg6.unread x6) k acc f10 f11 f12).1
      = [⟨(Rect.unit (s := S8192x256) (k0_off1 i w k) S256x256.size (k0_off1_inb i w hw1 k h2)), k0_pay20 q2 (k0_pay4 q2 (View.readAt (Elt F) arg3.view (Rect.unit (s := S8192x256) (k0_off1 i w k) S256x256.size (k0_off1_inb i w hw1 k h2)).toLoadRect (harg3.unread x3))) (k0_pay7 i lanes q2 d2 tri w (k0_t1_loop i w).lb 1#32 k (View.readAt (Elt F) arg3.view (Rect.unit (s := S8192x256) (k0_off1 i w k) S256x256.size (k0_off1_inb i w hw1 k h2)).toLoadRect (harg3.unread x3)) (View.readAt (Elt F) arg4.view (Rect.unit (s := S8192x256) (k0_off1 i w k) S256x256.size (k0_off1_inb i w hw1 k h2)).toLoadRect (harg4.unread x4)) (View.readAt (Elt F) arg6.view (Rect.unit (s := S1x1x1024x128) ![0, 0, 0, 0] S1x1x1024x128.size inb_S1x1x1024x128_S1x1x1024x128_0_0_0_0).toLoadRect (harg6.unread x6))) (k0_pay8 i lanes q2 d2 tri trit w (k0_t1_loop i w).lb 1#32 k acc (View.readAt (Elt F) arg3.view (Rect.unit (s := S8192x256) (k0_off1 i w k) S256x256.size (k0_off1_inb i w hw1 k h2)).toLoadRect (harg3.unread x3)) (View.readAt (Elt F) arg4.view (Rect.unit (s := S8192x256) (k0_off1 i w k) S256x256.size (k0_off1_inb i w hw1 k h2)).toLoadRect (harg4.unread x4)) (View.readAt (Elt F) arg6.view (Rect.unit (s := S1x1x1024x128) ![0, 0, 0, 0] S1x1x1024x128.size inb_S1x1x1024x128_S1x1x1024x128_0_0_0_0).toLoadRect (harg6.unread x6))) (View.readAt (Elt F) arg10.view (Rect.unit (s := S8192x256) (k0_off1 i w k) S256x256.size (k0_off1_inb i w hw1 k h2)).toLoadRect f10)⟩] := by
    unfold tripL_k0_t1 trip_k0_t1; rfl
  rw [h, store_rows arg10.view f10 (off1_eq i w k), View.writes_nil, load_rows arg10.view f10 (off1_eq i w k), load_rows arg3.view (harg3.unread x3) (off1_eq i w k) (k0_off1_inb i w hw1 k h2), harg3.read_unread, load_rows arg4.view (harg4.unread x4) (off1_eq i w k) (k0_off1_inb i w hw1 k h2), harg4.read_unread, load_whole harg6 x6 inb_S1x1x1024x128_S1x1x1024x128_0_0_0_0, pay20_eq, trip_word_one]
  rfl

set_option maxHeartbeats 0 in
/-- What a trip leaves of the gradient of the values. -/
theorem trip_dv (k : Fin (k0_t1_loop i w).trips) (acc : FVec F S1024x1 .f32)
    (f10 : BufTy.Contents (Elt F) arg10.view.ty) (f11 : BufTy.Contents (Elt F) arg11.view.ty) (f12 : BufTy.Contents (Elt F) arg12.view.ty) :
    View.read (Elt F) arg11.view (arg11.view.writes (Elt F) f11 (tripL_k0_t1 𝒱₀ c none i arg2 harg2 arg3 harg3 arg4 harg4 arg5 harg5 arg6 harg6 arg7 harg7 arg8 harg8 arg9 harg9 arg10 harg10 arg11 harg11 arg12 harg12 lanes q2 d2 tri trit v103 w hw1 v117 h2 (k0_t1_loop i w).lb (harg3.unread x3) (harg4.unread x4) (harg6.unread x6) k acc f10 f11 f12).2.1) = (pastStep q2 d2 tri trit x3 x4 x6 (blockOf i w k) (acc, View.read (Elt F) arg10.view f10, View.read (Elt F) arg11.view f11, View.read (Elt F) arg12.view f12)).2.2.1 := by
  have h : (tripL_k0_t1 𝒱₀ c none i arg2 harg2 arg3 harg3 arg4 harg4 arg5 harg5 arg6 harg6 arg7 harg7 arg8 harg8 arg9 harg9 arg10 harg10 arg11 harg11 arg12 harg12 lanes q2 d2 tri trit v103 w hw1 v117 h2 (k0_t1_loop i w).lb (harg3.unread x3) (harg4.unread x4) (harg6.unread x6) k acc f10 f11 f12).2.1
      = [⟨(Rect.unit (s := S8192x256) (k0_off1 i w k) S256x256.size (k0_off1_inb i w hw1 k h2)), k0_pay21 d2 (k0_pay3 i lanes q2 tri w (k0_t1_loop i w).lb 1#32 k (View.readAt (Elt F) arg3.view (Rect.unit (s := S8192x256) (k0_off1 i w k) S256x256.size (k0_off1_inb i w hw1 k h2)).toLoadRect (harg3.unread x3)) (View.readAt (Elt F) arg6.view (Rect.unit (s := S1x1x1024x128) ![0, 0, 0, 0] S1x1x1024x128.size inb_S1x1x1024x128_S1x1x1024x128_0_0_0_0).toLoadRect (harg6.unread x6))) (View.readAt (Elt F) arg11.view (Rect.unit (s := S8192x256) (k0_off1 i w k) S256x256.size (k0_off1_inb i w hw1 k h2)).toLoadRect f11)⟩] := by
    unfold tripL_k0_t1 trip_k0_t1; rfl
  rw [h, store_rows arg11.view f11 (off1_eq i w k), View.writes_nil, load_rows arg11.view f11 (off1_eq i w k), load_rows arg3.view (harg3.unread x3) (off1_eq i w k) (k0_off1_inb i w hw1 k h2), harg3.read_unread, load_whole harg6 x6 inb_S1x1x1024x128_S1x1x1024x128_0_0_0_0, pay21_eq, trip_word_one]
  rfl

set_option maxHeartbeats 0 in
/-- What a trip leaves of the stacked gradient of the queries. -/
theorem trip_dq (k : Fin (k0_t1_loop i w).trips) (acc : FVec F S1024x1 .f32)
    (f10 : BufTy.Contents (Elt F) arg10.view.ty) (f11 : BufTy.Contents (Elt F) arg11.view.ty) (f12 : BufTy.Contents (Elt F) arg12.view.ty) :
    View.read (Elt F) arg12.view (arg12.view.writes (Elt F) f12 (tripL_k0_t1 𝒱₀ c none i arg2 harg2 arg3 harg3 arg4 harg4 arg5 harg5 arg6 harg6 arg7 harg7 arg8 harg8 arg9 harg9 arg10 harg10 arg11 harg11 arg12 harg12 lanes q2 d2 tri trit v103 w hw1 v117 h2 (k0_t1_loop i w).lb (harg3.unread x3) (harg4.unread x4) (harg6.unread x6) k acc f10 f11 f12).2.2) = (pastStep q2 d2 tri trit x3 x4 x6 (blockOf i w k) (acc, View.read (Elt F) arg10.view f10, View.read (Elt F) arg11.view f11, View.read (Elt F) arg12.view f12)).2.2.2 := by
  have h : (tripL_k0_t1 𝒱₀ c none i arg2 harg2 arg3 harg3 arg4 harg4 arg5 harg5 arg6 harg6 arg7 harg7 arg8 harg8 arg9 harg9 arg10 harg10 arg11 harg11 arg12 harg12 lanes q2 d2 tri trit v103 w hw1 v117 h2 (k0_t1_loop i w).lb (harg3.unread x3) (harg4.unread x4) (harg6.unread x6) k acc f10 f11 f12).2.2
      = [⟨(Rect.unit (s := S1024x256) ![0, 0] S1024x256.size inb_S1024x256_S1024x256_0_0), k0_pay19 (View.readAt (Elt F) arg3.view (Rect.unit (s := S8192x256) (k0_off1 i w k) S256x256.size (k0_off1_inb i w hw1 k h2)).toLoadRect (harg3.unread x3)) (k0_pay4 q2 (View.readAt (Elt F) arg3.view (Rect.unit (s := S8192x256) (k0_off1 i w k) S256x256.size (k0_off1_inb i w hw1 k h2)).toLoadRect (harg3.unread x3))) (k0_pay7 i lanes q2 d2 tri w (k0_t1_loop i w).lb 1#32 k (View.readAt (Elt F) arg3.view (Rect.unit (s := S8192x256) (k0_off1 i w k) S256x256.size (k0_off1_inb i w hw1 k h2)).toLoadRect (harg3.unread x3)) (View.readAt (Elt F) arg4.view (Rect.unit (s := S8192x256) (k0_off1 i w k) S256x256.size (k0_off1_inb i w hw1 k h2)).toLoadRect (harg4.unread x4)) (View.readAt (Elt F) arg6.view (Rect.unit (s := S1x1x1024x128) ![0, 0, 0, 0] S1x1x1024x128.size inb_S1x1x1024x128_S1x1x1024x128_0_0_0_0).toLoadRect (harg6.unread x6))) (k0_pay8 i lanes q2 d2 tri trit w (k0_t1_loop i w).lb 1#32 k acc (View.readAt (Elt F) arg3.view (Rect.unit (s := S8192x256) (k0_off1 i w k) S256x256.size (k0_off1_inb i w hw1 k h2)).toLoadRect (harg3.unread x3)) (View.readAt (Elt F) arg4.view (Rect.unit (s := S8192x256) (k0_off1 i w k) S256x256.size (k0_off1_inb i w hw1 k h2)).toLoadRect (harg4.unread x4)) (View.readAt (Elt F) arg6.view (Rect.unit (s := S1x1x1024x128) ![0, 0, 0, 0] S1x1x1024x128.size inb_S1x1x1024x128_S1x1x1024x128_0_0_0_0).toLoadRect (harg6.unread x6))) (View.readAt (Elt F) arg12.view (Rect.unit (s := S1024x256) ![0, 0] S1024x256.size inb_S1024x256_S1024x256_0_0).toLoadRect f12)⟩] := by
    unfold tripL_k0_t1 trip_k0_t1; rfl
  rw [h, View.read_writes_full, load_rows arg3.view (harg3.unread x3) (off1_eq i w k) (k0_off1_inb i w hw1 k h2), harg3.read_unread, load_rows arg4.view (harg4.unread x4) (off1_eq i w k) (k0_off1_inb i w hw1 k h2), harg4.read_unread, load_whole harg6 x6 inb_S1x1x1024x128_S1x1x1024x128_0_0_0_0, View.readAt_full, pay19_eq, trip_word_one]
  rfl

/-- The state of the loop before a trip is the walk so far. -/
theorem loop_state (f10 : BufTy.Contents (Elt F) arg10.view.ty) (f11 : BufTy.Contents (Elt F) arg11.view.ty) (f12 : BufTy.Contents (Elt F) arg12.view.ty) (init : FVec F S1024x1 .f32) (n : ℕ) (hn : n ≤ (k0_t1_loop i w).trips) :
    ((st_k0_t1 𝒱₀ c none i arg2 harg2 arg3 harg3 arg4 harg4 arg5 harg5 arg6 harg6 arg7 harg7 arg8 harg8 arg9 harg9 arg10 harg10 arg11 harg11 arg12 harg12 lanes q2 d2 tri trit v103 w hw1 v117 h2 (k0_t1_loop i w).lb (harg3.unread x3) (harg4.unread x4) (harg6.unread x6) f10 f11 f12 init n).1,
      View.read (Elt F) arg10.view (arg10.view.writes (Elt F) f10 (st_k0_t1 𝒱₀ c none i arg2 harg2 arg3 harg3 arg4 harg4 arg5 harg5 arg6 harg6 arg7 harg7 arg8 harg8 arg9 harg9 arg10 harg10 arg11 harg11 arg12 harg12 lanes q2 d2 tri trit v103 w hw1 v117 h2 (k0_t1_loop i w).lb (harg3.unread x3) (harg4.unread x4) (harg6.unread x6) f10 f11 f12 init n).2.1),
      View.read (Elt F) arg11.view (arg11.view.writes (Elt F) f11 (st_k0_t1 𝒱₀ c none i arg2 harg2 arg3 harg3 arg4 harg4 arg5 harg5 arg6 harg6 arg7 harg7 arg8 harg8 arg9 harg9 arg10 harg10 arg11 harg11 arg12 harg12 lanes q2 d2 tri trit v103 w hw1 v117 h2 (k0_t1_loop i w).lb (harg3.unread x3) (harg4.unread x4) (harg6.unread x6) f10 f11 f12 init n).2.2.1),
      View.read (Elt F) arg12.view (arg12.view.writes (Elt F) f12 (st_k0_t1 𝒱₀ c none i arg2 harg2 arg3 harg3 arg4 harg4 arg5 harg5 arg6 harg6 arg7 harg7 arg8 harg8 arg9 harg9 arg10 harg10 arg11 harg11 arg12 harg12 lanes q2 d2 tri trit v103 w hw1 v117 h2 (k0_t1_loop i w).lb (harg3.unread x3) (harg4.unread x4) (harg6.unread x6) f10 f11 f12 init n).2.2.2))
      = pastWalk q2 d2 tri trit x3 x4 x6 ((i 1).val - walk i w).toNat (init, View.read (Elt F) arg10.view f10, View.read (Elt F) arg11.view f11, View.read (Elt F) arg12.view f12) n := by
  induction n with
  | zero => rfl
  | succ n ih =>
    have ih := ih (by omega)
    have e := st_k0_t1_succ 𝒱₀ c none i arg2 harg2 arg3 harg3 arg4 harg4 arg5 harg5 arg6 harg6 arg7 harg7 arg8 harg8 arg9 harg9 arg10 harg10 arg11 harg11 arg12 harg12 lanes q2 d2 tri trit v103 w hw1 v117 h2 (k0_t1_loop i w).lb (harg3.unread x3) (harg4.unread x4) (harg6.unread x6) f10 f11 f12 init ⟨n, hn⟩
    rw [pastWalk, ← ih]
    refine Prod.ext ?_ (Prod.ext ?_ (Prod.ext ?_ ?_))
    · exact (congrArg (fun s => s.1) e).trans (trip_pre (k := ⟨n, hn⟩) ..)
    · exact (congrArg (fun s => View.read (Elt F) arg10.view (arg10.view.writes (Elt F) f10 s.2.1)) e).trans
        ((congrArg (View.read (Elt F) arg10.view) (View.writes_append ..)).trans (trip_dk (k := ⟨n, hn⟩) ..))
    · exact (congrArg (fun s => View.read (Elt F) arg11.view (arg11.view.writes (Elt F) f11 s.2.2.1)) e).trans
        ((congrArg (View.read (Elt F) arg11.view) (View.writes_append ..)).trans (trip_dv (k := ⟨n, hn⟩) ..))
    · exact (congrArg (fun s => View.read (Elt F) arg12.view (arg12.view.writes (Elt F) f12 s.2.2.2)) e).trans
        ((congrArg (View.read (Elt F) arg12.view) (View.writes_append ..)).trans (trip_dq (k := ⟨n, hn⟩) ..))

variable {c i arg2 harg2 arg3 harg3 arg4 harg4 arg5 harg5 arg6 harg6 arg7 harg7 arg8 harg8 arg9 harg9 arg10 harg10 arg11 harg11 arg12 harg12 x3 x4 x6 q2 d2 tri trit v103 w hw1 v117 h2}
variable {f10 : BufTy.Contents (Elt F) arg10.view.ty} {f11 : BufTy.Contents (Elt F) arg11.view.ty} {f12 : BufTy.Contents (Elt F) arg12.view.ty}
  {init : FVec F S1024x1 .f32} {n : ℕ} {v164 : BitVec 32}

/-- The running sum after the first loop. -/
theorem loop_pre (hv : v164 = (k0_t1_loop i w).lb) (hn : n = (k0_t1_loop i w).trips) :
    (st_k0_t1 𝒱₀ c none i arg2 harg2 arg3 harg3 arg4 harg4 arg5 harg5 arg6 harg6 arg7 harg7 arg8 harg8 arg9 harg9 arg10 harg10 arg11 harg11 arg12 harg12 lanes q2 d2 tri trit v103 w hw1 v117 h2 v164 (harg3.unread x3) (harg4.unread x4) (harg6.unread x6) f10 f11 f12 init n).1 = (pastWalk q2 d2 tri trit x3 x4 x6 ((i 1).val - walk i w).toNat (init, View.read (Elt F) arg10.view f10, View.read (Elt F) arg11.view f11, View.read (Elt F) arg12.view f12) (walk i w - 1).toNat).1 := by
  subst hv hn
  rw [← t1_trips i w]
  exact congrArg (fun s => s.1) (loop_state (F := F) c i arg2 harg2 arg3 harg3 arg4 harg4 arg5 harg5 arg6 harg6 arg7 harg7 arg8 harg8 arg9 harg9 arg10 harg10 arg11 harg11 arg12 harg12 x3 x4 x6 q2 d2 tri trit v103 w hw1 v117 h2 f10 f11 f12 init (k0_t1_loop i w).trips le_rfl)

/-- The gradient of the keys after the first loop. -/
theorem loop_dk (hv : v164 = (k0_t1_loop i w).lb) (hn : n = (k0_t1_loop i w).trips) :
    View.read (Elt F) arg10.view (arg10.view.writes (Elt F) f10 (st_k0_t1 𝒱₀ c none i arg2 harg2 arg3 harg3 arg4 harg4 arg5 harg5 arg6 harg6 arg7 harg7 arg8 harg8 arg9 harg9 arg10 harg10 arg11 harg11 arg12 harg12 lanes q2 d2 tri trit v103 w hw1 v117 h2 v164 (harg3.unread x3) (harg4.unread x4) (harg6.unread x6) f10 f11 f12 init n).2.1) = (pastWalk q2 d2 tri trit x3 x4 x6 ((i 1).val - walk i w).toNat (init, View.read (Elt F) arg10.view f10, View.read (Elt F) arg11.view f11, View.read (Elt F) arg12.view f12) (walk i w - 1).toNat).2.1 := by
  subst hv hn
  rw [← t1_trips i w]
  exact congrArg (fun s => s.2.1) (loop_state (F := F) c i arg2 harg2 arg3 harg3 arg4 harg4 arg5 harg5 arg6 harg6 arg7 harg7 arg8 harg8 arg9 harg9 arg10 harg10 arg11 harg11 arg12 harg12 x3 x4 x6 q2 d2 tri trit v103 w hw1 v117 h2 f10 f11 f12 init (k0_t1_loop i w).trips le_rfl)

/-- The gradient of the values after the first loop. -/
theorem loop_dv (hv : v164 = (k0_t1_loop i w).lb) (hn : n = (k0_t1_loop i w).trips) :
    View.read (Elt F) arg11.view (arg11.view.writes (Elt F) f11 (st_k0_t1 𝒱₀ c none i arg2 harg2 arg3 harg3 arg4 harg4 arg5 harg5 arg6 harg6 arg7 harg7 arg8 harg8 arg9 harg9 arg10 harg10 arg11 harg11 arg12 harg12 lanes q2 d2 tri trit v103 w hw1 v117 h2 v164 (harg3.unread x3) (harg4.unread x4) (harg6.unread x6) f10 f11 f12 init n).2.2.1) = (pastWalk q2 d2 tri trit x3 x4 x6 ((i 1).val - walk i w).toNat (init, View.read (Elt F) arg10.view f10, View.read (Elt F) arg11.view f11, View.read (Elt F) arg12.view f12) (walk i w - 1).toNat).2.2.1 := by
  subst hv hn
  rw [← t1_trips i w]
  exact congrArg (fun s => s.2.2.1) (loop_state (F := F) c i arg2 harg2 arg3 harg3 arg4 harg4 arg5 harg5 arg6 harg6 arg7 harg7 arg8 harg8 arg9 harg9 arg10 harg10 arg11 harg11 arg12 harg12 x3 x4 x6 q2 d2 tri trit v103 w hw1 v117 h2 f10 f11 f12 init (k0_t1_loop i w).trips le_rfl)

/-- The stacked gradient of the queries after the first loop. -/
theorem loop_dq (hv : v164 = (k0_t1_loop i w).lb) (hn : n = (k0_t1_loop i w).trips) :
    View.read (Elt F) arg12.view (arg12.view.writes (Elt F) f12 (st_k0_t1 𝒱₀ c none i arg2 harg2 arg3 harg3 arg4 harg4 arg5 harg5 arg6 harg6 arg7 harg7 arg8 harg8 arg9 harg9 arg10 harg10 arg11 harg11 arg12 harg12 lanes q2 d2 tri trit v103 w hw1 v117 h2 v164 (harg3.unread x3) (harg4.unread x4) (harg6.unread x6) f10 f11 f12 init n).2.2.2) = (pastWalk q2 d2 tri trit x3 x4 x6 ((i 1).val - walk i w).toNat (init, View.read (Elt F) arg10.view f10, View.read (Elt F) arg11.view f11, View.read (Elt F) arg12.view f12) (walk i w - 1).toNat).2.2.2 := by
  subst hv hn
  rw [← t1_trips i w]
  exact congrArg (fun s => s.2.2.2) (loop_state (F := F) c i arg2 harg2 arg3 harg3 arg4 harg4 arg5 harg5 arg6 harg6 arg7 harg7 arg8 harg8 arg9 harg9 arg10 harg10 arg11 harg11 arg12 harg12 x3 x4 x6 q2 d2 tri trit v103 w hw1 v117 h2 f10 f11 f12 init (k0_t1_loop i w).trips le_rfl)

/-- The second loop makes no trip: it carries what it finds. -/
theorem second_pre (hn : n = 0) : (st_k0_t2 𝒱₀ c none i arg2 harg2 arg3 harg3 arg4 harg4 arg5 harg5 arg6 harg6 arg7 harg7 arg8 harg8 arg9 harg9 arg10 harg10 arg11 harg11 arg12 harg12 lanes q2 d2 tri trit v103 w hw1 v117 h2 v164 (harg3.unread x3) (harg4.unread x4) (harg6.unread x6) f10 f11 f12 init n).1 = init := by subst hn; rfl

/-- The second loop makes no trip: it stores nothing. -/
theorem second_dk (hn : n = 0) : (st_k0_t2 𝒱₀ c none i arg2 harg2 arg3 harg3 arg4 harg4 arg5 harg5 arg6 harg6 arg7 harg7 arg8 harg8 arg9 harg9 arg10 harg10 arg11 harg11 arg12 harg12 lanes q2 d2 tri trit v103 w hw1 v117 h2 v164 (harg3.unread x3) (harg4.unread x4) (harg6.unread x6) f10 f11 f12 init n).2.1 = [] := by subst hn; rfl

theorem second_dv (hn : n = 0) : (st_k0_t2 𝒱₀ c none i arg2 harg2 arg3 harg3 arg4 harg4 arg5 harg5 arg6 harg6 arg7 harg7 arg8 harg8 arg9 harg9 arg10 harg10 arg11 harg11 arg12 harg12 lanes q2 d2 tri trit v103 w hw1 v117 h2 v164 (harg3.unread x3) (harg4.unread x4) (harg6.unread x6) f10 f11 f12 init n).2.2.1 = [] := by subst hn; rfl

theorem second_dq (hn : n = 0) : (st_k0_t2 𝒱₀ c none i arg2 harg2 arg3 harg3 arg4 harg4 arg5 harg5 arg6 harg6 arg7 harg7 arg8 harg8 arg9 harg9 arg10 harg10 arg11 harg11 arg12 harg12 lanes q2 d2 tri trit v103 w hw1 v117 h2 v164 (harg3.unread x3) (harg4.unread x4) (harg6.unread x6) f10 f11 f12 init n).2.2.2 = [] := by subst hn; rfl

end Loop

end Cert.Proof

end
-- ==== Proof.BodyWalk.lean ====
module

public import proofs.«01_k».proof.Proof.Loop

/-
  The body at a grid point that walks earlier key blocks.
-/

@[expose] public section

set_option maxRecDepth 16384

noncomputable section

namespace Cert.Proof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Affine (IsInt)

variable {F : FTy → Type} [FloatOps F]

local notation "𝕄" => MT nD τ sig Unit (Elt F) ℕ (UR sig nD τ) ℕ

/-- Of a walk of some blocks a grid point leaves the walk but for its last block, then that block, then its own. -/
theorem pointAcc_walk (i : grid0.Coords) (q : Vec F S256x256 .bf16) (K V : Vec F S8192x256 .bf16) (d : Vec F S256x256 .f32) (rb : Vec F S1x1x1024x128 .f32)
    (tri trit : Vec F S256x256 .bf16) (dk dv : Vec F S8192x256 .f32) (h : 0 < walk i (wordOf rb)) :
    pointAcc i q K V d rb tri trit dk dv
      = ownStep (stackQ q) (stackD d) (k0_pay72 tri) (k0_pay73 trit) K V rb (i 1).val
          (pastStep (stackQ q) (stackD d) (k0_pay72 tri) (k0_pay73 trit) K V rb ((i 1).val - 1)
            (pastWalk (stackQ q) (stackD d) (k0_pay72 tri) (k0_pay73 trit) K V rb ((i 1).val - walk i (wordOf rb)).toNat
              (k0_pay17, dk, dv, k0_pay76) (walk i (wordOf rb) - 1).toNat)) := by
  have hr := walk_range i (wordOf rb)
  unfold pointAcc
  rw [show (walk i (wordOf rb)).toNat = (walk i (wordOf rb) - 1).toNat + 1 by omega, pastWalk,
    show ((i 1).val - walk i (wordOf rb)).toNat + (walk i (wordOf rb) - 1).toNat = (i 1).val - 1 by omega]

/-- A load of a whole buffer after two lists of stores that cover it. -/
theorem load_over [∀ e, Nonempty (Elt F e)] {e : EltTy} {sp : Space} {s : Shape} (v : View sig .tc sp s e) {off : Fin s.rank → ℕ} (inb : ∀ a, off a + s.size a ≤ s.size a)
    (L L' : List (View.Piece (Elt F) s e)) :
    v.readCov (L ++ L') (Rect.unit off s.size inb).toLoadRect = v.read (Elt F) (v.writes (Elt F) (v.writes (Elt F) v.junk L') L) := by
  rw [← View.writes_append]; exact View.readAt_full v _ inb

section Body
variable (c : Dev nD) (i : grid0.Coords)
  (arg2 : Memref sig .tc .vmem S256x256 .bf16) (harg2 : arg2.IsWhole)
  (arg3 : Memref sig .tc .vmem S8192x256 .bf16) (harg3 : arg3.IsWhole)
  (arg4 : Memref sig .tc .vmem S8192x256 .bf16) (harg4 : arg4.IsWhole)
  (arg5 : Memref sig .tc .vmem S256x256 .f32) (harg5 : arg5.IsWhole)
  (arg6 : Memref sig .tc .vmem S1x1x1024x128 .f32) (harg6 : arg6.IsWhole)
  (arg7 : Memref sig .tc .vmem S256x256 .bf16) (harg7 : arg7.IsWhole)
  (arg8 : Memref sig .tc .vmem S256x256 .bf16) (harg8 : arg8.IsWhole)
  (arg9 : Memref sig .tc .vmem S256x256 .bf16) (harg9 : arg9.IsWhole)
  (arg10 : Memref sig .tc .vmem S8192x256 .f32) (harg10 : arg10.IsWhole)
  (arg11 : Memref sig .tc .vmem S8192x256 .f32) (harg11 : arg11.IsWhole)
  (arg12 : Memref sig .tc .vmem S1024x256 .f32) (harg12 : arg12.IsWhole)
  (x2 : Vec F S256x256 .bf16) (x3 x4 : Vec F S8192x256 .bf16) (x5 : Vec F S256x256 .f32) (x6 : Vec F S1x1x1024x128 .f32) (x7 x8 : Vec F S256x256 .bf16)
  (y10 y11 : Vec F S8192x256 .f32)

set_option maxHeartbeats 0 in
/-- A query block that walks. -/
theorem leaves_walk (hi : (i 1).val ≠ 0) (hn : 0 < walk i (wordOf x6)) :
    Leaves c i arg2 harg2 arg3 harg3 arg4 harg4 arg5 harg5 arg6 harg6 arg7 harg7 arg8 harg8 arg9 harg9 arg10 harg10 arg11 harg11 arg12 harg12 x2 x3 x4 x5 x6 x7 x8 y10 y11
      (pointAcc i x2 x3 x4 x5 x6 x7 x8 y10 y11) := by
  intro E K
  have hw := word_read arg6 harg6 x6
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%d12, %f12, -, H12⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7; obtain rfl := harg8.eq_unread hf8
  obtain rfl := harg10.eq_unread hf10; obtain rfl := harg11.eq_unread hf11
  have h2 : k0_cond2 i (Scalar.fptosi 32 (k0_pay77 (F := F) (iota .tc S1024x128 32 [1] iota_S1024x128_d1_w32)
      (View.readAt (Elt F) arg6.view (Rect.unit (s := S1x1x1024x128) ![0, 0, 0, 0] S1x1x8x128.size inb_S1x1x1024x128_S1x1x8x128_0_0_0_0).toLoadRect (harg6.unread x6)))) = 1#1 := by
    rw [hw, cond2_iff]; exact hn
  have h1 := (not_congr (first_iff i)).mpr hi
  letI : ClosedOff (k0_off3 i) := ⟨_, off3_eq i (Nat.pos_of_ne_zero hi)⟩
  letI : ClosedOff (k0_off4 i) := ⟨_, off4_eq i⟩
  have hlt : (i 1).val < 32 := (i 1).isLt
  have hi0 := Nat.pos_of_ne_zero hi
  sl_unfold [cc0_sb_bwd]
  sl_exec_parts! (disch := first | sl_exact h1 | sl_exact h2 | exact chk1_all _ _)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; swap; · iexact H9
    ipureintro
    sl_unfold_run_names
    rw [View.read_writes_full, View.readCov_full, View.readCov_full]
    rw [load_whole harg2 x2 inb_S256x256_S256x256_0_0, load_whole harg5 x5 inb_S256x256_S256x256_0_0, load_whole harg7 x7 inb_S256x256_S256x256_0_0, load_whole harg8 x8 inb_S256x256_S256x256_0_0]
    rw [load_whole harg6 x6 inb_S1x1x1024x128_S1x1x1024x128_0_0_0_0]
    rw [load_rows arg3.view (harg3.unread x3) (off3_eq i hi0) (k0_off3_inb i _ (chk1_all i _) h2), harg3.read_unread, load_rows arg4.view (harg4.unread x4) (off3_eq i hi0) (k0_off3_inb i _ (chk1_all i _) h2), harg4.read_unread, load_rows arg3.view (harg3.unread x3) (off4_eq i) (k0_off4_inb i), harg3.read_unread, load_rows arg4.view (harg4.unread x4) (off4_eq i) (k0_off4_inb i), harg4.read_unread]
    rw [second_pre (t2_trips i _), second_dq (t2_trips i _), List.nil_append, load_over]
    rw [loop_pre rfl rfl, loop_dq rfl rfl, harg10.read_unread, harg11.read_unread, View.read_writes_full]
    rw [pay30_eq, last_word i hi0, pay46_eq, own_word]
    rw [hw, pointAcc_walk i x2 x3 x4 x5 x6 x7 x8 y10 y11 hn]
    rfl
  isplitl [H10]
  · iexists _; isplitr; swap; · iexact H10
    ipureintro
    sl_unfold_run_names
    rw [store_rows arg10.view _ (off4_eq i), load_rows arg10.view _ (off4_eq i) (k0_off4_inb i), store_rows arg10.view _ (off3_eq i hi0), load_rows arg10.view _ (off3_eq i hi0) (k0_off3_inb i _ (chk1_all i _) h2)]
    rw [load_whole harg2 x2 inb_S256x256_S256x256_0_0, load_whole harg5 x5 inb_S256x256_S256x256_0_0, load_whole harg7 x7 inb_S256x256_S256x256_0_0, load_whole harg8 x8 inb_S256x256_S256x256_0_0]
    rw [load_whole harg6 x6 inb_S1x1x1024x128_S1x1x1024x128_0_0_0_0]
    rw [load_rows arg3.view (harg3.unread x3) (off3_eq i hi0) (k0_off3_inb i _ (chk1_all i _) h2), harg3.read_unread, load_rows arg4.view (harg4.unread x4) (off3_eq i hi0) (k0_off3_inb i _ (chk1_all i _) h2), harg4.read_unread, load_rows arg3.view (harg3.unread x3) (off4_eq i) (k0_off4_inb i), harg3.read_unread, load_rows arg4.view (harg4.unread x4) (off4_eq i) (k0_off4_inb i), harg4.read_unread]
    rw [second_pre (t2_trips i _), second_dk (t2_trips i _), List.nil_append]
    rw [loop_pre rfl rfl, loop_dk rfl rfl, harg10.read_unread, harg11.read_unread, View.read_writes_full]
    rw [pay30_eq, last_word i hi0, pay47_eq, own_word]
    rw [hw, pointAcc_walk i x2 x3 x4 x5 x6 x7 x8 y10 y11 hn]
    rfl
  isplitl [H11]
  · iexists _; isplitr; swap; · iexact H11
    ipureintro
    sl_unfold_run_names
    rw [store_rows arg11.view _ (off4_eq i), load_rows arg11.view _ (off4_eq i) (k0_off4_inb i), store_rows arg11.view _ (off3_eq i hi0), load_rows arg11.view _ (off3_eq i hi0) (k0_off3_inb i _ (chk1_all i _) h2)]
    rw [load_whole harg2 x2 inb_S256x256_S256x256_0_0, load_whole harg5 x5 inb_S256x256_S256x256_0_0, load_whole harg7 x7 inb_S256x256_S256x256_0_0, load_whole harg8 x8 inb_S256x256_S256x256_0_0]
    rw [load_whole harg6 x6 inb_S1x1x1024x128_S1x1x1024x128_0_0_0_0]
    rw [load_rows arg3.view (harg3.unread x3) (off3_eq i hi0) (k0_off3_inb i _ (chk1_all i _) h2), harg3.read_unread, load_rows arg3.view (harg3.unread x3) (off4_eq i) (k0_off4_inb i), harg3.read_unread]
    rw [second_dv (t2_trips i _), List.nil_append]
    rw [loop_dv rfl rfl, harg10.read_unread, harg11.read_unread, View.read_writes_full]
    rw [pay30_eq, last_word i hi0, pay48_eq, own_word]
    rw [hw, pointAcc_walk i x2 x3 x4 x5 x6 x7 x8 y10 y11 hn]
    rfl
  iexists _, _; isplitr; swap; · iexact H12
  ipureintro; rfl

end Body

end Cert.Proof

end
-- ==== Proof.Run.lean ====
module

public import proofs.«01_k».proof.Proof.BodyOwn
public import proofs.«01_k».proof.Proof.BodyWalk
public import proofs.«01_k».proof.Proof.Gen.KernelIdeal.Frame
public import proofs.«01_k».proof.Proof.Gen.KernelIdeal.Points

/-
  The run of the kernel over any float values: at every grid point the body leaves in the two accumulators what
  `pointAcc` makes of what the point before left there, and in the query block's buffer the gradient's block. The two
  accumulators start anew at the first query block of each group of heads.
-/

@[expose] public section

set_option maxRecDepth 16384

noncomputable section

namespace Cert.Proof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

/-- What a grid point leaves of what it finds in the two accumulators: the first query block of a group starts from
    the starting values. -/
def nextAcc (i : grid0.Coords) (q : Vec F S256x256 .bf16) (K V : Vec F S8192x256 .bf16) (d : Vec F S256x256 .f32) (rb : Vec F S1x1x1024x128 .f32)
    (tri trit : Vec F S256x256 .bf16) (dk dv : Vec F S8192x256 .f32) : Acc F :=
  if (i 1).val = 0 then pointAcc i q K V d rb tri trit k0_pay74 k0_pay75 else pointAcc i q K V d rb tri trit dk dv

section Body
variable (c : Dev nD) (i : grid0.Coords)
  (arg2 : Memref sig .tc .vmem S256x256 .bf16) (harg2 : arg2.IsWhole)
  (arg3 : Memref sig .tc .vmem S8192x256 .bf16) (harg3 : arg3.IsWhole)
  (arg4 : Memref sig .tc .vmem S8192x256 .bf16) (harg4 : arg4.IsWhole)
  (arg5 : Memref sig .tc .vmem S256x256 .f32) (harg5 : arg5.IsWhole)
  (arg6 : Memref sig .tc .vmem S1x1x1024x128 .f32) (harg6 : arg6.IsWhole)
  (arg7 : Memref sig .tc .vmem S256x256 .bf16) (harg7 : arg7.IsWhole)
  (arg8 : Memref sig .tc .vmem S256x256 .bf16) (harg8 : arg8.IsWhole)
  (arg9 : Memref sig .tc .vmem S256x256 .bf16) (harg9 : arg9.IsWhole)
  (arg10 : Memref sig .tc .vmem S8192x256 .f32) (harg10 : arg10.IsWhole)
  (arg11 : Memref sig .tc .vmem S8192x256 .f32) (harg11 : arg11.IsWhole)
  (arg12 : Memref sig .tc .vmem S1024x256 .f32) (harg12 : arg12.IsWhole)
  (x2 : Vec F S256x256 .bf16) (x3 x4 : Vec F S8192x256 .bf16) (x5 : Vec F S256x256 .f32) (x6 : Vec F S1x1x1024x128 .f32) (x7 x8 : Vec F S256x256 .bf16)
  (y10 y11 : Vec F S8192x256 .f32)

set_option maxHeartbeats 0 in
/-- Every grid point leaves what `nextAcc` says. -/
theorem leaves_all :
    Leaves c i arg2 harg2 arg3 harg3 arg4 harg4 arg5 harg5 arg6 harg6 arg7 harg7 arg8 harg8 arg9 harg9 arg10 harg10 arg11 harg11 arg12 harg12 x2 x3 x4 x5 x6 x7 x8 y10 y11 (nextAcc i x2 x3 x4 x5 x6 x7 x8 y10 y11) := by
  have hr := walk_range i (wordOf x6)
  unfold nextAcc
  by_cases hi : (i 1).val = 0
  · rw [if_pos hi]
    exact leaves_first (F := F) c i arg2 harg2 arg3 harg3 arg4 harg4 arg5 harg5 arg6 harg6 arg7 harg7 arg8 harg8 arg9 harg9 arg10 harg10 arg11 harg11 arg12 harg12 x2 x3 x4 x5 x6 x7 x8 y10 y11 hi (by omega)
  · rw [if_neg hi]
    by_cases hn : 0 < walk i (wordOf x6)
    · exact leaves_walk (F := F) c i arg2 harg2 arg3 harg3 arg4 harg4 arg5 harg5 arg6 harg6 arg7 harg7 arg8 harg8 arg9 harg9 arg10 harg10 arg11 harg11 arg12 harg12 x2 x3 x4 x5 x6 x7 x8 y10 y11 hi hn
    · exact leaves_own (F := F) c i arg2 harg2 arg3 harg3 arg4 harg4 arg5 harg5 arg6 harg6 arg7 harg7 arg8 harg8 arg9 harg9 arg10 harg10 arg11 harg11 arg12 harg12 x2 x3 x4 x5 x6 x7 x8 y10 y11 hi hn

end Body

variable (m : (ℓ : Loc nD τ sig) → Buf (Elt F) ℓ) (ρ : Dev nD → PrngReg)

/-- What point `t` leaves of what it finds in the two accumulators. -/
def pointAt (c : Dev nD) (t : Fin cfg0.N) (dk dv : Vec F S8192x256 .f32) : Acc F :=
  nextAcc (grid0.coords t) (iblk m c 0 t) (iblk m c 1 t) (iblk m c 2 t) (iblk m c 3 t) (iblk m c 4 t) (iblk m c 5 t) (iblk m c 6 t) dk dv

/-- What the points up to `n` leave. -/
def leftAt (c : Dev nD) : (n : ℕ) → n < cfg0.N → Acc F
  | 0, h => pointAt m c ⟨0, h⟩ k0_pay74 k0_pay75
  | n + 1, h => pointAt m c ⟨n + 1, h⟩ (leftAt c n (Nat.lt_of_succ_lt h)).2.1 (leftAt c n (Nat.lt_of_succ_lt h)).2.2.1

/-- The arrays as the region finds them; after a point each input's buffer at its block, the gradients' buffers at what
    the point leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => k0_pay78 (leftAt m c t.val t.isLt).2.2.2
    | ⟨8, _⟩ => (leftAt m c t.val t.isLt).2.1
    | ⟨9, _⟩ => (leftAt m c t.val t.isLt).2.2.1
  Φ _ := Pipeline.ΦA spec0 c
  q w := Pipeline.shareOf spec0 w
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = k0_pay78 (leftAt m c t.val t.isLt).2.2.2 := by dsimp only [dats]
theorem after0_8 (c : Dev nD) (t : Fin cfg0.N) : (dats m 0 c).after 8 t = (leftAt m c t.val t.isLt).2.1 := by dsimp only [dats]
theorem after0_9 (c : Dev nD) (t : Fin cfg0.N) : (dats m 0 c).after 9 t = (leftAt m c t.val t.isLt).2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- The second coordinate of a point. -/
theorem coord_one (t : Fin cfg0.N) : (grid0.coords t 1).val = t.val % 32 :=
  (by decide +kernel : ∀ t : Fin grid0.N, (grid0.coords t 1).val = t.val % 32) t

/-- The first coordinate of a point. -/
theorem coord_zero (t : Fin cfg0.N) : (grid0.coords t 0).val = t.val / 32 :=
  (by decide +kernel : ∀ t : Fin grid0.N, (grid0.coords t 0).val = t.val / 32) t

/-- What a point finds in the accumulators, run through the point, is what the points up to it leave: at the first query
    block of a group it does not matter what the point finds. -/
theorem point_left (c : Dev nD) (t : Fin cfg0.N) (d8 d9) :
    pointAt m c t ((dats m 0 c).before 8 t d8) ((dats m 0 c).before 9 t d9) = leftAt m c t.val t.isLt := by
  obtain ⟨n, hn⟩ := t
  by_cases h0 : n % 32 = 0
  · have hc : (grid0.coords (⟨n, hn⟩ : Fin cfg0.N) 1).val = 0 := (coord_one ⟨n, hn⟩).trans h0
    cases n with
    | zero => unfold leftAt pointAt nextAcc; rw [if_pos hc, if_pos hc]
    | succ n => unfold leftAt pointAt nextAcc; rw [if_pos hc, if_pos hc]
  · cases n with
    | zero => exact absurd rfl h0
    | succ n =>
      have h8 : (dats m 0 c).before 8 ⟨n + 1, hn⟩ d8 = (leftAt m c n (Nat.lt_of_succ_lt hn)).2.1 :=
        ((dats m 0 c).before_out_kept 8 rfl ⟨n + 1, hn⟩ (Nat.succ_ne_zero n)
          (Bool.eq_false_iff.mpr fun h => by have := (flush0_8 _).mp h; dsimp only at this; omega) (fun _ => rfl) (fun _ _ => rfl) d8).trans (after0_8 m c _)
      have h9 : (dats m 0 c).before 9 ⟨n + 1, hn⟩ d9 = (leftAt m c n (Nat.lt_of_succ_lt hn)).2.2.1 :=
        ((dats m 0 c).before_out_kept 9 rfl ⟨n + 1, hn⟩ (Nat.succ_ne_zero n)
          (Bool.eq_false_iff.mpr fun h => by have := (flush0_9 _).mp h; dsimp only at this; omega) (fun _ => rfl) (fun _ _ => rfl) d9).trans (after0_9 m c _)
      rw [h8, h9]; rfl

/-- The scratch handed back: it holds something. -/
theorem scratch_back (c : Dev nD) (d : Vec F S1024x256 .f32) :
    (owns (c : Thread nD τ) (Memref.whole cc0_scratch0) fullShare d : sProp 𝕄)
      ⊢ iprop(∃ f : Buf (Elt F) ((c : Thread nD τ).loc cc0_scratch0), ((c : Thread nD τ).loc cc0_scratch0) ↦{fullShare} f) := by
  rw [owns_whole_eq]
  iintro ⟨%g, -, H⟩
  iexists g
  iexact H

/-- The body's run at every point. -/
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  rw [show (dats m 0 c).Φ t.castSucc = ΦA spec0 c from rfl]
  unfold ΦA
  rw [scopedRest0_eq]
  iintro ⟨⟨⟨%fs, Hs⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have hl := point_left m c t d8 d9
  iapply (leaves_all c (grid0.coords t) _ _ _ _ _ _ _ _ _ _ _ _ _ _ _ _ _ _ _ _ (Memref.whole cc0_scratch0) (Memref.isWhole_whole _)
    (iblk m c 0 t) (iblk m c 1 t) (iblk m c 2 t) (iblk m c 3 t) (iblk m c 4 t) (iblk m c 5 t) (iblk m c 6 t)
    ((dats m 0 c).before 8 t d8) ((dats m 0 c).before 9 t d9) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [H9]; · iexact H9
  isplitl [Hs]
  · iexists fs
    rw [owns_whole_eq]
    iexists fs
    isplitr; · ipureintro; rfl
    iexact Hs
  rw [show nextAcc (grid0.coords t) (iblk m c 0 t) (iblk m c 1 t) (iblk m c 2 t) (iblk m c 3 t) (iblk m c 4 t) (iblk m c 5 t) (iblk m c 6 t)
    ((dats m 0 c).before 8 t d8) ((dats m 0 c).before 9 t d9) = leftAt m c t.val t.isLt from hl]
  iintro ⟨H0, H1, H2, H3, H4, H5, H6, H7, H8, H9, ⟨%ds, Hs⟩⟩
  isplitl [Hs Hr]
  · isplitl [Hs]
    · ihave Hs' := (scratch_back c ds) $$ Hs
      iexact Hs'
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

set_option backward.isDefEq.respectTransparency.types false in
/-- From any memory with zero counters every weakly fair run of the kernel ends with every array of the pipeline at what
    the proof data say and every counter at zero. -/
theorem run_main : θ_run defs (onTc (τ := τ) (main (F := F))) (s₀ m ρ)
    (fun r => Pipeline.FramePost cfgs (dats m) 0 (V m) r ∧ r.2.sem = fun _ => 0) :=
  Pipeline.θ_run_frame_shared (Q' := _) cfgs (dats m) (0 : Fin 1) launch₀0 defs₀ 𝒱₀ m ρ main
    (hbody := fun c => (body_obligation m c).loose) (hq := fun _ _ _ => rfl)
    (howed := fun _ _ => rfl) (V := V m) (hmain := hmain m 𝒱₀) (hA := fun _ _ => rfl) (hΦ := fun _ _ => rfl)

/-- The run read at the arguments: they are as they were. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_with_sems (frame_of m ρ (dats m) fun _ _ => rfl) (run_main m ρ)

end Cert.Proof

end
-- ==== Proof.Same.lean ====
module

public import proofs.«01_k».proof.Kernel
public import proofs.«01_k».proof.KernelIdeal
public import proofs.«01_k».proof.Proof.Gen.Kernel
public import proofs.«01_k».proof.Proof.Gen.KernelIdeal
public import Idealize.ShloMosaic.PureOps.BitExact

/-
  The kernel and the idealized kernel are one text: read at the machine's floats they are the same program.
-/

@[expose] public section

set_option maxRecDepth 16384

noncomputable section

namespace Cert.Proof

open Idealize.ShloMosaic

/-- The bodies. -/
theorem same_body : @Cert.Kernel.cc0_sb_bwd Bits _ _ = @Cert.KernelIdeal.cc0_sb_bwd Bits _ _ := rfl

/-- The table of the bodies. -/
theorem same_defs₀ : @Cert.Kernel.defs₀ Bits _ _ = @Cert.KernelIdeal.defs₀ Bits _ _ := by
  unfold Kernel.defs₀ KernelIdeal.defs₀
  refine congrArg Defs.onTc (funext fun l => funext fun a => ?_)
  match l, a with
  | 0, (t, s) => exact congrFun (congrFun (congrFun (congrFun (congrFun (congrFun (congrFun (congrFun (congrFun (congrFun (congrFun (congrFun (congrFun (congrFun (congrFun (congrFun (congrFun (congrFun (congrFun (congrFun (congrFun (congrFun (congrFun same_body _) _) _) _) _) _) _) _) _) _) _) _) _) _) _) _) _) _) _) _) _) _) _

/-- The table with the pipeline. -/
theorem same_defs : @Cert.Kernel.defs Bits _ _ = @Cert.KernelIdeal.defs Bits _ _ :=
  congrArg (Pipeline.defs (@Cert.KernelIdeal.pcfgs Bits _)) same_defs₀

set_option maxHeartbeats 0 in
/-- The programs. -/
theorem same_main : @Cert.Kernel.main Bits _ _ = @Cert.KernelIdeal.main Bits _ _ := rfl

end Cert.Proof

end
-- ==== Proof.Reals.lean ====
module

public import Idealize.ShloMosaic.PureOps
public import Idealize.ShloMosaic.Lib.FinSumWindow
public import Idealize.ShloMosaic.Lib.Pointwise

/-
  The real-number side of the gradient of stick-breaking attention: the weights, their gradients, and how the sums over
  all keys split into blocks of 256 keys. And how the extended reals' operations act on real numbers.
-/

@[expose] public section

set_option maxRecDepth 16384

noncomputable section

namespace Cert.Proof

open Idealize.ShloMosaic
open Finset (range Ico)

/-- The logarithm of the logistic function, as the kernel computes it. -/
def lsp (x : ℝ) : ℝ := min x 0 - Real.log (1 + Real.exp (-|x|))

/-- The logarithm of one minus the logistic function. -/
def lsm (x : ℝ) : ℝ := lsp x - x

/-- What key `s` of query `t` leaves to the keys before it, in logarithms; nothing from the query on. -/
def leave (z : ℕ → ℕ → ℝ) (t s : ℕ) : ℝ := if s < t then lsm (z t s) else 0

/-- What the keys after `s` leave, in logarithms. -/
def tailSum (z : ℕ → ℕ → ℝ) (t s : ℕ) : ℝ := ∑ j ∈ Ico (s + 1) 8192, leave z t j

/-- The weight of key `s` for query `t`. -/
def att (z : ℕ → ℕ → ℝ) (t s : ℕ) : ℝ := if s < t then Real.exp (lsp (z t s) + tailSum z t s) else 0

/-- The gradient of the weight's logarithm. -/
def dlog (z g : ℕ → ℕ → ℝ) (t s : ℕ) : ℝ := g t s * att z t s

/-- The sum of those gradients over the keys before `s`. -/
def before (z g : ℕ → ℕ → ℝ) (t s : ℕ) : ℝ := ∑ j ∈ range s, dlog z g t j

/-- The gradient of the score. -/
def dz (z g : ℕ → ℕ → ℝ) (t s : ℕ) : ℝ :=
  if s < t then dlog z g t s * (1 - Real.exp (lsp (z t s))) - Real.exp (lsp (z t s)) * before z g t s else 0

/-- A sum over the columns after `c` of a block is a sum over the keys after it in the block. -/
theorem sum_after (f : ℕ → ℝ) (b : ℕ) (c : Fin 256) :
    ∑ a : Fin 256, f (256 * b + a.val) * (if c.val < a.val then 1 else 0) = ∑ j ∈ Ico (256 * b + c.val + 1) (256 * b + 256), f j := by
  rw [Fin.sum_univ_eq_sum_range (fun a => f (256 * b + a) * (if c.val < a then (1 : ℝ) else 0)) 256]
  simp only [mul_ite, mul_one, mul_zero]
  rw [← Finset.sum_filter]
  refine Finset.sum_bij' (fun a _ => 256 * b + a) (fun j _ => j - 256 * b) ?_ ?_ ?_ ?_ ?_ <;>
    simp only [Finset.mem_filter, Finset.mem_range, Finset.mem_Ico] <;> intros <;> first | trivial | omega | rfl

/-- A sum over the columns before `c` of a block. -/
theorem sum_before (f : ℕ → ℝ) (b : ℕ) (c : Fin 256) :
    ∑ a : Fin 256, f (256 * b + a.val) * (if a.val < c.val then 1 else 0) = ∑ j ∈ Ico (256 * b) (256 * b + c.val), f j := by
  have hc := c.isLt
  rw [Fin.sum_univ_eq_sum_range (fun a => f (256 * b + a) * (if a < c.val then (1 : ℝ) else 0)) 256]
  simp only [mul_ite, mul_one, mul_zero]
  rw [← Finset.sum_filter]
  refine Finset.sum_bij' (fun a _ => 256 * b + a) (fun j _ => j - 256 * b) ?_ ?_ ?_ ?_ ?_ <;>
    simp only [Finset.mem_filter, Finset.mem_range, Finset.mem_Ico] <;> intros <;> first | trivial | omega | rfl

/-- The sum over a whole block. -/
theorem sum_block (f : ℕ → ℝ) (b : ℕ) : ∑ a : Fin 256, f (256 * b + a.val) = ∑ j ∈ Ico (256 * b) (256 * b + 256), f j := by
  rw [Fin.sum_univ_eq_sum_range (fun a => f (256 * b + a)) 256, Finset.sum_Ico_eq_sum_range]
  simp

/-- The keys after `c` in its block and the keys after the block are the keys after `c`. -/
theorem tailSum_split (z : ℕ → ℕ → ℝ) (t b : ℕ) (hb : b < 32) (c : Fin 256) :
    ∑ j ∈ Ico (256 * b + c.val + 1) (256 * b + 256), leave z t j + tailSum z t (256 * b + 255) = tailSum z t (256 * b + c.val) := by
  have hc := c.isLt
  unfold tailSum
  exact Finset.sum_Ico_consecutive _ (by omega) (by omega)

/-- Nothing is left from the query on. -/
theorem tailSum_own (z : ℕ → ℕ → ℝ) (t s : ℕ) (h : t ≤ s + 1) : tailSum z t s = 0 := by
  unfold tailSum
  refine Finset.sum_eq_zero fun j hj => ?_
  rw [Finset.mem_Ico] at hj
  unfold leave
  rw [if_neg (by omega)]

/-- The keys before a block and those before `c` in it. -/
theorem before_split (z g : ℕ → ℕ → ℝ) (t b : ℕ) (c : Fin 256) :
    before z g t (256 * b) + ∑ j ∈ Ico (256 * b) (256 * b + c.val), dlog z g t j = before z g t (256 * b + c.val) := by
  unfold before
  exact Finset.sum_range_add_sum_Ico _ (by omega)

/-- The keys before the next block. -/
theorem before_next (z g : ℕ → ℕ → ℝ) (t b : ℕ) :
    before z g t (256 * b) + ∑ j ∈ Ico (256 * b) (256 * b + 255), dlog z g t j + dlog z g t (256 * b + 255) = before z g t (256 * (b + 1)) := by
  have h := before_split z g t b (255 : Fin 256)
  rw [show ((255 : Fin 256) : ℕ) = 255 from rfl] at h
  rw [h, show 256 * (b + 1) = 256 * b + 255 + 1 by ring]
  exact (Finset.sum_range_succ _ _).symm

/-- A sum of real numbers is a real number. -/
theorem coe_sum {ι : Type} (s : Finset ι) (f : ι → ℝ) : ∑ i ∈ s, ((f i : ℝ) : EReal) = ((∑ i ∈ s, f i : ℝ) : EReal) := by
  induction s using Finset.cons_induction with
  | empty => rfl
  | cons a s h ih => rw [Finset.sum_cons, Finset.sum_cons, ih, EReal.coe_add]

theorem coe_min (a b : ℝ) : min (a : EReal) (b : EReal) = ((min a b : ℝ) : EReal) := (EReal.coe_strictMono.monotone.map_min).symm

theorem coe_max (a b : ℝ) : max (a : EReal) (b : EReal) = ((max a b : ℝ) : EReal) := (EReal.coe_strictMono.monotone.map_max).symm

theorem coe_absf (a : ℝ) : max (a : EReal) (-(a : EReal)) = ((|a| : ℝ) : EReal) := by
  rw [← EReal.coe_neg, coe_max]; rfl

theorem absf_coe (a : ℝ) : FloatOps.absf (F := Ideal) (φ := .f32) (a : EReal) = ((|a| : ℝ) : EReal) := coe_absf a

theorem coe_log (a : ℝ) (h : 0 < a) : Ideal.log (a : EReal) = ((Real.log a : ℝ) : EReal) := by
  rw [Ideal.log_coe, if_neg (not_le.2 h)]

theorem one_add_exp_pos (x : ℝ) : (0 : ℝ) < 1 + Real.exp x := by positivity

end Cert.Proof

end
-- ==== Proof.Heads.lean ====
module

public import proofs.«01_k».proof.Proof.Reals
public import Idealize.ShloMosaic.Lib.Pointwise
public import Idealize.ShloMosaic.Lib.WordCmp

/-
  The scores of a head and the gradient of its weights, over the reals; the logistic function's logarithm as a program
  writes it, and its derivative.
-/

@[expose] public section

noncomputable section

namespace Cert.Proof

open Idealize.ShloMosaic Idealize.ShloMosaic.TcCoe
open Finset (range Ico)

/-- The score of key `s` for query `t` in head `h`. -/
def zz (q k : ℕ → ℕ → ℝ) (h t s : ℕ) : ℝ := (∑ l : Fin 64, q t (64 * h + l.val) * k s (64 * h + l.val)) * (1 / 8)

/-- The gradient of the weight of key `s` for query `t` in head `h`. -/
def gg (d v : ℕ → ℕ → ℝ) (h t s : ℕ) : ℝ := ∑ l : Fin 64, d t (64 * h + l.val) * v s (64 * h + l.val)

/-- The logarithm of one plus the exponential, as a program writes it. -/
def softplus (w : ℝ) : ℝ := max w 0 + Real.log (1 + Real.exp (-|w|))

theorem softplus_neg (z : ℝ) : -softplus (-z) = lsp z := by
  unfold softplus lsp
  rw [abs_neg, neg_add]
  have h : -max (-z) 0 = min z 0 := by
    rcases le_total z 0 with hz | hz
    · rw [max_eq_left (by linarith), min_eq_left hz, neg_neg]
    · rw [max_eq_right (by linarith), min_eq_right hz, neg_zero]
  rw [h]; ring

theorem softplus_pos (z : ℝ) : -softplus z = lsm z := by
  unfold softplus lsm lsp
  have h : -max z 0 = min z 0 - z := by
    rcases le_total z 0 with hz | hz
    · rw [max_eq_right hz, min_eq_left hz]; ring
    · rw [max_eq_left hz, min_eq_right hz]; ring
  rw [neg_add, h]; ring

/-- The logistic function and that of the opposite sum to one. -/
theorem exp_lsm (z : ℝ) : Real.exp (lsm z) = 1 - Real.exp (lsp z) := by
  have hp : Real.exp (-Real.log (1 + Real.exp (-|z|))) = (1 + Real.exp (-|z|))⁻¹ := by
    rw [Real.exp_neg, Real.exp_log (one_add_exp_pos _)]
  have hn : (1 + Real.exp (-|z|)) ≠ 0 := (one_add_exp_pos _).ne'
  unfold lsm lsp
  rcases le_total z 0 with hz | hz
  · rw [min_eq_left hz, show z - Real.log (1 + Real.exp (-|z|)) - z = -Real.log (1 + Real.exp (-|z|)) by ring, sub_eq_add_neg z, Real.exp_add, hp]
    rw [abs_of_nonpos hz, neg_neg] at hn ⊢
    field_simp
    ring
  · rw [min_eq_right hz, show 0 - Real.log (1 + Real.exp (-|z|)) - z = -z + -Real.log (1 + Real.exp (-|z|)) by ring, zero_sub, Real.exp_add, hp]
    rw [abs_of_nonneg hz] at hn ⊢
    field_simp
    ring

/-- The program's form on the extended reals. -/
theorem softplus_coe (w : ℝ) :
    (if (w : EReal) ≠ (w : EReal) then (w : EReal) else max (w : EReal) 0 + Ideal.log1p (Ideal.exp (-FloatOps.absf (F := Ideal) (φ := .f32) (w : EReal))))
      = ((softplus w : ℝ) : EReal) := by
  rw [if_neg (by simp), absf_coe, ← EReal.coe_neg, Ideal.exp_coe, ← EReal.coe_zero, coe_max]
  show _ + Ideal.log (1 + _) = _
  rw [← EReal.coe_one, ← EReal.coe_add, coe_log _ (one_add_exp_pos _), ← EReal.coe_add]
  rfl

/-- A selection by a comparison of naturals. -/
theorem select_dec (p : Prop) [Decidable p] (a b : ℝ) :
    Scalar.select (BitVec.ofBool (decide p)) (a : EReal) (b : EReal) = (((if p then a else b) : ℝ) : EReal) := by
  by_cases h : p
  · simp only [if_pos h, decide_eq_true h]; rfl
  · simp only [if_neg h, decide_eq_false h]; rfl

theorem ofBits_inf : Ideal.ofBits .f32 0x7F800000#32 = ⊤ := by
  simp [Ideal.ofBits, Ideal.ieee]

/-- A finite number is not infinite. -/
theorem ite_inf (a : ℝ) (x : EReal) : (if (a : EReal) = Ideal.ofBits .f32 0x7F800000#32 then x else (a : EReal)) = (a : EReal) := by
  rw [ofBits_inf, if_neg (EReal.coe_ne_top a)]

end Cert.Proof

end
-- ==== Proof.CumSum.lean ====
module

public import proofs.«01_k».proof.Proof.Reals
public import Idealize.ShloMosaic.Lib.Pointwise

/-
  A running sum along the last axis of an array of reals, as a window as long as the axis and padded on one side: padded
  below it is the sum of the entries up to a position, padded above the sum of those from it on.
-/

@[expose] public section

set_option maxRecDepth 16384

noncomputable section

namespace Cert.Proof

open Idealize.ShloMosaic Idealize.ShloMosaic.TcCoe
open Finset (range Ico)

/-- A left fold of additions is a sum. -/
theorem foldl_sum {N : ℕ} (f : Fin N → EReal) (v : EReal) : (List.finRange N).foldl (fun r n => r + f n) v = v + ∑ n, f n := by
  have h : ∀ (l : List (Fin N)) (v : EReal), l.foldl (fun r n => r + f n) v = v + (l.map f).sum := by
    intro l
    induction l with
    | nil => intro v; simp
    | cons a l ih => intro v; rw [List.foldl_cons, ih, List.map_cons, List.sum_cons, add_assoc]
  rw [h, Fin.sum_univ_def]

/-- The sum of the entries from a position on. -/
theorem sum_from {N : ℕ} (X : ℕ → ℝ) (s : ℕ) (hs : s < N) : ∑ k : Fin N, (if s + k.val < N then X (s + k.val) else 0) = ∑ j ∈ Ico s N, X j := by
  rw [Fin.sum_univ_eq_sum_range (fun k => if s + k < N then X (s + k) else 0) N, Finset.sum_Ico_eq_sum_range, ← Finset.sum_filter]
  refine Finset.sum_congr (Finset.ext fun k => ?_) fun _ _ => rfl
  simp only [Finset.mem_filter, Finset.mem_range]
  omega

/-- The sum of the entries up to a position. -/
theorem sum_to {N M : ℕ} (hM : M + 1 = N) (X : ℕ → ℝ) (s : ℕ) (hs : s < N) :
    ∑ k : Fin N, (if M ≤ s + k.val then X (s + k.val - M) else 0) = ∑ j ∈ range (s + 1), X j := by
  rw [Fin.sum_univ_eq_sum_range (fun k => if M ≤ s + k then X (s + k - M) else 0) N, ← Finset.sum_filter]
  refine Finset.sum_bij' (fun k _ => s + k - M) (fun j _ => j + M - s) ?_ ?_ ?_ ?_ ?_
  all_goals simp only [Finset.mem_filter, Finset.mem_range]
  all_goals first | (intros; omega) | (intros; trivial) | (intros; rfl)

section
variable {A B N : ℕ}

/-- The positions of a window along the last of four axes. -/
def along4 : Fin N ≃ (⟨4, ![1, 1, 1, N]⟩ : Shape).Idx where
  toFun k := ix4 0 0 0 k
  invFun i := i 3
  left_inv _ := rfl
  right_inv i := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl

/-- The positions of a window along the last of three axes. -/
def along3 : Fin N ≃ (⟨3, ![1, 1, N]⟩ : Shape).Idx where
  toFun k := ix3 0 0 k
  invFun i := i 2
  left_inv _ := rfl
  right_inv i := by
    funext a
    match a with
    | ⟨0, _⟩ => exact Subsingleton.elim (α := Fin 1) _ _
    | ⟨1, _⟩ => exact Subsingleton.elim (α := Fin 1) _ _
    | ⟨2, _⟩ => rfl

/-- A running sum from a position on, along the last of four axes. -/
theorem cumsum_from4 {M : ℕ} (x : FVec Ideal (⟨4, ![1, A, B, N]⟩ : Shape) .f32) (init : FVec Ideal ⟨0, ![]⟩ .f32) (hi : ∀ i, init i = (0 : EReal))
    (hw : (⟨4, ![1, A, B, N]⟩ : Shape).ReduceWindows ![1, 1, 1, N] ![1, 1, 1, 1] ![0, 0, 0, 0] ![0, 0, 0, M] (⟨4, ![1, A, B, N]⟩ : Shape))
    (hu : 0 < (⟨0, ![]⟩ : Shape).numel) (h : Fin A) (t : Fin B) (s : Fin N) (X : ℕ → ℝ) (hx : ∀ j : Fin N, x (ix4 0 h t j) = ((X j.val : ℝ) : EReal)) :
    Host.reduceWindowAdd ![1, 1, 1, N] ![1, 1, 1, 1] ![0, 0, 0, 0] ![0, 0, 0, M] x init hw hu (ix4 0 h t s) = ((∑ j ∈ Ico s.val N, X j : ℝ) : EReal) := by
  refine (foldl_sum _ _).trans ?_
  rw [hi, zero_add, ← sum_from X s.val s.isLt, ← coe_sum]
  refine (Finset.sum_congr rfl fun n _ => ?_).trans ((Equiv.sum_comp (Shape.rowMajor ⟨4, ![1, 1, 1, N]⟩).symm (fun p : (⟨4, ![1, 1, 1, N]⟩ : Shape).Idx => (((if s.val + (p 3).val < N then X (s.val + (p 3).val) else 0) : ℝ) : EReal))).trans (Equiv.sum_comp along4 _).symm)
  let p : Shape.Idx ⟨4, ![1, 1, 1, N]⟩ := (Shape.rowMajor ⟨4, ![1, 1, 1, N]⟩).symm n
  have p0 : (p 0).val < 1 := (p 0).isLt
  have p1 : (p 1).val < 1 := (p 1).isLt
  have p2 : (p 2).val < 1 := (p 2).isLt
  have hh := h.isLt
  have ht := t.isLt
  have hs := s.isLt
  have hk : (p 3).val < N := (p 3).isLt
  by_cases hc : s.val + (p 3).val < N
  · have hlt : s.val + (p 3).val < N := by omega
    rw [if_pos hc, ← hx ⟨s.val + (p 3).val, hlt⟩]
    refine (dif_pos ?_).trans (congrArg x (funext fun a => Fin.ext ?_))
    · intro a
      match a with
      | ⟨0, _⟩ => exact ⟨Nat.zero_le _, by show 0 * 1 + (p 0).val - 0 < 1; omega⟩
      | ⟨1, _⟩ => exact ⟨Nat.zero_le _, by show h.val * 1 + (p 1).val - 0 < A; omega⟩
      | ⟨2, _⟩ => exact ⟨Nat.zero_le _, by show t.val * 1 + (p 2).val - 0 < B; omega⟩
      | ⟨3, _⟩ => exact ⟨by show 0 ≤ s.val * 1 + (p 3).val; omega, by show s.val * 1 + (p 3).val - 0 < N; omega⟩
    · match a with
      | ⟨0, _⟩ => show 0 * 1 + (p 0).val - 0 = 0; omega
      | ⟨1, _⟩ => show h.val * 1 + (p 1).val - 0 = h.val; omega
      | ⟨2, _⟩ => show t.val * 1 + (p 2).val - 0 = t.val; omega
      | ⟨3, _⟩ => show s.val * 1 + (p 3).val - 0 = s.val + (p 3).val; omega
  · rw [if_neg hc, EReal.coe_zero]
    refine dif_neg fun hin => hc ?_
    have h3 : 0 ≤ s.val * 1 + (p 3).val ∧ s.val * 1 + (p 3).val - 0 < N := hin 3
    omega

/-- A running sum up to a position, along the last of four axes. -/
theorem cumsum_to4 {M : ℕ} (hM : M + 1 = N) (x : FVec Ideal (⟨4, ![1, A, B, N]⟩ : Shape) .f32) (init : FVec Ideal ⟨0, ![]⟩ .f32) (hi : ∀ i, init i = (0 : EReal))
    (hw : (⟨4, ![1, A, B, N]⟩ : Shape).ReduceWindows ![1, 1, 1, N] ![1, 1, 1, 1] ![0, 0, 0, M] ![0, 0, 0, 0] (⟨4, ![1, A, B, N]⟩ : Shape))
    (hu : 0 < (⟨0, ![]⟩ : Shape).numel) (h : Fin A) (t : Fin B) (s : Fin N) (X : ℕ → ℝ) (hx : ∀ j : Fin N, x (ix4 0 h t j) = ((X j.val : ℝ) : EReal)) :
    Host.reduceWindowAdd ![1, 1, 1, N] ![1, 1, 1, 1] ![0, 0, 0, M] ![0, 0, 0, 0] x init hw hu (ix4 0 h t s) = ((∑ j ∈ range (s.val + 1), X j : ℝ) : EReal) := by
  refine (foldl_sum _ _).trans ?_
  rw [hi, zero_add, ← sum_to hM X s.val s.isLt, ← coe_sum]
  refine (Finset.sum_congr rfl fun n _ => ?_).trans ((Equiv.sum_comp (Shape.rowMajor ⟨4, ![1, 1, 1, N]⟩).symm (fun p : (⟨4, ![1, 1, 1, N]⟩ : Shape).Idx => (((if M ≤ s.val + (p 3).val then X (s.val + (p 3).val - M) else 0) : ℝ) : EReal))).trans (Equiv.sum_comp along4 _).symm)
  let p : Shape.Idx ⟨4, ![1, 1, 1, N]⟩ := (Shape.rowMajor ⟨4, ![1, 1, 1, N]⟩).symm n
  have p0 : (p 0).val < 1 := (p 0).isLt
  have p1 : (p 1).val < 1 := (p 1).isLt
  have p2 : (p 2).val < 1 := (p 2).isLt
  have hh := h.isLt
  have ht := t.isLt
  have hs := s.isLt
  have hk : (p 3).val < N := (p 3).isLt
  by_cases hc : M ≤ s.val + (p 3).val
  · have hlt : s.val + (p 3).val - M < N := by omega
    rw [if_pos hc, ← hx ⟨s.val + (p 3).val - M, hlt⟩]
    refine (dif_pos ?_).trans (congrArg x (funext fun a => Fin.ext ?_))
    · intro a
      match a with
      | ⟨0, _⟩ => exact ⟨Nat.zero_le _, by show 0 * 1 + (p 0).val - 0 < 1; omega⟩
      | ⟨1, _⟩ => exact ⟨Nat.zero_le _, by show h.val * 1 + (p 1).val - 0 < A; omega⟩
      | ⟨2, _⟩ => exact ⟨Nat.zero_le _, by show t.val * 1 + (p 2).val - 0 < B; omega⟩
      | ⟨3, _⟩ => exact ⟨by show M ≤ s.val * 1 + (p 3).val; omega, by show s.val * 1 + (p 3).val - M < N; omega⟩
    · match a with
      | ⟨0, _⟩ => show 0 * 1 + (p 0).val - 0 = 0; omega
      | ⟨1, _⟩ => show h.val * 1 + (p 1).val - 0 = h.val; omega
      | ⟨2, _⟩ => show t.val * 1 + (p 2).val - 0 = t.val; omega
      | ⟨3, _⟩ => show s.val * 1 + (p 3).val - M = s.val + (p 3).val - M; omega
  · rw [if_neg hc, EReal.coe_zero]
    refine dif_neg fun hin => hc ?_
    have h3 : M ≤ s.val * 1 + (p 3).val ∧ s.val * 1 + (p 3).val - M < N := hin 3
    omega

/-- A running sum from a position on, along the last of three axes. -/
theorem cumsum_from3 {M : ℕ} (x : FVec Ideal (⟨3, ![A, B, N]⟩ : Shape) .f32) (init : FVec Ideal ⟨0, ![]⟩ .f32) (hi : ∀ i, init i = (0 : EReal))
    (hw : (⟨3, ![A, B, N]⟩ : Shape).ReduceWindows ![1, 1, N] ![1, 1, 1] ![0, 0, 0] ![0, 0, M] (⟨3, ![A, B, N]⟩ : Shape))
    (hu : 0 < (⟨0, ![]⟩ : Shape).numel) (h : Fin A) (t : Fin B) (s : Fin N) (X : ℕ → ℝ) (hx : ∀ j : Fin N, x (ix3 h t j) = ((X j.val : ℝ) : EReal)) :
    Host.reduceWindowAdd ![1, 1, N] ![1, 1, 1] ![0, 0, 0] ![0, 0, M] x init hw hu (ix3 h t s) = ((∑ j ∈ Ico s.val N, X j : ℝ) : EReal) := by
  refine (foldl_sum _ _).trans ?_
  rw [hi, zero_add, ← sum_from X s.val s.isLt, ← coe_sum]
  refine (Finset.sum_congr rfl fun n _ => ?_).trans ((Equiv.sum_comp (Shape.rowMajor ⟨3, ![1, 1, N]⟩).symm (fun p : (⟨3, ![1, 1, N]⟩ : Shape).Idx => (((if s.val + (p 2).val < N then X (s.val + (p 2).val) else 0) : ℝ) : EReal))).trans (Equiv.sum_comp along3 _).symm)
  let p : Shape.Idx ⟨3, ![1, 1, N]⟩ := (Shape.rowMajor ⟨3, ![1, 1, N]⟩).symm n
  have p0 : (p 0).val < 1 := (p 0).isLt
  have p1 : (p 1).val < 1 := (p 1).isLt
  have hh := h.isLt
  have ht := t.isLt
  have hs := s.isLt
  have hk : (p 2).val < N := (p 2).isLt
  by_cases hc : s.val + (p 2).val < N
  · have hlt : s.val + (p 2).val < N := by omega
    rw [if_pos hc, ← hx ⟨s.val + (p 2).val, hlt⟩]
    refine (dif_pos ?_).trans (congrArg x (funext fun a => Fin.ext ?_))
    · intro a
      match a with
      | ⟨0, _⟩ => exact ⟨Nat.zero_le _, by show h.val * 1 + (p 0).val - 0 < A; omega⟩
      | ⟨1, _⟩ => exact ⟨Nat.zero_le _, by show t.val * 1 + (p 1).val - 0 < B; omega⟩
      | ⟨2, _⟩ => exact ⟨by show 0 ≤ s.val * 1 + (p 2).val; omega, by show s.val * 1 + (p 2).val - 0 < N; omega⟩
    · match a with
      | ⟨0, _⟩ => show h.val * 1 + (p 0).val - 0 = h.val; omega
      | ⟨1, _⟩ => show t.val * 1 + (p 1).val - 0 = t.val; omega
      | ⟨2, _⟩ => show s.val * 1 + (p 2).val - 0 = s.val + (p 2).val; omega
  · rw [if_neg hc, EReal.coe_zero]
    refine dif_neg fun hin => hc ?_
    have h3 : 0 ≤ s.val * 1 + (p 2).val ∧ s.val * 1 + (p 2).val - 0 < N := hin 2
    omega

end

end Cert.Proof

end
-- ==== Proof.RefIdeal.lean ====
module

public import proofs.«01_k».proof.Proof.Heads
public import proofs.«01_k».proof.Proof.CumSum
public import proofs.«01_k».proof.Proof.Gen.ReferenceIdeal.Run

/-
  The reference on the extended reals: at finite projections and a finite gradient, the three gradients it returns are
  the sums over all queries or all keys.
-/

@[expose] public section

set_option maxRecDepth 16384

noncomputable section

namespace Cert.Proof

open Cert.ReferenceIdeal Cert.ReferenceIdeal.Value Cert.ReferenceIdeal.Gen
open Idealize.ShloMosaic Idealize.ShloMosaic.TcCoe
open Finset (range Ico)

theorem ofBits_eighth' : Ideal.ofBits .f32 0x3E000000#32 = ((1 / 8 : ℝ) : EReal) := by
  simp [Ideal.ofBits, Ideal.ieee, -EReal.coe_mul]; norm_num

section
variable (V0 : Valuation τ sig (Elt Ideal)) (q k v d : ℕ → ℕ → ℝ)
  (hq : ∀ (t : Fin 8192) (c : Fin 512) (h : 512 + c.val < 2304), V0 (Proc.devRef .tc main_arg0) (ix2 t ⟨512 + c.val, h⟩) = ((q t.val c.val : ℝ) : EReal))
  (hk : ∀ (t : Fin 8192) (c : Fin 512) (h : 1024 + c.val < 2304), V0 (Proc.devRef .tc main_arg0) (ix2 t ⟨1024 + c.val, h⟩) = ((k t.val c.val : ℝ) : EReal))
  (hv : ∀ (t : Fin 8192) (c : Fin 512) (h : 1536 + c.val < 2304), V0 (Proc.devRef .tc main_arg0) (ix2 t ⟨1536 + c.val, h⟩) = ((v t.val c.val : ℝ) : EReal))
  (hd : ∀ (t : Fin 8192) (c : Fin 512), V0 (Proc.devRef .tc main_arg1) (ix2 t c) = ((d t.val c.val : ℝ) : EReal))

include hq in
theorem v10_at (h : Fin 8) (t : Fin 8192) (l : Fin 64) : res_main_v10 V0 (ix4 0 h t l) = ((q t.val (64 * h.val + l.val) : ℝ) : EReal) := by
  pointwise [res_main_v10, res_main_v3]
  rw [← show h.val * 64 + l.val = 64 * h.val + l.val by omega]
  refine Eq.trans (congrArg _ (congrArg (ix2 t) (Fin.ext ?_))) (hq t ⟨h.val * 64 + l.val, by omega⟩ (by dsimp only; omega))
  rfl

include hk in
theorem v11_at (h : Fin 8) (t : Fin 8192) (l : Fin 64) : res_main_v11 V0 (ix4 0 h t l) = ((k t.val (64 * h.val + l.val) : ℝ) : EReal) := by
  pointwise [res_main_v11, res_main_v3]
  rw [← show h.val * 64 + l.val = 64 * h.val + l.val by omega]
  refine Eq.trans (congrArg _ (congrArg (ix2 t) (Fin.ext ?_))) (hk t ⟨h.val * 64 + l.val, by omega⟩ (by dsimp only; omega))
  show _ = 1024 + (h.val * 64 + l.val); dsimp only; omega

include hv in
theorem v12_at (h : Fin 8) (t : Fin 8192) (l : Fin 64) : res_main_v12 V0 (ix4 0 h t l) = ((v t.val (64 * h.val + l.val) : ℝ) : EReal) := by
  pointwise [res_main_v12, res_main_v3]
  rw [← show h.val * 64 + l.val = 64 * h.val + l.val by omega]
  refine Eq.trans (congrArg _ (congrArg (ix2 t) (Fin.ext ?_))) (hv t ⟨h.val * 64 + l.val, by omega⟩ (by dsimp only; omega))
  show _ = 1536 + (h.val * 64 + l.val); dsimp only; omega

include hd in
theorem v41_at (h : Fin 8) (t : Fin 8192) (l : Fin 64) : res_main_v41 V0 (ix4 0 h t l) = ((d t.val (64 * h.val + l.val) : ℝ) : EReal) := by
  pointwise [res_main_v41]
  rw [← show h.val * 64 + l.val = 64 * h.val + l.val by omega]
  exact hd t ⟨h.val * 64 + l.val, by omega⟩

include hq hk in
theorem v15_at (h : Fin 8) (t s : Fin 8192) : res_main_v15 V0 (ix4 0 h t s) = ((zz q k h.val t.val s.val : ℝ) : EReal) := by
  pointwise [res_main_v15]
  simp only [v10_at V0 q hq, v11_at V0 k hk, ofBits_eighth', ← EReal.coe_mul, coe_sum]
  rfl

theorem v28_1_at (h : Fin 8) (t s : Fin 8192) : res_main_v28_1 V0 (ix4 0 h t s) = BitVec.ofBool (decide (s.val < t.val)) := by
  pointwise [res_main_v28_1, res_main_v25]
  have ht := t.isLt
  have hs := s.isLt
  rw [show IntOp.addi 0#32 (BitVec.ofNat 32 t.val) = BitVec.ofNat 32 t.val from BitVec.zero_add _]
  exact WordCmp.cmpi_slt_ofNat (by omega) (by omega)

theorem v34_1_at (h : Fin 8) (t s : Fin 8192) : res_main_v34_1 V0 (ix4 0 h t s) = BitVec.ofBool (decide (s.val < t.val)) := v28_1_at V0 h t s

include hq hk in
theorem call0_v0_at (h : Fin 8) (t s : Fin 8192) : res_main_call0_v0 V0 (ix4 0 h t s) = ((zz q k h.val t.val s.val : ℝ) : EReal) := by
  pointwise [res_main_call0_v0]
  rw [neg_neg, v15_at V0 q k hq hk]

include hq hk in
theorem call0_v1_at (h : Fin 8) (t s : Fin 8192) : res_main_call0_v1_0 V0 (ix4 0 h t s) = ((softplus (zz q k h.val t.val s.val) : ℝ) : EReal) := by
  pointwise [res_main_call0_v1_0, res_main_call0_call0_v3, res_main_call0_call0_cst]
  simp only [call0_v0_at V0 q k hq hk]
  exact softplus_coe _

include hq hk in
theorem call3_v0_at (h : Fin 8) (t s : Fin 8192) : res_main_call3_v0 V0 (ix4 0 h t s) = ((-zz q k h.val t.val s.val : ℝ) : EReal) := by
  pointwise [res_main_call3_v0]
  rw [v15_at V0 q k hq hk, EReal.coe_neg]

include hq hk in
theorem call3_v1_at (h : Fin 8) (t s : Fin 8192) : res_main_call3_v1_0 V0 (ix4 0 h t s) = ((softplus (-zz q k h.val t.val s.val) : ℝ) : EReal) := by
  pointwise [res_main_call3_v1_0, res_main_call3_call0_v3, res_main_call3_call0_cst]
  simp only [call3_v0_at V0 q k hq hk]
  exact softplus_coe _

include hq hk in
theorem v28_0_at (h : Fin 8) (t s : Fin 8192) : res_main_v28_0 V0 (ix4 0 h t s) = ((leave (zz q k h.val) t.val s.val : ℝ) : EReal) := by
  pointwise [res_main_v28_0]
  have e0 : id (constant (F := Ideal) S_ .f32 0#32) ix0 = ((0 : ℝ) : EReal) := by
    show constant (F := Ideal) S_ .f32 0#32 ix0 = _
    pointwise
    exact EReal.coe_zero.symm
  rw [v28_1_at, call0_v1_at V0 q k hq hk, e0, ← EReal.coe_neg, softplus_pos, select_dec]
  rfl

/-- The starting value of a running sum. -/
theorem zero_init : ∀ i, (broadcastInDim S_ ![] bcast_S_S_ (constant S_ .f32 0#32) : FVec Ideal S_ .f32) i = (0 : EReal) := by
  intro i
  pointwise

include hq hk in
theorem v33_at (h : Fin 8) (t s : Fin 8192) :
    res_main_v33 V0 (ix4 0 h t s) = ((Real.exp (lsp (zz q k h.val t.val s.val) + tailSum (zz q k h.val) t.val s.val) : ℝ) : EReal) := by
  have hs := s.isLt
  pointwise [res_main_v33]
  rw [cumsum_from4 (A := 8) (B := 8192) (N := 8192) (M := 8191) _ _ zero_init _ _ h t s (leave (zz q k h.val) t.val) (fun j => v28_0_at V0 q k hq hk h t j),
    v28_0_at V0 q k hq hk, call3_v1_at V0 q k hq hk, ← EReal.coe_neg, softplus_neg, ← EReal.coe_sub, ← EReal.coe_add, Ideal.exp_coe]
  unfold tailSum
  rw [Finset.sum_eq_sum_Ico_succ_bot hs, add_sub_cancel_left]

include hq hk in
theorem v34_at (h : Fin 8) (t s : Fin 8192) : res_main_v34_0 V0 (ix4 0 h t s) = ((att (zz q k h.val) t.val s.val : ℝ) : EReal) := by
  pointwise [res_main_v34_0]
  have e0 : id (constant (F := Ideal) S_ .f32 0#32) ix0 = ((0 : ℝ) : EReal) := by
    show constant (F := Ideal) S_ .f32 0#32 ix0 = _
    pointwise
    exact EReal.coe_zero.symm
  rw [v34_1_at, v33_at V0 q k hq hk, e0, select_dec]
  rfl

include hq hk hv hd in
theorem v46_at (h : Fin 8) (t s : Fin 8192) : res_main_v46 V0 (ix4 0 h t s) = ((dlog (zz q k h.val) (gg d v h.val) t.val s.val : ℝ) : EReal) := by
  pointwise [res_main_v46]
  simp only [v41_at V0 d hd, v12_at V0 v hv, v34_1_at, v33_at V0 q k hq hk, ← EReal.coe_mul, coe_sum, ← EReal.coe_zero, select_dec]
  refine congrArg _ ?_
  unfold dlog att gg
  by_cases h : s.val < t.val
  · simp only [if_pos h]
  · simp only [if_neg h, mul_zero]

include hq hk hv hd in
theorem v56_at (h : Fin 8) (t s : Fin 8192) : res_main_v56 V0 (ix4 0 h t s) = ((dz (zz q k h.val) (gg d v h.val) t.val s.val * (1 / 8) : ℝ) : EReal) := by
  have hs := s.isLt
  pointwise [res_main_v56]
  rw [cumsum_to4 (A := 8) (B := 8192) (N := 8192) (M := 8191) rfl _ _ zero_init _ _ h t s (dlog (zz q k h.val) (gg d v h.val) t.val) (fun j => v46_at V0 q k v d hq hk hv hd h t j),
    v46_at V0 q k v d hq hk hv hd, v28_1_at, call0_v0_at V0 q k hq hk, call0_v1_at V0 q k hq hk, call3_v0_at V0 q k hq hk, call3_v1_at V0 q k hq hk,
    ite_inf, ite_inf, ite_inf, ite_inf, ofBits_eighth']
  simp only [← EReal.coe_zero, ← EReal.coe_neg, ← EReal.coe_sub, ← EReal.coe_add, Ideal.exp_coe, select_dec, ← EReal.coe_mul]
  refine congrArg _ ?_
  rw [show -zz q k h.val t.val s.val - softplus (-zz q k h.val t.val s.val) = lsm (zz q k h.val t.val s.val) by
      rw [sub_eq_add_neg, softplus_neg]; unfold lsm; ring,
    show zz q k h.val t.val s.val - softplus (zz q k h.val t.val s.val) = lsp (zz q k h.val t.val s.val) by
      rw [sub_eq_add_neg, softplus_pos]; unfold lsm; ring, exp_lsm]
  refine congrArg (· * (1 / 8 : ℝ)) ?_
  unfold dz before
  by_cases h : s.val < t.val
  · simp only [if_pos h]
    rw [Finset.sum_range_succ]
    ring
  · simp only [if_neg h]
    unfold dlog att
    rw [if_neg h]
    ring

include hq hk hv hd in
/-- The gradient of the queries. -/
theorem dq_at (t : Fin 8192) (c : Fin 512) : (truncf .bf16 (shapeCast _ (transpose S1x8192x8x64 [0, 2, 1, 3] (Host.dotGeneral (φ₁ := .f32) (φ₂ := .f32) dot_S1x8x8192x8192_S1x8x8192x64_S1x8x8192x64_3_2_2_3_01_01 none (res_main_v56 V0) (res_main_v11 V0)) transposes_S1x8x8192x64_S1x8192x8x64_0_2_1_3) shapeCasts_S1x8192x8x64_S8192x512) bitsLt_bf16_f32 : FVec Ideal S8192x512 .bf16) (ix2 t c)
    = ((∑ s : Fin 8192, dz (zz q k (c.val / 64)) (gg d v (c.val / 64)) t.val s.val * (1 / 8) * k s.val c.val : ℝ) : EReal) := by
  pointwise
  simp only [v56_at V0 q k v d hq hk hv hd, v11_at V0 k hk, ← EReal.coe_mul, coe_sum, Nat.div_add_mod]

include hq hk hv hd in
/-- The gradient of the keys. -/
theorem dk_at (t : Fin 8192) (c : Fin 512) : (shapeCast _ (transpose S1x8192x8x64 [0, 2, 1, 3] (Host.dotGeneral (φ₁ := .f32) (φ₂ := .f32) dot_S1x8x8192x8192_S1x8x8192x64_S1x8x8192x64_2_2_3_3_01_01 none (res_main_v56 V0) (res_main_v10 V0)) transposes_S1x8x8192x64_S1x8192x8x64_0_2_1_3) shapeCasts_S1x8192x8x64_S8192x512 : FVec Ideal S8192x512 .f32) (ix2 t c)
    = ((∑ s : Fin 8192, dz (zz q k (c.val / 64)) (gg d v (c.val / 64)) s.val t.val * (1 / 8) * q s.val c.val : ℝ) : EReal) := by
  pointwise
  simp only [v56_at V0 q k v d hq hk hv hd, v10_at V0 q hq, ← EReal.coe_mul, coe_sum, Nat.div_add_mod]

include hq hk hv hd in
/-- The gradient of the values. -/
theorem dv_at (t : Fin 8192) (c : Fin 512) : (shapeCast _ (transpose S1x8192x8x64 [0, 2, 1, 3] (transpose S1x8x8192x64 [0, 1, 3, 2] (Host.dotGeneral (φ₁ := .f32) (φ₂ := .f32) dot_S1x8x8192x64_S1x8x8192x8192_S1x8x64x8192_2_2_3_3_01_01 none (res_main_v41 V0) (res_main_v34_0 V0)) transposes_S1x8x64x8192_S1x8x8192x64_0_1_3_2) transposes_S1x8x8192x64_S1x8192x8x64_0_2_1_3) shapeCasts_S1x8192x8x64_S8192x512 : FVec Ideal S8192x512 .f32) (ix2 t c)
    = ((∑ s : Fin 8192, d s.val c.val * att (zz q k (c.val / 64)) s.val t.val : ℝ) : EReal) := by
  pointwise
  simp only [v41_at V0 d hd, v34_at V0 q k hq hk, ← EReal.coe_mul, coe_sum, Nat.div_add_mod]

end

end Cert.Proof

end
-- ==== Proof.HostLine.lean ====
module

public import proofs.«01_k».proof.Proof.Run

/-
  What the host operations before the kernel leave in the three arrays the kernel reads besides the arguments: the saved
  running sums and the two triangles. Each stretch of operations is read by itself.
-/

@[expose] public section

set_option maxRecDepth 16384

noncomputable section

namespace Cert.Proof

open Cert.KernelIdeal Cert.KernelIdeal.Gen
open Idealize.ShloMosaic Idealize.ShloMosaic.TcCoe Idealize.ShloMosaic.StableHlo

variable {F : FTy → Type} [FloatOps F]

/-- The scores with their sign changed. -/
def hostNeg (a : Vec F S8192x2304 .bf16) : Vec F S8x8192x8192 .f32 :=
  let p : Vec F S8192x3x8x64 .f32 := shapeCast _ (extractStridedSlice S8192x1536 ![0, 512] (extf .f32 a bitsLt_bf16_f32) slices_S8192x2304_S8192x1536_0_512) shapeCasts_S8192x1536_S8192x3x8x64
  let q : Vec F S8x8192x64 .f32 := transpose S8x8192x64 [1, 0, 2] (shapeCast S8192x8x64 (extractStridedSlice S8192x1x8x64 ![0, 0, 0, 0] p slices_S8192x3x8x64_S8192x1x8x64_0_0_0_0) shapeCasts_S8192x1x8x64_S8192x8x64) transposes_S8192x8x64_S8x8192x64_1_0_2
  let k : Vec F S8x8192x64 .f32 := transpose S8x8192x64 [1, 0, 2] (shapeCast S8192x8x64 (extractStridedSlice S8192x1x8x64 ![0, 1, 0, 0] p slices_S8192x3x8x64_S8192x1x8x64_0_1_0_0) shapeCasts_S8192x1x8x64_S8192x8x64) transposes_S8192x8x64_S8x8192x64_1_0_2
  Host.negf (mulf (Host.dotGeneral (φ₁ := .f32) (φ₂ := .f32) dot_S8x8192x64_S8x8192x64_S8x8192x8192_2_2_1_1_0_0 none q k) (broadcastInDim S8x8192x8192 ![] bcast_S_S8x8192x8192 (constant S_ .f32 0x3E000000#32)))

/-- Which keys come before which query. -/
def hostMask : IVec S1x8192x8192 1 :=
  broadcastInDim S1x8192x8192 ![1, 2] bcast_S8192x8192_S1x8192x8192_1_2 (cmpi .slt (broadcastInDim S8192x8192 ![0, 1] bcast_S1x8192_S8192x8192_0_1 (broadcastInDim S1x8192 ![1] bcast_S8192_S1x8192_1 (iotaInDim S8192 32 0)))
    (broadcastInDim S8192x8192 ![0, 1] bcast_S8192x1_S8192x8192_0_1 (broadcastInDim S8192x1 ![0] bcast_S8192_S8192x1_0 (iotaInDim S8192 32 0))))

/-- The lower triangle. -/
def hostTri : Vec F S256x256 .bf16 :=
  uitofp .bf16 (cmpi .sgt (broadcastInDim S256x256 ![0, 1] bcast_S256x1_S256x256_0_1 (broadcastInDim S256x1 ![0] bcast_S256_S256x1_0 (iotaInDim S256 32 0)))
    (broadcastInDim S256x256 ![0, 1] bcast_S1x256_S256x256_0_1 (broadcastInDim S1x256 ![1] bcast_S256_S1x256_1 (iotaInDim S256 32 0))))

/-- The logarithm of the logistic function. -/
def hostLogSig (x : Vec F S8x8192x8192 .f32) : Vec F S8x8192x8192 .f32 :=
  let w : Vec F S8x8192x8192 .f32 := Host.negf x
  let z : Vec F S8x8192x8192 .f32 := broadcastInDim S8x8192x8192 ![] bcast_S_S8x8192x8192 (constant S_ .f32 0x00000000#32)
  Host.negf (select (cmpf .une (subf w z) (subf w z)) (addf w z) (addf (maximumf w z) (Host.log1p (Host.exp (Host.negf (Host.absf (subf w z)))))))

/-- What each key leaves to the keys before it. -/
def hostLeave (mask : IVec S1x8192x8192 1) (x : Vec F S8x8192x8192 .f32) : Vec F S8x8192x8192 .f32 :=
  select (broadcastInDim S8x8192x8192 ![0, 1, 2] bcast_S1x8192x8192_S8x8192x8192_0_1_2 mask) x (broadcastInDim S8x8192x8192 ![] bcast_S_S8x8192x8192 (id (constant S_ .f32 0x00000000#32)))

/-- Its running sum from the last key on. -/
def hostSum (x : Vec F S8x8192x8192 .f32) : Vec F S8x8192x8192 .f32 :=
  Host.reduceWindowAdd ![1, 1, 8192] ![1, 1, 1] ![0, 0, 0] ![0, 0, 8191] x (broadcastInDim S_ ![] bcast_S_S_ (constant S_ .f32 0x00000000#32)) reduceWindows_S8x8192x8192_S8x8192x8192_w1s1p0_0_w1s1p0_0_w8192s1p0_8191 h_S_

/-- The running sums at the blocks' ends, a block's in a lane. -/
def hostEnds (s x : Vec F S8x8192x8192 .f32) : Vec F S2x32x1024x32 .f32 :=
  let b : Vec F S2x4x32x256x32x256 .f32 := shapeCast _ (subf s x) shapeCasts_S8x8192x8192_S2x4x32x256x32x256
  let e : Vec F S2x4x32x256x32 .f32 := shapeCast _ (extractStridedSlice S2x4x32x256x32x1 ![0, 0, 0, 0, 0, 255] b slices_S2x4x32x256x32x256_S2x4x32x256x32x1_0_0_0_0_0_255) shapeCasts_S2x4x32x256x32x1_S2x4x32x256x32
  shapeCast _ (transpose S2x32x4x256x32 [0, 2, 1, 3, 4] e transposes_S2x4x32x256x32_S2x32x4x256x32_0_2_1_3_4) shapeCasts_S2x32x4x256x32_S2x32x1024x32

/-- Padded to the lanes. -/
def hostPad (x : Vec F S2x32x1024x32 .f32) (z : IVec S_ 32) : Vec F S2x32x1024x128 .f32 :=
  pad S2x32x1024x128 ![0, 0, 0, 0] ![0, 0, 0, 96] ![0, 0, 0, 0] x (sitofp .f32 z) pads_S2x32x1024x32_S2x32x1024x128_000_000_000_0960 h_S_

/-- The number of the query block in the last lane. -/
def hostLast (x : Vec F S2x32x1024x128 .f32) : Vec F S2x32x1024x128 .f32 :=
  select (cmpi .eq (iotaInDim S2x32x1024x128 32 3) (broadcastInDim S2x32x1024x128 ![] bcast_S_S2x32x1024x128 (constantI S_ 32 127#32)))
    (sitofp .f32 (muli (iotaInDim S2x32x1024x128 32 1) (broadcastInDim S2x32x1024x128 ![] bcast_S_S2x32x1024x128 (constantI S_ 32 1#32)))) x

variable (W : Valuation τ sig (Elt F))

theorem after_append (l₁ l₂ : List (HloOp τ sig (Elt F))) (V : Valuation τ sig (Elt F)) : after (l₁ ++ l₂) V = after l₂ (after l₁ V) := by
  induction l₁ generalizing V with
  | nil => rfl
  | cons op l ih => exact ih _

set_option maxHeartbeats 4000000

theorem line0_v26 : after hostOps0 W (Proc.devRef .tc main_v26) = hostNeg (W (Proc.devRef .tc main_arg0)) := by
  simp only [hostOps0]
  after_results_simp
  rfl

theorem line0_v25 : after hostOps0 W (Proc.devRef .tc main_v25) = hostMask := by
  simp only [hostOps0]
  after_results_simp
  rfl

theorem line0_v6 : after hostOps0 W (Proc.devRef .tc main_v6) = hostTri (F := F) := by
  simp only [hostOps0]
  after_results_simp
  rfl

theorem line1_v27 : after hostOps0_1 W (Proc.devRef .tc main_v27) = hostLogSig (W (Proc.devRef .tc main_v26)) := by
  simp only [hostOps0_1, TRef.binary, TRef.nullary, TRef.ternary, TRef.unary, TRef.toBuf, TRef.ofBuf, cast_eq]
  after_results_simp
  rfl

theorem line1_v25 : after hostOps0_1 W (Proc.devRef .tc main_v25) = W (Proc.devRef .tc main_v25) := by
  simp only [hostOps0_1, TRef.binary, TRef.nullary, TRef.ternary, TRef.unary, TRef.toBuf, TRef.ofBuf, cast_eq]
  after_results_simp

theorem line3_v28 : after hostOps0_3 (after hostOps0_2 W) (Proc.devRef .tc main_v28) = hostLeave (W (Proc.devRef .tc main_v25)) (W (Proc.devRef .tc main_v27)) := by
  simp only [hostOps0_2, hostOps0_3, TRef.binary, TRef.nullary, TRef.ternary, TRef.unary, TRef.toBuf, TRef.ofBuf, cast_eq]
  after_results_simp
  rfl

theorem line4_v29 : after hostOps0_4 W (Proc.devRef .tc main_v29) = hostSum (W (Proc.devRef .tc main_v28)) := by
  simp only [hostOps0_4, TRef.binary, TRef.nullary, TRef.ternary, TRef.unary, TRef.toBuf, TRef.ofBuf, cast_eq]
  after_results_simp
  rfl

theorem line4_v28 : after hostOps0_4 W (Proc.devRef .tc main_v28) = W (Proc.devRef .tc main_v28) := by
  simp only [hostOps0_4, TRef.binary, TRef.nullary, TRef.ternary, TRef.unary, TRef.toBuf, TRef.ofBuf, cast_eq]
  after_results_simp

theorem line5_v35 : after hostOps0_5 W (Proc.devRef .tc main_v35) = hostEnds (W (Proc.devRef .tc main_v29)) (W (Proc.devRef .tc main_v28)) := by
  simp only [hostOps0_5]
  after_results_simp
  rfl

theorem line5_c : after hostOps0_5 W (Proc.devRef .tc main_c) = (constantI S_ 32 0#32 : IVec S_ 32) := by
  simp only [hostOps0_5]
  after_results_simp

theorem line6_v36 : after hostOps0_6 W (Proc.devRef .tc main_v36) = hostPad (W (Proc.devRef .tc main_v35)) (W (Proc.devRef .tc main_c)) := by
  simp only [hostOps0_6, TRef.binary, TRef.nullary, TRef.ternary, TRef.unary, TRef.toBuf, TRef.ofBuf, cast_eq]
  after_results_simp
  rfl

theorem line8_v44 : after hostOps0_8 (after hostOps0_7 W) (Proc.devRef .tc main_v44) = hostLast (W (Proc.devRef .tc main_v36)) := by
  simp only [hostOps0_7, hostOps0_8, TRef.binary, TRef.nullary, TRef.ternary, TRef.unary, TRef.toBuf, TRef.ofBuf, cast_eq]
  after_results_simp
  rfl

theorem line9_v44 : after hostOps0_9 W (Proc.devRef .tc main_v44) = W (Proc.devRef .tc main_v44) := by
  simp only [hostOps0_9]
  after_results_simp

theorem line9_v6 : after hostOps0_9 W (Proc.devRef .tc main_v6) = W (Proc.devRef .tc main_v6) := by
  simp only [hostOps0_9]
  after_results_simp

theorem line9_v45 : after hostOps0_9 W (Proc.devRef .tc main_v45) = (transpose S256x256 [1, 0] (W (Proc.devRef .tc main_v6) : Vec F S256x256 .bf16) transposes_S256x256_S256x256_1_0 : Vec F S256x256 .bf16) := by
  simp only [hostOps0_9]
  after_results_simp

/-- The stretches between leave the triangle alone. -/
theorem mid_v6 : after hostOps0_8 (after hostOps0_7 (after hostOps0_6 (after hostOps0_5 (after hostOps0_4 (after hostOps0_3 (after hostOps0_2 (after hostOps0_1 W))))))) (Proc.devRef .tc main_v6)
    = W (Proc.devRef .tc main_v6) := by
  simp only [hostOps0_1, hostOps0_2, hostOps0_3, hostOps0_4, hostOps0_5, hostOps0_6, hostOps0_7, hostOps0_8, TRef.binary, TRef.nullary, TRef.ternary, TRef.unary, TRef.toBuf, TRef.ofBuf, cast_eq]
  after_results_simp

variable (m : (ℓ : Loc nD τ sig) → Buf (Elt F) ℓ)

/-- The line as its stretches. -/
theorem V_split (c : Dev nD) (b : Ref sig .tc) : V m c b = after hostOps0_9 (after hostOps0_8 (after hostOps0_7 (after hostOps0_6 (after hostOps0_5 (after hostOps0_4 (after hostOps0_3
    (after hostOps0_2 (after hostOps0_1 (after hostOps0 (fun b => m (c, b))))))))))) (Proc.devRef .tc b) := by
  unfold V
  simp only [List.flatten_cons, List.flatten_nil, List.append_nil, after_append]

/-- The saved running sums. -/
theorem V_v44 (c : Dev nD) : V m c main_v44 =
    (hostLast (hostPad (hostEnds (hostSum (hostLeave hostMask (hostLogSig (hostNeg (m ((c : Thread nD τ).loc main_arg0))))))
      (hostLeave hostMask (hostLogSig (hostNeg (m ((c : Thread nD τ).loc main_arg0)))))) (constantI S_ 32 0#32)) : Vec F S2x32x1024x128 .f32) := by
  rw [V_split, line9_v44, line8_v44, line6_v36, line5_v35, line5_c, line4_v29, line4_v28, line3_v28, line1_v27, line1_v25, line0_v26, line0_v25]

/-- The triangle. -/
theorem V_v6 (c : Dev nD) : V m c main_v6 = (hostTri : Vec F S256x256 .bf16) := by
  rw [V_split, line9_v6, mid_v6, line0_v6]

/-- The triangle transposed. -/
theorem V_v45 (c : Dev nD) : V m c main_v45 = (transpose S256x256 [1, 0] (hostTri : Vec F S256x256 .bf16) transposes_S256x256_S256x256_1_0 : Vec F S256x256 .bf16) := by
  rw [V_split, line9_v45, mid_v6, line0_v6]

end Cert.Proof

end
-- ==== Proof.HostIdeal.lean ====
module

public import proofs.«01_k».proof.Proof.HostLine
public import proofs.«01_k».proof.Proof.Heads
public import proofs.«01_k».proof.Proof.CumSum

/-
  What the host operations leave, on the extended reals: the triangles hold zeros and ones; the saved sums of a block are
  what the keys after it leave, and the last lane holds the query block's number.
-/

@[expose] public section

set_option maxRecDepth 16384

noncomputable section

namespace Cert.Proof

open Cert.KernelIdeal Cert.KernelIdeal.Gen
open Idealize.ShloMosaic Idealize.ShloMosaic.TcCoe
open Finset (range Ico)

theorem ofBits_eighth'' : Ideal.ofBits .f32 0x3E000000#32 = ((1 / 8 : ℝ) : EReal) := by
  simp [Ideal.ofBits, Ideal.ieee, -EReal.coe_mul]; norm_num

/-- The lower triangle holds one where the row is after the column. -/
theorem hostTri_at (a b : Fin 256) : hostTri (F := Ideal) (ix2 a b) = (((if b.val < a.val then 1 else 0) : ℝ) : EReal) := by
  have ha := a.isLt
  have hb := b.isLt
  pointwise [hostTri]
  rw [WordCmp.cmpi_sgt_ofNat (by omega) (by omega)]
  by_cases h : b.val < a.val
  · rw [if_pos h, decide_eq_true h]
    show (((1 : ℕ) : ℝ) : EReal) = _
    rw [Nat.cast_one]
  · rw [if_neg h, decide_eq_false h]
    show (((0 : ℕ) : ℝ) : EReal) = _
    rw [Nat.cast_zero]

/-- Transposed, where the row is before the column. -/
theorem hostTrit_at (a b : Fin 256) : (transpose S256x256 [1, 0] (hostTri : Vec Ideal S256x256 .bf16) transposes_S256x256_S256x256_1_0 : Vec Ideal S256x256 .bf16) (ix2 a b)
    = (((if a.val < b.val then 1 else 0) : ℝ) : EReal) := by
  pointwise
  exact hostTri_at b a

theorem hostMask_at (t s : Fin 8192) : hostMask (ix3 0 t s) = BitVec.ofBool (decide (s.val < t.val)) := by
  have ht := t.isLt
  have hs := s.isLt
  pointwise [hostMask]
  exact WordCmp.cmpi_slt_ofNat (by omega) (by omega)

section
variable (a : Vec Ideal S8192x2304 .bf16) (q k : ℕ → ℕ → ℝ)
  (hq : ∀ (t : Fin 8192) (c : Fin 512) (h : 512 + c.val < 2304), a (ix2 t ⟨512 + c.val, h⟩) = ((q t.val c.val : ℝ) : EReal))
  (hk : ∀ (t : Fin 8192) (c : Fin 512) (h : 1024 + c.val < 2304), a (ix2 t ⟨1024 + c.val, h⟩) = ((k t.val c.val : ℝ) : EReal))

include hq hk in
theorem hostNeg_at (h : Fin 8) (t s : Fin 8192) : hostNeg a (ix3 h t s) = ((-zz q k h.val t.val s.val : ℝ) : EReal) := by
  pointwise [hostNeg]
  have eq : ∀ x : Fin 64, a (ix2 t ⟨512 + (h.val * 64 + x.val), by omega⟩) = ((q t.val (64 * h.val + x.val) : ℝ) : EReal) := fun x => by
    rw [← show h.val * 64 + x.val = 64 * h.val + x.val by omega]
    exact hq t ⟨h.val * 64 + x.val, by omega⟩ (by dsimp only; omega)
  have ek : ∀ x : Fin 64, a (ix2 s ⟨512 + (512 + h.val * 64 + x.val), by omega⟩) = ((k s.val (64 * h.val + x.val) : ℝ) : EReal) := fun x => by
    rw [← show h.val * 64 + x.val = 64 * h.val + x.val by omega, ← hk s ⟨h.val * 64 + x.val, by omega⟩ (by dsimp only; omega)]
    exact congrArg a (congrArg (ix2 s) (Fin.ext (by show 512 + (512 + h.val * 64 + x.val) = 1024 + (h.val * 64 + x.val); omega)))
  simp only [eq, ek, ofBits_eighth'', ← EReal.coe_mul, coe_sum, ← EReal.coe_neg]
  rfl

include hq hk in
theorem hostLogSig_at (h : Fin 8) (t s : Fin 8192) : hostLogSig (hostNeg a) (ix3 h t s) = ((lsm (zz q k h.val t.val s.val) : ℝ) : EReal) := by
  pointwise [hostLogSig]
  simp only [hostNeg_at a q k hq hk, ← EReal.coe_neg, neg_neg, softplus_coe, softplus_pos]

include hq hk in
theorem hostLeave_at (h : Fin 8) (t s : Fin 8192) : hostLeave hostMask (hostLogSig (hostNeg a)) (ix3 h t s) = ((leave (zz q k h.val) t.val s.val : ℝ) : EReal) := by
  pointwise [hostLeave]
  have e0 : id (constant (F := Ideal) S_ .f32 0#32) ix0 = ((0 : ℝ) : EReal) := by
    show constant (F := Ideal) S_ .f32 0#32 ix0 = _
    pointwise
    exact EReal.coe_zero.symm
  rw [hostMask_at, hostLogSig_at a q k hq hk, e0, select_dec]
  rfl

/-- The starting value of a running sum. -/
theorem zero_start : ∀ i, (broadcastInDim S_ ![] bcast_S_S_ (constant S_ .f32 0x00000000#32) : FVec Ideal S_ .f32) i = (0 : EReal) := by
  intro i
  pointwise

include hq hk in
theorem hostSum_at (h : Fin 8) (t s : Fin 8192) : hostSum (hostLeave hostMask (hostLogSig (hostNeg a))) (ix3 h t s) = ((∑ j ∈ Ico s.val 8192, leave (zz q k h.val) t.val j : ℝ) : EReal) := by
  unfold hostSum
  exact cumsum_from3 (A := 8) (B := 8192) (N := 8192) (M := 8191) _ _ zero_start _ _ h t s (leave (zz q k h.val) t.val) (fun j => hostLeave_at a q k hq hk h t j)

include hq hk in
theorem hostEnds_at (p : Fin 2) (i : Fin 32) (r : Fin 1024) (b : Fin 32) :
    hostEnds (hostSum (hostLeave hostMask (hostLogSig (hostNeg a)))) (hostLeave hostMask (hostLogSig (hostNeg a))) (ix4 p i r b)
      = ((tailSum (zz q k (4 * p.val + r.val / 256)) (256 * i.val + r.val % 256) (256 * b.val + 255) : ℝ) : EReal) := by
  have hb := b.isLt
  pointwise [hostEnds]
  rw [hostSum_at a q k hq hk, hostLeave_at a q k hq hk, ← EReal.coe_sub, Finset.sum_eq_sum_Ico_succ_bot (by show b.val * 256 + 255 < 8192; omega), add_sub_cancel_left]
  show ((∑ j ∈ Ico (b.val * 256 + 255 + 1) 8192, leave (zz q k (p.val * 4 + r.val / 256)) (i.val * 256 + r.val % 256) j : ℝ) : EReal) = _
  rw [mul_comm p.val, mul_comm i.val, mul_comm b.val]
  rfl

/-- The saved sums. -/
def savedSums (a : Vec Ideal S8192x2304 .bf16) : Vec Ideal S2x32x1024x128 .f32 :=
  hostLast (hostPad (hostEnds (hostSum (hostLeave hostMask (hostLogSig (hostNeg a)))) (hostLeave hostMask (hostLogSig (hostNeg a)))) (constantI S_ 32 0#32))

include hq hk in
/-- A block's saved sum is what the keys after it leave. -/
theorem saved_at (p : Fin 2) (i : Fin 32) (r : Fin 1024) (b : Fin 128) (hb : b.val < 32) :
    savedSums a (ix4 p i r b) = ((tailSum (zz q k (4 * p.val + r.val / 256)) (256 * i.val + r.val % 256) (256 * b.val + 255) : ℝ) : EReal) := by
  pointwise [savedSums, hostLast]
  rw [show (127#32) = BitVec.ofNat 32 127 from rfl, WordCmp.cmpi_eq_ofNat (by omega) (by omega), decide_eq_false (by omega)]
  show hostPad _ _ (ix4 p i r b) = _
  pointwise [hostPad]
  rw [dif_pos hb]
  exact hostEnds_at a q k hq hk p i r ⟨b.val, hb⟩

/-- The last lane holds the query block's number. -/
theorem last_at (p : Fin 2) (i : Fin 32) (r : Fin 1024) : savedSums a (ix4 p i r 127) = ((i.val : ℝ) : EReal) := by
  have hi := i.isLt
  pointwise [savedSums, hostLast]
  have e : ∀ i : Fin 32, (IntOp.muli (BitVec.ofNat 32 i.val) 1#32).toInt = (i.val : ℤ) := by decide
  have e' : ∀ w : BitVec 32, (FloatOps.sitofp .f32 w : Ideal .f32) = ((w.toInt : ℝ) : EReal) := fun _ => rfl
  refine (e' _).trans ?_
  rw [e, Int.cast_natCast]

end

end Cert.Proof

end
-- ==== Proof.PastIdeal.lean ====
module

public import proofs.«01_k».proof.Proof.Block
public import proofs.«01_k».proof.Proof.Reals

/-
  One key block on the extended reals, every operand a real number: each value the block computes is the real number the
  formulas say.
-/

@[expose] public section

set_option maxRecDepth 16384

noncomputable section

namespace Cert.Proof

open Cert.KernelIdeal Cert.KernelIdeal.Gen
open Idealize.ShloMosaic Idealize.ShloMosaic.TcCoe

/-- A block's products of rows. -/
def bDot (Q : Fin 1024 → Fin 256 → ℝ) (K : Fin 256 → Fin 256 → ℝ) (r : Fin 1024) (c : Fin 256) : ℝ := ∑ l : Fin 256, Q r l * K c l

/-- The sum, in a block, over the columns after `c`. -/
def bAfter (f : Fin 1024 → Fin 256 → ℝ) (r : Fin 1024) (c : Fin 256) : ℝ := ∑ a : Fin 256, f r a * (if c.val < a.val then 1 else 0)

/-- The sum, in a block, over the columns before `c`. -/
def bBefore (f : Fin 1024 → Fin 256 → ℝ) (r : Fin 1024) (c : Fin 256) : ℝ := ∑ a : Fin 256, f r a * (if a.val < c.val then 1 else 0)

/-- A block's weights. -/
def bAtt (Z : Fin 1024 → Fin 256 → ℝ) (R : Fin 1024 → ℝ) (r : Fin 1024) (c : Fin 256) : ℝ :=
  Real.exp (lsp (Z r c) + bAfter (fun r a => lsm (Z r a)) r c + R r)

/-- The gradient of the logarithms of a block's weights. -/
def bDl (Z G : Fin 1024 → Fin 256 → ℝ) (R : Fin 1024 → ℝ) (r : Fin 1024) (c : Fin 256) : ℝ := G r c * bAtt Z R r c

/-- The gradient of a block's scores. -/
def bDz (Z G : Fin 1024 → Fin 256 → ℝ) (R P : Fin 1024 → ℝ) (r : Fin 1024) (c : Fin 256) : ℝ :=
  bDl Z G R r c * (1 - Real.exp (lsp (Z r c))) - Real.exp (lsp (Z r c)) * (P r + bBefore (bDl Z G R) r c)

section
variable (q2 d2 : FVec Ideal S1024x256 .bf16) (tri trit : FVec Ideal S256x256 .bf16) (k v : Vec Ideal S256x256 .bf16)
  (pre run : FVec Ideal S1024x1 .f32)
  (Q D : Fin 1024 → Fin 256 → ℝ) (K V : Fin 256 → Fin 256 → ℝ) (P R : Fin 1024 → ℝ)
  (hq : ∀ r l, q2 (ix2 r l) = ((Q r l : ℝ) : EReal)) (hd : ∀ r l, d2 (ix2 r l) = ((D r l : ℝ) : EReal))
  (hk : ∀ c l, k (ix2 c l) = ((K c l : ℝ) : EReal)) (hv : ∀ c l, v (ix2 c l) = ((V c l : ℝ) : EReal))
  (htri : ∀ a c : Fin 256, tri (ix2 a c) = (((if c.val < a.val then 1 else 0) : ℝ) : EReal))
  (htrit : ∀ a c : Fin 256, trit (ix2 a c) = (((if a.val < c.val then 1 else 0) : ℝ) : EReal))
  (hpre : ∀ r, pre (ix2 r 0) = ((P r : ℝ) : EReal)) (hrun : ∀ r, run (ix2 r 0) = ((R r : ℝ) : EReal))

include hq hk in
theorem pay28_at (r : Fin 1024) (c : Fin 256) : k0_pay28 q2 k (ix2 r c) = ((bDot Q K r c : ℝ) : EReal) := by
  pointwise [k0_pay28]
  simp only [hq, hk, ← EReal.coe_mul, coe_sum, zero_add]
  rfl

include hq hk in
theorem pay29_at (r : Fin 1024) (c : Fin 256) : k0_pay29 q2 k (ix2 r c) = ((lsp (bDot Q K r c) : ℝ) : EReal) := by
  have h := pay28_at q2 k Q K hq hk r c
  pointwise [k0_pay29]
  simp only [h, absf_coe, ← EReal.coe_zero, ← EReal.coe_one, ← EReal.coe_sub, Ideal.exp_coe, ← EReal.coe_add, coe_log _ (one_add_exp_pos _), coe_min, zero_sub]
  rfl

include hq hk htri in
theorem pay31_at (r : Fin 1024) (c : Fin 256) :
    k0_pay31 q2 tri k (ix2 r c) = ((lsp (bDot Q K r c) + bAfter (fun r a => lsm (bDot Q K r a)) r c : ℝ) : EReal) := by
  have h := pay28_at q2 k Q K hq hk r
  have h' := pay29_at q2 k Q K hq hk r
  pointwise [k0_pay31]
  simp only [h, h', htri, ← EReal.coe_sub, ← EReal.coe_mul, coe_sum, ← EReal.coe_add, zero_add]
  rfl

include hq hk htri hrun in
theorem pay32_at (r : Fin 1024) (c : Fin 256) : k0_pay32 run (k0_pay31 q2 tri k) (ix2 r c) = ((bAtt (bDot Q K) R r c : ℝ) : EReal) := by
  have h := pay31_at q2 tri k Q K hq hk htri r c
  pointwise [k0_pay32]
  simp only [h, hrun, ← EReal.coe_add, Ideal.exp_coe]
  rfl

include hq hd hk hv htri hrun in
theorem pay33_at (r : Fin 1024) (c : Fin 256) :
    k0_pay33 d2 v run (k0_pay31 q2 tri k) (ix2 r c) = ((bDl (bDot Q K) (bDot D V) R r c : ℝ) : EReal) := by
  have h := pay32_at q2 tri k run Q K R hq hk htri hrun r c
  pointwise [k0_pay33]
  simp only [h, hd, hv, ← EReal.coe_mul, coe_sum, zero_add]
  rfl

include hq hd hk hv htri htrit hrun in
theorem pay34_at (r : Fin 1024) (c : Fin 256) :
    k0_pay34 d2 trit v run (k0_pay31 q2 tri k) (ix2 r c) = ((bBefore (bDl (bDot Q K) (bDot D V) R) r c : ℝ) : EReal) := by
  have h := pay33_at q2 d2 tri k v run Q D K V R hq hd hk hv htri hrun r
  pointwise [k0_pay34]
  simp only [h, htrit, ← EReal.coe_mul, coe_sum, zero_add]
  rfl

include hq hd hk hv htri htrit hpre hrun in
theorem pay35_at (r : Fin 1024) (c : Fin 256) :
    k0_pay35 d2 trit pre v (k0_pay29 q2 k) run (k0_pay31 q2 tri k) (ix2 r c) = ((bDz (bDot Q K) (bDot D V) R P r c : ℝ) : EReal) := by
  have h := pay33_at q2 d2 tri k v run Q D K V R hq hd hk hv htri hrun r c
  have h' := pay34_at q2 d2 tri trit k v run Q D K V R hq hd hk hv htri htrit hrun r c
  have h'' := pay29_at q2 k Q K hq hk r c
  pointwise [k0_pay35]
  simp only [h, h', h'', hpre, ← EReal.coe_one, ← EReal.coe_sub, ← EReal.coe_mul, ← EReal.coe_add, Ideal.exp_coe]
  rfl

include hq hd hk hv htri htrit hpre hrun in
/-- The stacked gradient of the queries after a block. -/
theorem pay36_at (x : FVec Ideal S1024x256 .f32) (X : Fin 1024 → Fin 256 → ℝ) (hx : ∀ r l, x (ix2 r l) = ((X r l : ℝ) : EReal)) (r : Fin 1024) (l : Fin 256) :
    k0_pay36 d2 trit pre k v (k0_pay29 q2 k) run (k0_pay31 q2 tri k) x (ix2 r l)
      = ((X r l + ∑ c : Fin 256, bDz (bDot Q K) (bDot D V) R P r c * K c l : ℝ) : EReal) := by
  have h := pay35_at q2 d2 tri trit k v pre run Q D K V P R hq hd hk hv htri htrit hpre hrun r
  pointwise [k0_pay36]
  simp only [h, hx, hk, ← EReal.coe_mul, ← EReal.coe_add, coe_sum, zero_add]

include hq hd hk hv htri htrit hpre hrun in
/-- The gradient of a block's keys after it. -/
theorem pay37_at (x : Vec Ideal S256x256 .f32) (c l : Fin 256) :
    k0_pay37 q2 d2 trit pre v (k0_pay29 q2 k) run (k0_pay31 q2 tri k) x (ix2 c l)
      = (x (ix2 c l) : EReal) + ((∑ r : Fin 1024, bDz (bDot Q K) (bDot D V) R P r c * Q r l : ℝ) : EReal) := by
  have h := fun r => pay35_at q2 d2 tri trit k v pre run Q D K V P R hq hd hk hv htri htrit hpre hrun r c
  pointwise [k0_pay37]
  simp only [h, hq, ← EReal.coe_mul, ← EReal.coe_add, coe_sum, zero_add]

include hq hd hk htri hrun in
/-- The gradient of a block's values after it. -/
theorem pay38_at (x : Vec Ideal S256x256 .f32) (c l : Fin 256) :
    k0_pay38 d2 run (k0_pay31 q2 tri k) x (ix2 c l) = (x (ix2 c l) : EReal) + ((∑ r : Fin 1024, bAtt (bDot Q K) R r c * D r l : ℝ) : EReal) := by
  have h := fun r => pay32_at q2 tri k run Q K R hq hk htri hrun r c
  pointwise [k0_pay38]
  simp only [h, hd, ← EReal.coe_mul, ← EReal.coe_add, coe_sum, zero_add]

include hq hd hk hv htri htrit hpre hrun in
/-- The running sum after a block. -/
theorem pay39_at (r : Fin 1024) :
    k0_pay39 d2 trit pre v run (k0_pay31 q2 tri k) (ix2 r 0)
      = ((P r + bBefore (bDl (bDot Q K) (bDot D V) R) r 255 + bDl (bDot Q K) (bDot D V) R r 255 : ℝ) : EReal) := by
  have h := pay33_at q2 d2 tri k v run Q D K V R hq hd hk hv htri hrun r 255
  have h' := pay34_at q2 d2 tri trit k v run Q D K V R hq hd hk hv htri htrit hrun r 255
  pointwise [k0_pay39]
  erw [h, h', hpre]
  simp only [← EReal.coe_add]

end

end Cert.Proof

end
-- ==== Proof.OwnIdeal.lean ====
module

public import proofs.«01_k».proof.Proof.PastIdeal

/-
  The queries' own key block on the extended reals, every operand a real number: the same formulas, masked to the keys
  strictly before each query.
-/

@[expose] public section

set_option maxRecDepth 16384

noncomputable section

namespace Cert.Proof

open Cert.KernelIdeal Cert.KernelIdeal.Gen
open Idealize.ShloMosaic Idealize.ShloMosaic.TcCoe

/-- Row `r` holds query `r mod 256` of its block: column `c` is strictly before it. -/
def own (r : Fin 1024) (c : Fin 256) : Prop := c.val < r.val % 256

instance (r : Fin 1024) (c : Fin 256) : Decidable (own r c) := by unfold own; infer_instance

theorem mask_word : ∀ r : Fin 1024, IntOp.andi (BitVec.ofNat 32 r.val) 255#32 = BitVec.ofNat 32 (r.val % 256) := by decide +kernel

theorem pay52_at (r : Fin 1024) (c : Fin 256) : k0_pay52 (ix2 r c) = if own r c then 1#1 else 0#1 := by
  pointwise [k0_pay52]
  have hr := Nat.mod_lt r.val (show 0 < 256 by decide)
  have hc := c.isLt
  rw [mask_word r, show IntOp.addi (BitVec.ofNat 32 c.val) 0#32 = BitVec.ofNat 32 c.val from BitVec.add_zero _, WordCmp.cmpi_slt_ofNat (by omega) (by omega)]
  by_cases h : own r c
  · rw [if_pos h, decide_eq_true (show c.val < r.val % 256 from h)]; rfl
  · rw [if_neg h, decide_eq_false (show ¬c.val < r.val % 256 from h)]; rfl

/-- The block's weights. -/
def oAtt (Z : Fin 1024 → Fin 256 → ℝ) (R : Fin 1024 → ℝ) (r : Fin 1024) (c : Fin 256) : ℝ :=
  if own r c then Real.exp (lsp (Z r c) + bAfter (fun r a => if own r a then lsm (Z r a) else 0) r c + R r) else 0

/-- The gradient of the logarithms of the block's weights. -/
def oDl (Z G : Fin 1024 → Fin 256 → ℝ) (R : Fin 1024 → ℝ) (r : Fin 1024) (c : Fin 256) : ℝ := G r c * oAtt Z R r c

/-- The gradient of the block's scores. -/
def oDz (Z G : Fin 1024 → Fin 256 → ℝ) (R P : Fin 1024 → ℝ) (r : Fin 1024) (c : Fin 256) : ℝ :=
  if own r c then oDl Z G R r c * (1 - Real.exp (lsp (Z r c))) - Real.exp (lsp (Z r c)) * (P r + bBefore (oDl Z G R) r c) else 0

theorem select_real (p : Prop) [Decidable p] (a b : ℝ) :
    Scalar.select (if p then 1#1 else 0#1) (a : EReal) (b : EReal) = (((if p then a else b) : ℝ) : EReal) := by
  by_cases h : p
  · simp only [if_pos h]; rfl
  · simp only [if_neg h]; rfl

section
variable (q2 d2 : FVec Ideal S1024x256 .bf16) (tri trit : FVec Ideal S256x256 .bf16) (k v : Vec Ideal S256x256 .bf16)
  (pre run : FVec Ideal S1024x1 .f32)
  (Q D : Fin 1024 → Fin 256 → ℝ) (K V : Fin 256 → Fin 256 → ℝ) (P R : Fin 1024 → ℝ)
  (hq : ∀ r l, q2 (ix2 r l) = ((Q r l : ℝ) : EReal)) (hd : ∀ r l, d2 (ix2 r l) = ((D r l : ℝ) : EReal))
  (hk : ∀ c l, k (ix2 c l) = ((K c l : ℝ) : EReal)) (hv : ∀ c l, v (ix2 c l) = ((V c l : ℝ) : EReal))
  (htri : ∀ a c : Fin 256, tri (ix2 a c) = (((if c.val < a.val then 1 else 0) : ℝ) : EReal))
  (htrit : ∀ a c : Fin 256, trit (ix2 a c) = (((if a.val < c.val then 1 else 0) : ℝ) : EReal))
  (hpre : ∀ r, pre (ix2 r 0) = ((P r : ℝ) : EReal)) (hrun : ∀ r, run (ix2 r 0) = ((R r : ℝ) : EReal))

include hq hk in
theorem pay50_at (r : Fin 1024) (c : Fin 256) : k0_pay50 q2 k (ix2 r c) = ((bDot Q K r c : ℝ) : EReal) := pay28_at q2 k Q K hq hk r c

include hq hk in
theorem pay51_at (r : Fin 1024) (c : Fin 256) : k0_pay51 q2 k (ix2 r c) = ((lsp (bDot Q K r c) : ℝ) : EReal) := pay29_at q2 k Q K hq hk r c

include hq hk htri in
theorem pay53_at (r : Fin 1024) (c : Fin 256) :
    k0_pay53 q2 tri k (ix2 r c) = ((bAfter (fun r a => if own r a then lsm (bDot Q K r a) else 0) r c : ℝ) : EReal) := by
  have h := pay50_at q2 k Q K hq hk r
  have h' := pay51_at q2 k Q K hq hk r
  pointwise [k0_pay53]
  simp only [h, h', htri, pay52_at, ← EReal.coe_zero, ← EReal.coe_sub, select_real, ← EReal.coe_mul, coe_sum, ← EReal.coe_add, zero_add]
  refine congrArg _ (Finset.sum_congr rfl fun a _ => ?_)
  by_cases ho : own r a
  · simp only [if_pos ho]; rfl
  · simp only [if_neg ho, zero_mul]

include hq hk htri hrun in
theorem pay55_at (r : Fin 1024) (c : Fin 256) :
    k0_pay55 (k0_pay51 q2 k) k0_pay52 (k0_pay53 q2 tri k) run (ix2 r c) = ((oAtt (bDot Q K) R r c : ℝ) : EReal) := by
  have h := pay51_at q2 k Q K hq hk r c
  have h' := pay53_at q2 tri k Q K hq hk htri r c
  pointwise [k0_pay55]
  simp only [h, h', pay52_at, ← EReal.coe_zero, hrun, ← EReal.coe_add, Ideal.exp_coe, select_real]
  rfl

include hq hd hk hv htri htrit hpre hrun in
theorem pay56_at (r : Fin 1024) (c : Fin 256) :
    k0_pay56 d2 trit pre v (k0_pay51 q2 k) k0_pay52 (k0_pay53 q2 tri k) run (ix2 r c) = ((oDz (bDot Q K) (bDot D V) R P r c : ℝ) : EReal) := by
  have h := pay55_at q2 tri k run Q K R hq hk htri hrun r
  have h'' := pay51_at q2 k Q K hq hk r c
  pointwise [k0_pay56]
  simp only [h, h'', hd, hv, htrit, hpre, pay52_at, ← EReal.coe_zero, ← EReal.coe_one, ← EReal.coe_sub, ← EReal.coe_mul, coe_sum, ← EReal.coe_add, Ideal.exp_coe,
    select_real, zero_add]
  rfl

include hq hd hk hv htri htrit hpre hrun in
/-- The stacked gradient of the queries after the block. -/
theorem pay57_at (x : FVec Ideal S1024x256 .f32) (X : Fin 1024 → Fin 256 → ℝ) (hx : ∀ r l, x (ix2 r l) = ((X r l : ℝ) : EReal)) (r : Fin 1024) (l : Fin 256) :
    k0_pay57 d2 trit pre k v (k0_pay51 q2 k) k0_pay52 (k0_pay53 q2 tri k) run x (ix2 r l)
      = ((X r l + ∑ c : Fin 256, oDz (bDot Q K) (bDot D V) R P r c * K c l : ℝ) : EReal) := by
  have h := pay56_at q2 d2 tri trit k v pre run Q D K V P R hq hd hk hv htri htrit hpre hrun r
  pointwise [k0_pay57]
  simp only [h, hx, hk, ← EReal.coe_mul, ← EReal.coe_add, coe_sum, zero_add]

include hq hd hk hv htri htrit hpre hrun in
/-- The gradient of the block's keys after it. -/
theorem pay58_at (x : Vec Ideal S256x256 .f32) (c l : Fin 256) :
    k0_pay58 q2 d2 trit pre v (k0_pay51 q2 k) k0_pay52 (k0_pay53 q2 tri k) run x (ix2 c l)
      = (x (ix2 c l) : EReal) + ((∑ r : Fin 1024, oDz (bDot Q K) (bDot D V) R P r c * Q r l : ℝ) : EReal) := by
  have h := fun r => pay56_at q2 d2 tri trit k v pre run Q D K V P R hq hd hk hv htri htrit hpre hrun r c
  pointwise [k0_pay58]
  simp only [h, hq, ← EReal.coe_mul, ← EReal.coe_add, coe_sum, zero_add]

include hq hd hk htri hrun in
/-- The gradient of the block's values after it. -/
theorem pay59_at (x : Vec Ideal S256x256 .f32) (c l : Fin 256) :
    k0_pay59 d2 (k0_pay51 q2 k) k0_pay52 (k0_pay53 q2 tri k) run x (ix2 c l)
      = (x (ix2 c l) : EReal) + ((∑ r : Fin 1024, oAtt (bDot Q K) R r c * D r l : ℝ) : EReal) := by
  have h := fun r => pay55_at q2 tri k run Q K R hq hk htri hrun r c
  pointwise [k0_pay59]
  simp only [h, hd, ← EReal.coe_mul, ← EReal.coe_add, coe_sum, zero_add]

end

end Cert.Proof

end
-- ==== Proof.StackIdeal.lean ====
module

public import proofs.«01_k».proof.Proof.OwnIdeal

/-
  The stacked operands of a grid point and the saved running sums, read at an index of the extended reals.
-/

@[expose] public section

set_option maxRecDepth 16384

noncomputable section

namespace Cert.Proof

open Cert.KernelIdeal Cert.KernelIdeal.Gen
open Idealize.ShloMosaic Idealize.ShloMosaic.TcCoe

/-- An eighth. -/
theorem ofBits_eighth : Ideal.ofBits .f32 0x3E000000#32 = (((1 / 8 : ℝ)) : EReal) := by
  simp [Ideal.ofBits, Ideal.ieee, -EReal.coe_mul]; norm_num

/-- The head of a lane. -/
theorem pay61_at (a l : Fin 256) : k0_pay61 (ix2 a l) = BitVec.ofNat 32 (l.val / 64) := by
  pointwise [k0_pay61]
  revert l
  decide +kernel

theorem pay66_at (a l : Fin 256) : k0_pay66 (ix2 a l) = BitVec.ofNat 32 (l.val / 64) := pay61_at a l

theorem head_word0 : ∀ l : Fin 256, IntOp.cmpi .eq (BitVec.ofNat 32 (l.val / 64)) 0#32 = if l.val / 64 = 0 then 1#1 else 0#1 := by decide +kernel
theorem head_word1 : ∀ l : Fin 256, IntOp.cmpi .eq (BitVec.ofNat 32 (l.val / 64)) 1#32 = if l.val / 64 = 1 then 1#1 else 0#1 := by decide +kernel
theorem head_word2 : ∀ l : Fin 256, IntOp.cmpi .eq (BitVec.ofNat 32 (l.val / 64)) 2#32 = if l.val / 64 = 2 then 1#1 else 0#1 := by decide +kernel
theorem head_word3 : ∀ l : Fin 256, IntOp.cmpi .eq (BitVec.ofNat 32 (l.val / 64)) 3#32 = if l.val / 64 = 3 then 1#1 else 0#1 := by decide +kernel

/-- The row of a stacked head. -/
theorem pick_row (Q : Fin 256 → Fin 256 → ℝ) (r : Fin 1024) (l : Fin 256) (h : ℕ) (x : Fin 256) (hh : r.val / 256 = h) (hx : x.val = r.val % 256) :
    (((if l.val / 64 = h then Q x l else 0) : ℝ) : EReal)
      = (((if l.val / 64 = r.val / 256 then Q ⟨r.val % 256, Nat.mod_lt _ (by decide)⟩ l else 0) : ℝ) : EReal) := by
  subst hh
  obtain rfl : x = ⟨r.val % 256, Nat.mod_lt _ (by decide)⟩ := Fin.ext hx
  rfl

/-- The stacked queries: row `r` holds query `r mod 256` of head `r / 256`, scaled, and nothing in the other heads' lanes. -/
theorem stackQ_at (q : Vec Ideal S256x256 .bf16) (Q : Fin 256 → Fin 256 → ℝ) (hq : ∀ a l, q (ix2 a l) = ((Q a l : ℝ) : EReal)) (r : Fin 1024) (l : Fin 256) :
    stackQ q (ix2 r l) = (((if l.val / 64 = r.val / 256 then Q ⟨r.val % 256, Nat.mod_lt _ (by decide)⟩ l * (1 / 8) else 0) : ℝ) : EReal) := by
  have hr := r.isLt
  pointwise [stackQ, k0_pay65, k0_pay60, k0_pay62, k0_pay63, k0_pay64]
  simp only [pay61_at, hq, ofBits_eighth, ← EReal.coe_mul, ← EReal.coe_zero, head_word0, head_word1, head_word2, head_word3, select_real]
  by_cases c0 : r.val < 256
  · rw [dif_pos c0]; exact pick_row (fun a l => Q a l * (1 / 8)) r l 0 _ (by omega) (by show r.val = _; omega)
  rw [dif_neg c0]
  by_cases c1 : r.val - 256 < 256
  · rw [dif_pos c1]; exact pick_row (fun a l => Q a l * (1 / 8)) r l 1 _ (by omega) (by show r.val - 256 = _; omega)
  rw [dif_neg c1]
  by_cases c2 : r.val - 256 - 256 < 256
  · rw [dif_pos c2]; exact pick_row (fun a l => Q a l * (1 / 8)) r l 2 _ (by omega) (by show r.val - 256 - 256 = _; omega)
  rw [dif_neg c2]
  exact pick_row (fun a l => Q a l * (1 / 8)) r l 3 _ (by omega) (by show r.val - 256 - 256 - 256 = _; omega)

/-- The stacked gradients of the output. -/
theorem stackD_at (q : Vec Ideal S256x256 .f32) (Q : Fin 256 → Fin 256 → ℝ) (hq : ∀ a l, q (ix2 a l) = ((Q a l : ℝ) : EReal)) (r : Fin 1024) (l : Fin 256) :
    stackD q (ix2 r l) = (((if l.val / 64 = r.val / 256 then Q ⟨r.val % 256, Nat.mod_lt _ (by decide)⟩ l else 0) : ℝ) : EReal) := by
  have hr := r.isLt
  pointwise [stackD, k0_pay67, k0_pay68, k0_pay69, k0_pay70, k0_pay71]
  simp only [pay66_at, hq, ← EReal.coe_zero, head_word0, head_word1, head_word2, head_word3, select_real]
  by_cases c0 : r.val < 256
  · rw [dif_pos c0]; exact pick_row Q r l 0 _ (by omega) (by show r.val = _; omega)
  rw [dif_neg c0]
  by_cases c1 : r.val - 256 < 256
  · rw [dif_pos c1]; exact pick_row Q r l 1 _ (by omega) (by show r.val - 256 = _; omega)
  rw [dif_neg c1]
  by_cases c2 : r.val - 256 - 256 < 256
  · rw [dif_pos c2]; exact pick_row Q r l 2 _ (by omega) (by show r.val - 256 - 256 = _; omega)
  rw [dif_neg c2]
  exact pick_row Q r l 3 _ (by omega) (by show r.val - 256 - 256 - 256 = _; omega)

/-- The running sum of block `b`. -/
theorem runAt_at (rb : Vec Ideal S1x1x1024x128 .f32) (b : Fin 128) (r : Fin 1024) :
    runAt (BitVec.ofNat 32 b.val) rb (ix2 r 0) = rb (ix4 0 0 r b) := by
  have hb := b.isLt
  pointwise [runAt]
  rw [Finset.sum_eq_single b]
  · rw [WordCmp.cmpi_eq_ofNat (by omega) (by omega), decide_eq_true rfl]; rfl
  · intro x _ hx
    have := x.isLt
    rw [WordCmp.cmpi_eq_ofNat (by omega) (by omega), decide_eq_false (fun h => hx (Fin.ext h))]; rfl
  · exact fun h => absurd (Finset.mem_univ _) h

/-- The least float is the least extended real. -/
theorem ofBits_least : Ideal.ofBits .f32 0xFF800000#32 = ⊥ := by
  simp [Ideal.ofBits, Ideal.ieee]

/-- The number of blocks to walk. -/
theorem pay77_at (x : Vec Ideal S1x1x8x128 .f32) (n : ℕ) (hx : ∀ r : Fin 8, x (ix4 0 0 r 127) = ((n : ℝ) : EReal)) :
    k0_pay77 lanes x = ((n : ℝ) : EReal) := by
  have hn : (0 : EReal) ≤ ((n : ℝ) : EReal) := by exact_mod_cast Nat.cast_nonneg (α := ℝ) n
  have hle : ∀ (a : Fin 8) (b : Fin 128), Scalar.select (IntOp.cmpi CmpIPredicate.eq (BitVec.ofNat 32 (b : ℕ)) 127#32) (x (ix4 0 0 a b)) (0 : EReal) ≤ ((n : ℝ) : EReal) := by
    intro a b
    have hb := b.isLt
    by_cases h : b = 127
    · subst h; exact le_of_eq (hx a)
    · rw [show (127#32) = BitVec.ofNat 32 127 from rfl, WordCmp.cmpi_eq_ofNat (by omega) (by omega), decide_eq_false (show ¬b.val = 127 from fun e => h (Fin.ext e))]; exact hn
  pointwise [k0_pay77]
  rw [ofBits_least]
  refine le_antisymm ((Finset.fold_max_le _).2 ⟨bot_le, fun p _ => hle p.1 p.2⟩) ?_
  exact (Finset.le_fold_max _).2 (Or.inr ⟨((0 : Fin 8), (127 : Fin 128)), Finset.mem_univ _, le_of_eq (hx 0).symm⟩)

/-- The unstacked gradient of the queries. -/
theorem pay78_at (x : Vec Ideal S1024x256 .f32) (X : Fin 1024 → Fin 256 → ℝ) (hx : ∀ r l, x (ix2 r l) = ((X r l : ℝ) : EReal)) (a l : Fin 256) :
    k0_pay78 x (ix2 a l) = ((X ⟨l.val / 64 * 256 + a.val, by omega⟩ l * (1 / 8) : ℝ) : EReal) := by
  have e := pay61_at a l
  have ha := a.isLt
  have hl := l.isLt
  pointwise [k0_pay61] at e
  pointwise [k0_pay78]
  simp only [e, hx, ofBits_eighth, head_word1, head_word2, head_word3, select_real, ← EReal.coe_mul]
  refine congrArg (fun y : ℝ => ((y * (1 / 8) : ℝ) : EReal)) ?_
  by_cases c3 : l.val / 64 = 3
  · rw [if_pos c3]; exact congrArg (fun r => X r l) (Fin.ext (by show 768 + a.val = l.val / 64 * 256 + a.val; omega))
  rw [if_neg c3]
  by_cases c2 : l.val / 64 = 2
  · rw [if_pos c2]; exact congrArg (fun r => X r l) (Fin.ext (by show 512 + a.val = l.val / 64 * 256 + a.val; omega))
  rw [if_neg c2]
  by_cases c1 : l.val / 64 = 1
  · rw [if_pos c1]; exact congrArg (fun r => X r l) (Fin.ext (by show 256 + a.val = l.val / 64 * 256 + a.val; omega))
  rw [if_neg c1]
  exact congrArg (fun r => X r l) (Fin.ext (by show a.val = l.val / 64 * 256 + a.val; omega))

end Cert.Proof

end
-- ==== Proof.PointIdeal.lean ====
module

public import proofs.«01_k».proof.Proof.StackIdeal

/-
  A grid point on the extended reals: after a walk over the earlier key blocks and the point's own block, the
  accumulators hold the sums over all keys.
-/

@[expose] public section

set_option maxRecDepth 16384

noncomputable section

namespace Cert.Proof

open Cert.KernelIdeal Cert.KernelIdeal.Gen
open Idealize.ShloMosaic Idealize.ShloMosaic.TcCoe
open Finset (range Ico)

theorem rowsOf_at {e : EltTy} (x : Vec Ideal S8192x256 e) (b : ℕ) (hb : b < 32) (c l : Fin 256) :
    rowsOf x b (ix2 c l) = x (ix2 ⟨256 * b + c.val, by omega⟩ l) := by
  have hc := c.isLt
  refine congrArg x (funext fun a => Fin.ext ?_)
  match a with
  | ⟨0, _⟩ => show (b * 256 + c.val) % 8192 = 256 * b + c.val; omega
  | ⟨1, _⟩ => rfl

theorem putRows_at {e : EltTy} (x : Vec Ideal S8192x256 e) (b : ℕ) (w : Vec Ideal S256x256 e) (s : Fin 8192) (l : Fin 256) :
    putRows x b w (ix2 s l) = if s.val / 256 = b then w (ix2 ⟨s.val % 256, Nat.mod_lt _ (by decide)⟩ l) else x (ix2 s l) := by
  have hl := l.isLt
  by_cases h : s.val / 256 = b
  · rw [if_pos h]
    have hc : ∀ a : Fin 2, (![b * 256, 0] : Fin 2 → ℕ) a ≤ ((ix2 s l : S8192x256.Idx) a).val
        ∧ ((ix2 s l : S8192x256.Idx) a).val < (![b * 256, 0] : Fin 2 → ℕ) a + S256x256.size a := by
      intro a
      match a with
      | ⟨0, _⟩ => show b * 256 ≤ s.val ∧ s.val < b * 256 + 256; omega
      | ⟨1, _⟩ => show 0 ≤ l.val ∧ l.val < 0 + 256; omega
    refine (dif_pos hc).trans (congrArg w (funext fun a => Fin.ext ?_))
    match a with
    | ⟨0, _⟩ => show s.val - b * 256 = s.val % 256; omega
    | ⟨1, _⟩ => show l.val - 0 = l.val; omega
  · rw [if_neg h]
    refine dif_neg fun hc => ?_
    have h0 : b * 256 ≤ s.val ∧ s.val < b * 256 + 256 := hc 0
    omega

/-- The number of blocks a point walks: all before its own, where the saved sums say so. -/
theorem walk_all (i : grid0.Coords) (rb : Vec Ideal S1x1x1024x128 .f32) (hrb : ∀ r : Fin 1024, rb (ix4 0 0 r 127) = (((i 1).val : ℝ) : EReal)) :
    walk i (wordOf rb) = (i 1).val := by
  have hi : (i 1).val < 32 := (i 1).isLt
  have h77 : k0_pay77 lanes (VecWindow.window rb ![0, 0, 0, 0] S1x1x8x128.size inb_S1x1x1024x128_S1x1x8x128_0_0_0_0) = (((i 1).val : ℝ) : EReal) := by
    refine pay77_at _ _ fun r => ?_
    rw [← hrb ⟨r.val, by omega⟩]
    refine congrArg rb (funext fun a => Fin.ext ?_)
    match a with
    | ⟨0, _⟩ => rfl
    | ⟨1, _⟩ => rfl
    | ⟨2, _⟩ => show 0 + 1 * r.val = r.val; omega
    | ⟨3, _⟩ => rfl
  have hw : (wordOf rb).toInt = (i 1).val := by
    unfold wordOf
    rw [h77]
    show (Ideal.fptosi 32 (((i 1).val : ℝ) : EReal)).toInt = _
    have e : Ideal.toIntClamped (-(2 ^ 31 : ℕ)) ((2 ^ 31 : ℕ) - 1) (((i 1).val : ℝ) : EReal) = ((i 1).val : ℤ) := by
      show max (-(2 ^ 31 : ℕ) : ℤ) (min ((2 ^ 31 : ℕ) - 1) (if 0 ≤ ((i 1).val : ℝ) then ⌊((i 1).val : ℝ)⌋ else ⌈((i 1).val : ℝ)⌉)) = _
      rw [if_pos (Nat.cast_nonneg _), Int.floor_natCast]
      omega
    show (BitVec.ofInt 32 (Ideal.toIntClamped (-(2 ^ 31 : ℕ)) ((2 ^ 31 : ℕ) - 1) (((i 1).val : ℝ) : EReal))).toInt = _
    rw [e, BitVec.toInt_ofInt, Int.bmod_eq_of_le] <;> omega
  unfold walk
  omega

section
variable (q2 d2 : FVec Ideal S1024x256 .bf16) (tri trit : FVec Ideal S256x256 .bf16) (k v : Vec Ideal S8192x256 .bf16) (rb : Vec Ideal S1x1x1024x128 .f32)
  (dk0 dv0 : Vec Ideal S8192x256 .f32)
  (Q D : Fin 1024 → Fin 256 → ℝ) (K V : ℕ → Fin 256 → ℝ) (z g : Fin 1024 → ℕ → ℕ → ℝ) (i : ℕ) (hi : i < 32)
  (hq : ∀ r l, q2 (ix2 r l) = ((Q r l : ℝ) : EReal)) (hd : ∀ r l, d2 (ix2 r l) = ((D r l : ℝ) : EReal))
  (hk : ∀ (s : Fin 8192) l, k (ix2 s l) = ((K s.val l : ℝ) : EReal)) (hv : ∀ (s : Fin 8192) l, v (ix2 s l) = ((V s.val l : ℝ) : EReal))
  (htri : ∀ a c : Fin 256, tri (ix2 a c) = (((if c.val < a.val then 1 else 0) : ℝ) : EReal))
  (htrit : ∀ a c : Fin 256, trit (ix2 a c) = (((if a.val < c.val then 1 else 0) : ℝ) : EReal))
  (hz : ∀ b < 32, ∀ r c, bDot Q (fun c l => K (256 * b + c.val) l) r c = z r (256 * i + r.val % 256) (256 * b + c.val))
  (hg : ∀ b < 32, ∀ r c, bDot D (fun c l => V (256 * b + c.val) l) r c = g r (256 * i + r.val % 256) (256 * b + c.val))
  (hrb : ∀ (r : Fin 1024) (b : Fin 128), b.val ≤ i → rb (ix4 0 0 r b) = ((tailSum (z r) (256 * i + r.val % 256) (256 * b.val + 255) : ℝ) : EReal))

/-- What the accumulators hold after the first `n` key blocks. -/
structure After (n : ℕ) (a : Acc Ideal) : Prop where
  pre : ∀ r, a.1 (ix2 r 0) = ((before (z r) (g r) (256 * i + r.val % 256) (256 * n) : ℝ) : EReal)
  dk : ∀ (s : Fin 8192) l, a.2.1 (ix2 s l) = dk0 (ix2 s l)
    + (((if s.val < 256 * n then ∑ r, dz (z r) (g r) (256 * i + r.val % 256) s.val * Q r l else 0) : ℝ) : EReal)
  dv : ∀ (s : Fin 8192) l, a.2.2.1 (ix2 s l) = dv0 (ix2 s l)
    + (((if s.val < 256 * n then ∑ r, att (z r) (256 * i + r.val % 256) s.val * D r l else 0) : ℝ) : EReal)
  dq : ∀ r l, a.2.2.2 (ix2 r l) = ((∑ s ∈ range (256 * n), dz (z r) (g r) (256 * i + r.val % 256) s * K s l : ℝ) : EReal)

/-- The weights of an earlier block are the weights. -/
theorem bAtt_eq (b : ℕ) (hb : b < i) (hi : i < 32) (Z : Fin 1024 → Fin 256 → ℝ) (R : Fin 1024 → ℝ)
    (hZ : ∀ r c, Z r c = z r (256 * i + r.val % 256) (256 * b + c.val)) (hR : ∀ r, R r = tailSum (z r) (256 * i + r.val % 256) (256 * b + 255)) (r : Fin 1024) (c : Fin 256) :
    bAtt Z R r c = att (z r) (256 * i + r.val % 256) (256 * b + c.val) := by
  have hc := c.isLt
  unfold bAtt att
  rw [if_pos (by omega), hZ, hR, add_assoc]
  congr 2
  rw [← tailSum_split _ _ b (by omega) c, ← sum_after]
  congr 1
  refine Finset.sum_congr rfl fun a _ => ?_
  have ha := a.isLt
  show lsm (Z r a) * (if c.val < a.val then 1 else 0) = leave (z r) (256 * i + r.val % 256) (256 * b + a.val) * (if c.val < a.val then 1 else 0)
  unfold leave
  rw [if_pos (show 256 * b + a.val < 256 * i + r.val % 256 by omega), hZ]

/-- The weights of the own block are the weights. -/
theorem oAtt_eq (hi : i < 32) (Z : Fin 1024 → Fin 256 → ℝ) (R : Fin 1024 → ℝ)
    (hZ : ∀ r c, Z r c = z r (256 * i + r.val % 256) (256 * i + c.val)) (hR : ∀ r, R r = tailSum (z r) (256 * i + r.val % 256) (256 * i + 255)) (r : Fin 1024) (c : Fin 256) :
    oAtt Z R r c = att (z r) (256 * i + r.val % 256) (256 * i + c.val) := by
  have hc := c.isLt
  have ho : own r c ↔ 256 * i + c.val < 256 * i + r.val % 256 := by unfold own; omega
  unfold oAtt att
  by_cases h : own r c
  · rw [if_pos h, if_pos (ho.1 h), hZ, hR, add_assoc]
    congr 2
    rw [← tailSum_split _ _ i (by omega) c, ← sum_after]
    congr 1
    refine Finset.sum_congr rfl fun a _ => ?_
    have hoa : own r a ↔ 256 * i + a.val < 256 * i + r.val % 256 := by unfold own; omega
    unfold leave
    simp only [hZ]
    by_cases h' : own r a
    · rw [if_pos h', if_pos (hoa.1 h')]
    · rw [if_neg h', if_neg (fun x => h' (hoa.2 x))]
  · rw [if_neg h, if_neg (fun x => h (ho.2 x))]

/-- A sum over the columns before `c` of an earlier block's gradients. -/
theorem bBefore_eq (b : ℕ) (f : Fin 1024 → Fin 256 → ℝ) (hf : ∀ r c, f r c = dlog (z r) (g r) (256 * i + r.val % 256) (256 * b + c.val)) (r : Fin 1024) (c : Fin 256) :
    before (z r) (g r) (256 * i + r.val % 256) (256 * b) + bBefore f r c = before (z r) (g r) (256 * i + r.val % 256) (256 * b + c.val) := by
  rw [← before_split, ← sum_before]
  unfold bBefore
  simp only [hf]

/-- The gradients of an earlier block's scores. -/
theorem bDz_eq (b : ℕ) (hb : b < i) (hi : i < 32) (Z G : Fin 1024 → Fin 256 → ℝ) (R P : Fin 1024 → ℝ)
    (hZ : ∀ r c, Z r c = z r (256 * i + r.val % 256) (256 * b + c.val)) (hG : ∀ r c, G r c = g r (256 * i + r.val % 256) (256 * b + c.val))
    (hR : ∀ r, R r = tailSum (z r) (256 * i + r.val % 256) (256 * b + 255))
    (hP : ∀ r, P r = before (z r) (g r) (256 * i + r.val % 256) (256 * b)) (r : Fin 1024) (c : Fin 256) :
    bDz Z G R P r c = dz (z r) (g r) (256 * i + r.val % 256) (256 * b + c.val) := by
  have hc := c.isLt
  have hl : ∀ r c, bDl Z G R r c = dlog (z r) (g r) (256 * i + r.val % 256) (256 * b + c.val) := fun r c => by
    unfold bDl dlog; rw [hG, bAtt_eq z i b hb hi Z R hZ hR]
  unfold bDz dz
  rw [if_pos (by omega), hP, bBefore_eq z g i b _ hl, hl, hZ]

/-- The gradients of the own block's scores. -/
theorem oDz_eq (hi : i < 32) (Z G : Fin 1024 → Fin 256 → ℝ) (R P : Fin 1024 → ℝ)
    (hZ : ∀ r c, Z r c = z r (256 * i + r.val % 256) (256 * i + c.val)) (hG : ∀ r c, G r c = g r (256 * i + r.val % 256) (256 * i + c.val))
    (hR : ∀ r, R r = tailSum (z r) (256 * i + r.val % 256) (256 * i + 255))
    (hP : ∀ r, P r = before (z r) (g r) (256 * i + r.val % 256) (256 * i)) (r : Fin 1024) (c : Fin 256) :
    oDz Z G R P r c = dz (z r) (g r) (256 * i + r.val % 256) (256 * i + c.val) := by
  have hl : ∀ r c, oDl Z G R r c = dlog (z r) (g r) (256 * i + r.val % 256) (256 * i + c.val) := fun r c => by
    unfold oDl dlog; rw [hG, oAtt_eq z i hi Z R hZ hR]
  have ho : own r c ↔ 256 * i + c.val < 256 * i + r.val % 256 := by unfold own; omega
  unfold oDz dz
  rw [hP, bBefore_eq z g i i _ hl, hl, hZ]
  by_cases h : own r c
  · rw [if_pos h, if_pos (ho.1 h)]
  · rw [if_neg h, if_neg (fun x => h (ho.2 x))]

/-- A block's rows written after the sums up to it. -/
theorem put_sum (x0 x : Vec Ideal S8192x256 .f32) (f : ℕ → Fin 256 → ℝ) (b : ℕ) (hb : b < 32) (w : Vec Ideal S256x256 .f32)
    (hx : ∀ (s : Fin 8192) l, x (ix2 s l) = (x0 (ix2 s l) : EReal) + (((if s.val < 256 * b then f s.val l else 0) : ℝ) : EReal))
    (hw : ∀ c l : Fin 256, w (ix2 c l) = (rowsOf x b (ix2 c l) : EReal) + ((f (256 * b + c.val) l : ℝ) : EReal)) (s : Fin 8192) (l : Fin 256) :
    putRows x b w (ix2 s l) = (x0 (ix2 s l) : EReal) + (((if s.val < 256 * (b + 1) then f s.val l else 0) : ℝ) : EReal) := by
  have hs := s.isLt
  rw [putRows_at]
  by_cases h : s.val / 256 = b
  · rw [if_pos h, hw, rowsOf_at _ _ hb, hx, if_neg (by show ¬ 256 * b + s.val % 256 < 256 * b; omega), if_pos (by omega), EReal.coe_zero, add_zero]
    have e : (⟨256 * b + (⟨s.val % 256, Nat.mod_lt _ (by decide)⟩ : Fin 256).val, by show 256 * b + s.val % 256 < 8192; omega⟩ : Fin 8192) = s :=
      Fin.ext (by show 256 * b + s.val % 256 = s.val; omega)
    rw [e, show 256 * b + (⟨s.val % 256, Nat.mod_lt _ (by decide)⟩ : Fin 256).val = s.val from congrArg Fin.val e]
  · rw [if_neg h, hx]
    by_cases h' : s.val < 256 * b
    · rw [if_pos h', if_pos (by omega)]
    · rw [if_neg h', if_neg (by omega)]

/-- The sum up to the next block. -/
theorem sum_next (f : ℕ → ℝ) (b : ℕ) : ∑ s ∈ range (256 * b), f s + ∑ c : Fin 256, f (256 * b + c.val) = ∑ s ∈ range (256 * (b + 1)), f s := by
  rw [sum_block, Finset.sum_range_add_sum_Ico _ (by omega)]
  rfl

include hi hq hd hk hv htri htrit hz hg hrb in
/-- An earlier block. -/
theorem past_after (b : ℕ) (hb : b < i) (a : Acc Ideal) (h : After dk0 dv0 Q D K z g i b a) :
    After dk0 dv0 Q D K z g i (b + 1) (pastStep q2 d2 tri trit k v rb b a) := by
  have hk' : ∀ c l, rowsOf k b (ix2 c l) = ((K (256 * b + c.val) l : ℝ) : EReal) := fun c l => by rw [rowsOf_at k b (by omega), hk]
  have hv' : ∀ c l, rowsOf v b (ix2 c l) = ((V (256 * b + c.val) l : ℝ) : EReal) := fun c l => by rw [rowsOf_at v b (by omega), hv]
  have hr : ∀ r : Fin 1024, runAt (BitVec.ofNat 32 b) rb (ix2 r 0) = ((tailSum (z r) (256 * i + r.val % 256) (256 * b + 255) : ℝ) : EReal) := fun r => by
    rw [← hrb r ⟨b, by omega⟩ (by show b ≤ i; omega)]; exact runAt_at rb ⟨b, by omega⟩ r
  have eA := bAtt_eq z i b hb hi _ _ (hz b (by omega)) (fun r => rfl)
  have eD := bDz_eq z g i b hb hi _ _ _ _ (hz b (by omega)) (hg b (by omega)) (fun r => rfl) (fun r => rfl)
  have hl : ∀ r c, bDl (bDot Q (fun c l => K (256 * b + c.val) l)) (bDot D (fun c l => V (256 * b + c.val) l))
      (fun r => tailSum (z r) (256 * i + r.val % 256) (256 * b + 255)) r c = dlog (z r) (g r) (256 * i + r.val % 256) (256 * b + c.val) := fun r c => by
    unfold bDl dlog; rw [hg b (by omega), eA]
  refine ⟨fun r => ?_, ?_, ?_, fun r l => ?_⟩
  · refine (pay39_at q2 d2 tri trit _ _ a.1 _ Q D _ _ _ _ hq hd hk' hv' htri htrit h.pre hr r).trans (congrArg _ ?_)
    rw [bBefore_eq z g i b _ hl, hl]
    have e := before_next (z r) (g r) (256 * i + r.val % 256) b
    rw [← e, ← before_split (z r) (g r) (256 * i + r.val % 256) b 255]
    rfl
  · refine put_sum dk0 a.2.1 (fun s l => ∑ r, dz (z r) (g r) (256 * i + r.val % 256) s * Q r l) b (by omega) _ h.dk fun c l => ?_
    refine (pay37_at q2 d2 tri trit _ _ a.1 _ Q D _ _ _ _ hq hd hk' hv' htri htrit h.pre hr _ c l).trans ?_
    simp only [eD]
  · refine put_sum dv0 a.2.2.1 (fun s l => ∑ r, att (z r) (256 * i + r.val % 256) s * D r l) b (by omega) _ h.dv fun c l => ?_
    refine (pay38_at q2 d2 tri _ _ Q D _ _ hq hd hk' htri hr _ c l).trans ?_
    simp only [eA]
  · refine (pay36_at q2 d2 tri trit _ _ a.1 _ Q D _ _ _ _ hq hd hk' hv' htri htrit h.pre hr _ _ h.dq r l).trans (congrArg _ ?_)
    simp only [eD]
    exact sum_next (fun s => dz (z r) (g r) (256 * i + r.val % 256) s * K s l) b

include hi hq hd hk hv htri htrit hz hg hrb in
/-- The own block. -/
theorem own_after (a : Acc Ideal) (h : After dk0 dv0 Q D K z g i i a) :
    (∀ (s : Fin 8192) l, (ownStep q2 d2 tri trit k v rb i a).2.1 (ix2 s l) = (dk0 (ix2 s l) : EReal)
        + (((if s.val < 256 * (i + 1) then ∑ r, dz (z r) (g r) (256 * i + r.val % 256) s.val * Q r l else 0) : ℝ) : EReal))
      ∧ (∀ (s : Fin 8192) l, (ownStep q2 d2 tri trit k v rb i a).2.2.1 (ix2 s l) = (dv0 (ix2 s l) : EReal)
        + (((if s.val < 256 * (i + 1) then ∑ r, att (z r) (256 * i + r.val % 256) s.val * D r l else 0) : ℝ) : EReal))
      ∧ (∀ r l, (ownStep q2 d2 tri trit k v rb i a).2.2.2 (ix2 r l)
        = ((∑ s ∈ range (256 * (i + 1)), dz (z r) (g r) (256 * i + r.val % 256) s * K s l : ℝ) : EReal)) := by
  have hk' : ∀ c l, rowsOf k i (ix2 c l) = ((K (256 * i + c.val) l : ℝ) : EReal) := fun c l => by rw [rowsOf_at k i (by omega), hk]
  have hv' : ∀ c l, rowsOf v i (ix2 c l) = ((V (256 * i + c.val) l : ℝ) : EReal) := fun c l => by rw [rowsOf_at v i (by omega), hv]
  have hr : ∀ r : Fin 1024, runAt (BitVec.ofNat 32 i) rb (ix2 r 0) = ((tailSum (z r) (256 * i + r.val % 256) (256 * i + 255) : ℝ) : EReal) := fun r => by
    rw [← hrb r ⟨i, by omega⟩ (le_refl i)]; exact runAt_at rb ⟨i, by omega⟩ r
  have eA := oAtt_eq z i hi _ _ (hz i hi) (fun r => rfl)
  have eD := oDz_eq z g i hi _ _ _ _ (hz i hi) (hg i hi) (fun r => rfl) (fun r => rfl)
  refine ⟨?_, ?_, fun r l => ?_⟩
  · refine put_sum dk0 a.2.1 (fun s l => ∑ r, dz (z r) (g r) (256 * i + r.val % 256) s * Q r l) i (by omega) _ h.dk fun c l => ?_
    refine (pay58_at q2 d2 tri trit _ _ a.1 _ Q D _ _ _ _ hq hd hk' hv' htri htrit h.pre hr _ c l).trans ?_
    simp only [eD]
  · refine put_sum dv0 a.2.2.1 (fun s l => ∑ r, att (z r) (256 * i + r.val % 256) s * D r l) i (by omega) _ h.dv fun c l => ?_
    refine (pay59_at q2 d2 tri _ _ Q D _ _ hq hd hk' htri hr _ c l).trans ?_
    simp only [eA]
  · refine (pay57_at q2 d2 tri trit _ _ a.1 _ Q D _ _ _ _ hq hd hk' hv' htri htrit h.pre hr _ _ h.dq r l).trans (congrArg _ ?_)
    simp only [eD]
    exact sum_next (fun s => dz (z r) (g r) (256 * i + r.val % 256) s * K s l) i

include hi hq hd hk hv htri htrit hz hg hrb in
/-- The whole walk. -/
theorem walk_after (n : ℕ) (hn : n ≤ i) :
    After dk0 dv0 Q D K z g i n (pastWalk q2 d2 tri trit k v rb 0 (k0_pay17, dk0, dv0, k0_pay76) n) := by
  induction n with
  | zero =>
    refine ⟨fun r => ?_, fun s l => ?_, fun s l => ?_, fun r l => ?_⟩
    · have e : (k0_pay17 (F := Ideal)) (ix2 r 0) = 0 := by pointwise [k0_pay17]
      exact e.trans (by simp [before])
    · exact (by simp : dk0 (ix2 s l) = (dk0 (ix2 s l) : EReal) + (((if s.val < 256 * 0 then ∑ r, dz (z r) (g r) (256 * i + r.val % 256) s.val * Q r l else 0) : ℝ) : EReal))
    · exact (by simp : dv0 (ix2 s l) = (dv0 (ix2 s l) : EReal) + (((if s.val < 256 * 0 then ∑ r, att (z r) (256 * i + r.val % 256) s.val * D r l else 0) : ℝ) : EReal))
    · have e : (k0_pay76 (F := Ideal)) (ix2 r l) = 0 := by pointwise [k0_pay76]
      exact e.trans (by simp)
  | succ n ih =>
    have := past_after q2 d2 tri trit k v rb dk0 dv0 Q D K V z g i hi hq hd hk hv htri htrit hz hg hrb n (by omega) _ (ih (by omega))
    unfold pastWalk
    rw [Nat.zero_add]
    exact this

end

end Cert.Proof

end
-- ==== Proof.GroupIdeal.lean ====
module

public import proofs.«01_k».proof.Proof.PointIdeal
public import proofs.«01_k».proof.Proof.Heads
public import Idealize.ShloMosaic.Lib.FinSumWindow

/-
  A grid point of four heads: with the queries, keys, values and output gradients of the whole sequence, what the point
  adds to the keys' and values' gradients, and the queries' gradient it leaves.
-/

@[expose] public section

set_option maxRecDepth 16384

noncomputable section

namespace Cert.Proof

open Cert.KernelIdeal Cert.KernelIdeal.Gen
open Idealize.ShloMosaic Idealize.ShloMosaic.TcCoe
open Finset (range Ico)

/-- The stacked rows of one head times a block of keys are that head's products. -/
theorem stack_dot (f k : ℕ → ℕ → ℝ) (p i b : ℕ) (e : ℝ) (r : Fin 1024) (c : Fin 256) :
    bDot (fun (r : Fin 1024) (l : Fin 256) => if l.val / 64 = r.val / 256 then f (256 * i + r.val % 256) (256 * p + l.val) * e else 0)
        (fun (c : Fin 256) (l : Fin 256) => k (256 * b + c.val) (256 * p + l.val)) r c
      = (∑ l : Fin 64, f (256 * i + r.val % 256) (64 * (4 * p + r.val / 256) + l.val) * k (256 * b + c.val) (64 * (4 * p + r.val / 256) + l.val)) * e := by
  have hr := r.isLt
  show (∑ l : Fin 256, (if l.val / 64 = r.val / 256 then f (256 * i + r.val % 256) (256 * p + l.val) * e else 0) * k (256 * b + c.val) (256 * p + l.val)) = _
  rw [FinSumWindow.sum_window (N := 256) (W := 64) (64 * (r.val / 256)) (by omega) _ (fun P hP => by rw [if_neg (by omega), zero_mul]), Finset.sum_mul]
  refine Finset.sum_congr rfl fun l _ => ?_
  have hl := l.isLt
  dsimp only
  rw [if_pos (by omega), show 256 * p + (64 * (r.val / 256) + l.val) = 64 * (4 * p + r.val / 256) + l.val by omega]
  ring

/-- Of a sum over the stacked rows, a lane's column keeps its own head's. -/
theorem stack_sum (w : ℕ → ℕ → ℝ) (f : ℕ → Fin 256 → ℝ) (i : ℕ) (l : Fin 256) :
    (∑ r : Fin 1024, w (r.val / 256) (256 * i + r.val % 256) * (if l.val / 64 = r.val / 256 then f (256 * i + r.val % 256) l else 0))
      = ∑ j ∈ Ico (256 * i) (256 * i + 256), w (l.val / 64) j * f j l := by
  have hl := l.isLt
  rw [FinSumWindow.sum_window (N := 1024) (W := 256) (256 * (l.val / 64)) (by omega) _ (fun P hP => by rw [if_neg (by omega), mul_zero]),
    ← sum_block (fun j => w (l.val / 64) j * f j l) i]
  refine Finset.sum_congr rfl fun a _ => ?_
  have ha := a.isLt
  dsimp only
  rw [if_pos (by omega), show (256 * (l.val / 64) + a.val) / 256 = l.val / 64 by omega, show (256 * (l.val / 64) + a.val) % 256 = a.val by omega]

theorem dz_late (z g : ℕ → ℕ → ℝ) (t s : ℕ) (h : t ≤ s) : dz z g t s = 0 := if_neg (by omega)
theorem att_late (z : ℕ → ℕ → ℝ) (t s : ℕ) (h : t ≤ s) : att z t s = 0 := if_neg (by omega)

section
variable (q k v d : ℕ → ℕ → ℝ) (p : ℕ) (x : grid0.Coords)
  (qb : Vec Ideal S256x256 .bf16) (kb vb : Vec Ideal S8192x256 .bf16) (db : Vec Ideal S256x256 .f32) (rb : Vec Ideal S1x1x1024x128 .f32)
  (tri trit : Vec Ideal S256x256 .bf16) (dk0 dv0 : Vec Ideal S8192x256 .f32)
  (hq : ∀ a l : Fin 256, qb (ix2 a l) = ((q (256 * (x 1).val + a.val) (256 * p + l.val) : ℝ) : EReal))
  (hd : ∀ a l : Fin 256, db (ix2 a l) = ((d (256 * (x 1).val + a.val) (256 * p + l.val) : ℝ) : EReal))
  (hk : ∀ (s : Fin 8192) (l : Fin 256), kb (ix2 s l) = ((k s.val (256 * p + l.val) : ℝ) : EReal))
  (hv : ∀ (s : Fin 8192) (l : Fin 256), vb (ix2 s l) = ((v s.val (256 * p + l.val) : ℝ) : EReal))
  (htri : ∀ a c : Fin 256, tri (ix2 a c) = (((if c.val < a.val then 1 else 0) : ℝ) : EReal))
  (htrit : ∀ a c : Fin 256, trit (ix2 a c) = (((if a.val < c.val then 1 else 0) : ℝ) : EReal))
  (hlast : ∀ r : Fin 1024, rb (ix4 0 0 r 127) = (((x 1).val : ℝ) : EReal))
  (hrb : ∀ (r : Fin 1024) (b : Fin 128), b.val < 32 → rb (ix4 0 0 r b) = ((tailSum (zz q k (4 * p + r.val / 256)) (256 * (x 1).val + r.val % 256) (256 * b.val + 255) : ℝ) : EReal))

include hq hd hk hv htri htrit hlast hrb in
/-- What a grid point leaves. -/
theorem point_at :
    (∀ (s : Fin 8192) (l : Fin 256), (pointAcc x qb kb vb db rb tri trit dk0 dv0).2.1 (ix2 s l) = dk0 (ix2 s l)
        + ((∑ j ∈ Ico (256 * (x 1).val) (256 * (x 1).val + 256), dz (zz q k (4 * p + l.val / 64)) (gg d v (4 * p + l.val / 64)) j s.val * (q j (256 * p + l.val) * (1 / 8)) : ℝ) : EReal))
    ∧ (∀ (s : Fin 8192) (l : Fin 256), (pointAcc x qb kb vb db rb tri trit dk0 dv0).2.2.1 (ix2 s l) = dv0 (ix2 s l)
        + ((∑ j ∈ Ico (256 * (x 1).val) (256 * (x 1).val + 256), att (zz q k (4 * p + l.val / 64)) j s.val * d j (256 * p + l.val) : ℝ) : EReal))
    ∧ (∀ (r : Fin 1024) (l : Fin 256), (pointAcc x qb kb vb db rb tri trit dk0 dv0).2.2.2 (ix2 r l)
        = ((∑ s ∈ range (256 * ((x 1).val + 1)), dz (zz q k (4 * p + r.val / 256)) (gg d v (4 * p + r.val / 256)) (256 * (x 1).val + r.val % 256) s * k s (256 * p + l.val) : ℝ) : EReal)) := by
  have hi : (x 1).val < 32 := (x 1).isLt
  have hw := walk_all x rb hlast
  have e0 : (((x 1).val : ℤ) - walk x (wordOf rb)).toNat = 0 := by rw [hw]; omega
  have e1 : (walk x (wordOf rb)).toNat = (x 1).val := by rw [hw]; omega
  have hQ := stackQ_at qb _ hq
  have hD := stackD_at db _ hd
  have htri' : ∀ a c : Fin 256, k0_pay72 tri (ix2 a c) = (((if c.val < a.val then 1 else 0) : ℝ) : EReal) := fun a c => by
    pointwise [k0_pay72]; exact htri a c
  have htrit' : ∀ a c : Fin 256, k0_pay73 trit (ix2 a c) = (((if a.val < c.val then 1 else 0) : ℝ) : EReal) := fun a c => by
    pointwise [k0_pay73]; exact htrit a c
  have hz : ∀ b < 32, ∀ (r : Fin 1024) (c : Fin 256),
      bDot (fun (r : Fin 1024) (l : Fin 256) => if l.val / 64 = r.val / 256 then q (256 * (x 1).val + r.val % 256) (256 * p + l.val) * (1 / 8) else 0)
        (fun (c : Fin 256) (l : Fin 256) => k (256 * b + c.val) (256 * p + l.val)) r c = zz q k (4 * p + r.val / 256) (256 * (x 1).val + r.val % 256) (256 * b + c.val) :=
    fun b _ r c => stack_dot q k p (x 1).val b (1 / 8) r c
  have hg : ∀ b < 32, ∀ (r : Fin 1024) (c : Fin 256),
      bDot (fun (r : Fin 1024) (l : Fin 256) => if l.val / 64 = r.val / 256 then d (256 * (x 1).val + r.val % 256) (256 * p + l.val) else 0)
        (fun (c : Fin 256) (l : Fin 256) => v (256 * b + c.val) (256 * p + l.val)) r c = gg d v (4 * p + r.val / 256) (256 * (x 1).val + r.val % 256) (256 * b + c.val) :=
    fun b _ r c => by
      have h := stack_dot d v p (x 1).val b 1 r c
      simp only [mul_one] at h
      exact h
  have hrb' : ∀ (r : Fin 1024) (b : Fin 128), b.val ≤ (x 1).val → rb (ix4 0 0 r b) = ((tailSum (zz q k (4 * p + r.val / 256)) (256 * (x 1).val + r.val % 256) (256 * b.val + 255) : ℝ) : EReal) :=
    fun r b h => hrb r b (by omega)
  have hwk := walk_after (stackQ qb) (stackD db) (k0_pay72 tri) (k0_pay73 trit) kb vb rb dk0 dv0 _ _ (fun s l => k s (256 * p + l.val)) (fun s l => v s (256 * p + l.val))
    (fun r => zz q k (4 * p + r.val / 256)) (fun r => gg d v (4 * p + r.val / 256)) (x 1).val hi hQ hD hk hv htri' htrit' hz hg hrb' (x 1).val (le_refl _)
  obtain ⟨h1, h2, h3⟩ := own_after (stackQ qb) (stackD db) (k0_pay72 tri) (k0_pay73 trit) kb vb rb dk0 dv0 _ _ (fun s l => k s (256 * p + l.val)) (fun s l => v s (256 * p + l.val))
    (fun r => zz q k (4 * p + r.val / 256)) (fun r => gg d v (4 * p + r.val / 256)) (x 1).val hi hQ hD hk hv htri' htrit' hz hg hrb' _ hwk
  unfold pointAcc
  rw [e0, e1]
  refine ⟨fun s l => (h1 s l).trans (congrArg (fun y : ℝ => (dk0 (ix2 s l) : EReal) + (y : EReal)) ?_),
    fun s l => (h2 s l).trans (congrArg (fun y : ℝ => (dv0 (ix2 s l) : EReal) + (y : EReal)) ?_), h3⟩
  · have e := stack_sum (fun h j => dz (zz q k (4 * p + h)) (gg d v (4 * p + h)) j s.val) (fun j l => q j (256 * p + l.val) * (1 / 8)) (x 1).val l
    by_cases hs : s.val < 256 * ((x 1).val + 1)
    · exact (if_pos hs).trans e
    · rw [if_neg hs]
      refine (Finset.sum_eq_zero fun j hj => ?_).symm
      rw [Finset.mem_Ico] at hj
      rw [dz_late _ _ _ _ (by omega), zero_mul]
  · have e := stack_sum (fun h j => att (zz q k (4 * p + h)) j s.val) (fun j l => d j (256 * p + l.val)) (x 1).val l
    by_cases hs : s.val < 256 * ((x 1).val + 1)
    · exact (if_pos hs).trans e
    · rw [if_neg hs]
      refine (Finset.sum_eq_zero fun j hj => ?_).symm
      rw [Finset.mem_Ico] at hj
      rw [att_late _ _ _ (by omega), zero_mul]

end

end Cert.Proof

end
-- ==== Proof.ArrayIdeal.lean ====
module

public import proofs.«01_k».proof.Proof.Run
public import proofs.«01_k».proof.Proof.HostIdeal
public import proofs.«01_k».proof.Proof.GroupIdeal
public import Idealize.ShloMosaic.Lib.Pipeline.ValueKit

/-
  The kernel's arrays on the extended reals: at each grid point the accumulators hold the sums over the queries up to the
  point's block, and after the last point of each group the arrays hold the gradients.
-/

@[expose] public section

set_option maxRecDepth 16384

noncomputable section

namespace Cert.Proof

open Cert.KernelIdeal Cert.KernelIdeal.Gen
open Idealize.ShloMosaic Idealize.ShloMosaic.TcCoe
open Idealize.ShloMosaic.Pipeline (Dat)
open Finset (range Ico)

/-- The blocks of each grid point. -/
theorem idx : ∀ t : Fin cfg0.N, t.val < 64 ∧ win0_0.index t = ![t.val % 32, 2 + t.val / 32] ∧ win0_1.index t = ![0, 4 + t.val / 32] ∧ win0_2.index t = ![0, 6 + t.val / 32]
    ∧ win0_3.index t = ![t.val % 32, t.val / 32] ∧ win0_4.index t = ![t.val / 32, t.val % 32, 0, 0] ∧ win0_5.index t = ![0, 0] ∧ win0_6.index t = ![0, 0]
    ∧ win0_7.index t = ![t.val % 32, t.val / 32] ∧ win0_8.index t = ![0, t.val / 32] ∧ win0_9.index t = ![0, t.val / 32] :=
  (by decide +kernel : ∀ t : Fin grid0.N, _)

variable (m : (ℓ : Loc nD τ sig) → Buf (Elt Ideal) ℓ) (c : Dev nD)

section
variable (t : Fin cfg0.N) (ht : t.val < 64)

theorem read0 (a l : Fin 256) : iblk m c 0 t (ix2 a l) = m ((c : Thread nD τ).loc main_arg0)
    (ix2 (⟨256 * (t.val % 32) + a.val, by omega⟩ : Fin 8192) (⟨512 + (256 * (t.val / 32) + l.val), by omega⟩ : Fin 2304)) := by
  blk_ext [iblk, V, idx t]

theorem read1 (s : Fin 8192) (l : Fin 256) : iblk m c 1 t (ix2 s l) = m ((c : Thread nD τ).loc main_arg0)
    (ix2 s (⟨1024 + (256 * (t.val / 32) + l.val), by omega⟩ : Fin 2304)) := by
  blk_ext [iblk, V, idx t]

theorem read2 (s : Fin 8192) (l : Fin 256) : iblk m c 2 t (ix2 s l) = m ((c : Thread nD τ).loc main_arg0)
    (ix2 s (⟨1536 + (256 * (t.val / 32) + l.val), by omega⟩ : Fin 2304)) := by
  blk_ext [iblk, V, idx t]

theorem read3 (a l : Fin 256) : iblk m c 3 t (ix2 a l) = m ((c : Thread nD τ).loc main_arg1)
    (ix2 (⟨256 * (t.val % 32) + a.val, by omega⟩ : Fin 8192) (⟨256 * (t.val / 32) + l.val, by omega⟩ : Fin 512)) := by
  blk_ext [iblk, V, idx t]

theorem read4 (r : Fin 1024) (b : Fin 128) : iblk m c 4 t (ix4 0 0 r b) = V m c main_v44
    (ix4 (⟨t.val / 32, by omega⟩ : Fin 2) (⟨t.val % 32, by omega⟩ : Fin 32) r b) := by
  blk_ext [iblk, idx t]

end

theorem read5 (t : Fin cfg0.N) : iblk m c 5 t = V m c main_v6 := by
  blk_ext! [iblk, idx t]

theorem read6 (t : Fin cfg0.N) : iblk m c 6 t = V m c main_v45 := by
  blk_ext! [iblk, idx t]

section
variable (q k v d : ℕ → ℕ → ℝ)
  (hq : ∀ (t : Fin 8192) (j : Fin 512) (h : 512 + j.val < 2304), m ((c : Thread nD τ).loc main_arg0) (ix2 t (⟨512 + j.val, h⟩ : Fin 2304)) = ((q t.val j.val : ℝ) : EReal))
  (hk : ∀ (t : Fin 8192) (j : Fin 512) (h : 1024 + j.val < 2304), m ((c : Thread nD τ).loc main_arg0) (ix2 t (⟨1024 + j.val, h⟩ : Fin 2304)) = ((k t.val j.val : ℝ) : EReal))
  (hv : ∀ (t : Fin 8192) (j : Fin 512) (h : 1536 + j.val < 2304), m ((c : Thread nD τ).loc main_arg0) (ix2 t (⟨1536 + j.val, h⟩ : Fin 2304)) = ((v t.val j.val : ℝ) : EReal))
  (hd : ∀ (t : Fin 8192) (j : Fin 512), m ((c : Thread nD τ).loc main_arg1) (ix2 t j) = ((d t.val j.val : ℝ) : EReal))

include hq hk hv hd in
/-- What a grid point leaves, over the arguments. -/
theorem pointAcc_at (t : Fin cfg0.N) (dk0 dv0 : Vec Ideal S8192x256 .f32) (A : Acc Ideal) (hA : A = pointAcc (grid0.coords t) (iblk m c 0 t) (iblk m c 1 t) (iblk m c 2 t) (iblk m c 3 t) (iblk m c 4 t) (iblk m c 5 t) (iblk m c 6 t) dk0 dv0) :
    (∀ (s : Fin 8192) (l : Fin 256), A.2.1 (ix2 s l) = dk0 (ix2 s l)
        + ((∑ j ∈ Ico (256 * (t.val % 32)) (256 * (t.val % 32) + 256), dz (zz q k (4 * (t.val / 32) + l.val / 64)) (gg d v (4 * (t.val / 32) + l.val / 64)) j s.val * (q j (256 * (t.val / 32) + l.val) * (1 / 8)) : ℝ) : EReal))
    ∧ (∀ (s : Fin 8192) (l : Fin 256), A.2.2.1 (ix2 s l) = dv0 (ix2 s l)
        + ((∑ j ∈ Ico (256 * (t.val % 32)) (256 * (t.val % 32) + 256), att (zz q k (4 * (t.val / 32) + l.val / 64)) j s.val * d j (256 * (t.val / 32) + l.val) : ℝ) : EReal))
    ∧ (∀ (r : Fin 1024) (l : Fin 256), A.2.2.2 (ix2 r l)
        = ((∑ s ∈ range (256 * (t.val % 32 + 1)), dz (zz q k (4 * (t.val / 32) + r.val / 256)) (gg d v (4 * (t.val / 32) + r.val / 256)) (256 * (t.val % 32) + r.val % 256) s * k s (256 * (t.val / 32) + l.val) : ℝ) : EReal)) := by
  subst hA
  have ht := (idx t).1
  have c1 := coord_one t
  have h := point_at q k v d (t.val / 32) (grid0.coords t) (iblk m c 0 t) (iblk m c 1 t) (iblk m c 2 t) (iblk m c 3 t) (iblk m c 4 t) (iblk m c 5 t) (iblk m c 6 t) dk0 dv0
    (fun a l => by rw [c1]; exact (read0 m c t ht a l).trans (hq ⟨256 * (t.val % 32) + a.val, by omega⟩ ⟨256 * (t.val / 32) + l.val, by omega⟩ (by dsimp only; omega)))
    (fun a l => by rw [c1]; exact (read3 m c t ht a l).trans (hd ⟨256 * (t.val % 32) + a.val, by omega⟩ ⟨256 * (t.val / 32) + l.val, by omega⟩))
    (fun s l => (read1 m c t ht s l).trans (hk s ⟨256 * (t.val / 32) + l.val, by omega⟩ (by dsimp only; omega)))
    (fun s l => (read2 m c t ht s l).trans (hv s ⟨256 * (t.val / 32) + l.val, by omega⟩ (by dsimp only; omega)))
    (fun a b => by rw [read5, V_v6]; exact hostTri_at a b)
    (fun a b => by rw [read6, V_v45]; exact hostTrit_at a b)
    (fun r => by rw [c1]; refine (read4 m c t ht r 127).trans ?_; rw [V_v44]; exact last_at _ _ _ r)
    (fun r b hb => by rw [c1]; refine (read4 m c t ht r b).trans ?_; rw [V_v44]; exact saved_at _ q k hq hk _ _ r b hb)
  rw [c1] at h
  exact h

/-- A block's sum added to the sum over the blocks before it. -/
theorem step_sum (n : ℕ) (h0 : (n + 1) % 32 ≠ 0) (f : ℕ → ℝ) (X : EReal) (hX : X = ((∑ j ∈ range (256 * (n % 32 + 1)), f j : ℝ) : EReal)) :
    X + ((∑ j ∈ Ico (256 * ((n + 1) % 32)) (256 * ((n + 1) % 32) + 256), f j : ℝ) : EReal) = ((∑ j ∈ range (256 * ((n + 1) % 32 + 1)), f j : ℝ) : EReal) := by
  rw [hX, ← EReal.coe_add, show n % 32 + 1 = (n + 1) % 32 by omega, Finset.sum_range_add_sum_Ico _ (by omega)]
  rfl

/-- The first block's sum added to nothing. -/
theorem zero_sum (n : ℕ) (h0 : n % 32 = 0) (f : ℕ → ℝ) (X : EReal) (hX : X = 0) :
    X + ((∑ j ∈ Ico (256 * (n % 32)) (256 * (n % 32) + 256), f j : ℝ) : EReal) = ((∑ j ∈ range (256 * (n % 32 + 1)), f j : ℝ) : EReal) := by
  rw [hX, zero_add, h0, Finset.range_eq_Ico]

include hq hk hv hd in
/-- What the points up to `n` leave. -/
theorem leftAt_at (n : ℕ) (hn : n < cfg0.N) :
    (∀ (s : Fin 8192) (l : Fin 256), (leftAt m c n hn).2.1 (ix2 s l)
        = ((∑ j ∈ range (256 * (n % 32 + 1)), dz (zz q k (4 * (n / 32) + l.val / 64)) (gg d v (4 * (n / 32) + l.val / 64)) j s.val * (q j (256 * (n / 32) + l.val) * (1 / 8)) : ℝ) : EReal))
    ∧ (∀ (s : Fin 8192) (l : Fin 256), (leftAt m c n hn).2.2.1 (ix2 s l)
        = ((∑ j ∈ range (256 * (n % 32 + 1)), att (zz q k (4 * (n / 32) + l.val / 64)) j s.val * d j (256 * (n / 32) + l.val) : ℝ) : EReal))
    ∧ (∀ (r : Fin 1024) (l : Fin 256), (leftAt m c n hn).2.2.2 (ix2 r l)
        = ((∑ s ∈ range (256 * (n % 32 + 1)), dz (zz q k (4 * (n / 32) + r.val / 256)) (gg d v (4 * (n / 32) + r.val / 256)) (256 * (n % 32) + r.val % 256) s * k s (256 * (n / 32) + l.val) : ℝ) : EReal)) := by
  have z74 : ∀ (s : Fin 8192) (l : Fin 256), (k0_pay74 (F := Ideal)) (ix2 s l) = (0 : EReal) := fun s l => by pointwise [k0_pay74]
  have z75 : ∀ (s : Fin 8192) (l : Fin 256), (k0_pay75 (F := Ideal)) (ix2 s l) = (0 : EReal) := fun s l => by pointwise [k0_pay75]
  have fresh : ∀ t : Fin cfg0.N, t.val % 32 = 0 → ∀ dk0 dv0 : Vec Ideal S8192x256 .f32, (pointAt m c t dk0 dv0)
      = pointAcc (grid0.coords t) (iblk m c 0 t) (iblk m c 1 t) (iblk m c 2 t) (iblk m c 3 t) (iblk m c 4 t) (iblk m c 5 t) (iblk m c 6 t) (k0_pay74 (F := Ideal)) (k0_pay75 (F := Ideal)) := fun t h dk0 dv0 => by
    unfold pointAt nextAcc
    rw [if_pos ((coord_one t).trans h)]
  have first : ∀ t : Fin cfg0.N, t.val % 32 = 0 → leftAt m c t.val t.isLt
      = pointAcc (grid0.coords t) (iblk m c 0 t) (iblk m c 1 t) (iblk m c 2 t) (iblk m c 3 t) (iblk m c 4 t) (iblk m c 5 t) (iblk m c 6 t) (k0_pay74 (F := Ideal)) (k0_pay75 (F := Ideal)) := fun t h => by
    obtain ⟨n, hn⟩ := t
    cases n with
    | zero => unfold leftAt; exact fresh ⟨0, hn⟩ h _ _
    | succ n => unfold leftAt; exact fresh ⟨n + 1, hn⟩ h _ _
  have later : ∀ (n : ℕ) (hn : n + 1 < cfg0.N), (n + 1) % 32 ≠ 0 → leftAt m c (n + 1) hn = pointAcc (grid0.coords ⟨n + 1, hn⟩) (iblk m c 0 ⟨n + 1, hn⟩) (iblk m c 1 ⟨n + 1, hn⟩) (iblk m c 2 ⟨n + 1, hn⟩) (iblk m c 3 ⟨n + 1, hn⟩)
      (iblk m c 4 ⟨n + 1, hn⟩) (iblk m c 5 ⟨n + 1, hn⟩) (iblk m c 6 ⟨n + 1, hn⟩) (leftAt m c n (Nat.lt_of_succ_lt hn)).2.1 (leftAt m c n (Nat.lt_of_succ_lt hn)).2.2.1 := fun n hn h0 => by
    show pointAt m c ⟨n + 1, hn⟩ _ _ = _
    unfold pointAt nextAcc
    rw [if_neg fun h => h0 ((coord_one ⟨n + 1, hn⟩).symm.trans h)]
  induction n with
  | zero =>
    obtain ⟨h1, h2, h3⟩ := pointAcc_at m c q k v d hq hk hv hd ⟨0, hn⟩ _ _ (leftAt m c 0 hn) (first ⟨0, hn⟩ rfl)
    exact ⟨fun s l => (h1 s l).trans (zero_sum 0 rfl _ _ (z74 s l)), fun s l => (h2 s l).trans (zero_sum 0 rfl _ _ (z75 s l)), h3⟩
  | succ n ih =>
    by_cases h0 : (n + 1) % 32 = 0
    · obtain ⟨h1, h2, h3⟩ := pointAcc_at m c q k v d hq hk hv hd ⟨n + 1, hn⟩ _ _ (leftAt m c (n + 1) hn) (first ⟨n + 1, hn⟩ h0)
      exact ⟨fun s l => (h1 s l).trans (zero_sum (n + 1) h0 _ _ (z74 s l)), fun s l => (h2 s l).trans (zero_sum (n + 1) h0 _ _ (z75 s l)), h3⟩
    · obtain ⟨i1, i2, -⟩ := ih (Nat.lt_of_succ_lt hn)
      have ediv : n / 32 = (n + 1) / 32 := by omega
      rw [ediv] at i1 i2
      obtain ⟨h1, h2, h3⟩ := pointAcc_at m c q k v d hq hk hv hd ⟨n + 1, hn⟩ _ _ (leftAt m c (n + 1) hn) (later n hn h0)
      exact ⟨fun s l => (h1 s l).trans (step_sum n h0 _ _ (i1 s l)), fun s l => (h2 s l).trans (step_sum n h0 _ _ (i2 s l)), h3⟩

end

end Cert.Proof

end
-- ==== Proof.FinalIdeal.lean ====
module

public import proofs.«01_k».proof.Proof.ArrayIdeal
public import Idealize.ShloMosaic.Lib.Pipeline.ValueKit

/-
  The kernel's results on the extended reals: after the grid the three arrays hold the gradients.
-/

@[expose] public section

set_option maxRecDepth 16384

noncomputable section

namespace Cert.Proof

open Cert.KernelIdeal Cert.KernelIdeal.Gen
open Idealize.ShloMosaic Idealize.ShloMosaic.TcCoe
open Idealize.ShloMosaic.Pipeline (Dat)
open Finset (range Ico)

variable (m : (ℓ : Loc nD τ sig) → Buf (Elt Ideal) ℓ) (c : Dev nD)

section
variable (q k v d : ℕ → ℕ → ℝ)
  (hq : ∀ (t : Fin 8192) (j : Fin 512) (h : 512 + j.val < 2304), m ((c : Thread nD τ).loc main_arg0) (ix2 t (⟨512 + j.val, h⟩ : Fin 2304)) = ((q t.val j.val : ℝ) : EReal))
  (hk : ∀ (t : Fin 8192) (j : Fin 512) (h : 1024 + j.val < 2304), m ((c : Thread nD τ).loc main_arg0) (ix2 t (⟨1024 + j.val, h⟩ : Fin 2304)) = ((k t.val j.val : ℝ) : EReal))
  (hv : ∀ (t : Fin 8192) (j : Fin 512) (h : 1536 + j.val < 2304), m ((c : Thread nD τ).loc main_arg0) (ix2 t (⟨1536 + j.val, h⟩ : Fin 2304)) = ((v t.val j.val : ℝ) : EReal))
  (hd : ∀ (t : Fin 8192) (j : Fin 512), m ((c : Thread nD τ).loc main_arg1) (ix2 t j) = ((d t.val j.val : ℝ) : EReal))

/-- A query gradient. -/
def outDq (t c : ℕ) : ℝ := (∑ s ∈ range 8192, dz (zz q k (c / 64)) (gg d v (c / 64)) t s * k s c) * (1 / 8)

/-- A key gradient. -/
def outDk (s c : ℕ) : ℝ := ∑ j ∈ range 8192, dz (zz q k (c / 64)) (gg d v (c / 64)) j s * (q j c * (1 / 8))

/-- A value gradient. -/
def outDv (s c : ℕ) : ℝ := ∑ j ∈ range 8192, att (zz q k (c / 64)) j s * d j c

/-- The query gradients. -/
def arrDq : Vec Ideal S8192x512 .bf16 := fun y => ((outDq q k v d (y 0).val (y 1).val : ℝ) : EReal)

/-- The key gradients. -/
def arrDk : Vec Ideal S8192x512 .f32 := fun y => ((outDk q k v d (y 0).val (y 1).val : ℝ) : EReal)

/-- The value gradients. -/
def arrDv : Vec Ideal S8192x512 .f32 := fun y => ((outDv q k d (y 0).val (y 1).val : ℝ) : EReal)

/-- The stacked rows' sums are the query gradients. -/
theorem dq_row (n a l : ℕ) (hn : n < 64) (ha : a < 256) (hl : l < 256) :
    (∑ s ∈ range (256 * (n % 32 + 1)), dz (zz q k (4 * (n / 32) + (l / 64 * 256 + a) / 256)) (gg d v (4 * (n / 32) + (l / 64 * 256 + a) / 256)) (256 * (n % 32) + (l / 64 * 256 + a) % 256) s
        * k s (256 * (n / 32) + l)) * (1 / 8) = outDq q k v d (256 * (n % 32) + a) (256 * (n / 32) + l) := by
  refine congrArg (· * (1 / 8 : ℝ)) ?_
  rw [show (l / 64 * 256 + a) / 256 = l / 64 by omega, show (l / 64 * 256 + a) % 256 = a by omega, show 4 * (n / 32) + l / 64 = (256 * (n / 32) + l) / 64 by omega]
  refine Finset.sum_subset (fun s hs => ?_) fun s _ hs => ?_
  · rw [Finset.mem_range] at hs ⊢; omega
  · rw [Finset.mem_range] at hs
    rw [dz_late _ _ _ _ (by omega), zero_mul]

theorem dk_row (p s l : ℕ) :
    (∑ j ∈ range (256 * (31 + 1)), dz (zz q k (4 * p + l / 64)) (gg d v (4 * p + l / 64)) j s * (q j (256 * p + l) * (1 / 8))) = outDk q k v d s (256 * p + l) := by
  rw [show 4 * p + l / 64 = (256 * p + l) / 64 by omega]
  rfl

theorem dv_row (p s l : ℕ) :
    (∑ j ∈ range (256 * (31 + 1)), att (zz q k (4 * p + l / 64)) j s * d j (256 * p + l)) = outDv q k d s (256 * p + l) := by
  rw [show 4 * p + l / 64 = (256 * p + l) / 64 by omega]
  rfl

set_option maxHeartbeats 1600000 in
include hq hk hv hd in
/-- After the grid the first result holds the query gradients. -/
theorem final7 : (dats m 0 c).arrAt 7 cfg0.N = arrDq q k v d := by
  refine (dats m 0 c).arrAt_eq_of_covers 7 _ (by decide +kernel) fun t _ y => ?_
  blk_simp
  rw [after0_7]
  have ht := (idx t).1
  have e0 : ((win0_7.blk t).view.emb y (0 : Fin 2)).val = 256 * (t.val % 32) + (y (0 : Fin 2)).val := by blk_simp [idx t]; try (dsimp; omega)
  have e1 : ((win0_7.blk t).view.emb y (1 : Fin 2)).val = 256 * (t.val / 32) + (y (1 : Fin 2)).val := by blk_simp [idx t]; dsimp; omega
  have h := (leftAt_at m c q k v d hq hk hv hd t.val t.isLt).2.2
  have hy : (y : S256x256.Idx) = ix2 (y (0 : Fin 2) : Fin 256) (y (1 : Fin 2) : Fin 256) := (funext fun a => by match a with | ⟨0, _⟩ => rfl | ⟨1, _⟩ => rfl)
  have hE : arrDq q k v d ((win0_7.blk t).view.emb y) = ((outDq q k v d (256 * (t.val % 32) + (y (0 : Fin 2)).val) (256 * (t.val / 32) + (y (1 : Fin 2)).val) : ℝ) : EReal) := by
    rw [← e0, ← e1]; rfl
  have key : k0_pay78 (F := Ideal) (leftAt m c t.val t.isLt).2.2.2 (ix2 (y (0 : Fin 2) : Fin 256) (y (1 : Fin 2) : Fin 256)) = ((outDq q k v d (256 * (t.val % 32) + (y (0 : Fin 2)).val) (256 * (t.val / 32) + (y (1 : Fin 2)).val) : ℝ) : EReal) := by
    refine (pay78_at _ _ h (y (0 : Fin 2)) (y (1 : Fin 2))).trans ?_
    exact congrArg _ (dq_row q k v d t.val _ _ ht (y (0 : Fin 2) : Fin 256).isLt (y (1 : Fin 2) : Fin 256).isLt)
  have ey := congrArg (k0_pay78 (F := Ideal) (leftAt m c t.val t.isLt).2.2.2) hy
  refine Eq.trans ey ?_
  refine Eq.trans key ?_
  exact hE.symm

include hq hk hv hd in
/-- After the grid the second result holds the key gradients. -/
theorem final8 : (dats m 0 c).arrAt 8 cfg0.N = arrDk q k v d := by
  refine (dats m 0 c).arrAt_eq_of_covers 8 _ (by decide +kernel) fun t hf y => ?_
  blk_simp
  rw [after0_8]
  have ht := (idx t).1
  have hf := (flush0_8 t).mp hf
  have e0 : ((win0_8.blk t).view.emb y (0 : Fin 2)).val = (y (0 : Fin 2)).val := by blk_simp [idx t]; try (dsimp; omega)
  have e1 : ((win0_8.blk t).view.emb y (1 : Fin 2)).val = 256 * (t.val / 32) + (y (1 : Fin 2)).val := by blk_simp [idx t]; dsimp; omega
  have h := (leftAt_at m c q k v d hq hk hv hd t.val t.isLt).1
  rw [hf] at h
  have hy : (y : S8192x256.Idx) = ix2 (y (0 : Fin 2) : Fin 8192) (y (1 : Fin 2) : Fin 256) := (funext fun a => by match a with | ⟨0, _⟩ => rfl | ⟨1, _⟩ => rfl)
  have hE : arrDk q k v d ((win0_8.blk t).view.emb y) = ((outDk q k v d (y (0 : Fin 2)).val (256 * (t.val / 32) + (y (1 : Fin 2)).val) : ℝ) : EReal) := by
    rw [← e0, ← e1]; rfl
  refine ((congrArg (leftAt m c t.val t.isLt).2.1 hy).trans (h (y (0 : Fin 2)) (y (1 : Fin 2)))).trans (Eq.trans ?_ hE.symm)
  exact congrArg _ (dk_row q k v d (t.val / 32) _ _)

include hq hk hv hd in
/-- After the grid the third result holds the value gradients. -/
theorem final9 : (dats m 0 c).arrAt 9 cfg0.N = arrDv q k d := by
  refine (dats m 0 c).arrAt_eq_of_covers 9 _ (by decide +kernel) fun t hf y => ?_
  blk_simp
  rw [after0_9]
  have ht := (idx t).1
  have hf := (flush0_9 t).mp hf
  have e0 : ((win0_9.blk t).view.emb y (0 : Fin 2)).val = (y (0 : Fin 2)).val := by blk_simp [idx t]; try (dsimp; omega)
  have e1 : ((win0_9.blk t).view.emb y (1 : Fin 2)).val = 256 * (t.val / 32) + (y (1 : Fin 2)).val := by blk_simp [idx t]; dsimp; omega
  have h := (leftAt_at m c q k v d hq hk hv hd t.val t.isLt).2.1
  rw [hf] at h
  have hy : (y : S8192x256.Idx) = ix2 (y (0 : Fin 2) : Fin 8192) (y (1 : Fin 2) : Fin 256) := (funext fun a => by match a with | ⟨0, _⟩ => rfl | ⟨1, _⟩ => rfl)
  have hE : arrDv q k d ((win0_9.blk t).view.emb y) = ((outDv q k d (y (0 : Fin 2)).val (256 * (t.val / 32) + (y (1 : Fin 2)).val) : ℝ) : EReal) := by
    rw [← e0, ← e1]; rfl
  refine ((congrArg (leftAt m c t.val t.isLt).2.2.1 hy).trans (h (y (0 : Fin 2)) (y (1 : Fin 2)))).trans (Eq.trans ?_ hE.symm)
  exact congrArg _ (dv_row q k d (t.val / 32) _ _)

end

end Cert.Proof

end
-- ==== Proof.EqIdeal.lean ====
module

public import proofs.«01_k».proof.Proof.RefIdeal
public import proofs.«01_k».proof.Proof.FinalIdeal

/-
  The reference's three results are the three arrays the kernel leaves.
-/

@[expose] public section

set_option maxRecDepth 16384

noncomputable section

namespace Cert.Proof

open Cert.ReferenceIdeal Cert.ReferenceIdeal.Value Cert.ReferenceIdeal.Gen
open Idealize.ShloMosaic Idealize.ShloMosaic.TcCoe
open Finset (range Ico)

section
variable (V0 : Valuation τ sig (Elt Ideal)) (q k v d : ℕ → ℕ → ℝ)
  (hq : ∀ (t : Fin 8192) (c : Fin 512) (h : 512 + c.val < 2304), V0 (Proc.devRef .tc main_arg0) (ix2 t ⟨512 + c.val, h⟩) = ((q t.val c.val : ℝ) : EReal))
  (hk : ∀ (t : Fin 8192) (c : Fin 512) (h : 1024 + c.val < 2304), V0 (Proc.devRef .tc main_arg0) (ix2 t ⟨1024 + c.val, h⟩) = ((k t.val c.val : ℝ) : EReal))
  (hv : ∀ (t : Fin 8192) (c : Fin 512) (h : 1536 + c.val < 2304), V0 (Proc.devRef .tc main_arg0) (ix2 t ⟨1536 + c.val, h⟩) = ((v t.val c.val : ℝ) : EReal))
  (hd : ∀ (t : Fin 8192) (c : Fin 512), V0 (Proc.devRef .tc main_arg1) (ix2 t c) = ((d t.val c.val : ℝ) : EReal))

/-- A two-axis index is its two coordinates. -/
theorem two_axes (y : S8192x512.Idx) : y = ix2 (y 0 : Fin 8192) (y 1 : Fin 512) :=
  funext fun a => by match a with | ⟨0, _⟩ => rfl | ⟨1, _⟩ => rfl

/-- Two arrays with the same entries are one. -/
theorem same_array {e : EltTy} (x y : Vec Ideal S8192x512 e) (h : ∀ (t : Fin 8192) (c : Fin 512), x (ix2 t c) = y (ix2 t c)) : x = y :=
  funext fun i => by rw [two_axes i]; exact h _ _

theorem outDq_eq (t c : ℕ) : ∑ s : Fin 8192, dz (zz q k (c / 64)) (gg d v (c / 64)) t s.val * (1 / 8) * k s.val c = outDq q k v d t c := by
  unfold outDq
  rw [Finset.sum_mul, ← Fin.sum_univ_eq_sum_range (fun s => dz (zz q k (c / 64)) (gg d v (c / 64)) t s * k s c * (1 / 8)) 8192]
  exact Finset.sum_congr rfl fun s _ => by ring

theorem outDk_eq (t c : ℕ) : ∑ s : Fin 8192, dz (zz q k (c / 64)) (gg d v (c / 64)) s.val t * (1 / 8) * q s.val c = outDk q k v d t c := by
  unfold outDk
  rw [← Fin.sum_univ_eq_sum_range (fun s => dz (zz q k (c / 64)) (gg d v (c / 64)) s t * (q s c * (1 / 8))) 8192]
  exact Finset.sum_congr rfl fun s _ => by ring

theorem outDv_eq (t c : ℕ) : ∑ s : Fin 8192, d s.val c * att (zz q k (c / 64)) s.val t = outDv q k d t c := by
  unfold outDv
  rw [← Fin.sum_univ_eq_sum_range (fun s => att (zz q k (c / 64)) s t * d s c) 8192]
  exact Finset.sum_congr rfl fun s _ => by ring

include hq hk hv hd in
/-- The reference's query gradients. -/
theorem refDq : (truncf .bf16 (shapeCast _ (transpose S1x8192x8x64 [0, 2, 1, 3] (Host.dotGeneral (φ₁ := .f32) (φ₂ := .f32) dot_S1x8x8192x8192_S1x8x8192x64_S1x8x8192x64_3_2_2_3_01_01 none (res_main_v56 V0) (res_main_v11 V0)) transposes_S1x8x8192x64_S1x8192x8x64_0_2_1_3) shapeCasts_S1x8192x8x64_S8192x512) bitsLt_bf16_f32 : FVec Ideal S8192x512 .bf16)
    = arrDq q k v d :=
  same_array (e := .bf16) _ _ fun t c => (dq_at V0 q k v d hq hk hv hd t c).trans (congrArg _ (outDq_eq q k v d t.val c.val))

include hq hk hv hd in
/-- The reference's key gradients. -/
theorem refDk : (shapeCast _ (transpose S1x8192x8x64 [0, 2, 1, 3] (Host.dotGeneral (φ₁ := .f32) (φ₂ := .f32) dot_S1x8x8192x8192_S1x8x8192x64_S1x8x8192x64_2_2_3_3_01_01 none (res_main_v56 V0) (res_main_v10 V0)) transposes_S1x8x8192x64_S1x8192x8x64_0_2_1_3) shapeCasts_S1x8192x8x64_S8192x512 : FVec Ideal S8192x512 .f32)
    = arrDk q k v d :=
  same_array (e := .f32) _ _ fun t c => (dk_at V0 q k v d hq hk hv hd t c).trans (congrArg _ (outDk_eq q k v d t.val c.val))

include hq hk hv hd in
/-- The reference's value gradients. -/
theorem refDv : (shapeCast _ (transpose S1x8192x8x64 [0, 2, 1, 3] (transpose S1x8x8192x64 [0, 1, 3, 2] (Host.dotGeneral (φ₁ := .f32) (φ₂ := .f32) dot_S1x8x8192x64_S1x8x8192x8192_S1x8x64x8192_2_2_3_3_01_01 none (res_main_v41 V0) (res_main_v34_0 V0)) transposes_S1x8x64x8192_S1x8x8192x64_0_1_3_2) transposes_S1x8x8192x64_S1x8192x8x64_0_2_1_3) shapeCasts_S1x8192x8x64_S8192x512 : FVec Ideal S8192x512 .f32)
    = arrDv q k d :=
  same_array (e := .f32) _ _ fun t c => (dv_at V0 q k v d hq hk hv hd t c).trans (congrArg _ (outDv_eq q k d t.val c.val))

end

end Cert.Proof

end
-- ==== Proof.PreIdeal.lean ====
module

public import proofs.«01_k».proof.Defs
public import proofs.«01_k».proof.Proof.Heads
public import Idealize.ShloMosaic.Lib.Pointwise

/-
  What the precondition says, entry by entry: the queries, keys, values and output gradients are real numbers.
-/

@[expose] public section

set_option maxRecDepth 16384

noncomputable section

namespace Cert.Proof

open Idealize.ShloMosaic

/-- The side conditions of the precondition's operations. -/
theorem preFacts : Cert.Pre_finite_inputs.Facts where
  slices_S8192x2304_S8192x1536_0_512 := by decide
  bitsLt_bf16_f32 := by decide
  concatenates_S8192x1536_S8192x512_S8192x2048_d1 := by decide
  bcast_S_S8192x2048 := by decide

/-- An extended real of a size below infinity is a real number. -/
theorem real_of_absf (x : EReal) (h : FloatOps.absf (F := Ideal) (φ := .f32) x < ⊤) : x = ((x.toReal : ℝ) : EReal) := by
  have h' : max x (-x) < ⊤ := h
  refine (EReal.coe_toReal (fun e => ?_) fun e => ?_).symm
  · subst e; simp at h'
  · subst e; simp at h'

section
variable [Cert.Pre_finite_inputs.Facts] (a : FVec Ideal Cert.Pre_finite_inputs.S8192x2304 .bf16) (b : FVec Ideal Cert.Pre_finite_inputs.S8192x512 .f32)
  (hpre : Cert.Pre_finite_inputs.fn (F := Ideal) a b = fun _ => 1#1)

include hpre

theorem finite_at (t : Fin 8192) (c : Fin 2048) :
    FloatOps.absf (F := Ideal) (φ := .f32) (if h : c.val < 1536 then (a (ix2 t ⟨512 + c.val, by omega⟩) : EReal) else (b (ix2 t ⟨c.val - 1536, by omega⟩) : EReal)) < ⊤ := by
  have e := congrFun hpre (ix2 t c)
  have e' : ∀ X, Cert.Pre_finite_inputs.fn (F := Ideal) a b (ix2 t c) = X →
      BitVec.ofBool (decide (FloatOps.absf (F := Ideal) (φ := .f32) (if h : c.val < 1536 then (a (ix2 t ⟨512 + c.val, by omega⟩) : EReal) else (b (ix2 t ⟨c.val - 1536, by omega⟩) : EReal)) < Ideal.ofBits .f32 0x7F800000#32)) = X := by
    intro X hX
    rw [← hX]
    pointwise [Cert.Pre_finite_inputs.fn]
  have e2 := e' _ e
  rw [ofBits_inf] at e2
  by_contra hn
  rw [decide_eq_false hn] at e2
  exact absurd e2 (by decide)

/-- An entry of the queries, keys or values. -/
theorem first_real (t : Fin 8192) (j : ℕ) (hj : j < 1536) (h : 512 + j < 2304) :
    (a (ix2 t ⟨512 + j, h⟩) : EReal) = (((a (ix2 t ⟨512 + j, h⟩) : EReal).toReal : ℝ) : EReal) := by
  have e := finite_at a b hpre t ⟨j, by omega⟩
  rw [dif_pos hj] at e
  exact real_of_absf _ e

/-- An entry of the output gradients. -/
theorem second_real (t : Fin 8192) (j : Fin 512) : (b (ix2 t j) : EReal) = (((b (ix2 t j) : EReal).toReal : ℝ) : EReal) := by
  have hj := j.isLt
  have e := finite_at a b hpre t ⟨1536 + j.val, by omega⟩
  rw [dif_neg (by dsimp only; omega), show (⟨1536 + j.val - 1536, by omega⟩ : Fin 512) = j from Fin.ext (by dsimp only; omega)] at e
  exact real_of_absf _ e

end

/-- The entries from a column on, as real numbers. -/
def realsFrom (lo : ℕ) (a : FVec Ideal Cert.Pre_finite_inputs.S8192x2304 .bf16) (t j : ℕ) : ℝ :=
  if h : t < 8192 ∧ lo + j < 2304 then (a (ix2 ⟨t, h.1⟩ ⟨lo + j, h.2⟩) : EReal).toReal else 0

/-- The output gradients, as real numbers. -/
def realsOf (b : FVec Ideal Cert.Pre_finite_inputs.S8192x512 .f32) (t j : ℕ) : ℝ :=
  if h : t < 8192 ∧ j < 512 then (b (ix2 ⟨t, h.1⟩ ⟨j, h.2⟩) : EReal).toReal else 0

section
variable [Cert.Pre_finite_inputs.Facts] (a : FVec Ideal Cert.Pre_finite_inputs.S8192x2304 .bf16) (b : FVec Ideal Cert.Pre_finite_inputs.S8192x512 .f32)
  (hpre : Cert.Pre_finite_inputs.fn (F := Ideal) a b = fun _ => 1#1)

include hpre

theorem realsFrom_at (lo : ℕ) (h1 : 512 ≤ lo) (h2 : lo ≤ 1536) (t : Fin 8192) (j : Fin 512) (h : lo + j.val < 2304) :
    (a (ix2 t ⟨lo + j.val, h⟩) : EReal) = ((realsFrom lo a t.val j.val : ℝ) : EReal) := by
  have hj := j.isLt
  unfold realsFrom
  rw [dif_pos ⟨t.isLt, h⟩]
  have e := first_real a b hpre t (lo - 512 + j.val) (by omega) (by omega)
  rw [show (⟨512 + (lo - 512 + j.val), by omega⟩ : Fin 2304) = ⟨lo + j.val, h⟩ from Fin.ext (by dsimp only; omega)] at e
  exact e

theorem realsOf_at (t : Fin 8192) (j : Fin 512) : (b (ix2 t j) : EReal) = ((realsOf b t.val j.val : ℝ) : EReal) := by
  unfold realsOf
  rw [dif_pos ⟨t.isLt, j.isLt⟩]
  exact second_real a b hpre t j

end

end Cert.Proof

end
-- ==== Proof.GateTile.lean ====
/-
  The tiles of the gated block's backward kernel, entry by entry: the recomputed gradients of the gate and of the value,
  rows shifted by one and two, the input gradient of the convolution, its tap gradients, and the normalisation's gradients.
-/
module

public import proofs.«01_k».proof.Proof.Gen.Kernel7Ideal.Skeleton
public import proofs.«01_k».proof.Proof.Reals
public import Idealize.ShloMosaic.Lib.Pointwise
public import Idealize.ShloMosaic.Lib.WordCmp

@[expose] public section

set_option maxRecDepth 16384

noncomputable section

open Idealize.ShloMosaic Idealize.ShloMosaic.TcCoe

namespace Cert.Kernel7Ideal.Gate

open Cert.Kernel7Ideal Cert.Kernel7Ideal.Gen

/-- A selection by a comparison of naturals. -/
theorem select_dec {α : Type} (p : Prop) [Decidable p] (a b : α) : Scalar.select (BitVec.ofBool (decide p)) a b = if p then a else b := by
  by_cases h : p
  · rw [if_pos h, decide_eq_true h]; rfl
  · rw [if_neg h, decide_eq_false h]; rfl

theorem pay2_at (i : grid0.Coords) (v2 : Vec Ideal S256x1024 .f32) (v3 : Vec Ideal S16x1024 .f32) (r : Fin 272) (k : Fin 1024) :
    k0_pay2 i v2 v3 (ix2 r k) = if h : r.val < 256 then v2 (ix2 ⟨r.val, h⟩ k) else if (i 0).val = 31 then 0 else v3 (ix2 ⟨r.val - 256, by omega⟩ k) := by
  pointwise [k0_pay2]
  have hi : (i 0).val < 32 := (i 0).isLt
  have e : (Scalar.select (Scalar.cmpi CmpIPredicate.eq (BitVec.ofNat 32 (i 0).val) 31#32) (0 : EReal) (v3 (ix2 ⟨r.val - 256, by omega⟩ k)) : EReal)
      = if (i 0).val = 31 then 0 else v3 (ix2 ⟨r.val - 256, by omega⟩ k) := by
    rw [show (31#32) = BitVec.ofNat 32 31 from rfl, WordCmp.scalar_cmpi_eq, WordCmp.cmpi_eq_ofNat (by omega) (by omega)]
    exact select_dec _ _ _
  by_cases h : r.val < 256
  · rw [dif_pos h, dif_pos h]
  · rw [dif_neg h, dif_neg h]; exact e

theorem pay6_at (a : Vec Ideal S256x1408 .bf16) (b : Vec Ideal S16x1408 .bf16) (r : Fin 272) (c : Fin 1408) :
    k0_pay6 a b (ix2 r c) = if h : r.val < 256 then a (ix2 ⟨r.val, h⟩ c) else b (ix2 ⟨r.val - 256, by omega⟩ c) := by
  pointwise [k0_pay6]

theorem pay35_at (e : FVec Ideal S272x1024 .bf16) (w : Vec Ideal S1408x1024 .bf16) (r : Fin 272) (c : Fin 1408) :
    k0_pay35 e w (ix2 r c) = ∑ k : Fin 1024, e (ix2 r k) * w (ix2 c k) := by
  pointwise [k0_pay35]

theorem gate_at (i : grid0.Coords) (v2 : Vec Ideal S256x1024 .f32) (v3 : Vec Ideal S16x1024 .f32) (a u : Vec Ideal S256x1408 .bf16) (b ub : Vec Ideal S16x1408 .bf16) (w : Vec Ideal S1408x1024 .bf16) (r : Fin 272) (c : Fin 1408) :
    k0_pay11 (k0_pay9 i v2 v3 u ub w) (k0_pay10 a b) (ix2 r c)
      = k0_pay35 (k0_pay2 i v2 v3) w (ix2 r c) * k0_pay6 u ub (ix2 r c)
        * (Ideal.logistic (k0_pay6 a b (ix2 r c)) * (1 + k0_pay6 a b (ix2 r c) * (1 - Ideal.logistic (k0_pay6 a b (ix2 r c))))) := by
  have e7 : k0_pay7 i v2 v3 w = k0_pay35 (k0_pay2 i v2 v3) w := rfl
  have e9 : k0_pay9 i v2 v3 u ub w = mulf (k0_pay35 (k0_pay2 i v2 v3) w) (k0_pay6 u ub) := rfl
  rw [e9]
  pointwise [k0_pay11, k0_pay10, k0_pay8]

theorem gate2_at (i : grid0.Coords) (v2 : Vec Ideal S256x1024 .f32) (v3 : Vec Ideal S16x1024 .f32) (a u : Vec Ideal S256x1408 .bf16) (b ub : Vec Ideal S16x1408 .bf16) (w : Vec Ideal S1408x1024 .bf16) :
    k0_pay37 (k0_pay2 i v2 v3) a b u ub w = k0_pay11 (k0_pay9 i v2 v3 u ub w) (k0_pay10 a b) := rfl

theorem value_at (s d l : FVec Ideal S272x1408 .f32) (r : Fin 272) (c : Fin 1408) :
    k0_pay19 s d l (ix2 r c) = d (ix2 r c) * (s (ix2 r c) * l (ix2 r c)) := by
  pointwise [k0_pay19]

theorem value2_at (s d l : FVec Ideal S272x1408 .f32) : k0_pay47 s d l = k0_pay19 s d l := rfl

theorem pay8_at (a : Vec Ideal S256x1408 .bf16) (b : Vec Ideal S16x1408 .bf16) (r : Fin 272) (c : Fin 1408) :
    k0_pay8 a b (ix2 r c) = Ideal.logistic (k0_pay6 a b (ix2 r c)) := by
  pointwise [k0_pay8]

/-- The input gradient of the convolution, from the gradients of its output over a tile and the rows after it. -/
def conv (T : FVec Ideal S272x1408 .f32) (cw : Vec Ideal S8x1408 .f32) (r : Fin 256) (c : Fin 1408) : EReal :=
  T (ix2 ⟨r.val, by omega⟩ c) * cw (ix2 2 c) + T (ix2 ⟨r.val + 1, by omega⟩ c) * cw (ix2 1 c) + T (ix2 ⟨r.val + 2, by omega⟩ c) * cw (ix2 0 c)

theorem row1 (T : FVec Ideal S272x1408 .f32) (r : Fin 256) (c : Fin 1408) :
    (extractStridedSlice S256x1408 ![0, 0] (dynamicRotate 0 271#32 none T rotates_S272x1408_d0) slices_S272x1408_o0_0_S256x1408 : FVec Ideal S256x1408 .f32) (ix2 r c) = T (ix2 ⟨r.val + 1, by omega⟩ c) := by
  pointwise
  exact congrArg (fun q => T (ix2 q c)) (Fin.ext (by have := r.isLt; dsimp only; omega))

theorem row2 (T : FVec Ideal S272x1408 .f32) (r : Fin 256) (c : Fin 1408) :
    (extractStridedSlice S256x1408 ![0, 0] (dynamicRotate 0 270#32 none T rotates_S272x1408_d0) slices_S272x1408_o0_0_S256x1408 : FVec Ideal S256x1408 .f32) (ix2 r c) = T (ix2 ⟨r.val + 2, by omega⟩ c) := by
  pointwise
  exact congrArg (fun q => T (ix2 q c)) (Fin.ext (by have := r.isLt; dsimp only; omega))

theorem row0 (T : FVec Ideal S272x1408 .f32) (r : Fin 256) (c : Fin 1408) :
    (extractStridedSlice S256x1408 ![0, 0] T slices_S272x1408_o0_0_S256x1408 : FVec Ideal S256x1408 .f32) (ix2 r c) = T (ix2 ⟨r.val, by omega⟩ c) := by
  pointwise

/-- The three shifted tiles give the convolution's input gradient. -/
theorem dz_at (a0 a1 a2 : FVec Ideal S256x1408 .f32) (cw : FVec Ideal S8x1408 .f32) (r : Fin 256) (c : Fin 1408) :
    k0_pay30 cw a0 a1 a2 (ix2 r c) = a0 (ix2 r c) * cw (ix2 2 c) + a1 (ix2 r c) * cw (ix2 1 c) + a2 (ix2 r c) * cw (ix2 0 c) := by
  pointwise [k0_pay30]

theorem rows_at (T : FVec Ideal S272x1408 .f32) (cw : FVec Ideal S8x1408 .f32) (r : Fin 256) (c : Fin 1408) :
    k0_pay30 cw (extractStridedSlice S256x1408 ![0, 0] T slices_S272x1408_o0_0_S256x1408)
      (extractStridedSlice S256x1408 ![0, 0] (dynamicRotate 0 271#32 none T rotates_S272x1408_d0) slices_S272x1408_o0_0_S256x1408)
      (extractStridedSlice S256x1408 ![0, 0] (dynamicRotate 0 270#32 none T rotates_S272x1408_d0) slices_S272x1408_o0_0_S256x1408) (ix2 r c) = conv T cw r c := by
  rw [dz_at, row0, row1, row2]
  rfl

theorem same_cw (cw : Vec Ideal S8x1408 .f32) : k0_pay12 cw = cw := by
  funext y
  pointwise [k0_pay12]

theorem pay29_at (s l : FVec Ideal S272x1408 .f32) (cw : Vec Ideal S8x1408 .f32) (r : Fin 256) (c : Fin 1408) :
    k0_pay29 (k0_pay18 (k0_pay12 cw) (k0_pay13 s l) (k0_pay14 s l) (k0_pay15 s l) (k0_pay17 cw)) (ix2 r c) = conv (k0_pay11 s l) cw r c := by
  have h := rows_at (k0_pay11 s l) (k0_pay12 cw) r c
  have e : k0_pay29 (k0_pay18 (k0_pay12 cw) (k0_pay13 s l) (k0_pay14 s l) (k0_pay15 s l) (k0_pay17 cw)) = k0_pay30 (k0_pay12 cw) (k0_pay13 s l) (k0_pay14 s l) (k0_pay15 s l) := rfl
  rw [e]
  exact h.trans (by rw [same_cw])

theorem pay30_at (s d l : FVec Ideal S272x1408 .f32) (cw : Vec Ideal S8x1408 .f32) (r : Fin 256) (c : Fin 1408) :
    k0_pay30 (k0_pay21 cw) (k0_pay22 s d l) (k0_pay23 s d l) (k0_pay24 s d l) (ix2 r c) = conv (k0_pay19 s d l) cw r c := by
  have h := rows_at (k0_pay19 s d l) (k0_pay12 cw) r c
  exact h.trans (by rw [same_cw])

theorem pay54_at (e : FVec Ideal S272x1024 .bf16) (a u : Vec Ideal S256x1408 .bf16) (b ub : Vec Ideal S16x1408 .bf16) (w : Vec Ideal S1408x1024 .bf16) (cw : Vec Ideal S8x1408 .f32) (r : Fin 256) (c : Fin 1408) :
    k0_pay54 (k0_pay46 (k0_pay39 cw) (k0_pay40 e a b u ub w) (k0_pay41 e a b u ub w) (k0_pay42 e a b u ub w)) (ix2 r c) = conv (k0_pay37 e a b u ub w) cw r c := by
  have h := rows_at (k0_pay37 e a b u ub w) (k0_pay12 cw) r c
  have e' : k0_pay54 (k0_pay46 (k0_pay39 cw) (k0_pay40 e a b u ub w) (k0_pay41 e a b u ub w) (k0_pay42 e a b u ub w))
    = k0_pay30 (k0_pay12 cw) (k0_pay40 e a b u ub w) (k0_pay41 e a b u ub w) (k0_pay42 e a b u ub w) := rfl
  rw [e']
  exact h.trans (by rw [same_cw])

theorem pay55_at (s d l : FVec Ideal S272x1408 .f32) (cw : Vec Ideal S8x1408 .f32) (r : Fin 256) (c : Fin 1408) :
    k0_pay55 (k0_pay47 s d l) (k0_pay49 cw) (k0_pay50 s d l) (k0_pay51 s d l) (ix2 r c) = conv (k0_pay47 s d l) cw r c := by
  have h := rows_at (k0_pay47 s d l) (k0_pay12 cw) r c
  have e' : k0_pay55 (k0_pay47 s d l) (k0_pay49 cw) (k0_pay50 s d l) (k0_pay51 s d l)
    = k0_pay30 (k0_pay12 cw) (k0_pay50 s d l) (k0_pay51 s d l) (k0_pay52 (k0_pay47 s d l)) := rfl
  rw [e']
  exact h.trans (by rw [same_cw])

/-- The row numbers. -/
abbrev rowIds : IVec S8x1408 32 := iota .tc S8x1408 32 [0] iota_S8x1408_d0_w32

/-- What a tile adds to row `j` of the tap gradients. -/
def tap (T : FVec Ideal S272x1408 .f32) (z : Vec Ideal S256x1408 .bf16) (j : Fin 8) (c : Fin 1408) : EReal :=
  if j.val = 3 then ∑ r : Fin 256, T (ix2 ⟨r.val, by omega⟩ c)
  else if j.val = 2 then ∑ r : Fin 256, T (ix2 ⟨r.val, by omega⟩ c) * z (ix2 r c)
  else if j.val = 1 then ∑ r : Fin 256, T (ix2 ⟨r.val + 1, by omega⟩ c) * z (ix2 r c)
  else if j.val = 0 then ∑ r : Fin 256, T (ix2 ⟨r.val + 2, by omega⟩ c) * z (ix2 r c)
  else 0

theorem taps_at (T : FVec Ideal S272x1408 .f32) (z a0 a1 : FVec Ideal S256x1408 .f32) (j : Fin 8) (c : Fin 1408) :
    k0_pay53 rowIds T z a0 a1 (ix2 j c)
      = if j.val = 3 then ∑ r : Fin 256, a0 (ix2 r c)
        else if j.val = 2 then ∑ r : Fin 256, a0 (ix2 r c) * z (ix2 r c)
        else if j.val = 1 then ∑ r : Fin 256, a1 (ix2 r c) * z (ix2 r c)
        else if j.val = 0 then ∑ r : Fin 256, k0_pay52 T (ix2 r c) * z (ix2 r c)
        else 0 := by
  pointwise [k0_pay53]
  have hj := j.isLt
  rw [show (3#32) = BitVec.ofNat 32 3 from rfl, show (2#32) = BitVec.ofNat 32 2 from rfl, show (1#32) = BitVec.ofNat 32 1 from rfl, show (0#32) = BitVec.ofNat 32 0 from rfl,
    WordCmp.cmpi_eq_ofNat (by omega) (by omega), WordCmp.cmpi_eq_ofNat (by omega) (by omega), WordCmp.cmpi_eq_ofNat (by omega) (by omega), WordCmp.cmpi_eq_ofNat (by omega) (by omega)]
  simp only [select_dec]

theorem cut (T : FVec Ideal S272x1408 .f32) (z : Vec Ideal S256x1408 .bf16) (a0 a1 : FVec Ideal S256x1408 .f32) (j : Fin 8) (c : Fin 1408)
    (h0 : ∀ r : Fin 256, a0 (ix2 r c) = T (ix2 ⟨r.val, by omega⟩ c)) (h1 : ∀ r : Fin 256, a1 (ix2 r c) = T (ix2 ⟨r.val + 1, by omega⟩ c)) :
    k0_pay53 rowIds T (k0_pay48 z) a0 a1 (ix2 j c) = tap T z j c := by
  have e2 : ∀ r : Fin 256, k0_pay52 T (ix2 r c) = T (ix2 ⟨r.val + 2, by omega⟩ c) := fun r => row2 T r c
  have e : ∀ r : Fin 256, k0_pay48 z (ix2 r c) = z (ix2 r c) := fun r => by pointwise [k0_pay48]
  rw [taps_at]
  simp only [h0, h1, e2, e]
  rfl

theorem cut0 (T : FVec Ideal S272x1408 .f32) (z : Vec Ideal S256x1408 .bf16) (j : Fin 8) (c : Fin 1408) :
    k0_pay53 rowIds T (k0_pay48 z) (extractStridedSlice S256x1408 ![0, 0] T slices_S272x1408_o0_0_S256x1408)
      (extractStridedSlice S256x1408 ![0, 0] (dynamicRotate 0 271#32 none T rotates_S272x1408_d0) slices_S272x1408_o0_0_S256x1408) (ix2 j c) = tap T z j c :=
  cut T z _ _ j c (fun r => row0 T r c) fun r => row1 T r c

theorem pay57_at (acc d : FVec Ideal S8x1408 .f32) (j : Fin 8) (c : Fin 1408) : k0_pay57 d acc (ix2 j c) = acc (ix2 j c) + d (ix2 j c) := by
  pointwise [k0_pay57]

theorem tap4 (s d l : FVec Ideal S272x1408 .f32) (z : Vec Ideal S256x1408 .bf16) (acc : Vec Ideal S8x1408 .f32) (j : Fin 8) (c : Fin 1408) :
    k0_pay57 (k0_pay53 rowIds (k0_pay47 s d l) (k0_pay48 z) (k0_pay50 s d l) (k0_pay51 s d l)) acc (ix2 j c) = acc (ix2 j c) + tap (k0_pay47 s d l) z j c := by
  rw [pay57_at]
  exact congrArg (acc (ix2 j c) + ·) (cut0 (k0_pay47 s d l) z j c)

theorem tap2 (s d l : FVec Ideal S272x1408 .f32) (z : Vec Ideal S256x1408 .bf16) (acc : Vec Ideal S8x1408 .f32) (j : Fin 8) (c : Fin 1408) :
    k0_pay32 rowIds (k0_pay25 s d l) (k0_pay26 rowIds s d l z) (k0_pay27 rowIds) (k0_pay28 s d l z) acc (ix2 j c) = acc (ix2 j c) + tap (k0_pay19 s d l) z j c := by
  have e : k0_pay32 rowIds (k0_pay25 s d l) (k0_pay26 rowIds s d l z) (k0_pay27 rowIds) (k0_pay28 s d l z) acc
    = k0_pay57 (k0_pay53 rowIds (k0_pay19 s d l) (k0_pay48 z) (k0_pay22 s d l) (k0_pay23 s d l)) acc := rfl
  rw [e, pay57_at]
  exact congrArg (acc (ix2 j c) + ·) (cut0 (k0_pay19 s d l) z j c)

theorem tap1 (s l : FVec Ideal S272x1408 .f32) (z : Vec Ideal S256x1408 .bf16) (acc : Vec Ideal S8x1408 .f32) (j : Fin 8) (c : Fin 1408) :
    k0_pay31 (k0_pay16 rowIds s l z) acc (ix2 j c) = acc (ix2 j c) + tap (k0_pay11 s l) z j c := by
  have e : k0_pay31 (k0_pay16 rowIds s l z) acc
    = k0_pay57 (k0_pay53 rowIds (k0_pay11 s l) (k0_pay48 z) (k0_pay13 s l) (k0_pay14 s l)) acc := rfl
  rw [e, pay57_at]
  exact congrArg (acc (ix2 j c) + ·) (cut0 (k0_pay11 s l) z j c)

theorem tap3 (e : FVec Ideal S272x1024 .bf16) (a u : Vec Ideal S256x1408 .bf16) (b ub : Vec Ideal S16x1408 .bf16) (w : Vec Ideal S1408x1024 .bf16) (z : Vec Ideal S256x1408 .bf16) (acc : Vec Ideal S8x1408 .f32) (j : Fin 8) (c : Fin 1408) :
    k0_pay56 (k0_pay45 rowIds (k0_pay38 z) (k0_pay40 e a b u ub w) (k0_pay43 e a b u ub w z) (k0_pay44 e a b u ub w z)) acc (ix2 j c) = acc (ix2 j c) + tap (k0_pay37 e a b u ub w) z j c := by
  have e : k0_pay56 (k0_pay45 rowIds (k0_pay38 z) (k0_pay40 e a b u ub w) (k0_pay43 e a b u ub w z) (k0_pay44 e a b u ub w z)) acc
    = k0_pay57 (k0_pay53 rowIds (k0_pay37 e a b u ub w) (k0_pay48 z) (k0_pay40 e a b u ub w) (k0_pay41 e a b u ub w)) acc := rfl
  rw [e, pay57_at]
  exact congrArg (acc (ix2 j c) + ·) (cut0 _ z j c)

/-- The gradient of the normalised input: four partial products. -/
theorem dh_at (d1 : FVec Ideal S256x1408 .f32) (c1 : FVec Ideal S8x1408 .f32) (b0 b1 b2 : FVec Ideal S256x1408 .f32) (d3 d4 : FVec Ideal S256x1408 .bf16)
    (w1 w2 w3 w4 : Vec Ideal S1024x1408 .bf16) (r : Fin 256) (k : Fin 1024) :
    k0_pay58 (k0_pay33 (k0_pay5 (F := Ideal)) d1 c1 b0 b1 b2 w1 w2) d3 d4 w3 w4 (ix2 r k)
      = ((∑ c : Fin 1408, k0_pay29 d1 (ix2 r c) * w1 (ix2 k c)) + ∑ c : Fin 1408, k0_pay30 c1 b0 b1 b2 (ix2 r c) * w2 (ix2 k c))
        + ((∑ c : Fin 1408, d3 (ix2 r c) * w3 (ix2 k c)) + ∑ c : Fin 1408, d4 (ix2 r c) * w4 (ix2 k c)) := by
  pointwise [k0_pay58, k0_pay33, k0_pay5]

theorem rs_at (x : Vec Ideal S256x1024 .f32) (r : Fin 256) :
    k0_pay59 x (ix2 r 0) = Ideal.rsqrt (Ideal.div (∑ k : Fin 1024, x (ix2 r k) * x (ix2 r k)) (Ideal.ofBits .f32 0x44800000#32) + Ideal.ofBits .f32 0x358637BD#32) := by
  pointwise [k0_pay59]

theorem dg_at (h : FVec Ideal S256x1024 .f32) (v162 : FVec Ideal S256x1024 .f32) (d3 d4 : FVec Ideal S256x1408 .bf16) (w3 w4 : Vec Ideal S1024x1408 .bf16)
    (x : Vec Ideal S256x1024 .f32) (acc : Vec Ideal S1x1024 .f32) (k : Fin 1024) :
    k0_pay61 v162 d3 d4 w3 w4 x acc (ix2 0 k) = acc (ix2 0 k) + ∑ r : Fin 256, k0_pay58 v162 d3 d4 w3 w4 (ix2 r k) * (x (ix2 r k) * k0_pay59 x (ix2 r 0)) := by
  pointwise [k0_pay61, k0_pay60]

theorem dx_at (h : FVec Ideal S256x1024 .f32) (x : Vec Ideal S256x1024 .f32) (g : Vec Ideal S1x1024 .f32) (dy : Vec Ideal S256x1024 .f32) (r : Fin 256) (k : Fin 1024) :
    k0_pay1 h (k0_pay59 x) (k0_pay60 x) g dy (ix2 r k)
      = dy (ix2 r k) + k0_pay59 x (ix2 r 0) * (h (ix2 r k) * g (ix2 0 k)
          - x (ix2 r k) * k0_pay59 x (ix2 r 0) * Ideal.div (∑ l : Fin 1024, h (ix2 r l) * g (ix2 0 l) * (x (ix2 r l) * k0_pay59 x (ix2 r 0))) (Ideal.ofBits .f32 0x44800000#32)) := by
  pointwise [k0_pay1, k0_pay60]

end Cert.Kernel7Ideal.Gate

end
-- ==== Proof.GateReals.lean ====
/-
  The real-number side of the gated block's backward pass: the forward values, the gradients, and how the extended reals'
  operations act on the real numbers among them.
-/
module

public import proofs.«01_k».proof.Proof.Reals
public import Idealize.ShloMosaic.Lib.Pointwise

@[expose] public section

set_option maxRecDepth 16384

noncomputable section

namespace Cert.Proof

open Idealize.ShloMosaic

/-- The bits of the normalisation's small constant, as a real number. -/
def eps : ℝ := 8796093 * 2⁻¹ ^ 43

theorem ofBits_eps : Ideal.ofBits .f32 0x358637BD#32 = ((eps : ℝ) : EReal) := by
  simp [Ideal.ofBits, Ideal.ieee, eps, -EReal.coe_mul]

theorem eps_pos : 0 < eps := by unfold eps; positivity

theorem ofBits_width : Ideal.ofBits .f32 0x44800000#32 = ((1024 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul, -EReal.coe_neg]; norm_num

theorem coe_div (a b : ℝ) (h : b ≠ 0) : Ideal.div (a : EReal) (b : EReal) = ((a / b : ℝ) : EReal) := by
  rw [Ideal.div_coe h, ← EReal.coe_mul, mul_one_div]

theorem coe_rsqrt (a : ℝ) (h : 0 < a) : Ideal.rsqrt (a : EReal) = (((Real.sqrt a)⁻¹ : ℝ) : EReal) := by
  rw [Ideal.rsqrt_coe, if_neg (not_lt.mpr h.le), if_neg h.ne']

/-- The logistic function. -/
def sg (v : ℝ) : ℝ := (1 + Real.exp (-v))⁻¹

theorem coe_sg (v : ℝ) : Ideal.logistic (v : EReal) = ((sg v : ℝ) : EReal) := Ideal.logistic_coe _

/-- The operands of the gated block's backward pass, as real numbers. -/
structure Ins where
  x : ℕ → ℕ → ℝ
  g : ℕ → ℝ
  w : ℕ → ℕ → ℝ
  cw : ℕ → ℕ → ℝ
  cb : ℕ → ℝ
  wd : ℕ → ℕ → ℝ
  dy : ℕ → ℕ → ℝ

namespace Ins

variable (I : Ins)

/-- The mean square of a row, with the small constant. -/
def ms (t : ℕ) : ℝ := (∑ k : Fin 1024, I.x t k * I.x t k) / 1024 + eps

theorem ms_pos (t : ℕ) : 0 < I.ms t :=
  add_pos_of_nonneg_of_pos (div_nonneg (Finset.sum_nonneg fun _ _ => mul_self_nonneg _) (by norm_num)) eps_pos

/-- The inverse root mean square. -/
def rs (t : ℕ) : ℝ := (Real.sqrt (I.ms t))⁻¹

theorem rs_sq (t : ℕ) : I.rs t * I.rs t = (I.ms t)⁻¹ := by
  unfold rs
  rw [← mul_inv, Real.mul_self_sqrt (I.ms_pos t).le]

/-- The up projection's output. -/
def z (t c : ℕ) : ℝ := ∑ k : Fin 1024, I.x t k * I.rs t * I.g k * I.w k c

/-- The up projection's output under two rows of zeros. -/
def zp (t c : ℕ) : ℝ := if t < 2 then 0 else I.z (t - 2) c

/-- The convolution's output. -/
def zc (t c : ℕ) : ℝ := ((I.cb c + I.zp t c * I.cw 0 c) + I.zp (t + 1) c * I.cw 1 c) + I.zp (t + 2) c * I.cw 2 c

/-- The gradient of the gated product; nothing below the last row. -/
def df (t c : ℕ) : ℝ := if t < 8192 then ∑ k : Fin 1024, I.dy t k * I.wd c k else 0

/-- The gradient of the gate. -/
def gg (t c : ℕ) : ℝ := I.df t c * I.zc t (2816 + c) * (sg (I.zc t c) * (1 + I.zc t c * (1 - sg (I.zc t c))))

/-- The gradient of the value. -/
def gv (t c : ℕ) : ℝ := I.df t c * (I.zc t c * sg (I.zc t c))

/-- The gradient of the convolution's output. -/
def gr (t c : ℕ) : ℝ := if c < 2816 then I.gg t c else I.gv t (c - 2816)

/-- The gradient of the convolution's input. -/
def dzr (t c : ℕ) : ℝ := I.gr t c * I.cw 2 c + I.gr (t + 1) c * I.cw 1 c + I.gr (t + 2) c * I.cw 0 c

/-- The gradient of the normalised row. -/
def dhr (t k : ℕ) : ℝ := ∑ c : Fin 5632, I.dzr t c * I.w k c

/-- What row `t` adds to the gradients of the convolution's weights and bias. -/
def tp (t j c : ℕ) : ℝ :=
  if j = 3 then I.gr t c else if j = 2 then I.gr t c * I.z t c else if j = 1 then I.gr (t + 1) c * I.z t c else if j = 0 then I.gr (t + 2) c * I.z t c else 0

/-- The gradients of the convolution's weights and bias. -/
def tapr (j c : ℕ) : ℝ := ∑ t : Fin 8192, I.tp t j c

/-- The gradient of the scale. -/
def dgr (k : ℕ) : ℝ := ∑ t : Fin 8192, I.dhr t k * (I.x t k * I.rs t)

/-- The gradient of the input. -/
def dxr (t k : ℕ) : ℝ :=
  I.dy t k + I.rs t * (I.dhr t k * I.g k - I.x t k * I.rs t * ((∑ l : Fin 1024, I.dhr t l * I.g l * (I.x t l * I.rs t)) / 1024))

theorem df_last (t c : ℕ) (h : 8192 ≤ t) : I.df t c = 0 := if_neg (by omega)

theorem gr_last (t c : ℕ) (h : 8192 ≤ t) : I.gr t c = 0 := by
  unfold gr gg gv
  simp [I.df_last t _ h]

theorem gr_gate (t c : ℕ) (h : c < 2816) : I.gr t c = I.gg t c := if_pos h

theorem gr_value (t c : ℕ) : I.gr t (2816 + c) = I.gv t c := by
  unfold gr
  rw [if_neg (by omega), Nat.add_sub_cancel_left]

end Ins

/-- A sum over all columns, from its four quarters. -/
theorem sum_quarters (f : ℕ → ℝ) :
    ((∑ c : Fin 1408, f (0 + c.val)) + ∑ c : Fin 1408, f (2816 + c.val)) + ((∑ c : Fin 1408, f (1408 + c.val)) + ∑ c : Fin 1408, f (4224 + c.val)) = ∑ c : Fin 5632, f c.val := by
  rw [Fin.sum_univ_eq_sum_range (fun c => f (0 + c)) 1408, Fin.sum_univ_eq_sum_range (fun c => f (1408 + c)) 1408,
    Fin.sum_univ_eq_sum_range (fun c => f (2816 + c)) 1408, Fin.sum_univ_eq_sum_range (fun c => f (4224 + c)) 1408,
    Fin.sum_univ_eq_sum_range f 5632, show 5632 = 1408 + 1408 + 1408 + 1408 from rfl, Finset.sum_range_add, Finset.sum_range_add, Finset.sum_range_add]
  simp only [zero_add, Nat.reduceAdd]
  ring

end Cert.Proof

end
-- ==== Proof.GateTileReal.lean ====
/-
  The tiles of the gated block's backward kernel over real operands: each tile is a block of the gradients.
-/
module

public import proofs.«01_k».proof.Proof.GateTile
public import proofs.«01_k».proof.Proof.GateReals

@[expose] public section

set_option maxRecDepth 16384

noncomputable section

open Idealize.ShloMosaic Idealize.ShloMosaic.TcCoe

namespace Cert.Kernel7Ideal.Gate

open Cert.Kernel7Ideal Cert.Kernel7Ideal.Gen Cert.Proof

/-- The output gradients of a tile and of the rows after it. -/
structure Grads (I : Ins) (P : ℕ) (i : grid0.Coords) (v2 : Vec Ideal S256x1024 .f32) (v3 : Vec Ideal S16x1024 .f32) : Prop where
  lt : P < 32
  point : (i 0).val = P
  main : ∀ (r : Fin 256) (k : Fin 1024), (v2 (ix2 r k) : EReal) = ((I.dy (256 * P + r.val) k.val : ℝ) : EReal)
  after : P ≠ 31 → ∀ (r : Fin 16) (k : Fin 1024), (v3 (ix2 r k) : EReal) = ((I.dy (256 * (P + 1) + r.val) k.val : ℝ) : EReal)

/-- The convolution's outputs of a tile and of the rows after it, from column `off`. -/
structure Outs (I : Ins) (P off : ℕ) (a : Vec Ideal S256x1408 .bf16) (b : Vec Ideal S16x1408 .bf16) : Prop where
  main : ∀ (r : Fin 256) (c : Fin 1408), (a (ix2 r c) : EReal) = ((I.zc (256 * P + r.val) (off + c.val) : ℝ) : EReal)
  after : P ≠ 31 → ∀ (r : Fin 16) (c : Fin 1408), (b (ix2 r c) : EReal) = ((I.zc (256 * (P + 1) + r.val) (off + c.val) : ℝ) : EReal)

variable {I : Ins} {P : ℕ} {i : grid0.Coords} {v2 : Vec Ideal S256x1024 .f32} {v3 : Vec Ideal S16x1024 .f32}

theorem pay2_real (G : Grads I P i v2 v3) (r : Fin 272) (k : Fin 1024) :
    (k0_pay2 i v2 v3 (ix2 r k) : EReal) = if 256 * P + r.val < 8192 then ((I.dy (256 * P + r.val) k.val : ℝ) : EReal) else 0 := by
  have hP := G.lt
  rw [pay2_at]
  by_cases h : r.val < 256
  · rw [dif_pos h, if_pos (by omega)]
    exact G.main ⟨r.val, h⟩ k
  · rw [dif_neg h]
    by_cases hl : P = 31
    · rw [if_pos (G.point.trans hl), if_neg (by omega)]
    · rw [if_neg (by rw [G.point]; exact hl), if_pos (by omega)]
      have e := G.after hl ⟨r.val - 256, by omega⟩ k
      rw [show 256 * (P + 1) + (⟨r.val - 256, by omega⟩ : Fin 16).val = 256 * P + r.val by dsimp only; omega] at e
      exact e

theorem df_real (G : Grads I P i v2 v3) (off : ℕ) (w : Vec Ideal S1408x1024 .bf16)
    (hw : ∀ (c : Fin 1408) (k : Fin 1024), (w (ix2 c k) : EReal) = ((I.wd (off + c.val) k.val : ℝ) : EReal)) (r : Fin 272) (c : Fin 1408) :
    (k0_pay35 (k0_pay2 i v2 v3) w (ix2 r c) : EReal) = ((I.df (256 * P + r.val) (off + c.val) : ℝ) : EReal) := by
  rw [pay35_at]
  have e : ∀ k : Fin 1024, (k0_pay2 i v2 v3 (ix2 r k) : EReal) * (w (ix2 c k) : EReal)
      = (if 256 * P + r.val < 8192 then ((I.dy (256 * P + r.val) k.val : ℝ) : EReal) else 0) * ((I.wd (off + c.val) k.val : ℝ) : EReal) := fun k => by
    rw [pay2_real G, hw]
  refine (Finset.sum_congr rfl fun k _ => e k).trans ?_
  unfold Ins.df
  by_cases h : 256 * P + r.val < 8192
  · simp only [if_pos h, ← EReal.coe_mul, coe_sum]
  · simp only [if_neg h, zero_mul, Finset.sum_const_zero, EReal.coe_zero]

theorem pay6_real {off : ℕ} {a : Vec Ideal S256x1408 .bf16} {b : Vec Ideal S16x1408 .bf16} (O : Outs I P off a b) (r : Fin 272) (c : Fin 1408)
    (h : 256 * P + r.val < 8192) (hP : P < 32) :
    (k0_pay6 a b (ix2 r c) : EReal) = ((I.zc (256 * P + r.val) (off + c.val) : ℝ) : EReal) := by
  rw [pay6_at]
  by_cases hr : r.val < 256
  · rw [dif_pos hr]
    exact O.main ⟨r.val, hr⟩ c
  · rw [dif_neg hr]
    have e := O.after (by omega) ⟨r.val - 256, by omega⟩ c
    rw [show 256 * (P + 1) + (⟨r.val - 256, by omega⟩ : Fin 16).val = 256 * P + r.val by dsimp only; omega] at e
    exact e

/-- A tile of the gradients of the convolution's output, with the rows after it. -/
def Tile (I : Ins) (P off : ℕ) (T : FVec Ideal S272x1408 .f32) : Prop :=
  ∀ (r : Fin 272) (c : Fin 1408), (T (ix2 r c) : EReal) = ((I.gr (256 * P + r.val) (off + c.val) : ℝ) : EReal)

theorem gate_real (G : Grads I P i v2 v3) {off : ℕ} (ho : off + 1408 ≤ 2816) {a u : Vec Ideal S256x1408 .bf16} {b ub : Vec Ideal S16x1408 .bf16}
    (A : Outs I P off a b) (U : Outs I P (2816 + off) u ub) {w : Vec Ideal S1408x1024 .bf16}
    (hw : ∀ (c : Fin 1408) (k : Fin 1024), (w (ix2 c k) : EReal) = ((I.wd (off + c.val) k.val : ℝ) : EReal)) :
    Tile I P off (k0_pay11 (k0_pay9 i v2 v3 u ub w) (k0_pay10 a b)) := fun r c => by
  have hP := G.lt
  rw [gate_at, df_real G off w hw, I.gr_gate _ _ (by omega)]
  unfold Ins.gg
  by_cases h : 256 * P + r.val < 8192
  · rw [pay6_real A r c h hP, pay6_real U r c h hP, coe_sg, show 2816 + off + c.val = 2816 + (off + c.val) by omega]
    simp only [← EReal.coe_one, ← EReal.coe_sub, ← EReal.coe_mul, ← EReal.coe_add]
  · simp only [I.df_last _ _ (not_lt.mp h), EReal.coe_zero, zero_mul]

theorem value_real (G : Grads I P i v2 v3) {off : ℕ} {a : Vec Ideal S256x1408 .bf16} {b : Vec Ideal S16x1408 .bf16}
    (A : Outs I P off a b) {w : Vec Ideal S1408x1024 .bf16}
    (hw : ∀ (c : Fin 1408) (k : Fin 1024), (w (ix2 c k) : EReal) = ((I.wd (off + c.val) k.val : ℝ) : EReal)) :
    Tile I P (2816 + off) (k0_pay19 (k0_pay6 a b) (k0_pay35 (k0_pay2 i v2 v3) w) (k0_pay8 a b)) := fun r c => by
  have hP := G.lt
  rw [value_at, df_real G off w hw, pay8_at, show 2816 + off + c.val = 2816 + (off + c.val) by omega, I.gr_value]
  unfold Ins.gv
  by_cases h : 256 * P + r.val < 8192
  · rw [pay6_real A r c h hP, coe_sg]
    simp only [← EReal.coe_mul]
  · simp only [I.df_last _ _ (not_lt.mp h), EReal.coe_zero, zero_mul]

theorem conv_real {off : ℕ} {T : FVec Ideal S272x1408 .f32} (hT : Tile I P off T) {cw : Vec Ideal S8x1408 .f32}
    (hc : ∀ (j : Fin 8) (c : Fin 1408), j.val < 3 → (cw (ix2 j c) : EReal) = ((I.cw j.val (off + c.val) : ℝ) : EReal)) (r : Fin 256) (c : Fin 1408) :
    conv T cw r c = ((I.dzr (256 * P + r.val) (off + c.val) : ℝ) : EReal) := by
  unfold conv Ins.dzr
  rw [hT, hT, hT, hc 2 c (by decide), hc 1 c (by decide), hc 0 c (by decide)]
  simp only [← EReal.coe_mul, ← EReal.coe_add]
  rfl

theorem tap_real {off : ℕ} {T : FVec Ideal S272x1408 .f32} (hT : Tile I P off T) {z : Vec Ideal S256x1408 .bf16}
    (hz : ∀ (r : Fin 256) (c : Fin 1408), (z (ix2 r c) : EReal) = ((I.z (256 * P + r.val) (off + c.val) : ℝ) : EReal)) (j : Fin 8) (c : Fin 1408) :
    tap T z j c = ((∑ r : Fin 256, I.tp (256 * P + r.val) j.val (off + c.val) : ℝ) : EReal) := by
  unfold tap Ins.tp
  by_cases h3 : j.val = 3
  · simp only [if_pos h3, hT _ _, coe_sum]
  by_cases h2 : j.val = 2
  · simp only [if_neg h3, if_pos h2, hT _ _, hz, ← EReal.coe_mul, coe_sum]
  by_cases h1 : j.val = 1
  · simp only [if_neg h3, if_neg h2, if_pos h1, hT _ _, hz, ← EReal.coe_mul, coe_sum]
    rfl
  by_cases h0 : j.val = 0
  · simp only [if_neg h3, if_neg h2, if_neg h1, if_pos h0, hT _ _, hz, ← EReal.coe_mul, coe_sum]
    rfl
  · simp only [if_neg h3, if_neg h2, if_neg h1, if_neg h0, Finset.sum_const_zero, EReal.coe_zero]

theorem dh_real {d1 : FVec Ideal S256x1408 .f32} {c1 : FVec Ideal S8x1408 .f32} {b0 b1 b2 : FVec Ideal S256x1408 .f32} {d3 d4 : FVec Ideal S256x1408 .bf16}
    {w1 w2 w3 w4 : Vec Ideal S1024x1408 .bf16}
    (e1 : ∀ (r : Fin 256) (c : Fin 1408), (k0_pay29 d1 (ix2 r c) : EReal) = ((I.dzr (256 * P + r.val) (0 + c.val) : ℝ) : EReal))
    (e2 : ∀ (r : Fin 256) (c : Fin 1408), (k0_pay30 c1 b0 b1 b2 (ix2 r c) : EReal) = ((I.dzr (256 * P + r.val) (2816 + c.val) : ℝ) : EReal))
    (e3 : ∀ (r : Fin 256) (c : Fin 1408), (d3 (ix2 r c) : EReal) = ((I.dzr (256 * P + r.val) (1408 + c.val) : ℝ) : EReal))
    (e4 : ∀ (r : Fin 256) (c : Fin 1408), (d4 (ix2 r c) : EReal) = ((I.dzr (256 * P + r.val) (4224 + c.val) : ℝ) : EReal))
    (h1 : ∀ (k : Fin 1024) (c : Fin 1408), (w1 (ix2 k c) : EReal) = ((I.w k.val (0 + c.val) : ℝ) : EReal))
    (h2 : ∀ (k : Fin 1024) (c : Fin 1408), (w2 (ix2 k c) : EReal) = ((I.w k.val (2816 + c.val) : ℝ) : EReal))
    (h3 : ∀ (k : Fin 1024) (c : Fin 1408), (w3 (ix2 k c) : EReal) = ((I.w k.val (1408 + c.val) : ℝ) : EReal))
    (h4 : ∀ (k : Fin 1024) (c : Fin 1408), (w4 (ix2 k c) : EReal) = ((I.w k.val (4224 + c.val) : ℝ) : EReal)) (r : Fin 256) (k : Fin 1024) :
    (k0_pay58 (k0_pay33 (k0_pay5 (F := Ideal)) d1 c1 b0 b1 b2 w1 w2) d3 d4 w3 w4 (ix2 r k) : EReal) = ((I.dhr (256 * P + r.val) k.val : ℝ) : EReal) := by
  rw [dh_at]
  simp only [e1, e2, e3, e4, h1, h2, h3, h4, ← EReal.coe_mul, coe_sum, ← EReal.coe_add]
  rw [sum_quarters fun c => I.dzr (256 * P + r.val) c * I.w k.val c]
  rfl

theorem rs_real {x : Vec Ideal S256x1024 .f32} (hx : ∀ (r : Fin 256) (k : Fin 1024), (x (ix2 r k) : EReal) = ((I.x (256 * P + r.val) k.val : ℝ) : EReal)) (r : Fin 256) :
    (k0_pay59 x (ix2 r 0) : EReal) = ((I.rs (256 * P + r.val) : ℝ) : EReal) := by
  rw [rs_at]
  simp only [hx, ← EReal.coe_mul, coe_sum]
  rw [ofBits_width, ofBits_eps, coe_div _ _ (by norm_num), ← EReal.coe_add]
  exact coe_rsqrt _ (I.ms_pos _)

theorem dg_real {v162 : FVec Ideal S256x1024 .f32} {d3 d4 : FVec Ideal S256x1408 .bf16} {w3 w4 : Vec Ideal S1024x1408 .bf16}
    {x : Vec Ideal S256x1024 .f32} {acc : Vec Ideal S1x1024 .f32} (hx : ∀ (r : Fin 256) (k : Fin 1024), (x (ix2 r k) : EReal) = ((I.x (256 * P + r.val) k.val : ℝ) : EReal))
    (hh : ∀ (r : Fin 256) (k : Fin 1024), (k0_pay58 v162 d3 d4 w3 w4 (ix2 r k) : EReal) = ((I.dhr (256 * P + r.val) k.val : ℝ) : EReal)) (k : Fin 1024) :
    (k0_pay61 v162 d3 d4 w3 w4 x acc (ix2 0 k) : EReal)
      = (acc (ix2 0 k) : EReal) + ((∑ r : Fin 256, I.dhr (256 * P + r.val) k.val * (I.x (256 * P + r.val) k.val * I.rs (256 * P + r.val)) : ℝ) : EReal) := by
  rw [dg_at (k0_pay58 v162 d3 d4 w3 w4)]
  simp only [hx, hh, rs_real hx, ← EReal.coe_mul, coe_sum]

theorem dx_real {h : FVec Ideal S256x1024 .f32} {x dy : Vec Ideal S256x1024 .f32} {g : Vec Ideal S1x1024 .f32}
    (hx : ∀ (r : Fin 256) (k : Fin 1024), (x (ix2 r k) : EReal) = ((I.x (256 * P + r.val) k.val : ℝ) : EReal))
    (hd : ∀ (r : Fin 256) (k : Fin 1024), (dy (ix2 r k) : EReal) = ((I.dy (256 * P + r.val) k.val : ℝ) : EReal))
    (hg : ∀ k : Fin 1024, (g (ix2 0 k) : EReal) = ((I.g k.val : ℝ) : EReal))
    (hh : ∀ (r : Fin 256) (k : Fin 1024), (h (ix2 r k) : EReal) = ((I.dhr (256 * P + r.val) k.val : ℝ) : EReal)) (r : Fin 256) (k : Fin 1024) :
    (k0_pay1 h (k0_pay59 x) (k0_pay60 x) g dy (ix2 r k) : EReal) = ((I.dxr (256 * P + r.val) k.val : ℝ) : EReal) := by
  rw [dx_at]
  simp only [hx, hh, hg, hd, rs_real hx, ← EReal.coe_mul, coe_sum]
  rw [ofBits_width, coe_div _ _ (by norm_num)]
  simp only [← EReal.coe_sub, ← EReal.coe_mul, ← EReal.coe_add]
  rfl

end Cert.Kernel7Ideal.Gate

end
-- ==== Proof.GateHost.lean ====
/-
  What the host operations hand the gated block's backward kernel, over real operands.
-/
module

public import proofs.«01_k».proof.Proof.GateTileReal
public import proofs.«01_k».proof.Proof.Gen.Kernel7Ideal.Frame
public import Idealize.ShloMosaic.Lib.Pipeline.ValueKit
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem

namespace Cert.Kernel7Ideal.Gate

open Cert.Kernel7Ideal Cert.Kernel7Ideal.Gen Cert.Proof

/-- The operands hold the real numbers `I`. -/
structure Holds (I : Ins) (x : FVec Ideal S8192x1024 .f32) (g : FVec Ideal S1024 .f32) (w : FVec Ideal S1024x5632 .bf16) (cw : FVec Ideal S3x5632 .f32)
    (cb : FVec Ideal S5632 .f32) (wd : FVec Ideal S2816x1024 .bf16) (dy : FVec Ideal S8192x1024 .f32) : Prop where
  x : ∀ (t : Fin 8192) (k : Fin 1024), (x (ix2 t k) : EReal) = ((I.x t.val k.val : ℝ) : EReal)
  g : ∀ k : Fin 1024, (g (ix1 k) : EReal) = ((I.g k.val : ℝ) : EReal)
  w : ∀ (k : Fin 1024) (c : Fin 5632), (w (ix2 k c) : EReal) = ((I.w k.val c.val : ℝ) : EReal)
  cw : ∀ (j : Fin 3) (c : Fin 5632), (cw (ix2 j c) : EReal) = ((I.cw j.val c.val : ℝ) : EReal)
  cb : ∀ c : Fin 5632, (cb (ix1 c) : EReal) = ((I.cb c.val : ℝ) : EReal)
  wd : ∀ (c : Fin 2816) (k : Fin 1024), (wd (ix2 c k) : EReal) = ((I.wd c.val k.val : ℝ) : EReal)
  dy : ∀ (t : Fin 8192) (k : Fin 1024), (dy (ix2 t k) : EReal) = ((I.dy t.val k.val : ℝ) : EReal)

/-- The rows' inverse root mean squares. -/
def hostRs (x : FVec Ideal S8192x1024 .f32) : FVec Ideal S8192x1 .f32 :=
  Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))

/-- The up projection's output. -/
def hostZ (x : FVec Ideal S8192x1024 .f32) (g : FVec Ideal S1024 .f32) (w : FVec Ideal S1024x5632 .bf16) : FVec Ideal S8192x5632 .f32 :=
  Host.dotGeneral dot_S8192x1024_S1024x5632_S8192x5632_1_0_0_1_n_n none
    (mulf (mulf x (broadcastInDim S8192x1024 ![0, 1] bcast_S8192x1_S8192x1024_0_1 (hostRs x)))
      (broadcastInDim S8192x1024 ![0, 1] bcast_S1x1024_S8192x1024_0_1 (broadcastInDim S1x1024 ![1] bcast_S1024_S1x1024_1 g)))
    (extf .f32 w bitsLt_bf16_f32 : FVec Ideal S1024x5632 .f32)

/-- The up projection's output under two rows of zeros. -/
def hostZp (z : FVec Ideal S8192x5632 .f32) : FVec Ideal S8194x5632 .f32 :=
  concatenate S8194x5632 0 [⟨S2x5632, broadcastInDim S2x5632 ![] bcast_S_S2x5632 (constant S_ .f32 0x00000000#32)⟩, ⟨S8192x5632, z⟩] concatenates_S2x5632_S8192x5632_S8194x5632_d0

/-- A row of the convolution's weights over all rows. -/
def hostTap (w : FVec Ideal S1x5632 .f32) : FVec Ideal S8192x5632 .f32 :=
  broadcastInDim S8192x5632 ![0, 1] bcast_S1x5632_S8192x5632_0_1 (broadcastInDim S1x5632 ![1] bcast_S5632_S1x5632_1 (shapeCast S5632 w shapeCasts_S1x5632_S5632))

/-- The convolution's output. -/
def hostZc (zp : FVec Ideal S8194x5632 .f32) (cw : FVec Ideal S3x5632 .f32) (cb : FVec Ideal S5632 .f32) : FVec Ideal S8192x5632 .f32 :=
  addf (addf (addf (broadcastInDim S8192x5632 ![0, 1] bcast_S1x5632_S8192x5632_0_1 (broadcastInDim S1x5632 ![1] bcast_S5632_S1x5632_1 cb))
    (mulf (extractStridedSlice S8192x5632 ![0, 0] zp slices_S8194x5632_S8192x5632_0_0) (hostTap (extractStridedSlice S1x5632 ![0, 0] cw slices_S3x5632_S1x5632_0_0))))
    (mulf (extractStridedSlice S8192x5632 ![1, 0] zp slices_S8194x5632_S8192x5632_1_0) (hostTap (extractStridedSlice S1x5632 ![1, 0] cw slices_S3x5632_S1x5632_1_0))))
    (mulf (extractStridedSlice S8192x5632 ![2, 0] zp slices_S8194x5632_S8192x5632_2_0) (hostTap (extractStridedSlice S1x5632 ![2, 0] cw slices_S3x5632_S1x5632_2_0)))

/-- The convolution's weights and bias in one array of eight rows. -/
def hostCwb (cw : FVec Ideal S3x5632 .f32) (cb : FVec Ideal S5632 .f32) : FVec Ideal S8x5632 .f32 :=
  concatenate S8x5632 0 [⟨S3x5632, cw⟩, ⟨S1x5632, broadcastInDim S1x5632 ![1] bcast_S5632_S1x5632_1 cb⟩, ⟨S4x5632, broadcastInDim S4x5632 ![] bcast_S_S4x5632 (constant S_ .f32 0x00000000#32)⟩]
    concatenates_S3x5632_S1x5632_S4x5632_S8x5632_d0

section
variable {I : Ins} {x : FVec Ideal S8192x1024 .f32} {g : FVec Ideal S1024 .f32} {w : FVec Ideal S1024x5632 .bf16} {cw : FVec Ideal S3x5632 .f32}
  {cb : FVec Ideal S5632 .f32} {wd : FVec Ideal S2816x1024 .bf16} {dy : FVec Ideal S8192x1024 .f32} (H : Holds I x g w cw cb wd dy)

include H

theorem hostRs_at (t : Fin 8192) : (hostRs x (ix2 t 0) : EReal) = ((I.rs t.val : ℝ) : EReal) := by
  pointwise [hostRs]
  simp only [H.x, ← EReal.coe_mul, coe_sum]
  rw [ofBits_width, ofBits_eps, coe_div _ _ (by norm_num), ← EReal.coe_add]
  exact coe_rsqrt _ (I.ms_pos _)

theorem hostZ_at (t : Fin 8192) (c : Fin 5632) : (hostZ x g w (ix2 t c) : EReal) = ((I.z t.val c.val : ℝ) : EReal) := by
  pointwise [hostZ]
  simp only [H.x, H.g, H.w, hostRs_at H, ← EReal.coe_mul, coe_sum]
  rfl

theorem hostZp_at (t : Fin 8194) (c : Fin 5632) : (hostZp (hostZ x g w) (ix2 t c) : EReal) = ((I.zp t.val c.val : ℝ) : EReal) := by
  pointwise [hostZp]
  unfold Ins.zp
  by_cases h : t.val < 2
  · rw [if_pos h]
    simp only [h, ↓reduceDIte, ↓reduceIte, EReal.coe_zero]
  · rw [if_neg h]
    simp only [h, ↓reduceDIte, ↓reduceIte]
    exact hostZ_at H ⟨t.val - 2, by omega⟩ c

theorem hostZc_at (t : Fin 8192) (c : Fin 5632) : (hostZc (hostZp (hostZ x g w)) cw cb (ix2 t c) : EReal) = ((I.zc t.val c.val : ℝ) : EReal) := by
  pointwise [hostZc, hostTap]
  simp only [hostZp_at H, H.cw, H.cb, ← EReal.coe_mul, ← EReal.coe_add]
  unfold Ins.zc
  simp only [Nat.add_comm, Nat.zero_add, Nat.add_zero]
  rfl

theorem hostCwb_at (j : Fin 8) (c : Fin 5632) (h : j.val < 3) : (hostCwb cw cb (ix2 j c) : EReal) = ((I.cw j.val c.val : ℝ) : EReal) := by
  pointwise [hostCwb]
  simp only [h, ↓reduceDIte, ↓reduceIte]
  exact H.cw ⟨j.val, h⟩ c

end

section
variable (m : (ℓ : Loc nD τ sig) → Buf (Elt Ideal) ℓ) (c : Dev nD)

theorem V_z : V m c main_v43 = (truncf .bf16 (hostZ (m ((c : Thread nD τ).loc main_arg0)) (m ((c : Thread nD τ).loc main_arg1)) (m ((c : Thread nD τ).loc main_arg2))) bitsLt_bf16_f32 : FVec Ideal S8192x5632 .bf16) := by
  entry_read; rfl

theorem V_zc : V m c main_v44 = (truncf .bf16 (hostZc (hostZp (hostZ (m ((c : Thread nD τ).loc main_arg0)) (m ((c : Thread nD τ).loc main_arg1)) (m ((c : Thread nD τ).loc main_arg2))))
    (m ((c : Thread nD τ).loc main_arg3)) (m ((c : Thread nD τ).loc main_arg4))) bitsLt_bf16_f32 : FVec Ideal S8192x5632 .bf16) := by
  entry_read; rfl

theorem V_cwb : V m c main_v42 = hostCwb (m ((c : Thread nD τ).loc main_arg3)) (m ((c : Thread nD τ).loc main_arg4)) := by
  show StableHlo.after hostOps0 (fun b => m (c, b)) (Proc.devRef .tc main_v42) = _
  after_reads_simp
  rfl

theorem V_g : V m c main_v45 = (broadcastInDim S1x1024 ![1] bcast_S1024_S1x1024_1 (m ((c : Thread nD τ).loc main_arg1) : FVec Ideal S1024 .f32) : FVec Ideal S1x1024 .f32) := by
  entry_read; rfl

end

end Cert.Kernel7Ideal.Gate

end
-- ==== Proof.GatePoint.lean ====
/-
  A grid point of the gated block's backward kernel: the blocks it reads are rows of the operands, and what it stores are
  blocks of the gradients.
-/
module

public import proofs.«01_k».proof.Proof.GateHost
public import proofs.«01_k».proof.Proof.Gen.Kernel7Ideal.Value

@[expose] public section

set_option maxRecDepth 16384

noncomputable section

open Idealize.ShloMosaic Idealize.ShloMosaic.TcCoe Idealize.SL.Sem
open Idealize.ShloMosaic.Pipeline (Dat)

namespace Cert.Kernel7Ideal.Gate

open Cert.Kernel7Ideal Cert.Kernel7Ideal.Gen Cert.Proof

variable (m : (ℓ : Loc nD τ sig) → Buf (Elt Ideal) ℓ) (c : Dev nD)

/-- Which block each point works on. -/
theorem idx : ∀ t : Fin cfg0.N, win0_0.index t = ![t.val, 0] ∧ win0_1.index t = ![t.val, 0] ∧ win0_2.index t = ![min ((t.val + 1) * 16) 511, 0] ∧ win0_3.index t = ![0, 0] ∧ win0_4.index t = ![0, 0]
    ∧ win0_5.index t = ![0, 0] ∧ win0_6.index t = ![t.val, 0] ∧ win0_7.index t = ![0, 0] ∧ win0_8.index t = ![t.val, 0] ∧ win0_9.index t = ![min ((t.val + 1) * 16) 511, 0] ∧ win0_10.index t = ![t.val, 0] ∧ win0_11.index t = ![0, 0] ∧ win0_12.index t = ![t.val, 0] ∧ win0_13.index t = ![0, 0] :=
  (by decide +kernel : ∀ t : Fin grid0.N, _)

theorem coords_at : ∀ t : Fin cfg0.N, ((grid0.coords t) 0).val = t.val := (by decide +kernel : ∀ t : Fin grid0.N, _)

theorem point_lt (t : Fin cfg0.N) : t.val < 32 := t.isLt

theorem blk0 (t : Fin cfg0.N) (r : Fin 256) (k : Fin 5632) (h : 256 * t.val + r.val < 8192) :
    iblk m c 0 t (ix2 r k) = V m c main_v43 (ix2 ⟨256 * t.val + r.val, h⟩ k) := by
  blk_ext [iblk, idx t]

theorem blk1 (t : Fin cfg0.N) (r : Fin 256) (k : Fin 5632) (h : 256 * t.val + r.val < 8192) :
    iblk m c 1 t (ix2 r k) = V m c main_v44 (ix2 ⟨256 * t.val + r.val, h⟩ k) := by
  blk_ext [iblk, idx t]

theorem blk2 (t : Fin cfg0.N) (r : Fin 16) (k : Fin 5632) (h : 256 * (t.val + 1) + r.val < 8192) :
    iblk m c 2 t (ix2 r k) = V m c main_v44 (ix2 ⟨256 * (t.val + 1) + r.val, h⟩ k) := by
  have e : min ((t.val + 1) * 16) 511 = (t.val + 1) * 16 := min_eq_left (by omega)
  blk_ext [iblk, idx t, e]

theorem blk3 (t : Fin cfg0.N) (j : Fin 8) (k : Fin 5632) : iblk m c 3 t (ix2 j k) = V m c main_v42 (ix2 j k) := by
  blk_ext [iblk, idx t]

theorem blk4 (t : Fin cfg0.N) (j : Fin 1024) (k : Fin 5632) : iblk m c 4 t (ix2 j k) = V m c main_arg2 (ix2 j k) := by
  blk_ext [iblk, idx t]

theorem blk5 (t : Fin cfg0.N) (j : Fin 2816) (k : Fin 1024) : iblk m c 5 t (ix2 j k) = V m c main_arg5 (ix2 j k) := by
  blk_ext [iblk, idx t]

theorem blk6 (t : Fin cfg0.N) (r : Fin 256) (k : Fin 1024) (h : 256 * t.val + r.val < 8192) :
    iblk m c 6 t (ix2 r k) = V m c main_arg0 (ix2 ⟨256 * t.val + r.val, h⟩ k) := by
  blk_ext [iblk, idx t]

theorem blk7 (t : Fin cfg0.N) (k : Fin 1024) : iblk m c 7 t (ix2 0 k) = V m c main_v45 (ix2 0 k) := by
  blk_ext [iblk, idx t]

theorem blk8 (t : Fin cfg0.N) (r : Fin 256) (k : Fin 1024) (h : 256 * t.val + r.val < 8192) :
    iblk m c 8 t (ix2 r k) = V m c main_arg6 (ix2 ⟨256 * t.val + r.val, h⟩ k) := by
  blk_ext [iblk, idx t]

theorem blk9 (t : Fin cfg0.N) (r : Fin 16) (k : Fin 1024) (h : 256 * (t.val + 1) + r.val < 8192) :
    iblk m c 9 t (ix2 r k) = V m c main_arg6 (ix2 ⟨256 * (t.val + 1) + r.val, h⟩ k) := by
  have e : min ((t.val + 1) * 16) 511 = (t.val + 1) * 16 := min_eq_left (by omega)
  blk_ext [iblk, idx t, e]

/-- The arguments hold the real numbers `I`. -/
def Args (I : Ins) : Prop :=
  Holds I (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))

variable {m c} {I : Ins} (H : Args m c I)

include H

theorem z_at (t : Fin cfg0.N) (r : Fin 256) (k : Fin 5632) : (iblk m c 0 t (ix2 r k) : EReal) = ((I.z (256 * t.val + r.val) k.val : ℝ) : EReal) := by
  have ht := point_lt t
  refine (blk0 m c t r k (by omega)).trans ?_
  rw [V_z]
  exact hostZ_at H _ k

theorem zc_at (t : Fin cfg0.N) (r : Fin 256) (k : Fin 5632) : (iblk m c 1 t (ix2 r k) : EReal) = ((I.zc (256 * t.val + r.val) k.val : ℝ) : EReal) := by
  have ht := point_lt t
  refine (blk1 m c t r k (by omega)).trans ?_
  rw [V_zc]
  exact hostZc_at H _ k

theorem zc_after (t : Fin cfg0.N) (hl : t.val ≠ 31) (r : Fin 16) (k : Fin 5632) : (iblk m c 2 t (ix2 r k) : EReal) = ((I.zc (256 * (t.val + 1) + r.val) k.val : ℝ) : EReal) := by
  have ht := point_lt t
  refine (blk2 m c t r k (by omega)).trans ?_
  rw [V_zc]
  exact hostZc_at H _ k

theorem cw_at (t : Fin cfg0.N) (j : Fin 8) (k : Fin 5632) (h : j.val < 3) : (iblk m c 3 t (ix2 j k) : EReal) = ((I.cw j.val k.val : ℝ) : EReal) := by
  refine (blk3 m c t j k).trans ?_
  rw [V_cwb]
  exact hostCwb_at H j k h

theorem w_at (t : Fin cfg0.N) (j : Fin 1024) (k : Fin 5632) : (iblk m c 4 t (ix2 j k) : EReal) = ((I.w j.val k.val : ℝ) : EReal) := by
  refine (blk4 m c t j k).trans ?_
  rw [V_main_arg2]
  exact H.w j k

theorem wd_at (t : Fin cfg0.N) (j : Fin 2816) (k : Fin 1024) : (iblk m c 5 t (ix2 j k) : EReal) = ((I.wd j.val k.val : ℝ) : EReal) := by
  refine (blk5 m c t j k).trans ?_
  rw [V_main_arg5]
  exact H.wd j k

theorem x_at (t : Fin cfg0.N) (r : Fin 256) (k : Fin 1024) : (iblk m c 6 t (ix2 r k) : EReal) = ((I.x (256 * t.val + r.val) k.val : ℝ) : EReal) := by
  have ht := point_lt t
  refine (blk6 m c t r k (by omega)).trans ?_
  rw [V_main_arg0]
  exact H.x _ k

theorem g_at (t : Fin cfg0.N) (k : Fin 1024) : (iblk m c 7 t (ix2 0 k) : EReal) = ((I.g k.val : ℝ) : EReal) := by
  refine (blk7 m c t k).trans ?_
  rw [V_g]
  pointwise
  exact H.g k

theorem dy_at (t : Fin cfg0.N) (r : Fin 256) (k : Fin 1024) : (iblk m c 8 t (ix2 r k) : EReal) = ((I.dy (256 * t.val + r.val) k.val : ℝ) : EReal) := by
  have ht := point_lt t
  refine (blk8 m c t r k (by omega)).trans ?_
  rw [V_main_arg6]
  exact H.dy _ k

theorem dy_after (t : Fin cfg0.N) (hl : t.val ≠ 31) (r : Fin 16) (k : Fin 1024) : (iblk m c 9 t (ix2 r k) : EReal) = ((I.dy (256 * (t.val + 1) + r.val) k.val : ℝ) : EReal) := by
  have ht := point_lt t
  refine (blk9 m c t r k (by omega)).trans ?_
  rw [V_main_arg6]
  exact H.dy _ k

theorem grads (t : Fin cfg0.N) : Grads I t.val (grid0.coords t) (iblk m c 8 t) (iblk m c 9 t) :=
  ⟨point_lt t, coords_at t, dy_at H t, dy_after H t⟩

end Cert.Kernel7Ideal.Gate

end
-- ==== Proof.GateStore.lean ====
/-
  What each store of the gated block's backward kernel writes, over real operands: blocks of the convolution's input
  gradient, the tap gradients' sums over a tile, and the normalisation's gradients.
-/
module

public import proofs.«01_k».proof.Proof.GatePoint

@[expose] public section

set_option maxRecDepth 16384

noncomputable section

open Idealize.ShloMosaic Idealize.ShloMosaic.TcCoe Idealize.SL.Sem

namespace Cert.Kernel7Ideal.Gate

open Cert.Kernel7Ideal Cert.Kernel7Ideal.Gen Cert.Proof

section
variable {I : Ins} {P : ℕ} {i : grid0.Coords} {v2 : Vec Ideal S256x1024 .f32} {v3 : Vec Ideal S16x1024 .f32}
  {a u : Vec Ideal S256x1408 .bf16} {b ub : Vec Ideal S16x1408 .bf16} {w : Vec Ideal S1408x1024 .bf16} {cw : Vec Ideal S8x1408 .f32}
  {z : Vec Ideal S256x1408 .bf16} {acc : Vec Ideal S8x1408 .f32}

/-- Columns of the down projection's weights. -/
def Down (I : Ins) (off : ℕ) (w : Vec Ideal S1408x1024 .bf16) : Prop :=
  ∀ (c : Fin 1408) (k : Fin 1024), (w (ix2 c k) : EReal) = ((I.wd (off + c.val) k.val : ℝ) : EReal)

/-- Columns of the convolution's weights. -/
def Taps (I : Ins) (off : ℕ) (cw : Vec Ideal S8x1408 .f32) : Prop :=
  ∀ (j : Fin 8) (c : Fin 1408), j.val < 3 → (cw (ix2 j c) : EReal) = ((I.cw j.val (off + c.val) : ℝ) : EReal)

/-- A block of the up projection's output. -/
def Ups (I : Ins) (P off : ℕ) (z : Vec Ideal S256x1408 .bf16) : Prop :=
  ∀ (r : Fin 256) (c : Fin 1408), (z (ix2 r c) : EReal) = ((I.z (256 * P + r.val) (off + c.val) : ℝ) : EReal)

/-- Columns of the up projection's weights. -/
def Upw (I : Ins) (off : ℕ) (w : Vec Ideal S1024x1408 .bf16) : Prop :=
  ∀ (k : Fin 1024) (c : Fin 1408), (w (ix2 k c) : EReal) = ((I.w k.val (off + c.val) : ℝ) : EReal)

theorem tile1 (G : Grads I P i v2 v3) (A : Outs I P 0 a b) (U : Outs I P 2816 u ub) (D : Down I 0 w) :
    Tile I P 0 (k0_pay11 (k0_pay9 i v2 v3 u ub w) (k0_pay10 a b)) := gate_real G (by decide) A U D

theorem tile2 (G : Grads I P i v2 v3) (A : Outs I P 0 a b) (D : Down I 0 w) :
    Tile I P 2816 (k0_pay19 (k0_pay6 a b) (k0_pay7 i v2 v3 w) (k0_pay8 a b)) := value_real G A D

theorem tile3 (G : Grads I P i v2 v3) (A : Outs I P 1408 a b) (U : Outs I P 4224 u ub) (D : Down I 1408 w) :
    Tile I P 1408 (k0_pay37 (k0_pay2 i v2 v3) a b u ub w) := by
  rw [gate2_at]
  exact gate_real G (by decide) A U D

theorem tile4 (G : Grads I P i v2 v3) (A : Outs I P 1408 a b) (D : Down I 1408 w) :
    Tile I P 4224 (k0_pay47 (k0_pay34 a b) (k0_pay35 (k0_pay2 i v2 v3) w) (k0_pay36 a b)) := by
  rw [value2_at]
  exact value_real G A D

theorem dz1 (G : Grads I P i v2 v3) (A : Outs I P 0 a b) (U : Outs I P 2816 u ub) (D : Down I 0 w) (C : Taps I 0 cw) (r : Fin 256) (c : Fin 1408) :
    (k0_pay29 (k0_pay18 (k0_pay12 cw) (k0_pay13 (k0_pay9 i v2 v3 u ub w) (k0_pay10 a b)) (k0_pay14 (k0_pay9 i v2 v3 u ub w) (k0_pay10 a b))
      (k0_pay15 (k0_pay9 i v2 v3 u ub w) (k0_pay10 a b)) (k0_pay17 cw)) (ix2 r c) : EReal) = ((I.dzr (256 * P + r.val) (0 + c.val) : ℝ) : EReal) := by
  rw [pay29_at]
  exact conv_real (tile1 G A U D) C r c

theorem dz2 (G : Grads I P i v2 v3) (A : Outs I P 0 a b) (D : Down I 0 w) (C : Taps I 2816 cw) (r : Fin 256) (c : Fin 1408) :
    (k0_pay30 (k0_pay21 cw) (k0_pay22 (k0_pay6 a b) (k0_pay7 i v2 v3 w) (k0_pay8 a b)) (k0_pay23 (k0_pay6 a b) (k0_pay7 i v2 v3 w) (k0_pay8 a b))
      (k0_pay24 (k0_pay6 a b) (k0_pay7 i v2 v3 w) (k0_pay8 a b)) (ix2 r c) : EReal) = ((I.dzr (256 * P + r.val) (2816 + c.val) : ℝ) : EReal) := by
  rw [pay30_at]
  exact conv_real (tile2 G A D) C r c

theorem dz3 (G : Grads I P i v2 v3) (A : Outs I P 1408 a b) (U : Outs I P 4224 u ub) (D : Down I 1408 w) (C : Taps I 1408 cw) (r : Fin 256) (c : Fin 1408) :
    (k0_pay54 (k0_pay46 (k0_pay39 cw) (k0_pay40 (k0_pay2 i v2 v3) a b u ub w) (k0_pay41 (k0_pay2 i v2 v3) a b u ub w) (k0_pay42 (k0_pay2 i v2 v3) a b u ub w)) (ix2 r c) : EReal)
      = ((I.dzr (256 * P + r.val) (1408 + c.val) : ℝ) : EReal) := by
  rw [pay54_at]
  exact conv_real (tile3 G A U D) C r c

theorem dz4 (G : Grads I P i v2 v3) (A : Outs I P 1408 a b) (D : Down I 1408 w) (C : Taps I 4224 cw) (r : Fin 256) (c : Fin 1408) :
    (k0_pay55 (k0_pay47 (k0_pay34 a b) (k0_pay35 (k0_pay2 i v2 v3) w) (k0_pay36 a b)) (k0_pay49 cw)
      (k0_pay50 (k0_pay34 a b) (k0_pay35 (k0_pay2 i v2 v3) w) (k0_pay36 a b)) (k0_pay51 (k0_pay34 a b) (k0_pay35 (k0_pay2 i v2 v3) w) (k0_pay36 a b)) (ix2 r c) : EReal)
      = ((I.dzr (256 * P + r.val) (4224 + c.val) : ℝ) : EReal) := by
  rw [pay55_at]
  exact conv_real (tile4 G A D) C r c

/-- What a tile adds to the tap gradients. -/
def part (I : Ins) (P j c : ℕ) : ℝ := ∑ r : Fin 256, I.tp (256 * P + r.val) j c

theorem sum1 (G : Grads I P i v2 v3) (A : Outs I P 0 a b) (U : Outs I P 2816 u ub) (D : Down I 0 w) (Z : Ups I P 0 z) (j : Fin 8) (c : Fin 1408) :
    (k0_pay31 (k0_pay16 rowIds (k0_pay9 i v2 v3 u ub w) (k0_pay10 a b) z) acc (ix2 j c) : EReal) = (acc (ix2 j c) : EReal) + ((part I P j.val (0 + c.val) : ℝ) : EReal) := by
  rw [tap1, tap_real (tile1 G A U D) Z j c]
  rfl

theorem sum2 (G : Grads I P i v2 v3) (A : Outs I P 0 a b) (D : Down I 0 w) (Z : Ups I P 2816 z) (j : Fin 8) (c : Fin 1408) :
    (k0_pay32 rowIds (k0_pay25 (k0_pay6 a b) (k0_pay7 i v2 v3 w) (k0_pay8 a b)) (k0_pay26 rowIds (k0_pay6 a b) (k0_pay7 i v2 v3 w) (k0_pay8 a b) z) (k0_pay27 rowIds)
      (k0_pay28 (k0_pay6 a b) (k0_pay7 i v2 v3 w) (k0_pay8 a b) z) acc (ix2 j c) : EReal) = (acc (ix2 j c) : EReal) + ((part I P j.val (2816 + c.val) : ℝ) : EReal) := by
  rw [tap2, tap_real (tile2 G A D) Z j c]
  rfl

theorem sum3 (G : Grads I P i v2 v3) (A : Outs I P 1408 a b) (U : Outs I P 4224 u ub) (D : Down I 1408 w) (Z : Ups I P 1408 z) (j : Fin 8) (c : Fin 1408) :
    (k0_pay56 (k0_pay45 rowIds (k0_pay38 z) (k0_pay40 (k0_pay2 i v2 v3) a b u ub w) (k0_pay43 (k0_pay2 i v2 v3) a b u ub w z) (k0_pay44 (k0_pay2 i v2 v3) a b u ub w z)) acc (ix2 j c) : EReal)
      = (acc (ix2 j c) : EReal) + ((part I P j.val (1408 + c.val) : ℝ) : EReal) := by
  rw [tap3, tap_real (tile3 G A U D) Z j c]
  rfl

theorem sum4 (G : Grads I P i v2 v3) (A : Outs I P 1408 a b) (D : Down I 1408 w) (Z : Ups I P 4224 z) (j : Fin 8) (c : Fin 1408) :
    (k0_pay57 (k0_pay53 rowIds (k0_pay47 (k0_pay34 a b) (k0_pay35 (k0_pay2 i v2 v3) w) (k0_pay36 a b)) (k0_pay48 z)
      (k0_pay50 (k0_pay34 a b) (k0_pay35 (k0_pay2 i v2 v3) w) (k0_pay36 a b)) (k0_pay51 (k0_pay34 a b) (k0_pay35 (k0_pay2 i v2 v3) w) (k0_pay36 a b))) acc (ix2 j c) : EReal)
      = (acc (ix2 j c) : EReal) + ((part I P j.val (4224 + c.val) : ℝ) : EReal) := by
  rw [tap4, tap_real (tile4 G A D) Z j c]
  rfl

end

/-! ## The loads -/

section
variable {m : (ℓ : Loc nD τ sig) → Buf (Elt Ideal) ℓ} {c : Dev nD} {I : Ins} (H : Args m c I) (t : Fin cfg0.N) (off : ℕ)

include H

theorem outs_of (ho : off + 1408 ≤ 5632) {a : Vec Ideal S256x1408 .bf16} {b : Vec Ideal S16x1408 .bf16}
    (ha : ∀ (r : Fin 256) (k : Fin 1408) (h : off + k.val < 5632), (a (ix2 r k) : EReal) = iblk m c 1 t (ix2 r ⟨off + k.val, h⟩))
    (hb : ∀ (r : Fin 16) (k : Fin 1408) (h : off + k.val < 5632), (b (ix2 r k) : EReal) = iblk m c 2 t (ix2 r ⟨off + k.val, h⟩)) : Outs I t.val off a b :=
  ⟨fun r k => (ha r k (by omega)).trans (zc_at H t r _), fun hl r k => (hb r k (by omega)).trans (zc_after H t hl r _)⟩

theorem ups_of (ho : off + 1408 ≤ 5632) {a : Vec Ideal S256x1408 .bf16}
    (ha : ∀ (r : Fin 256) (k : Fin 1408) (h : off + k.val < 5632), (a (ix2 r k) : EReal) = iblk m c 0 t (ix2 r ⟨off + k.val, h⟩)) : Ups I t.val off a :=
  fun r k => (ha r k (by omega)).trans (z_at H t r _)

theorem taps_of (ho : off + 1408 ≤ 5632) {a : Vec Ideal S8x1408 .f32}
    (ha : ∀ (r : Fin 8) (k : Fin 1408) (h : off + k.val < 5632), (a (ix2 r k) : EReal) = iblk m c 3 t (ix2 r ⟨off + k.val, h⟩)) : Taps I off a :=
  fun r k hr => (ha r k (by omega)).trans (cw_at H t r _ hr)

theorem upw_of (ho : off + 1408 ≤ 5632) {a : Vec Ideal S1024x1408 .bf16}
    (ha : ∀ (r : Fin 1024) (k : Fin 1408) (h : off + k.val < 5632), (a (ix2 r k) : EReal) = iblk m c 4 t (ix2 r ⟨off + k.val, h⟩)) : Upw I off a :=
  fun r k => (ha r k (by omega)).trans (w_at H t r _)

theorem down_of (ho : off + 1408 ≤ 2816) {a : Vec Ideal S1408x1024 .bf16}
    (ha : ∀ (k : Fin 1408) (r : Fin 1024) (h : off + k.val < 2816), (a (ix2 k r) : EReal) = iblk m c 5 t (ix2 ⟨off + k.val, h⟩ r)) : Down I off a :=
  fun k r => (ha k r (by omega)).trans (wd_at H t _ r)

end

/-- An index by its coordinates. -/
theorem piece_idx {n N : ℕ} (y : (⟨2, ![n, N]⟩ : Shape).Idx) (r : Fin n) (k : Fin 1408) (off : ℕ) (h : off + k.val < N)
    (h0 : (y 0).val = r.val) (h1 : (y 1).val = off + k.val) : y = ix2 r ⟨off + k.val, h⟩ := by
  funext a
  match a with
  | ⟨0, _⟩ => exact Fin.ext h0
  | ⟨1, _⟩ => exact Fin.ext h1

end Cert.Kernel7Ideal.Gate

end
-- ==== Proof.GateOut.lean ====
/-
  What a grid point of the gated block's backward kernel leaves in its output blocks.
-/
module

public import proofs.«01_k».proof.Proof.GateStore

@[expose] public section

set_option maxRecDepth 16384

noncomputable section

open Idealize.ShloMosaic Idealize.ShloMosaic.TcCoe Idealize.SL.Sem
open Idealize.ShloMosaic.Pipeline (Dat)

namespace Cert.Kernel7Ideal.Gate

open Cert.Kernel7Ideal Cert.Kernel7Ideal.Gen Cert.Proof

variable {m : (ℓ : Loc nD τ sig) → Buf (Elt Ideal) ℓ} {c : Dev nD} {I : Ins} (H : Args m c I)

include H

/-- The block of the convolution's input gradient. -/
theorem out10 (t : Fin cfg0.N) (y : S256x5632.Idx) : (outsAt0 m c t.val t.isLt).1 y = ((I.dzr (256 * t.val + (y 0).val) (y 1).val : ℝ) : EReal) := by
  by_cases hr : t.val % 32 = 0
  · rw [outsAt0_A m c t hr]; frame_out
    canon_tiles x h
    case piece0 =>
      rw [h0, h1]
      obtain ⟨r, k, rfl⟩ : ∃ (r : Fin 256) (k : Fin 1408), x = ix2 r k := ⟨x 0, x 1, eq_ix2 x⟩
      refine dz4 (grads H t) (outs_of H t 1408 (by decide) ?_ ?_) (down_of H t 1408 (by decide) ?_) (taps_of H t 4224 (by decide) ?_) r k
      all_goals (intro r k h; pointwise)
    case piece1 =>
      rw [h0, h1]
      obtain ⟨r, k, rfl⟩ : ∃ (r : Fin 256) (k : Fin 1408), x = ix2 r k := ⟨x 0, x 1, eq_ix2 x⟩
      refine dz3 (grads H t) (outs_of H t 1408 (by decide) ?_ ?_) (outs_of H t 4224 (by decide) ?_ ?_) (down_of H t 1408 (by decide) ?_) (taps_of H t 1408 (by decide) ?_) r k
      all_goals (intro r k h; pointwise)
    case piece2 =>
      rw [h0, h1]
      obtain ⟨r, k, rfl⟩ : ∃ (r : Fin 256) (k : Fin 1408), x = ix2 r k := ⟨x 0, x 1, eq_ix2 x⟩
      refine dz2 (grads H t) (outs_of H t 0 (by decide) ?_ ?_) (down_of H t 0 (by decide) ?_) (taps_of H t 2816 (by decide) ?_) r k
      all_goals (intro r k h; pointwise)
    case piece3 =>
      rw [h0, h1]
      obtain ⟨r, k, rfl⟩ : ∃ (r : Fin 256) (k : Fin 1408), x = ix2 r k := ⟨x 0, x 1, eq_ix2 x⟩
      refine (dz1 (grads H t) (outs_of H t 0 (by decide) ?_ ?_) (outs_of H t 2816 (by decide) ?_ ?_) (down_of H t 0 (by decide) ?_) (taps_of H t 0 (by decide) ?_) r k).trans ?_
      all_goals first | (rw [Nat.zero_add]; rfl) | (intro r k h; pointwise)
  · rw [outsAt0_B m c t hr]; frame_out
    canon_tiles x h
    case piece0 =>
      rw [h0, h1]
      obtain ⟨r, k, rfl⟩ : ∃ (r : Fin 256) (k : Fin 1408), x = ix2 r k := ⟨x 0, x 1, eq_ix2 x⟩
      refine dz4 (grads H t) (outs_of H t 1408 (by decide) ?_ ?_) (down_of H t 1408 (by decide) ?_) (taps_of H t 4224 (by decide) ?_) r k
      all_goals (intro r k h; pointwise)
    case piece1 =>
      rw [h0, h1]
      obtain ⟨r, k, rfl⟩ : ∃ (r : Fin 256) (k : Fin 1408), x = ix2 r k := ⟨x 0, x 1, eq_ix2 x⟩
      refine dz3 (grads H t) (outs_of H t 1408 (by decide) ?_ ?_) (outs_of H t 4224 (by decide) ?_ ?_) (down_of H t 1408 (by decide) ?_) (taps_of H t 1408 (by decide) ?_) r k
      all_goals (intro r k h; pointwise)
    case piece2 =>
      rw [h0, h1]
      obtain ⟨r, k, rfl⟩ : ∃ (r : Fin 256) (k : Fin 1408), x = ix2 r k := ⟨x 0, x 1, eq_ix2 x⟩
      refine dz2 (grads H t) (outs_of H t 0 (by decide) ?_ ?_) (down_of H t 0 (by decide) ?_) (taps_of H t 2816 (by decide) ?_) r k
      all_goals (intro r k h; pointwise)
    case piece3 =>
      rw [h0, h1]
      obtain ⟨r, k, rfl⟩ : ∃ (r : Fin 256) (k : Fin 1408), x = ix2 r k := ⟨x 0, x 1, eq_ix2 x⟩
      refine (dz1 (grads H t) (outs_of H t 0 (by decide) ?_ ?_) (outs_of H t 2816 (by decide) ?_ ?_) (down_of H t 0 (by decide) ?_) (taps_of H t 0 (by decide) ?_) r k).trans ?_
      all_goals first | (rw [Nat.zero_add]; rfl) | (intro r k h; pointwise)

end Cert.Kernel7Ideal.Gate

end
-- ==== Proof.GateFill.lean ====
/-
  Reading an accumulator's columns back after stores to other columns: the zero fill.
-/
module

public import proofs.«01_k».proof.Proof.GatePoint

@[expose] public section

set_option maxRecDepth 16384

noncomputable section

open Idealize.ShloMosaic Idealize.ShloMosaic.TcCoe Idealize.SL.Sem

namespace Cert.Kernel7Ideal.Gate

open Cert.Kernel7Ideal Cert.Kernel7Ideal.Gen Cert.Proof

/-- The zero fill of the tap gradients. -/
theorem zero3 (y) : k0_pay3 (F := Ideal) y = 0 := by pointwise [k0_pay3]

/-- The zero fill of the scale's gradient. -/
theorem zero4 (y) : k0_pay4 (F := Ideal) y = 0 := by pointwise [k0_pay4]

/-- A store to other columns does not change what is read. -/
theorem skip {off size : Fin S8x5632.rank → ℕ} {inb : ∀ a, off a + size a ≤ S8x5632.size a} (w : (Rect.unit (s := S8x5632) off size inb).shape.Idx → Elt Ideal .f32)
    (L : List (View.Piece (Elt Ideal) S8x5632 .f32)) (y : S8x5632.Idx) (a : Fin S8x5632.rank) (h : (y a).val < off a ∨ off a + size a ≤ (y a).val) :
    View.canon ((⟨Rect.unit (s := S8x5632) off size inb, w⟩ : View.Piece (Elt Ideal) S8x5632 .f32) :: L) y = View.canon L y :=
  View.canon_cons_of_not_mem _ _ fun hm => by
    have e := (Rect.mem_set_unit (inb := inb)).mp hm a
    omega

/-- The last store to a part is what is there; elsewhere the earlier stores are. -/
theorem peel' {off size : Fin S8x5632.rank → ℕ} {inb : ∀ a, off a + size a ≤ S8x5632.size a} (w : (Rect.unit (s := S8x5632) off size inb).shape.Idx → Elt Ideal .f32)
    (L : List (View.Piece (Elt Ideal) S8x5632 .f32)) (y : S8x5632.Idx) (v : Elt Ideal .f32)
    (h1 : View.TileAt y off size w v) (h2 : (¬ ∀ a, off a ≤ (y a).val ∧ (y a).val < off a + size a) → View.canon L y = v) :
    View.canon ((⟨Rect.unit (s := S8x5632) off size inb, w⟩ : View.Piece (Elt Ideal) S8x5632 .f32) :: L) y = v := by
  by_cases hm : y ∈ (Rect.unit (s := S8x5632) off size inb).set
  · obtain ⟨x, hx⟩ := (Rect.unit (s := S8x5632) off size inb).exists_idx_of_mem hm
    have hx' : (Rect.unit (s := S8x5632) off size inb).emb x = y := hx
    have e := View.canon_cons_emb (Rect.unit (s := S8x5632) off size inb) w L x
    rw [hx'] at e
    refine e.trans (h1 x fun a => ?_)
    rw [← hx', Rect.emb_apply]
    show off a + 1 * (x a : ℕ) = _
    omega
  · exact (View.canon_cons_of_not_mem _ _ hm).trans (h2 fun hy => hm ((Rect.mem_set_unit (inb := inb)).mpr hy))

/-- The same for a store to some columns. -/
theorem peel (o : ℕ) {inb : ∀ a, (![0, o] : Fin 2 → ℕ) a + (![8, 1408] : Fin 2 → ℕ) a ≤ S8x5632.size a} (w : S8x1408.Idx → Elt Ideal .f32)
    (L : List (View.Piece (Elt Ideal) S8x5632 .f32)) (y : S8x5632.Idx) (v : Elt Ideal .f32)
    (h1 : ∀ x : S8x1408.Idx, (y 0).val = (x 0).val → (y 1).val = o + (x 1).val → w x = v)
    (h2 : ¬ (o ≤ (y 1).val ∧ (y 1).val < o + 1408) → View.canon L y = v) :
    View.canon ((⟨Rect.unit (s := S8x5632) ![0, o] ![8, 1408] inb, w⟩ : View.Piece (Elt Ideal) S8x5632 .f32) :: L) y = v := by
  refine peel' (off := ![0, o]) (size := ![8, 1408]) w L y v (fun x hx => h1 x ((hx 0).trans (Nat.zero_add _)) (hx 1)) fun hn => h2 fun hy => hn fun a => ?_
  match a with
  | ⟨0, _⟩ =>
    exact ⟨Nat.zero_le _, show (y 0).val < 0 + 8 from (y 0).isLt⟩
  | ⟨1, _⟩ => exact hy

section
variable (v : View sig .tc .vmem S8x5632 .f32)
  {i0 : ∀ a, (![0, 0] : Fin 2 → ℕ) a + (![8, 1408] : Fin 2 → ℕ) a ≤ S8x5632.size a}
  {i1 : ∀ a, (![0, 1408] : Fin 2 → ℕ) a + (![8, 1408] : Fin 2 → ℕ) a ≤ S8x5632.size a}
  {i2 : ∀ a, (![0, 2816] : Fin 2 → ℕ) a + (![8, 1408] : Fin 2 → ℕ) a ≤ S8x5632.size a}
  {i4 : ∀ a, (![0, 4224] : Fin 2 → ℕ) a + (![8, 1408] : Fin 2 → ℕ) a ≤ S8x5632.size a}
  {iw : ∀ a, (![0, 0] : Fin 2 → ℕ) a + (![8, 5632] : Fin 2 → ℕ) a ≤ S8x5632.size a}
  (w0 w1 w2 : S8x1408.Idx → Elt Ideal .f32) (j : S8x1408.Idx)

theorem fill (B : LoadRect S8x5632) (x : B.shape.Idx) :
    (v.readCov [(⟨Rect.unit (s := S8x5632) ![0, 0] ![8, 5632] iw, k0_pay3 (F := Ideal)⟩ : View.Piece (Elt Ideal) S8x5632 .f32)] B x : EReal) = 0 := by
  rw [View.readCov_eq_canon']
  refine Eq.trans (congrFun (View.canon_cons_unit_lit (S := S8x5632) iw _ [] (by decide)) _) ?_
  exact zero3 _

theorem read4 :
    (v.readCov [(⟨Rect.unit (s := S8x5632) ![0, 1408] ![8, 1408] i1, w1⟩ : View.Piece (Elt Ideal) S8x5632 .f32), ⟨Rect.unit (s := S8x5632) ![0, 2816] ![8, 1408] i2, w2⟩, ⟨Rect.unit (s := S8x5632) ![0, 0] ![8, 1408] i0, w0⟩,
      ⟨Rect.unit (s := S8x5632) ![0, 0] ![8, 5632] iw, k0_pay3 (F := Ideal)⟩] (Rect.unit (s := S8x5632) ![0, 4224] ![8, 1408] i4).toLoadRect j : EReal) = 0 := by
  have hj : (j 1).val < 1408 := (j 1).isLt
  have e : (((Rect.unit (s := S8x5632) ![0, 4224] ![8, 1408] i4).toLoadRect.idx j) 1).val = 4224 + 1 * (j 1).val := rfl
  rw [View.readCov_eq_canon']
  refine (skip (off := ![0, 1408]) (size := ![8, 1408]) _ _ _ 1 (by rw [e]; show _ < 1408 ∨ 1408 + 1408 ≤ _; omega)).trans ?_
  refine (skip (off := ![0, 2816]) (size := ![8, 1408]) _ _ _ 1 (by rw [e]; show _ < 2816 ∨ 2816 + 1408 ≤ _; omega)).trans ?_
  refine (skip (off := ![0, 0]) (size := ![8, 1408]) _ _ _ 1 (by rw [e]; show _ < 0 ∨ 0 + 1408 ≤ _; omega)).trans ?_
  exact (congrFun (View.canon_cons_unit_lit (S := S8x5632) iw _ [] (by decide)) _).trans (zero3 _)

theorem read3 :
    (v.readCov [(⟨Rect.unit (s := S8x5632) ![0, 2816] ![8, 1408] i2, w2⟩ : View.Piece (Elt Ideal) S8x5632 .f32), ⟨Rect.unit (s := S8x5632) ![0, 0] ![8, 1408] i0, w0⟩,
      ⟨Rect.unit (s := S8x5632) ![0, 0] ![8, 5632] iw, k0_pay3 (F := Ideal)⟩] (Rect.unit (s := S8x5632) ![0, 1408] ![8, 1408] i1).toLoadRect j : EReal) = 0 := by
  have hj : (j 1).val < 1408 := (j 1).isLt
  have e : (((Rect.unit (s := S8x5632) ![0, 1408] ![8, 1408] i1).toLoadRect.idx j) 1).val = 1408 + 1 * (j 1).val := rfl
  rw [View.readCov_eq_canon']
  refine (skip (off := ![0, 2816]) (size := ![8, 1408]) _ _ _ 1 (by rw [e]; show _ < 2816 ∨ 2816 + 1408 ≤ _; omega)).trans ?_
  refine (skip (off := ![0, 0]) (size := ![8, 1408]) _ _ _ 1 (by rw [e]; show _ < 0 ∨ 0 + 1408 ≤ _; omega)).trans ?_
  exact (congrFun (View.canon_cons_unit_lit (S := S8x5632) iw _ [] (by decide)) _).trans (zero3 _)

theorem read2 :
    (v.readCov [(⟨Rect.unit (s := S8x5632) ![0, 0] ![8, 1408] i0, w0⟩ : View.Piece (Elt Ideal) S8x5632 .f32),
      ⟨Rect.unit (s := S8x5632) ![0, 0] ![8, 5632] iw, k0_pay3 (F := Ideal)⟩] (Rect.unit (s := S8x5632) ![0, 2816] ![8, 1408] i2).toLoadRect j : EReal) = 0 := by
  have hj : (j 1).val < 1408 := (j 1).isLt
  have e : (((Rect.unit (s := S8x5632) ![0, 2816] ![8, 1408] i2).toLoadRect.idx j) 1).val = 2816 + 1 * (j 1).val := rfl
  rw [View.readCov_eq_canon']
  refine (skip (off := ![0, 0]) (size := ![8, 1408]) _ _ _ 1 (by rw [e]; show _ < 0 ∨ 0 + 1408 ≤ _; omega)).trans ?_
  exact (congrFun (View.canon_cons_unit_lit (S := S8x5632) iw _ [] (by decide)) _).trans (zero3 _)

end

end Cert.Kernel7Ideal.Gate

end
-- ==== Proof.GateTap.lean ====
/-
  What a grid point of the gated block's backward kernel adds to the tap gradients.
-/
module

public import proofs.«01_k».proof.Proof.GateStore
public import proofs.«01_k».proof.Proof.GateFill

@[expose] public section

set_option maxRecDepth 16384

noncomputable section

open Idealize.ShloMosaic Idealize.ShloMosaic.TcCoe Idealize.SL.Sem
open Idealize.ShloMosaic.Pipeline (Dat)

namespace Cert.Kernel7Ideal.Gate

open Cert.Kernel7Ideal Cert.Kernel7Ideal.Gen Cert.Proof

variable {m : (ℓ : Loc nD τ sig) → Buf (Elt Ideal) ℓ} {c : Dev nD} {I : Ins} (H : Args m c I)

theorem piece_idx0 {n N : ℕ} (y : (⟨2, ![n, N]⟩ : Shape).Idx) (r : Fin n) (k : Fin 1408) (h : k.val < N)
    (h0 : (y 0).val = r.val) (h1 : (y 1).val = k.val) : y = ix2 r ⟨k.val, h⟩ := by
  funext a
  match a with
  | ⟨0, _⟩ => exact Fin.ext h0
  | ⟨1, _⟩ => exact Fin.ext h1

include H

/-- The first point's tap gradients. -/
theorem out11_first (t : Fin cfg0.N) (hr : t.val % 32 = 0) (y : S8x5632.Idx) :
    (outsAt0 m c t.val t.isLt).2.1 y = 0 + ((part I t.val (y 0).val (y 1).val : ℝ) : EReal) := by
  rw [outsAt0_A m c t hr]; frame_out
  have hy : (y 1).val < 5632 := (y 1).isLt
  refine peel 4224 _ _ y _ (fun x h0 h1 => ?_) fun n0 => ?_
  rotate_left
  refine peel 1408 _ _ y _ (fun x h0 h1 => ?_) fun n1 => ?_
  rotate_left
  refine peel 2816 _ _ y _ (fun x h0 h1 => ?_) fun n2 => ?_
  rotate_left
  refine peel 0 _ _ y _ (fun x h0 h1 => ?_) fun n3 => ?_
  rotate_left
  · omega
  · rw [h0, h1]
    obtain ⟨j, k, rfl⟩ : ∃ (j : Fin 8) (k : Fin 1408), x = ix2 j k := ⟨x 0, x 1, eq_ix2 x⟩
    refine (sum4 (grads H t) (outs_of H t 1408 (by decide) ?_ ?_) (down_of H t 1408 (by decide) ?_) (ups_of H t 4224 (by decide) ?_) j k).trans (congrArg₂ (· + ·) ?_ ?_)
    case refine_5 => exact read4 _ _ _ _ _
    case refine_6 => rfl
    all_goals (intro r k h; pointwise)
  · rw [h0, h1]
    obtain ⟨j, k, rfl⟩ : ∃ (j : Fin 8) (k : Fin 1408), x = ix2 j k := ⟨x 0, x 1, eq_ix2 x⟩
    refine (sum3 (grads H t) (outs_of H t 1408 (by decide) ?_ ?_) (outs_of H t 4224 (by decide) ?_ ?_) (down_of H t 1408 (by decide) ?_) (ups_of H t 1408 (by decide) ?_) j k).trans (congrArg₂ (· + ·) ?_ ?_)
    case refine_7 => exact read3 _ _ _ _
    case refine_8 => rfl
    all_goals (intro r k h; pointwise)
  · rw [h0, h1]
    obtain ⟨j, k, rfl⟩ : ∃ (j : Fin 8) (k : Fin 1408), x = ix2 j k := ⟨x 0, x 1, eq_ix2 x⟩
    refine (sum2 (grads H t) (outs_of H t 0 (by decide) ?_ ?_) (down_of H t 0 (by decide) ?_) (ups_of H t 2816 (by decide) ?_) j k).trans (congrArg₂ (· + ·) ?_ ?_)
    case refine_5 => exact read2 _ _ _
    case refine_6 => rfl
    all_goals (intro r k h; pointwise)
  · rw [h0, h1]
    obtain ⟨j, k, rfl⟩ : ∃ (j : Fin 8) (k : Fin 1408), x = ix2 j k := ⟨x 0, x 1, eq_ix2 x⟩
    refine (sum1 (grads H t) (outs_of H t 0 (by decide) ?_ ?_) (outs_of H t 2816 (by decide) ?_ ?_) (down_of H t 0 (by decide) ?_) (ups_of H t 0 (by decide) ?_) j k).trans (congrArg₂ (· + ·) ?_ ?_)
    case refine_7 => exact fill _ _ _
    case refine_8 => rfl
    all_goals (intro r k h; pointwise)

/-- A later point's tap gradients. -/
theorem out11_next (t : Fin cfg0.N) (hr : ¬ t.val % 32 = 0) (y : S8x5632.Idx) :
    (outsAt0 m c t.val t.isLt).2.1 y = (outsAt0 m c (t.val - 1) (Nat.lt_of_le_of_lt (Nat.sub_le _ _) t.isLt)).2.1 y + ((part I t.val (y 0).val (y 1).val : ℝ) : EReal) := by
  rw [outsAt0_B m c t hr]; frame_out
  canon_tiles x h
  case piece0 =>
    rw [h0, h1]
    obtain ⟨j, k, rfl⟩ : ∃ (j : Fin 8) (k : Fin 1408), x = ix2 j k := ⟨x 0, x 1, eq_ix2 x⟩
    refine (sum4 (grads H t) (outs_of H t 1408 (by decide) ?_ ?_) (down_of H t 1408 (by decide) ?_) (ups_of H t 4224 (by decide) ?_) j k).trans (congrArg₂ (· + ·) ?_ ?_)
    case refine_5 =>
      pointwise
      exact congrArg _ (piece_idx y j k 4224 (by omega) h0 h1).symm
    case refine_6 => rfl
    all_goals (intro r k h; pointwise)
  case piece1 =>
    rw [h0, h1]
    obtain ⟨j, k, rfl⟩ : ∃ (j : Fin 8) (k : Fin 1408), x = ix2 j k := ⟨x 0, x 1, eq_ix2 x⟩
    refine (sum3 (grads H t) (outs_of H t 1408 (by decide) ?_ ?_) (outs_of H t 4224 (by decide) ?_ ?_) (down_of H t 1408 (by decide) ?_) (ups_of H t 1408 (by decide) ?_) j k).trans (congrArg₂ (· + ·) ?_ ?_)
    case refine_7 =>
      pointwise
      exact congrArg _ (piece_idx y j k 1408 (by omega) h0 h1).symm
    case refine_8 => rfl
    all_goals (intro r k h; pointwise)
  case piece2 =>
    rw [h0, h1]
    obtain ⟨j, k, rfl⟩ : ∃ (j : Fin 8) (k : Fin 1408), x = ix2 j k := ⟨x 0, x 1, eq_ix2 x⟩
    refine (sum2 (grads H t) (outs_of H t 0 (by decide) ?_ ?_) (down_of H t 0 (by decide) ?_) (ups_of H t 2816 (by decide) ?_) j k).trans (congrArg₂ (· + ·) ?_ ?_)
    case refine_5 =>
      pointwise
      exact congrArg _ (piece_idx y j k 2816 (by omega) h0 h1).symm
    case refine_6 => rfl
    all_goals (intro r k h; pointwise)
  case piece3 =>
    rw [h0, h1]
    obtain ⟨j, k, rfl⟩ : ∃ (j : Fin 8) (k : Fin 1408), x = ix2 j k := ⟨x 0, x 1, eq_ix2 x⟩
    refine (sum1 (grads H t) (outs_of H t 0 (by decide) ?_ ?_) (outs_of H t 2816 (by decide) ?_ ?_) (down_of H t 0 (by decide) ?_) (ups_of H t 0 (by decide) ?_) j k).trans (congrArg₂ (· + ·) ?_ ?_)
    case refine_7 =>
      pointwise
      exact congrArg _ (piece_idx0 y j k (by omega) h0 h1).symm
    case refine_8 => rw [Nat.zero_add]; rfl
    all_goals (intro r k h; pointwise)

end Cert.Kernel7Ideal.Gate

end
-- ==== Proof.GateDx.lean ====
/-
  What a grid point of the gated block's backward kernel leaves in the input's and the scale's gradients.
-/
module

public import proofs.«01_k».proof.Proof.GateStore
public import proofs.«01_k».proof.Proof.GateFill

@[expose] public section

set_option maxRecDepth 16384

noncomputable section

open Idealize.ShloMosaic Idealize.ShloMosaic.TcCoe Idealize.SL.Sem
open Idealize.ShloMosaic.Pipeline (Dat)

namespace Cert.Kernel7Ideal.Gate

open Cert.Kernel7Ideal Cert.Kernel7Ideal.Gen Cert.Proof

variable {m : (ℓ : Loc nD τ sig) → Buf (Elt Ideal) ℓ} {c : Dev nD} {I : Ins} (H : Args m c I)

/-- One point's share of the scale's gradient. -/
def share (I : Ins) (P k : ℕ) : ℝ := ∑ r : Fin 256, I.dhr (256 * P + r.val) k * (I.x (256 * P + r.val) k * I.rs (256 * P + r.val))

include H

/-- The block of the input's gradient. -/
theorem out12 (t : Fin cfg0.N) (y : S256x1024.Idx) : (outsAt0 m c t.val t.isLt).2.2.1 y = ((I.dxr (256 * t.val + (y 0).val) (y 1).val : ℝ) : EReal) := by
  obtain ⟨r, k, rfl⟩ : ∃ (r : Fin 256) (k : Fin 1024), y = ix2 r k := ⟨y 0, y 1, eq_ix2 y⟩
  by_cases hr : t.val % 32 = 0
  · rw [outsAt0_A m c t hr]; frame_out
    refine dx_real (x_at H t) (dy_at H t) (g_at H t) (dh_real (dz1 (grads H t) (outs_of H t 0 (by decide) ?_ ?_) (outs_of H t 2816 (by decide) ?_ ?_) (down_of H t 0 (by decide) ?_) (taps_of H t 0 (by decide) ?_))
      (dz2 (grads H t) (outs_of H t 0 (by decide) ?_ ?_) (down_of H t 0 (by decide) ?_) (taps_of H t 2816 (by decide) ?_))
      (dz3 (grads H t) (outs_of H t 1408 (by decide) ?_ ?_) (outs_of H t 4224 (by decide) ?_ ?_) (down_of H t 1408 (by decide) ?_) (taps_of H t 1408 (by decide) ?_))
      (dz4 (grads H t) (outs_of H t 1408 (by decide) ?_ ?_) (down_of H t 1408 (by decide) ?_) (taps_of H t 4224 (by decide) ?_))
      (upw_of H t 0 (by decide) ?_) (upw_of H t 2816 (by decide) ?_) (upw_of H t 1408 (by decide) ?_) (upw_of H t 4224 (by decide) ?_)) r k
    all_goals (intro r k h; pointwise)
  · rw [outsAt0_B m c t hr]; frame_out
    refine dx_real (x_at H t) (dy_at H t) (g_at H t) (dh_real (dz1 (grads H t) (outs_of H t 0 (by decide) ?_ ?_) (outs_of H t 2816 (by decide) ?_ ?_) (down_of H t 0 (by decide) ?_) (taps_of H t 0 (by decide) ?_))
      (dz2 (grads H t) (outs_of H t 0 (by decide) ?_ ?_) (down_of H t 0 (by decide) ?_) (taps_of H t 2816 (by decide) ?_))
      (dz3 (grads H t) (outs_of H t 1408 (by decide) ?_ ?_) (outs_of H t 4224 (by decide) ?_ ?_) (down_of H t 1408 (by decide) ?_) (taps_of H t 1408 (by decide) ?_))
      (dz4 (grads H t) (outs_of H t 1408 (by decide) ?_ ?_) (down_of H t 1408 (by decide) ?_) (taps_of H t 4224 (by decide) ?_))
      (upw_of H t 0 (by decide) ?_) (upw_of H t 2816 (by decide) ?_) (upw_of H t 1408 (by decide) ?_) (upw_of H t 4224 (by decide) ?_)) r k
    all_goals (intro r k h; pointwise)

/-- The first point's scale gradient. -/
theorem out13_first (t : Fin cfg0.N) (hr : t.val % 32 = 0) (y : S1x1024.Idx) :
    (outsAt0 m c t.val t.isLt).2.2.2 y = 0 + ((share I t.val (y 1).val : ℝ) : EReal) := by
  obtain ⟨z, k, rfl⟩ : ∃ (z : Fin 1) (k : Fin 1024), y = ix2 z k := ⟨y 0, y 1, eq_ix2 y⟩
  obtain rfl : z = 0 := Subsingleton.elim _ _
  rw [outsAt0_A m c t hr]; frame_out
  refine (dg_real (x_at H t) (dh_real (dz1 (grads H t) (outs_of H t 0 (by decide) ?_ ?_) (outs_of H t 2816 (by decide) ?_ ?_) (down_of H t 0 (by decide) ?_) (taps_of H t 0 (by decide) ?_))
      (dz2 (grads H t) (outs_of H t 0 (by decide) ?_ ?_) (down_of H t 0 (by decide) ?_) (taps_of H t 2816 (by decide) ?_))
      (dz3 (grads H t) (outs_of H t 1408 (by decide) ?_ ?_) (outs_of H t 4224 (by decide) ?_ ?_) (down_of H t 1408 (by decide) ?_) (taps_of H t 1408 (by decide) ?_))
      (dz4 (grads H t) (outs_of H t 1408 (by decide) ?_ ?_) (down_of H t 1408 (by decide) ?_) (taps_of H t 4224 (by decide) ?_))
      (upw_of H t 0 (by decide) ?_) (upw_of H t 2816 (by decide) ?_) (upw_of H t 1408 (by decide) ?_) (upw_of H t 4224 (by decide) ?_)) k).trans (congrArg₂ (· + ·) (zero4 _) rfl)
  all_goals (intro r k h; pointwise)

/-- A later point's scale gradient. -/
theorem out13_next (t : Fin cfg0.N) (hr : ¬ t.val % 32 = 0) (y : S1x1024.Idx) :
    (outsAt0 m c t.val t.isLt).2.2.2 y = (outsAt0 m c (t.val - 1) (Nat.lt_of_le_of_lt (Nat.sub_le _ _) t.isLt)).2.2.2 y + ((share I t.val (y 1).val : ℝ) : EReal) := by
  obtain ⟨z, k, rfl⟩ : ∃ (z : Fin 1) (k : Fin 1024), y = ix2 z k := ⟨y 0, y 1, eq_ix2 y⟩
  obtain rfl : z = 0 := Subsingleton.elim _ _
  rw [outsAt0_B m c t hr]; frame_out
  refine (dg_real (x_at H t) (dh_real (dz1 (grads H t) (outs_of H t 0 (by decide) ?_ ?_) (outs_of H t 2816 (by decide) ?_ ?_) (down_of H t 0 (by decide) ?_) (taps_of H t 0 (by decide) ?_))
      (dz2 (grads H t) (outs_of H t 0 (by decide) ?_ ?_) (down_of H t 0 (by decide) ?_) (taps_of H t 2816 (by decide) ?_))
      (dz3 (grads H t) (outs_of H t 1408 (by decide) ?_ ?_) (outs_of H t 4224 (by decide) ?_ ?_) (down_of H t 1408 (by decide) ?_) (taps_of H t 1408 (by decide) ?_))
      (dz4 (grads H t) (outs_of H t 1408 (by decide) ?_ ?_) (down_of H t 1408 (by decide) ?_) (taps_of H t 4224 (by decide) ?_))
      (upw_of H t 0 (by decide) ?_) (upw_of H t 2816 (by decide) ?_) (upw_of H t 1408 (by decide) ?_) (upw_of H t 4224 (by decide) ?_)) k).trans (congrArg₂ (· + ·) ?_ rfl)
  rotate_right
  · first | rfl | pointwise
  all_goals (intro r k h; pointwise)

end Cert.Kernel7Ideal.Gate

end
-- ==== Proof.GateFinal.lean ====
/-
  The gated block's backward kernel: the four result arrays.
-/
module

public import proofs.«01_k».proof.Proof.GateOut
public import proofs.«01_k».proof.Proof.GateTap
public import proofs.«01_k».proof.Proof.GateDx

@[expose] public section

set_option maxRecDepth 16384

noncomputable section

open Idealize.ShloMosaic Idealize.ShloMosaic.TcCoe Idealize.SL.Sem
open Idealize.ShloMosaic.Pipeline (Dat)

namespace Cert.Kernel7Ideal.Gate

open Cert.Kernel7Ideal Cert.Kernel7Ideal.Gen Cert.Proof

variable {m : (ℓ : Loc nD τ sig) → Buf (Elt Ideal) ℓ} {c : Dev nD} {I : Ins} (H : Args m c I)

/-- Which block of the results each point works on. -/
theorem idxo : ∀ t : Fin cfg0.N, win0_10.index t = ![t.val, 0] ∧ win0_11.index t = ![0, 0] ∧ win0_12.index t = ![t.val, 0] ∧ win0_13.index t = ![0, 0] :=
  (by decide +kernel : ∀ t : Fin grid0.N, _)

/-- The points' shares of a sum over the rows are the whole sum. -/
theorem sum_points (q : ℕ) (f : ℕ → ℝ) (hq : q = 0) :
    (0 : EReal) + ∑ s : Fin 32, (((∑ r : Fin 256, f (256 * (32 * q + s.val) + r.val) : ℝ)) : EReal) = ((∑ t : Fin 8192, f t.val : ℝ) : EReal) := by
  rw [zero_add, coe_sum]
  refine congrArg _ ?_
  rw [Fin.sum_univ_tiles 32 256 rfl fun t : Fin 8192 => f t.val]
  refine Finset.sum_congr rfl fun s _ => Finset.sum_congr rfl fun r _ => ?_
  subst hq
  exact congrArg f (by show 256 * (32 * 0 + s.val) + r.val = s.val * 256 + r.val; omega)

include H

/-- The convolution's input gradient after the run. -/
theorem final10 : (dats m 0 c).arrAt 10 (cfgs 0).N = fun y : S8192x5632.Idx => ((I.dzr (y 0).val (y 1).val : ℝ) : EReal) := by
  refine (dats m 0 c).arrAt_eq_of_covers 10 _ (by decide +kernel) fun t hf y => ?_
  blk_simp
  rw [after0_10]
  refine (out10 H t _).trans ?_
  rw [(idxo t).1]
  show _ = ((I.dzr (t.val * 256 + _) (0 * 5632 + _) : ℝ) : EReal)
  rw [Nat.zero_add, Nat.mul_comm]

/-- The tap gradients after the run. -/
theorem final11 : (dats m 0 c).arrAt 11 (cfgs 0).N = fun y : S8x5632.Idx => ((I.tapr (y 0).val (y 1).val : ℝ) : EReal) := by
  refine (dats m 0 c).arrAt_eq_of_covers 11 _ (by decide +kernel) fun t hf y => ?_
  have hl := (flush0_11 t).mp hf
  have hp := point_lt t
  blk_simp
  rw [after0_11, Pipeline.eq_sum_fin_of_reset_step_apply_of_flush (fun n h => (outsAt0 m c n h).2.1) 32 (fun _ => (0 : EReal))
    (fun t y => ((part I t.val (y 0).val (y 1).val : ℝ) : EReal)) (fun t h j => out11_first H t h j) (fun t h j => out11_next H t h j) t hl _]
  refine (sum_points (t.val / 32) (fun t => I.tp t _ _) (by omega)).trans ?_
  rw [(idxo t).2.1]
  show _ = ((I.tapr (0 * 8 + _) (0 * 5632 + _) : ℝ) : EReal)
  rw [Nat.zero_add, Nat.zero_add]
  rfl

/-- The scale's gradient after the run. -/
theorem final13 : (dats m 0 c).arrAt 13 (cfgs 0).N = fun y : S1x1024.Idx => ((I.dgr (y 1).val : ℝ) : EReal) := by
  refine (dats m 0 c).arrAt_eq_of_covers 13 _ (by decide +kernel) fun t hf y => ?_
  have hl := (flush0_13 t).mp hf
  have hp := point_lt t
  blk_simp
  rw [after0_13, Pipeline.eq_sum_fin_of_reset_step_apply_of_flush (fun n h => (outsAt0 m c n h).2.2.2) 32 (fun _ => (0 : EReal))
    (fun t y => ((share I t.val (y 1).val : ℝ) : EReal)) (fun t h j => out13_first H t h j) (fun t h j => out13_next H t h j) t hl _]
  refine (sum_points (t.val / 32) (fun t => I.dhr t _ * (I.x t _ * I.rs t)) (by omega)).trans ?_
  rw [(idxo t).2.2.2]
  show _ = ((I.dgr (0 * 1024 + _) : ℝ) : EReal)
  rw [Nat.zero_add]
  rfl

/-- The input's gradient after the run. -/
theorem final12 : (dats m 0 c).arrAt 12 (cfgs 0).N = fun y : S8192x1024.Idx => ((I.dxr (y 0).val (y 1).val : ℝ) : EReal) := by
  refine (dats m 0 c).arrAt_eq_of_covers 12 _ (by decide +kernel) fun t hf y => ?_
  blk_simp
  rw [after0_12]
  refine (out12 H t _).trans ?_
  rw [(idxo t).2.2.1]
  show _ = ((I.dxr (t.val * 256 + _) (0 * 1024 + _) : ℝ) : EReal)
  rw [Nat.zero_add, Nat.mul_comm]

end Cert.Kernel7Ideal.Gate

end
-- ==== Proof.GateRef.lean ====
/-
  The gated block's reference backward pass, over real operands.
-/
module

public import proofs.«01_k».proof.Proof.GateHost
public import proofs.«01_k».proof.Proof.Gen.Reference7Ideal
public import proofs.«01_k».proof.Proof.Gen.Reference7Ideal.Run

@[expose] public section

set_option maxRecDepth 16384

noncomputable section

open Idealize.ShloMosaic Idealize.ShloMosaic.TcCoe Idealize.SL.Sem

namespace Cert.Reference7Ideal.Gate

open Cert.Reference7Ideal Cert.Reference7Ideal.Gen Cert.Reference7Ideal.Value Cert.Proof

/-- The three tap gradients, the bias gradient and four rows of zeros: the reference's term. -/
def taps (V : Valuation τ sig (Elt Ideal)) : FVec Ideal S8x5632 .f32 :=
  (concatenate S8x5632 0 [⟨S3x5632, ((addf (addf (pad S3x5632 ![2, 0] ![0, 0] ![0, 0] (broadcastInDim S1x5632 ![1] bcast_S5632_S1x5632_1 (Host.reduceAdd (F := Ideal) (shapeCast S1x5632 (Host.reduceAdd (F := Ideal) (mulf (res_main_v37 V) (res_main_v54 V)) (constant (F := Ideal) S_ .f32 0x00000000#32) reducesTo_S8192x5632_S5632_d0 h_S_) shapeCasts_S5632_S1x5632) (constant (F := Ideal) S_ .f32 0x00000000#32) reducesTo_S1x5632_S5632_d0 h_S_)) (constant (F := Ideal) S_ .f32 0x00000000#32) pads_S1x5632_S3x5632_200_000 h_S_) (pad S3x5632 ![1, 0] ![1, 0] ![0, 0] (broadcastInDim S1x5632 ![1] bcast_S5632_S1x5632_1 (Host.reduceAdd (F := Ideal) (shapeCast S1x5632 (Host.reduceAdd (F := Ideal) (mulf (res_main_v30 V) (res_main_v54 V)) (constant (F := Ideal) S_ .f32 0x00000000#32) reducesTo_S8192x5632_S5632_d0 h_S_) shapeCasts_S5632_S1x5632) (constant (F := Ideal) S_ .f32 0x00000000#32) reducesTo_S1x5632_S5632_d0 h_S_)) (constant (F := Ideal) S_ .f32 0x00000000#32) pads_S1x5632_S3x5632_110_000 h_S_)) (pad S3x5632 ![0, 0] ![2, 0] ![0, 0] (broadcastInDim S1x5632 ![1] bcast_S5632_S1x5632_1 (Host.reduceAdd (F := Ideal) (shapeCast S1x5632 (Host.reduceAdd (F := Ideal) (mulf (res_main_v21 V) (res_main_v54 V)) (constant (F := Ideal) S_ .f32 0x00000000#32) reducesTo_S8192x5632_S5632_d0 h_S_) shapeCasts_S5632_S1x5632) (constant (F := Ideal) S_ .f32 0x00000000#32) reducesTo_S1x5632_S5632_d0 h_S_)) (constant (F := Ideal) S_ .f32 0x00000000#32) pads_S1x5632_S3x5632_020_000 h_S_)) : FVec Ideal S3x5632 .f32)⟩, ⟨S1x5632, ((broadcastInDim S1x5632 ![1] bcast_S5632_S1x5632_1 (Host.reduceAdd (F := Ideal) (shapeCast S1x5632 (Host.reduceAdd (F := Ideal) (res_main_v54 V) (constant (F := Ideal) S_ .f32 0x00000000#32) reducesTo_S8192x5632_S5632_d0 h_S_) shapeCasts_S5632_S1x5632) (constant (F := Ideal) S_ .f32 0x00000000#32) reducesTo_S1x5632_S5632_d0 h_S_)) : FVec Ideal S1x5632 .f32)⟩, ⟨S4x5632, ((broadcastInDim S4x5632 ![] bcast_S_S4x5632 (constant (F := Ideal) S_ .f32 0x00000000#32)) : FVec Ideal S4x5632 .f32)⟩] concatenates_S3x5632_S1x5632_S4x5632_S8x5632_d0 : FVec Ideal S8x5632 .f32)

variable {I : Ins} {V : Valuation τ sig (Elt Ideal)}
  (H : Cert.Kernel7Ideal.Gate.Holds I (V (Proc.devRef .tc main_arg0)) (V (Proc.devRef .tc main_arg1)) (V (Proc.devRef .tc main_arg2)) (V (Proc.devRef .tc main_arg3))
    (V (Proc.devRef .tc main_arg4)) (V (Proc.devRef .tc main_arg5)) (V (Proc.devRef .tc main_arg6)))

include H

theorem v6_at (t : Fin 8192) (z : Fin 1) : (res_main_v6 V (ix2 t z) : EReal) = ((I.ms t.val : ℝ) : EReal) := by
  pointwise [res_main_v6]
  simp only [H.x, ← EReal.coe_mul, coe_sum]
  rw [ofBits_width, ofBits_eps, coe_div _ _ (by norm_num), ← EReal.coe_add]
  rfl

theorem v7_at (t : Fin 8192) (z : Fin 1) : (res_main_v7 V (ix2 t z) : EReal) = ((I.rs t.val : ℝ) : EReal) := by
  pointwise [res_main_v7]
  simp only [v6_at H]
  exact coe_rsqrt _ (I.ms_pos _)

theorem v12_at (t : Fin 8192) (k : Fin 1024) : (res_main_v12 V (ix2 t k) : EReal) = ((I.x t.val k.val * I.rs t.val : ℝ) : EReal) := by
  pointwise [res_main_v12]
  simp only [v7_at H, H.x, ← EReal.coe_mul]

theorem v19_at (t : Fin 8194) (c : Fin 5632) : (res_main_v19 V (ix2 t c) : EReal) = ((I.zp t.val c.val : ℝ) : EReal) := by
  pointwise [res_main_v19, res_main_v13, res_main_v16]
  unfold Ins.zp
  by_cases h : t.val < 2
  · rw [if_pos h]
    simp only [h, ↓reduceDIte, ↓reduceIte, EReal.coe_zero]
  · rw [if_neg h]
    simp only [h, ↓reduceDIte, ↓reduceIte]
    simp only [v12_at H, H.g, H.w, ← EReal.coe_mul, coe_sum]
    rfl

theorem v24_at (z : Fin 1) (c : Fin 5632) : (res_main_v24 V (ix2 z c) : EReal) = ((I.cw 0 c.val : ℝ) : EReal) := by
  pointwise [res_main_v24]
  exact H.cw _ _

theorem v33_at (z : Fin 1) (c : Fin 5632) : (res_main_v33 V (ix2 z c) : EReal) = ((I.cw 1 c.val : ℝ) : EReal) := by
  pointwise [res_main_v33]
  exact H.cw _ _

theorem v40_at (z : Fin 1) (c : Fin 5632) : (res_main_v40 V (ix2 z c) : EReal) = ((I.cw 2 c.val : ℝ) : EReal) := by
  pointwise [res_main_v40]
  exact H.cw _ _

theorem v43_at (t : Fin 8192) (c : Fin 5632) : (res_main_v43 V (ix2 t c) : EReal) = ((I.zc t.val c.val : ℝ) : EReal) := by
  pointwise [res_main_v43, res_main_v21, res_main_v30, res_main_v37]
  simp only [v19_at H, v24_at H, v33_at H, v40_at H, H.cb, ← EReal.coe_mul, ← EReal.coe_add]
  unfold Ins.zc
  simp only [Nat.add_comm, Nat.zero_add, Nat.add_zero]

theorem v44_at (t : Fin 8192) (c : Fin 2816) : (res_main_v44 V (ix2 t c) : EReal) = ((I.zc t.val c.val : ℝ) : EReal) := by
  pointwise [res_main_v44]
  exact v43_at H _ _

theorem v45_at (t : Fin 8192) (c : Fin 2816) : (res_main_v45 V (ix2 t c) : EReal) = ((I.zc t.val (2816 + c.val) : ℝ) : EReal) := by
  pointwise [res_main_v45]
  exact v43_at H _ _

theorem v46_2_at (t : Fin 8192) (c : Fin 2816) : (res_main_v46_2 V (ix2 t c) : EReal) = ((sg (I.zc t.val c.val) : ℝ) : EReal) := by
  pointwise [res_main_v46_2]
  simp only [v44_at H]
  rw [← EReal.coe_neg, Ideal.exp_coe, ← EReal.coe_one, ← EReal.coe_add, coe_div _ _ (one_add_exp_pos _).ne', one_div]
  rfl

theorem v50_at (t : Fin 8192) (c : Fin 2816) : (res_main_v50 V (ix2 t c) : EReal) = ((I.df t.val c.val : ℝ) : EReal) := by
  pointwise [res_main_v50, res_main_v48]
  simp only [H.dy, H.wd, ← EReal.coe_mul, coe_sum]
  unfold Ins.df
  rw [if_pos t.isLt]

theorem v52_at (t : Fin 8192) (c : Fin 2816) : (res_main_v52 V (ix2 t c) : EReal) = ((I.df t.val c.val * I.zc t.val (2816 + c.val) : ℝ) : EReal) := by
  pointwise [res_main_v52]
  simp only [v50_at H, v45_at H, ← EReal.coe_mul]

theorem v54_at (t : Fin 8192) (c : Fin 5632) : (res_main_v54 V (ix2 t c) : EReal) = ((I.gr t.val c.val : ℝ) : EReal) := by
  pointwise [res_main_v54, res_main_v46_0]
  by_cases h : c.val < 2816
  · simp only [h, ↓reduceDIte, ↓reduceIte, v52_at H, v46_2_at H, v44_at H, ← EReal.coe_mul]
    rw [I.gr_gate _ _ h, ← EReal.coe_one, ← EReal.coe_sub, ← EReal.coe_mul, ← EReal.coe_mul, ← EReal.coe_add]
    refine congrArg _ ?_
    unfold Ins.gg
    ring
  · simp only [h, ↓reduceDIte, ↓reduceIte, v50_at H, v46_2_at H, v44_at H, ← EReal.coe_mul]
    unfold Ins.gr Ins.gv
    rw [if_neg h]
    refine congrArg _ (mul_comm _ _)

theorem v90_at (t : Fin 8192) (c : Fin 5632) : (res_main_v90 V (ix2 t c) : EReal) = ((I.dzr t.val c.val : ℝ) : EReal) := by
  have P : ∀ lo : ℕ, lo ≤ 2 → ((∀ a : Fin 2, (![lo, 0] : Fin 2 → ℕ) a ≤ (ix2 (⟨2 + t.val, by omega⟩ : Fin 8194) c a).val ∧ ((ix2 (⟨2 + t.val, by omega⟩ : Fin 8194) c a).val - (![lo, 0] : Fin 2 → ℕ) a) % ((![0, 0] : Fin 2 → ℕ) a + 1) = 0
      ∧ ((ix2 (⟨2 + t.val, by omega⟩ : Fin 8194) c a).val - (![lo, 0] : Fin 2 → ℕ) a) / ((![0, 0] : Fin 2 → ℕ) a + 1) < S8192x5632.size a) ↔ 2 + t.val - lo < 8192) := fun lo hlo => by
    constructor
    · intro h
      have e : (2 + t.val - lo) / (0 + 1) < 8192 := (h 0).2.2
      omega
    · intro h a
      match a with
      | ⟨0, _⟩ => exact ⟨show lo ≤ 2 + t.val by omega, show (2 + t.val - lo) % (0 + 1) = 0 by omega, show (2 + t.val - lo) / (0 + 1) < 8192 by omega⟩
      | ⟨1, _⟩ =>
        have := c.isLt
        exact ⟨show 0 ≤ c.val by omega, show (c.val - 0) % (0 + 1) = 0 by omega, show (c.val - 0) / (0 + 1) < 5632 by omega⟩
  pointwise [res_main_v90, res_main_v88]
  rw [show I.dzr t.val c.val = I.gr t.val c.val * I.cw 2 c.val + I.gr (t.val + 1) c.val * I.cw 1 c.val + I.gr (t.val + 2) c.val * I.cw 0 c.val from rfl, EReal.coe_add, EReal.coe_add]
  refine congrArg₂ (· + ·) (congrArg₂ (· + ·) ?_ ?_) ?_
  · refine (dif_pos ((P 2 (by omega)).mpr (by omega))).trans ?_
    rw [v54_at H, v40_at H, ← EReal.coe_mul]
  · by_cases h : t.val + 1 < 8192
    · refine (dif_pos ((P 1 (by omega)).mpr (by omega))).trans ?_
      rw [v54_at H, v33_at H, ← EReal.coe_mul]
      show (((I.gr (2 + t.val - 1) c.val * _ : ℝ)) : EReal) = _
      rw [show 2 + t.val - 1 = t.val + 1 by omega]
    · refine (dif_neg fun hn => ?_).trans ?_
      · have := (P 1 (by omega)).mp hn
        omega
      · rw [I.gr_last _ _ (by omega), zero_mul, EReal.coe_zero]
  · by_cases h : t.val + 2 < 8192
    · refine (dif_pos ((P 0 (by omega)).mpr (by omega))).trans ?_
      rw [v54_at H, v24_at H, ← EReal.coe_mul]
      show (((I.gr (2 + t.val) c.val * _ : ℝ)) : EReal) = _
      rw [Nat.add_comm]
    · refine (dif_neg fun hn => ?_).trans ?_
      · have := (P 0 (by omega)).mp hn
        omega
      · rw [I.gr_last _ _ (by omega), zero_mul, EReal.coe_zero]

theorem v91_at (t : Fin 8192) (k : Fin 1024) : (res_main_v91 V (ix2 t k) : EReal) = ((I.dhr t.val k.val : ℝ) : EReal) := by
  pointwise [res_main_v91, res_main_v16]
  simp only [v90_at H, H.w, ← EReal.coe_mul, coe_sum]
  rfl

theorem v96_at (t : Fin 8192) (k : Fin 1024) : (res_main_v96 V (ix2 t k) : EReal) = ((I.dhr t.val k.val * I.g k.val : ℝ) : EReal) := by
  pointwise [res_main_v96, res_main_v13]
  simp only [v91_at H, H.g, ← EReal.coe_mul]

theorem v107_at (t : Fin 8192) (k : Fin 1024) : (res_main_v107 V (ix2 t k) : EReal)
    = (((∑ l : Fin 1024, I.x t.val l.val * (I.dhr t.val l.val * I.g l.val)) * (-(1 / 2) * (I.rs t.val / I.ms t.val)) / 1024 : ℝ) : EReal) := by
  pointwise [res_main_v107]
  simp only [v96_at H, v7_at H, v6_at H, H.x, ← EReal.coe_mul, coe_sum]
  rw [ofBits_width, ofBits_neg_half, coe_div _ _ (I.ms_pos _).ne', ← EReal.coe_mul, ← EReal.coe_mul, coe_div _ _ (by norm_num)]
  exact Fin.sum_univ_one (M := EReal) _

/-- The input's gradient. -/
theorem dx_at (y : S8192x1024.Idx) : (addf (V (Proc.devRef .tc main_arg6)) (addf (addf (mulf (res_main_v96 V) (broadcastInDim S8192x1024 ![0, 1] bcast_S8192x1_S8192x1024_0_1 (res_main_v7 V))) (mulf (V (Proc.devRef .tc main_arg0)) (res_main_v107 V))) (mulf (res_main_v107 V) (V (Proc.devRef .tc main_arg0)))) y : EReal)
    = ((I.dxr (y 0).val (y 1).val : ℝ) : EReal) := by
  obtain ⟨t, k, rfl⟩ : ∃ (t : Fin 8192) (k : Fin 1024), y = ix2 t k := ⟨y 0, y 1, eq_ix2 y⟩
  pointwise
  simp only [v96_at H, v7_at H, v107_at H, H.x, H.dy, ← EReal.coe_mul, ← EReal.coe_add]
  refine congrArg _ ?_
  show _ = I.dxr t.val k.val
  unfold Ins.dxr
  have e : ∑ l : Fin 1024, I.dhr t.val l.val * I.g l.val * (I.x t.val l.val * I.rs t.val) = I.rs t.val * ∑ l : Fin 1024, I.x t.val l.val * (I.dhr t.val l.val * I.g l.val) := by
    rw [Finset.mul_sum]
    exact Finset.sum_congr rfl fun l _ => by ring
  rw [e, div_eq_mul_inv (I.rs t.val), ← I.rs_sq]
  ring

/-- The scale's gradient. -/
theorem dg_at (y : S1x1024.Idx) : (broadcastInDim S1x1024 ![1] bcast_S1024_S1x1024_1 (Host.reduceAdd (F := Ideal) (shapeCast S1x1024 (Host.reduceAdd (mulf (res_main_v12 V) (res_main_v91 V)) (constant S_ .f32 0x00000000#32) reducesTo_S8192x1024_S1024_d0 h_S_) shapeCasts_S1024_S1x1024) (constant S_ .f32 0x00000000#32) reducesTo_S1x1024_S1024_d0 h_S_) y : EReal)
    = ((I.dgr (y 1).val : ℝ) : EReal) := by
  obtain ⟨z, k, rfl⟩ : ∃ (z : Fin 1) (k : Fin 1024), y = ix2 z k := ⟨y 0, y 1, eq_ix2 y⟩
  pointwise
  simp only [v12_at H, v91_at H, ← EReal.coe_mul, coe_sum]
  rw [Fin.sum_univ_one]
  refine congrArg _ ?_
  unfold Ins.dgr
  exact Finset.sum_congr rfl fun t _ => mul_comm _ _

/-- The convolution's input gradient. -/
theorem dz_at (y : S8192x5632.Idx) : ((truncf .bf16 (res_main_v90 V) bitsLt_bf16_f32 : FVec Ideal S8192x5632 .bf16) y : EReal) = ((I.dzr (y 0).val (y 1).val : ℝ) : EReal) := by
  obtain ⟨t, c, rfl⟩ : ∃ (t : Fin 8192) (c : Fin 5632), y = ix2 t c := ⟨y 0, y 1, eq_ix2 y⟩
  pointwise
  exact v90_at H t c

omit H in
/-- A sum over the rows, one row on. -/
theorem sum_shift (f : ℕ → ℝ) (h0 : f 0 = 0) (hN : f 8192 = 0) : ∑ t : Fin 8192, f t.val = ∑ t : Fin 8192, f (t.val + 1) := by
  rw [Fin.sum_univ_eq_sum_range f 8192, Fin.sum_univ_eq_sum_range (fun t => f (t + 1)) 8192]
  have e := (Finset.sum_range_succ f 8192).symm.trans (Finset.sum_range_succ' f 8192)
  rw [h0, hN] at e
  linarith

/-- The three tap gradients, the bias gradient and four rows of zeros. -/
theorem tap_at (y : S8x5632.Idx) : (taps V y : EReal) = ((I.tapr (y 0).val (y 1).val : ℝ) : EReal) := by
  obtain ⟨j, c, rfl⟩ : ∃ (j : Fin 8) (c : Fin 5632), y = ix2 j c := ⟨y 0, y 1, eq_ix2 y⟩
  pointwise [taps, res_main_v21, res_main_v30, res_main_v37]
  simp only [v19_at H, v54_at H, ← EReal.coe_mul, coe_sum]
  have s2 : ∑ t : Fin 8192, I.zp (2 + t.val) c.val * I.gr t.val c.val = I.tapr 2 c.val := by
    unfold Ins.tapr
    refine Finset.sum_congr rfl fun t _ => ?_
    show _ = I.gr t.val c.val * I.z t.val c.val
    unfold Ins.zp
    rw [if_neg (by omega), Nat.add_sub_cancel_left, mul_comm]
  have s1 : ∑ t : Fin 8192, I.zp (1 + t.val) c.val * I.gr t.val c.val = I.tapr 1 c.val := by
    rw [sum_shift (fun t => I.zp (1 + t) c.val * I.gr t c.val) (by simp [Ins.zp]) (by simp [I.gr_last])]
    unfold Ins.tapr
    refine Finset.sum_congr rfl fun t _ => ?_
    show _ = I.gr (t.val + 1) c.val * I.z t.val c.val
    unfold Ins.zp
    rw [if_neg (by omega), show 1 + (t.val + 1) - 2 = t.val by omega, mul_comm]
  have s0 : ∑ t : Fin 8192, I.zp t.val c.val * I.gr t.val c.val = I.tapr 0 c.val := by
    rw [sum_shift (fun t => I.zp t c.val * I.gr t c.val) (by simp [Ins.zp]) (by simp [I.gr_last]),
      sum_shift (fun t => I.zp (t + 1) c.val * I.gr (t + 1) c.val) (by simp [Ins.zp]) (by simp [I.gr_last])]
    unfold Ins.tapr
    refine Finset.sum_congr rfl fun t _ => ?_
    show _ = I.gr (t.val + 2) c.val * I.z t.val c.val
    unfold Ins.zp
    rw [if_neg (by omega), show t.val + 1 + 1 - 2 = t.val by omega, mul_comm]
  have s3 : ∑ t : Fin 8192, I.gr t.val c.val = I.tapr 3 c.val := rfl
  have s4 : ∀ n, 4 ≤ n → I.tapr n c.val = 0 := fun n hn => by
    unfold Ins.tapr Ins.tp
    refine Finset.sum_eq_zero fun t _ => ?_
    rw [if_neg (by omega), if_neg (by omega), if_neg (by omega), if_neg (by omega)]
  simp only [Fin.sum_univ_one, s0, s1, s2, s3]
  obtain ⟨j, hj⟩ := j
  interval_cases j <;> simp [s4]

end Cert.Reference7Ideal.Gate

end
-- ==== Proof.GatePre.lean ====
module

public import proofs.«01_k».proof.Proof.PreIdeal
public import proofs.«01_k».proof.Proof.GateHost

/-
  What the precondition of the gated block's backward pass says, entry by entry: every operand holds real numbers.
-/

@[expose] public section

set_option maxRecDepth 16384

noncomputable section

namespace Cert.Proof

open Idealize.ShloMosaic

/-- The side conditions of that precondition's operations. -/
theorem preFacts7 : Cert.Pre_finite_inputs7.Facts where
  shapeCasts_S8192x1024_S8388608 := by decide
  bitsLt_bf16_f32 := by decide
  shapeCasts_S1024x5632_S5767168 := by decide
  shapeCasts_S3x5632_S16896 := by decide
  shapeCasts_S2816x1024_S2883584 := by decide
  concatenates_S8388608_S1024_S5767168_S16896_S5632_S2883584_S8388608_S25451520_d0 := by decide
  bcast_S_S25451520 := by decide

/-- A fact at positions of equal values. -/
theorem at_pair {R C : ℕ} (P : Fin R → Fin C → Prop) (a b : ℕ) (ha : a < R) (hb : b < C) (t : Fin R) (k : Fin C) (ea : a = t.val) (eb : b = k.val)
    (h : P ⟨a, ha⟩ ⟨b, hb⟩) : P t k := by
  subst ea eb
  exact h

/-- The same with one position. -/
theorem at_one {R : ℕ} (P : Fin R → Prop) (a : ℕ) (ha : a < R) (t : Fin R) (ea : a = t.val) (h : P ⟨a, ha⟩) : P t := by
  subst ea
  exact h

/-- An array's entries as real numbers. -/
def real2 {R C : ℕ} {φ : FTy} (a : FVec Ideal ⟨2, ![R, C]⟩ φ) (t k : ℕ) : ℝ :=
  if h : t < R ∧ k < C then (a (ix2 ⟨t, h.1⟩ ⟨k, h.2⟩) : EReal).toReal else 0

/-- A vector's entries as real numbers. -/
def real1 {R : ℕ} {φ : FTy} (a : FVec Ideal ⟨1, ![R]⟩ φ) (t : ℕ) : ℝ :=
  if h : t < R then (a (ix1 ⟨t, h⟩) : EReal).toReal else 0

theorem real2_at {R C : ℕ} {φ : FTy} (a : FVec Ideal ⟨2, ![R, C]⟩ φ) (t : Fin R) (k : Fin C)
    (h : FloatOps.absf (F := Ideal) (φ := .f32) (a (ix2 t k) : EReal) < ⊤) : (a (ix2 t k) : EReal) = ((real2 a t.val k.val : ℝ) : EReal) := by
  unfold real2
  rw [dif_pos ⟨t.isLt, k.isLt⟩]
  exact real_of_absf _ h

theorem real1_at {R : ℕ} {φ : FTy} (a : FVec Ideal ⟨1, ![R]⟩ φ) (t : Fin R)
    (h : FloatOps.absf (F := Ideal) (φ := .f32) (a (ix1 t) : EReal) < ⊤) : (a (ix1 t) : EReal) = ((real1 a t.val : ℝ) : EReal) := by
  unfold real1
  rw [dif_pos t.isLt]
  exact real_of_absf _ h

/-- The operands as real numbers. -/
def insOf (x : FVec Ideal Cert.Pre_finite_inputs7.S8192x1024 .f32) (g : FVec Ideal Cert.Pre_finite_inputs7.S1024 .f32)
  (w : FVec Ideal Cert.Pre_finite_inputs7.S1024x5632 .bf16) (cw : FVec Ideal Cert.Pre_finite_inputs7.S3x5632 .f32) (cb : FVec Ideal Cert.Pre_finite_inputs7.S5632 .f32)
  (wd : FVec Ideal Cert.Pre_finite_inputs7.S2816x1024 .bf16) (dy : FVec Ideal Cert.Pre_finite_inputs7.S8192x1024 .f32) : Ins where
  x := real2 x
  g := real1 g
  w := real2 w
  cw := real2 cw
  cb := real1 cb
  wd := real2 wd
  dy := real2 dy

section
variable [Cert.Pre_finite_inputs7.Facts] (x : FVec Ideal Cert.Pre_finite_inputs7.S8192x1024 .f32) (g : FVec Ideal Cert.Pre_finite_inputs7.S1024 .f32)
  (w : FVec Ideal Cert.Pre_finite_inputs7.S1024x5632 .bf16) (cw : FVec Ideal Cert.Pre_finite_inputs7.S3x5632 .f32) (cb : FVec Ideal Cert.Pre_finite_inputs7.S5632 .f32)
  (wd : FVec Ideal Cert.Pre_finite_inputs7.S2816x1024 .bf16) (dy : FVec Ideal Cert.Pre_finite_inputs7.S8192x1024 .f32)
  (hpre : Cert.Pre_finite_inputs7.fn (F := Ideal) x g w cw cb wd dy = fun _ => 1#1)

include hpre

theorem finite7_at (i : Fin 25451520) :
    FloatOps.absf (F := Ideal) (φ := .f32) (if h : i.val < 8388608 then (x (ix2 ⟨i.val / 1024, by omega⟩ ⟨i.val % 1024, by omega⟩) : EReal)
      else if h : i.val - 8388608 < 1024 then (g (ix1 ⟨i.val - 8388608, h⟩) : EReal)
      else if h : i.val - 8388608 - 1024 < 5767168 then (w (ix2 ⟨(i.val - 8388608 - 1024) / 5632, by omega⟩ ⟨(i.val - 8388608 - 1024) % 5632, by omega⟩) : EReal)
      else if h : i.val - 8388608 - 1024 - 5767168 < 16896 then (cw (ix2 ⟨(i.val - 8388608 - 1024 - 5767168) / 5632, by omega⟩ ⟨(i.val - 8388608 - 1024 - 5767168) % 5632, by omega⟩) : EReal)
      else if h : i.val - 8388608 - 1024 - 5767168 - 16896 < 5632 then (cb (ix1 ⟨i.val - 8388608 - 1024 - 5767168 - 16896, h⟩) : EReal)
      else if h : i.val - 8388608 - 1024 - 5767168 - 16896 - 5632 < 2883584 then
        (wd (ix2 ⟨(i.val - 8388608 - 1024 - 5767168 - 16896 - 5632) / 1024, by omega⟩ ⟨(i.val - 8388608 - 1024 - 5767168 - 16896 - 5632) % 1024, by omega⟩) : EReal)
      else (dy (ix2 ⟨(i.val - 8388608 - 1024 - 5767168 - 16896 - 5632 - 2883584) / 1024, by have := i.isLt; omega⟩ ⟨(i.val - 8388608 - 1024 - 5767168 - 16896 - 5632 - 2883584) % 1024, by omega⟩) : EReal)) < ⊤ := by
  have e := congrFun hpre (ix1 i)
  have e' : ∀ X, Cert.Pre_finite_inputs7.fn (F := Ideal) x g w cw cb wd dy (ix1 i) = X →
      BitVec.ofBool (decide (FloatOps.absf (F := Ideal) (φ := .f32) (if h : i.val < 8388608 then (x (ix2 ⟨i.val / 1024, by omega⟩ ⟨i.val % 1024, by omega⟩) : EReal)
      else if h : i.val - 8388608 < 1024 then (g (ix1 ⟨i.val - 8388608, h⟩) : EReal)
      else if h : i.val - 8388608 - 1024 < 5767168 then (w (ix2 ⟨(i.val - 8388608 - 1024) / 5632, by omega⟩ ⟨(i.val - 8388608 - 1024) % 5632, by omega⟩) : EReal)
      else if h : i.val - 8388608 - 1024 - 5767168 < 16896 then (cw (ix2 ⟨(i.val - 8388608 - 1024 - 5767168) / 5632, by omega⟩ ⟨(i.val - 8388608 - 1024 - 5767168) % 5632, by omega⟩) : EReal)
      else if h : i.val - 8388608 - 1024 - 5767168 - 16896 < 5632 then (cb (ix1 ⟨i.val - 8388608 - 1024 - 5767168 - 16896, h⟩) : EReal)
      else if h : i.val - 8388608 - 1024 - 5767168 - 16896 - 5632 < 2883584 then
        (wd (ix2 ⟨(i.val - 8388608 - 1024 - 5767168 - 16896 - 5632) / 1024, by omega⟩ ⟨(i.val - 8388608 - 1024 - 5767168 - 16896 - 5632) % 1024, by omega⟩) : EReal)
      else (dy (ix2 ⟨(i.val - 8388608 - 1024 - 5767168 - 16896 - 5632 - 2883584) / 1024, by have := i.isLt; omega⟩ ⟨(i.val - 8388608 - 1024 - 5767168 - 16896 - 5632 - 2883584) % 1024, by omega⟩) : EReal)) < Ideal.ofBits .f32 0x7F800000#32)) = X := by
    intro X hX
    rw [← hX]
    pointwise [Cert.Pre_finite_inputs7.fn]
  have e2 := e' _ e
  rw [ofBits_inf] at e2
  by_contra hn
  rw [decide_eq_false hn] at e2
  exact absurd e2 (by decide)

/-- The operands hold those. -/
theorem holds_of : Cert.Kernel7Ideal.Gate.Holds (insOf x g w cw cb wd dy) x g w cw cb wd dy where
  x t k := by
    have ht := t.isLt
    have hk := k.isLt
    have e := finite7_at x g w cw cb wd dy hpre ⟨0 + 1024 * t.val + k.val, by omega⟩
    rw [dif_pos (by dsimp only; omega)] at e
    exact real2_at x t k (at_pair (fun t k => FloatOps.absf (F := Ideal) (φ := .f32) (x (ix2 t k) : EReal) < ⊤) _ _ _ _ t k (by dsimp only; omega) (by dsimp only; omega) e)
  g t := by
    have ht := t.isLt
    have e := finite7_at x g w cw cb wd dy hpre ⟨8388608 + t.val, by omega⟩
    rw [dif_neg (by dsimp only; omega)] at e
    rw [dif_pos (by dsimp only; omega)] at e
    exact real1_at g t (at_one (fun t => FloatOps.absf (F := Ideal) (φ := .f32) (g (ix1 t) : EReal) < ⊤) _ _ t (by dsimp only; omega) e)
  w t k := by
    have ht := t.isLt
    have hk := k.isLt
    have e := finite7_at x g w cw cb wd dy hpre ⟨8389632 + 5632 * t.val + k.val, by omega⟩
    rw [dif_neg (by dsimp only; omega)] at e
    rw [dif_neg (by dsimp only; omega)] at e
    rw [dif_pos (by dsimp only; omega)] at e
    exact real2_at w t k (at_pair (fun t k => FloatOps.absf (F := Ideal) (φ := .f32) (w (ix2 t k) : EReal) < ⊤) _ _ _ _ t k (by dsimp only; omega) (by dsimp only; omega) e)
  cw t k := by
    have ht := t.isLt
    have hk := k.isLt
    have e := finite7_at x g w cw cb wd dy hpre ⟨14156800 + 5632 * t.val + k.val, by omega⟩
    rw [dif_neg (by dsimp only; omega)] at e
    rw [dif_neg (by dsimp only; omega)] at e
    rw [dif_neg (by dsimp only; omega)] at e
    rw [dif_pos (by dsimp only; omega)] at e
    exact real2_at cw t k (at_pair (fun t k => FloatOps.absf (F := Ideal) (φ := .f32) (cw (ix2 t k) : EReal) < ⊤) _ _ _ _ t k (by dsimp only; omega) (by dsimp only; omega) e)
  cb t := by
    have ht := t.isLt
    have e := finite7_at x g w cw cb wd dy hpre ⟨14173696 + t.val, by omega⟩
    rw [dif_neg (by dsimp only; omega)] at e
    rw [dif_neg (by dsimp only; omega)] at e
    rw [dif_neg (by dsimp only; omega)] at e
    rw [dif_neg (by dsimp only; omega)] at e
    rw [dif_pos (by dsimp only; omega)] at e
    exact real1_at cb t (at_one (fun t => FloatOps.absf (F := Ideal) (φ := .f32) (cb (ix1 t) : EReal) < ⊤) _ _ t (by dsimp only; omega) e)
  wd t k := by
    have ht := t.isLt
    have hk := k.isLt
    have e := finite7_at x g w cw cb wd dy hpre ⟨14179328 + 1024 * t.val + k.val, by omega⟩
    rw [dif_neg (by dsimp only; omega)] at e
    rw [dif_neg (by dsimp only; omega)] at e
    rw [dif_neg (by dsimp only; omega)] at e
    rw [dif_neg (by dsimp only; omega)] at e
    rw [dif_neg (by dsimp only; omega)] at e
    rw [dif_pos (by dsimp only; omega)] at e
    exact real2_at wd t k (at_pair (fun t k => FloatOps.absf (F := Ideal) (φ := .f32) (wd (ix2 t k) : EReal) < ⊤) _ _ _ _ t k (by dsimp only; omega) (by dsimp only; omega) e)
  dy t k := by
    have ht := t.isLt
    have hk := k.isLt
    have e := finite7_at x g w cw cb wd dy hpre ⟨17062912 + 1024 * t.val + k.val, by omega⟩
    rw [dif_neg (by dsimp only; omega)] at e
    rw [dif_neg (by dsimp only; omega)] at e
    rw [dif_neg (by dsimp only; omega)] at e
    rw [dif_neg (by dsimp only; omega)] at e
    rw [dif_neg (by dsimp only; omega)] at e
    rw [dif_neg (by dsimp only; omega)] at e
    exact real2_at dy t k (at_pair (fun t k => FloatOps.absf (F := Ideal) (φ := .f32) (dy (ix2 t k) : EReal) < ⊤) _ _ _ _ t k (by dsimp only; omega) (by dsimp only; omega) e)

end

end Cert.Proof

end
-- ==== Proof.Down8.lean ====
/-
  The down projection of the gated block with the residual added: each block of 512 rows is the reference's.
-/
module

public import proofs.«01_k».proof.Proof.Gen.Kernel8Ideal.Frame
public import proofs.«01_k».proof.Proof.Gen.Reference8Ideal
public import proofs.«01_k».proof.Proof.Gen.Reference8Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel8Ideal.Down

open Cert.Kernel8Ideal Cert.Kernel8Ideal.Gen

variable (m : (ℓ : Loc nD τ sig) → Buf (Elt Ideal) ℓ)

/-- The reference's term over the gated values `f`, the weight `w` and the residual `x`. -/
abbrev REF (f : FVec Ideal S8192x2816 .f32) (w : FVec Ideal S2816x1024 .bf16) (x : FVec Ideal S8192x1024 .f32) : FVec Ideal S8192x1024 .f32 :=
  addf x (Host.dotGeneral (F := Ideal) (φ₁ := .f32) (φ₂ := .f32) Cert.Reference8Ideal.dot_S8192x2816_S2816x1024_S8192x1024_1_0_0_1_n_n none f (extf .f32 w Cert.Reference8Ideal.Gen.bitsLt_bf16_f32))

/-- The reference's entry. -/
theorem ref_at (f : FVec Ideal S8192x2816 .f32) (w : FVec Ideal S2816x1024 .bf16) (x : FVec Ideal S8192x1024 .f32) (y : S8192x1024.Idx) :
    REF f w x y = x y + ∑ l : Fin 2816, f (ix2 (y 0) l) * w (ix2 l (y 1)) := by
  pointwise [REF]

/-- A block's entry. -/
theorem pay_at (x : Vec Ideal S512x1024 .f32) (f : Vec Ideal S512x2816 .bf16) (w : Vec Ideal S2816x1024 .bf16) (y : S512x1024.Idx) :
    k0_pay1 x f w y = x y + ∑ k : Fin 2816, f (ix2 (y 0) k) * w (ix2 k (y 1)) := by
  pointwise [k0_pay1]

/-- Which block each point works on. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- The array after the run is the reference's. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  rw [pay_at, ref_at]
  refine congrArg₂ (· + ·) ?_ (Finset.sum_congr rfl fun k _ => ?_)
  · blk_point [iblk, V, idx t]
  · blk_point [iblk, V, idx t]

end Cert.Kernel8Ideal.Down

end
-- ==== Proof.UpBody.lean ====
/-
  The body of the gated block's forward kernel at a grid point, over any float values: run on whole buffers it leaves the
  inputs as they were, the four results at what the inputs and the carried rows make of them, and the block's last rows in
  the scratch.
-/
module

public import proofs.«01_k».proof.Proof.Gen.Kernel9Ideal.Frame
public import proofs.«01_k».proof.Proof.Gen.Kernel9Ideal.Skeleton
public import Idealize.ShloMosaic.Lib.Tactic
public import Idealize.ShloMosaic.Lib.VecWindow
public import Idealize.ShloMosaic.Lib.Claim

@[expose] public section

set_option maxRecDepth 16384

noncomputable section

namespace Cert.Kernel9Ideal.Up

open Cert.Kernel9Ideal Cert.Kernel9Ideal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

/-! ## The column tiles -/

/-- Columns 0 to 1407 of a block, of the weight, of the taps, of the carried rows. -/
abbrev rZ0 : Rect S512x5632 := Rect.unit (s := S512x5632) ![0, 0] S512x1408.size inb_S512x5632_S512x1408_0_0
@[inherit_doc rZ0] abbrev rW0 : Rect S1024x5632 := Rect.unit (s := S1024x5632) ![0, 0] S1024x1408.size inb_S1024x5632_S1024x1408_0_0
@[inherit_doc rZ0] abbrev rC0 : Rect S8x5632 := Rect.unit (s := S8x5632) ![0, 0] S8x1408.size inb_S8x5632_S8x1408_0_0
@[inherit_doc rZ0] abbrev rT0 : Rect S16x5632 := Rect.unit (s := S16x5632) ![0, 0] S16x1408.size inb_S16x5632_S16x1408_0_0
/-- Columns 2816 to 4223 of a block, of the weight, of the taps, of the carried rows. -/
abbrev rZ2816 : Rect S512x5632 := Rect.unit (s := S512x5632) ![0, 2816] S512x1408.size inb_S512x5632_S512x1408_0_2816
@[inherit_doc rZ2816] abbrev rW2816 : Rect S1024x5632 := Rect.unit (s := S1024x5632) ![0, 2816] S1024x1408.size inb_S1024x5632_S1024x1408_0_2816
@[inherit_doc rZ2816] abbrev rC2816 : Rect S8x5632 := Rect.unit (s := S8x5632) ![0, 2816] S8x1408.size inb_S8x5632_S8x1408_0_2816
@[inherit_doc rZ2816] abbrev rT2816 : Rect S16x5632 := Rect.unit (s := S16x5632) ![0, 2816] S16x1408.size inb_S16x5632_S16x1408_0_2816
/-- Columns 1408 to 2815 of a block, of the weight, of the taps, of the carried rows. -/
abbrev rZ1408 : Rect S512x5632 := Rect.unit (s := S512x5632) ![0, 1408] S512x1408.size inb_S512x5632_S512x1408_0_1408
@[inherit_doc rZ1408] abbrev rW1408 : Rect S1024x5632 := Rect.unit (s := S1024x5632) ![0, 1408] S1024x1408.size inb_S1024x5632_S1024x1408_0_1408
@[inherit_doc rZ1408] abbrev rC1408 : Rect S8x5632 := Rect.unit (s := S8x5632) ![0, 1408] S8x1408.size inb_S8x5632_S8x1408_0_1408
@[inherit_doc rZ1408] abbrev rT1408 : Rect S16x5632 := Rect.unit (s := S16x5632) ![0, 1408] S16x1408.size inb_S16x5632_S16x1408_0_1408
/-- Columns 4224 to 5631 of a block, of the weight, of the taps, of the carried rows. -/
abbrev rZ4224 : Rect S512x5632 := Rect.unit (s := S512x5632) ![0, 4224] S512x1408.size inb_S512x5632_S512x1408_0_4224
@[inherit_doc rZ4224] abbrev rW4224 : Rect S1024x5632 := Rect.unit (s := S1024x5632) ![0, 4224] S1024x1408.size inb_S1024x5632_S1024x1408_0_4224
@[inherit_doc rZ4224] abbrev rC4224 : Rect S8x5632 := Rect.unit (s := S8x5632) ![0, 4224] S8x1408.size inb_S8x5632_S8x1408_0_4224
@[inherit_doc rZ4224] abbrev rT4224 : Rect S16x5632 := Rect.unit (s := S16x5632) ![0, 4224] S16x1408.size inb_S16x5632_S16x1408_0_4224
/-- Columns 0 to 1407 of a block of gated values. -/
abbrev rF0 : Rect S512x2816 := Rect.unit (s := S512x2816) ![0, 0] S512x1408.size inb_S512x2816_S512x1408_0_0
/-- Columns 1408 to 2815 of a block of gated values. -/
abbrev rF1408 : Rect S512x2816 := Rect.unit (s := S512x2816) ![0, 1408] S512x1408.size inb_S512x2816_S512x1408_0_1408
/-- A whole block of rows. -/
abbrev rX : Rect S512x1024 := Rect.unit (s := S512x1024) ![0, 0] S512x1024.size inb_S512x1024_S512x1024_0_0
/-- The whole norm's weight. -/
abbrev rG : Rect S1x1024 := Rect.unit (s := S1x1024) ![0, 0] S1x1024.size inb_S1x1024_S1x1024_0_0

section Out
variable (v0 : BitVec 1) (i : grid0.Coords) (x0 : Vec F S512x1024 .f32) (x1 : Vec F S1x1024 .f32) (x2 : Vec F S1024x5632 .bf16) (x3 : Vec F S8x5632 .f32) (x8 : Vec F S16x5632 .f32)

/-- The word that says whether a point is the first. -/
abbrev fst : BitVec 1 := Scalar.cmpi .eq (BitVec.ofNat 32 (i 0).val) 0#32

/-- The normalised rows. -/
abbrev hB : FVec F S512x1024 .bf16 := k0_pay4 (View.ld x0 rX) (View.ld x1 rG)

/-- The up projection's tiles, with their convolutions. -/
abbrev z0 : FVec F S512x1408 .bf16 := k0_pay5 (View.ld x0 rX) (View.ld x1 rG) (View.ld x2 rW0)
@[inherit_doc z0] abbrev z2816 : FVec F S512x1408 .bf16 := k0_pay12 (hB x0 x1) (View.ld x2 rW2816)
@[inherit_doc z0] abbrev z1408 : FVec F S512x1408 .bf16 := k0_pay23 (hB x0 x1) (View.ld x2 rW1408)
@[inherit_doc z0] abbrev z4224 : FVec F S512x1408 .bf16 := k0_pay32 (hB x0 x1) (View.ld x2 rW4224)
@[inherit_doc z0] abbrev c0 : FVec F S512x1408 .f32 :=
  k0_pay10 (k0_pay6 (View.ld x0 rX) (View.ld x1 rG) (View.ld x2 rW0)) (k0_pay8 (View.ld x3 rC0)) (k0_pay9 i (View.ld x0 rX) (View.ld x1 rG) (View.ld x2 rW0) (View.ld x8 rT0)) 2#32
@[inherit_doc z0] abbrev c2816 : FVec F S512x1408 .f32 :=
  k0_pay20 (k0_pay13 (hB x0 x1) (View.ld x2 rW2816)) (k0_pay15 (View.ld x3 rC2816)) (k0_pay17 (fst i) (hB x0 x1) (View.ld x2 rW2816) (View.ld x8 rT2816)) (k0_pay18 (fst i) (hB x0 x1) (View.ld x2 rW2816) (View.ld x8 rT2816)) (k0_pay19 (View.ld x3 rC2816))
@[inherit_doc z0] abbrev c1408 : FVec F S512x1408 .f32 :=
  k0_pay30 (k0_pay24 (hB x0 x1) (View.ld x2 rW1408)) (k0_pay26 (View.ld x3 rC1408)) (k0_pay28 (fst i) (hB x0 x1) (View.ld x2 rW1408) (View.ld x8 rT1408)) (k0_pay29 (fst i) (hB x0 x1) (View.ld x2 rW1408) (View.ld x8 rT1408))
@[inherit_doc z0] abbrev c4224 : FVec F S512x1408 .f32 :=
  k0_pay1 (k0_pay33 (hB x0 x1) (View.ld x2 rW4224)) (k0_pay35 (View.ld x3 rC4224)) (k0_pay37 (fst i) (hB x0 x1) (View.ld x2 rW4224) (View.ld x8 rT4224)) (k0_pay38 (fst i) (hB x0 x1) (View.ld x2 rW4224) (View.ld x8 rT4224) (View.ld x3 rC4224)) (k0_pay39 (View.ld x3 rC4224))
/-- A tile of gated values. -/
abbrev gate (g v : FVec F S512x1408 .f32) : FVec F S512x1408 .bf16 := truncf .bf16 (mulf (mulf g (logistic g)) v) bitsLt_bf16_f32

/-- What a point leaves in the normalised rows' block. -/
def outH : Vec F S512x1024 .bf16 := View.canon [⟨rX, hB x0 x1⟩]

/-- What a point leaves in the up projection's block. -/
def outZ : Vec F S512x5632 .bf16 := View.canon [⟨rZ4224, z4224 x0 x1 x2⟩, ⟨rZ1408, z1408 x0 x1 x2⟩, ⟨rZ2816, z2816 x0 x1 x2⟩, ⟨rZ0, z0 x0 x1 x2⟩]

/-- What a point leaves in the convolution's block. -/
def outC : Vec F S512x5632 .bf16 :=
  View.canon [⟨rZ4224, truncf .bf16 (c4224 i x0 x1 x2 x3 x8) bitsLt_bf16_f32⟩, ⟨rZ1408, truncf .bf16 (c1408 i x0 x1 x2 x3 x8) bitsLt_bf16_f32⟩,
    ⟨rZ2816, truncf .bf16 (c2816 i x0 x1 x2 x3 x8) bitsLt_bf16_f32⟩, ⟨rZ0, truncf .bf16 (c0 i x0 x1 x2 x3 x8) bitsLt_bf16_f32⟩]

/-- What a point leaves in the gated values' block. -/
def outF : Vec F S512x2816 .bf16 :=
  View.canon [⟨rF1408, gate (c1408 i x0 x1 x2 x3 x8) (c4224 i x0 x1 x2 x3 x8)⟩, ⟨rF0, gate (c0 i x0 x1 x2 x3 x8) (c2816 i x0 x1 x2 x3 x8)⟩]

/-- The rows a point carries to the next. -/
def outT : Vec F S16x5632 .f32 :=
  View.canon [⟨rT4224, k0_pay34 (hB x0 x1) (View.ld x2 rW4224)⟩, ⟨rT1408, k0_pay25 (hB x0 x1) (View.ld x2 rW1408)⟩,
    ⟨rT2816, k0_pay14 (hB x0 x1) (View.ld x2 rW2816)⟩, ⟨rT0, k0_pay7 (View.ld x0 rX) (View.ld x1 rG) (View.ld x2 rW0)⟩]

end Out

theorem coverH (p : Vec F S512x1024 .bf16) (y : S512x1024.Idx) : ∃ pc ∈ ([⟨rX, p⟩] : List (View.Piece (Elt F) S512x1024 .bf16)), y ∈ pc.1.set :=
  View.cover_of_tiled [⟨rX, p⟩] S512x1024.size (by rfl) y

theorem coverZ (p q r s : Vec F S512x1408 .bf16) (y : S512x5632.Idx) :
    ∃ pc ∈ ([⟨rZ4224, p⟩, ⟨rZ1408, q⟩, ⟨rZ2816, r⟩, ⟨rZ0, s⟩] : List (View.Piece (Elt F) S512x5632 .bf16)), y ∈ pc.1.set :=
  View.cover_of_tiled [⟨rZ4224, p⟩, ⟨rZ1408, q⟩, ⟨rZ2816, r⟩, ⟨rZ0, s⟩] S512x1408.size (by rfl) y

theorem coverF (p q : Vec F S512x1408 .bf16) (y : S512x2816.Idx) :
    ∃ pc ∈ ([⟨rF1408, p⟩, ⟨rF0, q⟩] : List (View.Piece (Elt F) S512x2816 .bf16)), y ∈ pc.1.set :=
  View.cover_of_tiled [⟨rF1408, p⟩, ⟨rF0, q⟩] S512x1408.size (by rfl) y

theorem coverT (p q r s : Vec F S16x1408 .f32) (y : S16x5632.Idx) :
    ∃ pc ∈ ([⟨rT4224, p⟩, ⟨rT1408, q⟩, ⟨rT2816, r⟩, ⟨rT0, s⟩] : List (View.Piece (Elt F) S16x5632 .f32)), y ∈ pc.1.set :=
  View.cover_of_tiled [⟨rT4224, p⟩, ⟨rT1408, q⟩, ⟨rT2816, r⟩, ⟨rT0, s⟩] S16x1408.size (by rfl) y

set_option maxHeartbeats 0 in
/-- The body at a point. -/
theorem leaves (c : Dev nD) (E : Set ℕ) (i : grid0.Coords)
    (arg1 : Memref sig .tc .vmem S512x1024 .f32) (harg1 : arg1.IsWhole) (arg2 : Memref sig .tc .vmem S1x1024 .f32) (harg2 : arg2.IsWhole)
    (arg3 : Memref sig .tc .vmem S1024x5632 .bf16) (harg3 : arg3.IsWhole) (arg4 : Memref sig .tc .vmem S8x5632 .f32) (harg4 : arg4.IsWhole)
    (arg5 : Memref sig .tc .vmem S512x1024 .bf16) (harg5 : arg5.IsWhole) (arg6 : Memref sig .tc .vmem S512x5632 .bf16) (harg6 : arg6.IsWhole)
    (arg7 : Memref sig .tc .vmem S512x5632 .bf16) (harg7 : arg7.IsWhole) (arg8 : Memref sig .tc .vmem S512x2816 .bf16) (harg8 : arg8.IsWhole)
    (arg9 : Memref sig .tc .vmem S16x5632 .f32) (harg9 : arg9.IsWhole)
    (x0 : Vec F S512x1024 .f32) (x1 : Vec F S1x1024 .f32) (x2 : Vec F S1024x5632 .bf16) (x3 : Vec F S8x5632 .f32) (x8 : Vec F S16x5632 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ owns (c : Thread nD τ) arg9 fullShare x8
        ∗ (iprop(owns (c : Thread nD τ) arg1 fullShare x0 ∗ owns (c : Thread nD τ) arg2 fullShare x1 ∗ owns (c : Thread nD τ) arg3 fullShare x2 ∗ owns (c : Thread nD τ) arg4 fullShare x3
          ∗ owns (c : Thread nD τ) arg5 fullShare (outH x0 x1) ∗ owns (c : Thread nD τ) arg6 fullShare (outZ x0 x1 x2) ∗ owns (c : Thread nD τ) arg7 fullShare (outC i x0 x1 x2 x3 x8)
          ∗ owns (c : Thread nD τ) arg8 fullShare (outF i x0 x1 x2 x3 x8) ∗ owns (c : Thread nD τ) arg9 fullShare (outT x0 x1 x2)) -∗ K ⟨⟩))
      ⊢ wp frame (wpE (defs₀ (F := F)) Variants.none c none) E (cc0_up_proj_gate i arg1 harg1 arg2 harg2 arg3 harg3 arg4 harg4 arg5 harg5 arg6 harg6 arg7 harg7 arg8 harg8 arg9 harg9) K := by
  simp only [cc0_up_proj_gate_eq_skeleton]; unfold cc0_up_proj_gate_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%f8, %hf8, H8⟩, Hk⟩
  subst hf0 hf1 hf2 hf3 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverH _)
  isplitl [H5]
  · iexists _; isplitr
    swap; · iexact H5
    ipureintro
    exact View.read_writes_eq_canon _ _ _ (coverZ _ _ _ _)
  isplitl [H6]
  · iexists _; isplitr
    swap; · iexact H6
    ipureintro
    exact View.read_writes_eq_canon _ _ _ (coverZ _ _ _ _)
  isplitl [H7]
  · iexists _; isplitr
    swap; · iexact H7
    ipureintro
    exact View.read_writes_eq_canon _ _ _ (coverF _ _)
  iexists _; isplitr
  swap; · iexact H8
  ipureintro
  exact View.read_writes_eq_canon _ _ _ (coverT _ _ _ _)

end Cert.Kernel9Ideal.Up

end
-- ==== Proof.UpRun.lean ====
/-
  The run of the gated block's forward kernel over any float values: the rows a point carries to the next are the last
  rows of its own block, and the first point does not look at what it finds.
-/
module

public import proofs.«01_k».proof.Proof.UpBody

@[expose] public section

set_option maxRecDepth 16384

noncomputable section

namespace Cert.Kernel9Ideal.Up

open Cert.Kernel9Ideal Cert.Kernel9Ideal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

/-- The coordinate of a point. -/
theorem coord (t : Fin cfg0.N) : (grid0.coords t 0).val = t.val :=
  (by decide +kernel : ∀ t : Fin grid0.N, (grid0.coords t 0).val = t.val) t

/-- At the first point the word is one. -/
theorem fst_zero {i : grid0.Coords} (h : (i 0).val = 0) : fst i = 1#1 := by
  unfold fst; rw [h]; decide

section Free
variable (i : grid0.Coords) (x0 : Vec F S512x1024 .f32) (x1 : Vec F S1x1024 .f32) (x2 : Vec F S1024x5632 .bf16) (x3 : Vec F S8x5632 .f32) (d d' : Vec F S16x5632 .f32)

theorem c0_free (h : (i 0).val = 0) : c0 i x0 x1 x2 x3 d = c0 i x0 x1 x2 x3 d' := by
  unfold c0 k0_pay9
  dsimp only
  rw [show Scalar.cmpi .eq (BitVec.ofNat 32 (i 0).val) 0#32 = 1#1 from fst_zero h]
  rfl
theorem c2816_free (h : (i 0).val = 0) : c2816 i x0 x1 x2 x3 d = c2816 i x0 x1 x2 x3 d' := by
  have e := fst_zero h
  unfold c2816 k0_pay17 k0_pay18 k0_pay16
  rw [e]
  rfl
theorem c1408_free (h : (i 0).val = 0) : c1408 i x0 x1 x2 x3 d = c1408 i x0 x1 x2 x3 d' := by
  have e := fst_zero h
  unfold c1408 k0_pay28 k0_pay29 k0_pay27
  rw [e]
  rfl
theorem c4224_free (h : (i 0).val = 0) : c4224 i x0 x1 x2 x3 d = c4224 i x0 x1 x2 x3 d' := by
  have e := fst_zero h
  unfold c4224 k0_pay37 k0_pay38 k0_pay36
  rw [e]
  rfl

theorem outC_free (h : (i 0).val = 0) : outC i x0 x1 x2 x3 d = outC i x0 x1 x2 x3 d' := by
  unfold outC
  rw [c0_free i x0 x1 x2 x3 d d' h, c2816_free i x0 x1 x2 x3 d d' h, c1408_free i x0 x1 x2 x3 d d' h, c4224_free i x0 x1 x2 x3 d d' h]
theorem outF_free (h : (i 0).val = 0) : outF i x0 x1 x2 x3 d = outF i x0 x1 x2 x3 d' := by
  unfold outF
  rw [c0_free i x0 x1 x2 x3 d d' h, c2816_free i x0 x1 x2 x3 d d' h, c1408_free i x0 x1 x2 x3 d d' h, c4224_free i x0 x1 x2 x3 d d' h]
end Free

variable (m : (ℓ : Loc nD τ sig) → Buf (Elt F) ℓ) (ρ : Dev nD → PrngReg)

/-- The rows point `t` carries on. -/
def tailAt (c : Dev nD) (t : Fin cfg0.N) : Vec F S16x5632 .f32 := outT (iblk m c 0 t) (iblk m c 1 t) (iblk m c 2 t)

/-- The point before (the first has none, and stands for itself). -/
def before (t : Fin cfg0.N) : Fin cfg0.N := ⟨t.val - 1, Nat.lt_of_le_of_lt (Nat.sub_le _ _) t.isLt⟩

/-- What the scratch may hold between points. -/
def Carried (c : Dev nD) (n : ℕ) (d : Vec F S16x5632 .f32) : Prop := ∀ t : Fin cfg0.N, n = t.val + 1 → d = tailAt m c t

/-- The arrays as the region finds them; after a point each input's buffer at its block, the results' at what the block
    and the rows carried from the block before make of them; the scratch at the carried rows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outH (iblk m c 0 t) (iblk m c 1 t)
    | ⟨5, _⟩ => outZ (iblk m c 0 t) (iblk m c 1 t) (iblk m c 2 t)
    | ⟨6, _⟩ => outC (grid0.coords t) (iblk m c 0 t) (iblk m c 1 t) (iblk m c 2 t) (iblk m c 3 t) (tailAt m c (before t))
    | ⟨7, _⟩ => outF (grid0.coords t) (iblk m c 0 t) (iblk m c 1 t) (iblk m c 2 t) (iblk m c 3 t) (tailAt m c (before t))
  Φ t := iprop((∃ d, ⌜Carried m c t.val d⌝ ∗ owns (c : Thread nD τ) (Memref.whole cc0_scratch0) fullShare d) ∗ ∃ r, prngReg c r)
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outH (iblk m c 0 t) (iblk m c 1 t) := by dsimp only [dats]
theorem after0_5 (c : Dev nD) (t : Fin cfg0.N) : (dats m 0 c).after 5 t = outZ (iblk m c 0 t) (iblk m c 1 t) (iblk m c 2 t) := by dsimp only [dats]
theorem after0_6 (c : Dev nD) (t : Fin cfg0.N) : (dats m 0 c).after 6 t = outC (grid0.coords t) (iblk m c 0 t) (iblk m c 1 t) (iblk m c 2 t) (iblk m c 3 t) (tailAt m c (before t)) := by dsimp only [dats]
theorem after0_7 (c : Dev nD) (t : Fin cfg0.N) : (dats m 0 c).after 7 t = outF (grid0.coords t) (iblk m c 0 t) (iblk m c 1 t) (iblk m c 2 t) (iblk m c 3 t) (tailAt m c (before t)) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What the scratch holds is as good as the block before's rows. -/
theorem carried_C (c : Dev nD) (t : Fin cfg0.N) (d) (h : Carried m c t.val d) :
    outC (grid0.coords t) (iblk m c 0 t) (iblk m c 1 t) (iblk m c 2 t) (iblk m c 3 t) d
      = outC (grid0.coords t) (iblk m c 0 t) (iblk m c 1 t) (iblk m c 2 t) (iblk m c 3 t) (tailAt m c (before t)) := by
  by_cases h0 : t.val = 0
  · exact outC_free _ _ _ _ _ _ _ ((coord t).trans h0)
  · rw [h (before t) (by unfold before; dsimp only; omega)]
@[inherit_doc carried_C]
theorem carried_F (c : Dev nD) (t : Fin cfg0.N) (d) (h : Carried m c t.val d) :
    outF (grid0.coords t) (iblk m c 0 t) (iblk m c 1 t) (iblk m c 2 t) (iblk m c 3 t) d
      = outF (grid0.coords t) (iblk m c 0 t) (iblk m c 1 t) (iblk m c 2 t) (iblk m c 3 t) (tailAt m c (before t)) := by
  by_cases h0 : t.val = 0
  · exact outF_free _ _ _ _ _ _ _ ((coord t).trans h0)
  · rw [h (before t) (by unfold before; dsimp only; omega)]

/-- What a point leaves in the scratch is what it carries on. -/
theorem carried_next (c : Dev nD) (t : Fin cfg0.N) : Carried m c (t.val + 1) (outT (iblk m c 0 t) (iblk m c 1 t) (iblk m c 2 t)) := by
  intro t' h
  have e : t = t' := Fin.ext (by omega)
  subst e; rfl

/-- The body's run at every point. -/
theorem body_obligation (c : Dev nD) : BodyObligation (dats (F := F) m 0 c) (defs₀ (F := F)) Variants.none () Set.univ := fun t => by
  rw [bigSep_W0, bigSep_W0]
  sl_whnfR [defs₀, Defs.onTc]
  simp only [before0_0, before0_1, before0_2, before0_3]
  rw [show (dats m 0 c).owesAt () t.succ = (dats m 0 c).owesAt () t.castSucc from rfl,
    after0_0, after0_1, after0_2, after0_3, after0_4, after0_5, after0_6, after0_7]
  rw [show (dats m 0 c).Φ t.castSucc = iprop((∃ d, ⌜Carried m c t.val d⌝ ∗ owns (c : Thread nD τ) (Memref.whole cc0_scratch0) fullShare d) ∗ ∃ r, prngReg c r) from rfl,
    show (dats m 0 c).Φ t.succ = iprop((∃ d, ⌜Carried m c (t.val + 1) d⌝ ∗ owns (c : Thread nD τ) (Memref.whole cc0_scratch0) fullShare d) ∗ ∃ r, prngReg c r) from rfl]
  iintro ⟨⟨⟨%ds, %hs, Hs⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (leaves c Set.univ (grid0.coords t) _ _ _ _ _ _ _ _ _ _ _ _ _ _ _ _ (Memref.whole cc0_scratch0) (Memref.isWhole_whole _)
    (iblk m c 0 t) (iblk m c 1 t) (iblk m c 2 t) (iblk m c 3 t) ds _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  isplitl [Hs]; · iexact Hs
  rw [carried_C m c t ds hs, carried_F m c t ds hs]
  iintro ⟨H0, H1, H2, H3, H4, H5, H6, H7, Hs⟩
  isplitl [Hs Hr]
  · isplitl [Hs]
    · iexists _
      isplitr
      · ipureintro; exact carried_next m c t
      iexact Hs
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The scratch handed back: it holds something. -/
theorem scratch_back (c : Dev nD) (d : Vec F S16x5632 .f32) :
    (owns (c : Thread nD τ) (Memref.whole cc0_scratch0) fullShare d : sProp 𝕄)
      ⊢ iprop(∃ f : Buf (Elt F) ((c : Thread nD τ).loc cc0_scratch0), ((c : Thread nD τ).loc cc0_scratch0) ↦{fullShare} f) := by
  rw [owns_whole_eq]
  iintro ⟨%g, -, H⟩
  iexists g
  iexact H

/-- Before the first point the scratch may hold anything. -/
theorem phi_in (c : Dev nD) : ΦA spec0 c ⊢ (dats (F := F) m 0 c).Φ 0 := by
  rw [show (dats m 0 c).Φ 0 = iprop((∃ d, ⌜Carried m c 0 d⌝ ∗ owns (c : Thread nD τ) (Memref.whole cc0_scratch0) fullShare d) ∗ ∃ r, prngReg c r) from rfl]
  unfold ΦA
  rw [scopedRest0_eq]
  iintro ⟨⟨%fs, Hs⟩, Hr⟩
  isplitl [Hs]
  · iexists fs
    isplitr
    · ipureintro; intro t h; omega
    rw [owns_whole_eq]
    iexists fs
    isplitr; · ipureintro; rfl
    iexact Hs
  iexact Hr

/-- After the last it is handed back. -/
theorem phi_out (c : Dev nD) : (dats (F := F) m 0 c).Φ (Fin.last cfg0.N) ⊢ ΦA spec0 c := by
  rw [show (dats m 0 c).Φ (Fin.last cfg0.N) = iprop((∃ d, ⌜Carried m c cfg0.N d⌝ ∗ owns (c : Thread nD τ) (Memref.whole cc0_scratch0) fullShare d) ∗ ∃ r, prngReg c r) from rfl]
  unfold ΦA
  rw [scopedRest0_eq]
  iintro ⟨⟨%d, -, Hs⟩, Hr⟩
  isplitl [Hs]
  · ihave Hs' := (scratch_back c d) $$ Hs
    iexact Hs'
  iexact Hr

set_option backward.isDefEq.respectTransparency.types false in
/-- From any memory with zero counters every weakly fair run of the kernel ends with every array of the pipeline at what
    the proof data say and every counter at zero. -/
theorem run_all : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := phi_in m) (hout := phi_out m)

/-- That run without the counters. -/
theorem run_main : θ_run defs (onTc (τ := τ) (main (F := F))) (s₀ m ρ) (Pipeline.FramePost cfgs (dats m) 0 (V m)) :=
  (θ_run defs _ _).mono (fun _ h => h.1) (run_all m ρ)

/-- The run read at the arguments: they are as they were. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_with_sems (frame_of m ρ (dats m) (A_eq m)) (run_all m ρ)

end Cert.Kernel9Ideal.Up

end
-- ==== Proof.UpTile.lean ====
/-
  The tiles of the gated block's forward kernel, entry by entry.
-/
module

public import proofs.«01_k».proof.Proof.UpRun
public import Idealize.ShloMosaic.Lib.Pointwise
public import Idealize.ShloMosaic.Lib.WordCmp

@[expose] public section

set_option maxRecDepth 16384

noncomputable section

open Idealize.ShloMosaic Idealize.ShloMosaic.TcCoe

namespace Cert.Kernel9Ideal.Up

open Cert.Kernel9Ideal Cert.Kernel9Ideal.Gen

/-- A row's inverse root mean square. -/
def nrm (f : Fin 1024 → EReal) : EReal := Ideal.rsqrt (Ideal.div (∑ k, f k * f k) (Ideal.ofBits FTy.f32 1149239296#32) + Ideal.ofBits FTy.f32 897988541#32)

theorem pay4_at (x0 : Vec Ideal S512x1024 .f32) (x1 : Vec Ideal S1x1024 .f32) (r : Fin 512) (k : Fin 1024) :
    (k0_pay4 x0 x1 (ix2 r k) : EReal) = x0 (ix2 r k) * nrm (fun k => x0 (ix2 r k)) * x1 (ix2 0 k) := by
  pointwise [k0_pay4]
  rfl

theorem zt_at (h : FVec Ideal S512x1024 .bf16) (w : Vec Ideal S1024x1408 .bf16) (r : Fin 512) (c : Fin 1408) :
    (k0_pay12 h w (ix2 r c) : EReal) = ∑ k : Fin 1024, h (ix2 r k) * w (ix2 k c) := by
  pointwise [k0_pay12]

theorem tt_at (h : FVec Ideal S512x1024 .bf16) (w : Vec Ideal S1024x1408 .bf16) (r : Fin 16) (c : Fin 1408) :
    (k0_pay14 h w (ix2 r c) : EReal) = ∑ k : Fin 1024, h (ix2 ⟨496 + r.val, by omega⟩ k) * w (ix2 k c) := by
  pointwise [k0_pay14, k0_pay13, k0_pay12]

/-- A tile with the rows carried into it. -/
theorem ext_at (v : BitVec 1) (h : FVec Ideal S512x1024 .bf16) (w : Vec Ideal S1024x1408 .bf16) (d : Vec Ideal S16x1408 .f32) (r : Fin 528) (c : Fin 1408) :
    (k0_pay16 v h w d (ix2 r c) : EReal) = if hr : r.val < 16 then Scalar.select v (0 : EReal) (d (ix2 ⟨r.val, hr⟩ c)) else k0_pay12 h w (ix2 ⟨r.val - 16, by omega⟩ c) := by
  pointwise [k0_pay16, k0_pay13]

theorem two_back (T : FVec Ideal S528x1408 .f32) (r : Fin 512) (c : Fin 1408) :
    (extractStridedSlice S512x1408 ![16, 0] (dynamicRotate 0 2#32 none T rotates_S528x1408_d0) slices_S528x1408_o16_0_S512x1408 : FVec Ideal S512x1408 .f32) (ix2 r c) = T (ix2 ⟨r.val + 14, by omega⟩ c) := by
  pointwise
  exact congrArg (fun q => T (ix2 q c)) (Fin.ext (by have := r.isLt; dsimp only; omega))

theorem one_back (T : FVec Ideal S528x1408 .f32) (r : Fin 512) (c : Fin 1408) :
    (extractStridedSlice S512x1408 ![16, 0] (dynamicRotate 0 1#32 none T rotates_S528x1408_d0) slices_S528x1408_o16_0_S512x1408 : FVec Ideal S512x1408 .f32) (ix2 r c) = T (ix2 ⟨r.val + 15, by omega⟩ c) := by
  pointwise
  exact congrArg (fun q => T (ix2 q c)) (Fin.ext (by have := r.isLt; dsimp only; omega))

theorem conv_at (z z2 z1 : FVec Ideal S512x1408 .f32) (cw : Vec Ideal S8x1408 .f32) (r : Fin 512) (c : Fin 1408) :
    (k0_pay20 z (k0_pay15 cw) z2 z1 (k0_pay19 cw) (ix2 r c) : EReal)
      = cw (ix2 3 c) + z2 (ix2 r c) * cw (ix2 0 c) + z1 (ix2 r c) * cw (ix2 1 c) + z (ix2 r c) * cw (ix2 2 c) := by
  pointwise [k0_pay20, k0_pay15, k0_pay19]

/-- A tile's convolution. -/
def cT (v : BitVec 1) (h : FVec Ideal S512x1024 .bf16) (w : Vec Ideal S1024x1408 .bf16) (cw : Vec Ideal S8x1408 .f32) (d : Vec Ideal S16x1408 .f32) : FVec Ideal S512x1408 .f32 :=
  k0_pay20 (k0_pay13 h w) (k0_pay15 cw) (k0_pay17 v h w d) (k0_pay18 v h w d) (k0_pay19 cw)

theorem cT_at (v : BitVec 1) (h : FVec Ideal S512x1024 .bf16) (w : Vec Ideal S1024x1408 .bf16) (cw : Vec Ideal S8x1408 .f32) (d : Vec Ideal S16x1408 .f32) (r : Fin 512) (c : Fin 1408) :
    (cT v h w cw d (ix2 r c) : EReal)
      = cw (ix2 3 c) + k0_pay16 v h w d (ix2 ⟨r.val + 14, by omega⟩ c) * cw (ix2 0 c) + k0_pay16 v h w d (ix2 ⟨r.val + 15, by omega⟩ c) * cw (ix2 1 c) + k0_pay12 h w (ix2 r c) * cw (ix2 2 c) := by
  unfold cT
  rw [conv_at]
  rw [show k0_pay17 v h w d (ix2 r c) = _ from two_back (k0_pay16 v h w d) r c, show k0_pay18 v h w d (ix2 r c) = _ from one_back (k0_pay16 v h w d) r c]
  rfl

section
variable (i : grid0.Coords) (x0 : Vec Ideal S512x1024 .f32) (x1 : Vec Ideal S1x1024 .f32) (x2 : Vec Ideal S1024x5632 .bf16) (x3 : Vec Ideal S8x5632 .f32) (d : Vec Ideal S16x5632 .f32)

theorem z0_eq : z0 x0 x1 x2 = k0_pay12 (hB x0 x1) (View.ld x2 rW0) := rfl
theorem z1408_eq : z1408 x0 x1 x2 = k0_pay12 (hB x0 x1) (View.ld x2 rW1408) := rfl
theorem z4224_eq : z4224 x0 x1 x2 = k0_pay12 (hB x0 x1) (View.ld x2 rW4224) := rfl
theorem t0_eq : k0_pay7 (View.ld x0 rX) (View.ld x1 rG) (View.ld x2 rW0) = k0_pay14 (hB x0 x1) (View.ld x2 rW0) := rfl
theorem t1408_eq : k0_pay25 (hB x0 x1) (View.ld x2 rW1408) = k0_pay14 (hB x0 x1) (View.ld x2 rW1408) := rfl
theorem t4224_eq : k0_pay34 (hB x0 x1) (View.ld x2 rW4224) = k0_pay14 (hB x0 x1) (View.ld x2 rW4224) := rfl
theorem c0_eq : c0 i x0 x1 x2 x3 d = cT (fst i) (hB x0 x1) (View.ld x2 rW0) (View.ld x3 rC0) (View.ld d rT0) := rfl
theorem c2816_eq : c2816 i x0 x1 x2 x3 d = cT (fst i) (hB x0 x1) (View.ld x2 rW2816) (View.ld x3 rC2816) (View.ld d rT2816) := rfl
theorem c1408_eq : c1408 i x0 x1 x2 x3 d = cT (fst i) (hB x0 x1) (View.ld x2 rW1408) (View.ld x3 rC1408) (View.ld d rT1408) := rfl
theorem c4224_eq : c4224 i x0 x1 x2 x3 d = cT (fst i) (hB x0 x1) (View.ld x2 rW4224) (View.ld x3 rC4224) (View.ld d rT4224) := rfl

end

end Cert.Kernel9Ideal.Up

end
-- ==== Proof.UpBlock.lean ====
/-
  What a point of the gated block's forward kernel leaves, entry by entry.
-/
module

public import proofs.«01_k».proof.Proof.UpTile
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel9Ideal.Up

open Cert.Kernel9Ideal Cert.Kernel9Ideal.Gen

section
variable (i : grid0.Coords) (x0 : Vec Ideal S512x1024 .f32) (x1 : Vec Ideal S1x1024 .f32) (x2 : Vec Ideal S1024x5632 .bf16) (x3 : Vec Ideal S8x5632 .f32) (d : Vec Ideal S16x5632 .f32)

theorem hB_at (r : Fin 512) (k : Fin 1024) : (hB x0 x1 (ix2 r k) : EReal) = x0 (ix2 r k) * nrm (fun k => x0 (ix2 r k)) * x1 (ix2 0 k) := by
  refine (pay4_at _ _ r k).trans ?_
  pointwise

theorem outH_at (y : S512x1024.Idx) : outH x0 x1 y = hB x0 x1 y := by
  unfold outH
  exact congrFun (View.canon_cons_unit_lit (S := S512x1024) _ _ [] (by decide)) _

/-- The up projection's entry. -/
def zB (r : Fin 512) (n : Fin 5632) : EReal := ∑ k : Fin 1024, hB x0 x1 (ix2 r k) * x2 (ix2 k n)

/-- The entry with the carried rows before it; at the first point those are zeros. -/
def eB (q : Fin 528) (n : Fin 5632) : EReal := if h : q.val < 16 then Scalar.select (fst i) (0 : EReal) (d (ix2 ⟨q.val, h⟩ n)) else zB x0 x1 x2 ⟨q.val - 16, by omega⟩ n

/-- The convolution's entry. -/
def cB (r : Fin 512) (n : Fin 5632) : EReal :=
  x3 (ix2 3 n) + eB i x0 x1 x2 d ⟨r.val + 14, by omega⟩ n * x3 (ix2 0 n) + eB i x0 x1 x2 d ⟨r.val + 15, by omega⟩ n * x3 (ix2 1 n) + zB x0 x1 x2 r n * x3 (ix2 2 n)

section
variable {x2 x3 d}
variable (o : ℕ) {w : Vec Ideal S1024x1408 .bf16} (hw : ∀ (k : Fin 1024) (c : Fin 1408) (h : o + c.val < 5632), w (ix2 k c) = x2 (ix2 k ⟨o + c.val, h⟩))

include hw

theorem tile_z (r : Fin 512) (c : Fin 1408) (h : o + c.val < 5632) : (k0_pay12 (hB x0 x1) w (ix2 r c) : EReal) = zB x0 x1 x2 r ⟨o + c.val, h⟩ := by
  rw [zt_at]
  exact Finset.sum_congr rfl fun k _ => by rw [hw k c h]

theorem tile_t (r : Fin 16) (c : Fin 1408) (h : o + c.val < 5632) : (k0_pay14 (hB x0 x1) w (ix2 r c) : EReal) = zB x0 x1 x2 ⟨496 + r.val, by omega⟩ ⟨o + c.val, h⟩ := by
  rw [tt_at]
  exact Finset.sum_congr rfl fun k _ => by rw [hw k c h]

variable {cw : Vec Ideal S8x1408 .f32} (hc : ∀ (k : Fin 8) (c : Fin 1408) (h : o + c.val < 5632), cw (ix2 k c) = x3 (ix2 k ⟨o + c.val, h⟩))
  {e : Vec Ideal S16x1408 .f32} (he : ∀ (k : Fin 16) (c : Fin 1408) (h : o + c.val < 5632), e (ix2 k c) = d (ix2 k ⟨o + c.val, h⟩))

include he in
theorem tile_e (q : Fin 528) (c : Fin 1408) (h : o + c.val < 5632) : (k0_pay16 (fst i) (hB x0 x1) w e (ix2 q c) : EReal) = eB i x0 x1 x2 d q ⟨o + c.val, h⟩ := by
  rw [ext_at]
  unfold eB
  by_cases hq : q.val < 16
  · rw [dif_pos hq, dif_pos hq, he _ c h]
  · rw [dif_neg hq, dif_neg hq]
    exact tile_z x0 x1 o hw _ c h

include hc he in
theorem tile_c (r : Fin 512) (c : Fin 1408) (h : o + c.val < 5632) : (cT (fst i) (hB x0 x1) w cw e (ix2 r c) : EReal) = cB i x0 x1 x2 x3 d r ⟨o + c.val, h⟩ := by
  rw [cT_at, tile_e i x0 x1 o hw he _ c h, tile_e i x0 x1 o hw he _ c h, tile_z x0 x1 o hw r c h, hc _ c h, hc _ c h, hc _ c h, hc _ c h]
  rfl
end

theorem ld_w4224 (k : Fin 1024) (c : Fin 1408) (h : 4224 + c.val < 5632) : View.ld x2 rW4224 (ix2 k c) = x2 (ix2 k ⟨4224 + c.val, h⟩) := by
  pointwise
theorem ld_k4224 (k : Fin 8) (c : Fin 1408) (h : 4224 + c.val < 5632) : View.ld x3 rC4224 (ix2 k c) = x3 (ix2 k ⟨4224 + c.val, h⟩) := by
  pointwise
theorem ld_d4224 (k : Fin 16) (c : Fin 1408) (h : 4224 + c.val < 5632) : View.ld d rT4224 (ix2 k c) = d (ix2 k ⟨4224 + c.val, h⟩) := by
  pointwise
theorem at_c4224 (r : Fin 512) (c : Fin 1408) (h : 4224 + c.val < 5632) : (c4224 i x0 x1 x2 x3 d (ix2 r c) : EReal) = cB i x0 x1 x2 x3 d r ⟨4224 + c.val, h⟩ := by
  rw [c4224_eq]
  exact tile_c i x0 x1 4224 (ld_w4224 x2) (ld_k4224 x3) (ld_d4224 d) r c h

theorem ld_w1408 (k : Fin 1024) (c : Fin 1408) (h : 1408 + c.val < 5632) : View.ld x2 rW1408 (ix2 k c) = x2 (ix2 k ⟨1408 + c.val, h⟩) := by
  pointwise
theorem ld_k1408 (k : Fin 8) (c : Fin 1408) (h : 1408 + c.val < 5632) : View.ld x3 rC1408 (ix2 k c) = x3 (ix2 k ⟨1408 + c.val, h⟩) := by
  pointwise
theorem ld_d1408 (k : Fin 16) (c : Fin 1408) (h : 1408 + c.val < 5632) : View.ld d rT1408 (ix2 k c) = d (ix2 k ⟨1408 + c.val, h⟩) := by
  pointwise
theorem at_c1408 (r : Fin 512) (c : Fin 1408) (h : 1408 + c.val < 5632) : (c1408 i x0 x1 x2 x3 d (ix2 r c) : EReal) = cB i x0 x1 x2 x3 d r ⟨1408 + c.val, h⟩ := by
  rw [c1408_eq]
  exact tile_c i x0 x1 1408 (ld_w1408 x2) (ld_k1408 x3) (ld_d1408 d) r c h

theorem ld_w2816 (k : Fin 1024) (c : Fin 1408) (h : 2816 + c.val < 5632) : View.ld x2 rW2816 (ix2 k c) = x2 (ix2 k ⟨2816 + c.val, h⟩) := by
  pointwise
theorem ld_k2816 (k : Fin 8) (c : Fin 1408) (h : 2816 + c.val < 5632) : View.ld x3 rC2816 (ix2 k c) = x3 (ix2 k ⟨2816 + c.val, h⟩) := by
  pointwise
theorem ld_d2816 (k : Fin 16) (c : Fin 1408) (h : 2816 + c.val < 5632) : View.ld d rT2816 (ix2 k c) = d (ix2 k ⟨2816 + c.val, h⟩) := by
  pointwise
theorem at_c2816 (r : Fin 512) (c : Fin 1408) (h : 2816 + c.val < 5632) : (c2816 i x0 x1 x2 x3 d (ix2 r c) : EReal) = cB i x0 x1 x2 x3 d r ⟨2816 + c.val, h⟩ := by
  rw [c2816_eq]
  exact tile_c i x0 x1 2816 (ld_w2816 x2) (ld_k2816 x3) (ld_d2816 d) r c h

theorem ld_w0 (k : Fin 1024) (c : Fin 1408) (h : 0 + c.val < 5632) : View.ld x2 rW0 (ix2 k c) = x2 (ix2 k ⟨0 + c.val, h⟩) := by
  pointwise
theorem ld_k0 (k : Fin 8) (c : Fin 1408) (h : 0 + c.val < 5632) : View.ld x3 rC0 (ix2 k c) = x3 (ix2 k ⟨0 + c.val, h⟩) := by
  pointwise
theorem ld_d0 (k : Fin 16) (c : Fin 1408) (h : 0 + c.val < 5632) : View.ld d rT0 (ix2 k c) = d (ix2 k ⟨0 + c.val, h⟩) := by
  pointwise
theorem at_c0 (r : Fin 512) (c : Fin 1408) (h : 0 + c.val < 5632) : (c0 i x0 x1 x2 x3 d (ix2 r c) : EReal) = cB i x0 x1 x2 x3 d r ⟨0 + c.val, h⟩ := by
  rw [c0_eq]
  exact tile_c i x0 x1 0 (ld_w0 x2) (ld_k0 x3) (ld_d0 d) r c h

theorem outZ_at (y : S512x5632.Idx) : (outZ x0 x1 x2 y : EReal) = zB x0 x1 x2 (y 0) (y 1) := by
  unfold outZ
  canon_tiles x h
  case piece0 =>
    obtain ⟨r, c, rfl⟩ : ∃ (r : Fin 512) (c : Fin 1408), x = ix2 r c := ⟨x 0, x 1, eq_ix2 x⟩
    obtain ⟨a, b, rfl⟩ : ∃ (a : Fin 512) (b : Fin 5632), y = ix2 a b := ⟨y 0, y 1, eq_ix2 y⟩
    have ea : a = r := Fin.ext h0
    have eb : b = ⟨4224 + c.val, by omega⟩ := Fin.ext h1
    rw [ea, eb]
    exact tile_z x0 x1 4224 (ld_w4224 x2) _ c _
  case piece1 =>
    obtain ⟨r, c, rfl⟩ : ∃ (r : Fin 512) (c : Fin 1408), x = ix2 r c := ⟨x 0, x 1, eq_ix2 x⟩
    obtain ⟨a, b, rfl⟩ : ∃ (a : Fin 512) (b : Fin 5632), y = ix2 a b := ⟨y 0, y 1, eq_ix2 y⟩
    have ea : a = r := Fin.ext h0
    have eb : b = ⟨1408 + c.val, by omega⟩ := Fin.ext h1
    rw [ea, eb]
    exact tile_z x0 x1 1408 (ld_w1408 x2) _ c _
  case piece2 =>
    obtain ⟨r, c, rfl⟩ : ∃ (r : Fin 512) (c : Fin 1408), x = ix2 r c := ⟨x 0, x 1, eq_ix2 x⟩
    obtain ⟨a, b, rfl⟩ : ∃ (a : Fin 512) (b : Fin 5632), y = ix2 a b := ⟨y 0, y 1, eq_ix2 y⟩
    have ea : a = r := Fin.ext h0
    have eb : b = ⟨2816 + c.val, by omega⟩ := Fin.ext h1
    rw [ea, eb]
    exact tile_z x0 x1 2816 (ld_w2816 x2) _ c _
  case piece3 =>
    obtain ⟨r, c, rfl⟩ : ∃ (r : Fin 512) (c : Fin 1408), x = ix2 r c := ⟨x 0, x 1, eq_ix2 x⟩
    obtain ⟨a, b, rfl⟩ : ∃ (a : Fin 512) (b : Fin 5632), y = ix2 a b := ⟨y 0, y 1, eq_ix2 y⟩
    have ea : a = r := Fin.ext h0
    have eb : b = ⟨0 + c.val, by omega⟩ := Fin.ext (h1.trans (Nat.zero_add _).symm)
    rw [ea, eb]
    exact tile_z x0 x1 0 (ld_w0 x2) _ c _

theorem outT_at (y : S16x5632.Idx) : (outT x0 x1 x2 y : EReal) = zB x0 x1 x2 ⟨496 + (y 0).val, by have h : (y 0).val < 16 := (y 0).isLt; omega⟩ (y 1) := by
  unfold outT
  canon_tiles x h
  case piece0 =>
    obtain ⟨r, c, rfl⟩ : ∃ (r : Fin 16) (c : Fin 1408), x = ix2 r c := ⟨x 0, x 1, eq_ix2 x⟩
    obtain ⟨a, b, rfl⟩ : ∃ (a : Fin 16) (b : Fin 5632), y = ix2 a b := ⟨y 0, y 1, eq_ix2 y⟩
    have ea : a = r := Fin.ext h0
    have eb : b = ⟨4224 + c.val, by omega⟩ := Fin.ext h1
    rw [ea, eb]
    exact tile_t x0 x1 4224 (ld_w4224 x2) _ c _
  case piece1 =>
    obtain ⟨r, c, rfl⟩ : ∃ (r : Fin 16) (c : Fin 1408), x = ix2 r c := ⟨x 0, x 1, eq_ix2 x⟩
    obtain ⟨a, b, rfl⟩ : ∃ (a : Fin 16) (b : Fin 5632), y = ix2 a b := ⟨y 0, y 1, eq_ix2 y⟩
    have ea : a = r := Fin.ext h0
    have eb : b = ⟨1408 + c.val, by omega⟩ := Fin.ext h1
    rw [ea, eb]
    exact tile_t x0 x1 1408 (ld_w1408 x2) _ c _
  case piece2 =>
    obtain ⟨r, c, rfl⟩ : ∃ (r : Fin 16) (c : Fin 1408), x = ix2 r c := ⟨x 0, x 1, eq_ix2 x⟩
    obtain ⟨a, b, rfl⟩ : ∃ (a : Fin 16) (b : Fin 5632), y = ix2 a b := ⟨y 0, y 1, eq_ix2 y⟩
    have ea : a = r := Fin.ext h0
    have eb : b = ⟨2816 + c.val, by omega⟩ := Fin.ext h1
    rw [ea, eb]
    exact tile_t x0 x1 2816 (ld_w2816 x2) _ c _
  case piece3 =>
    obtain ⟨r, c, rfl⟩ : ∃ (r : Fin 16) (c : Fin 1408), x = ix2 r c := ⟨x 0, x 1, eq_ix2 x⟩
    obtain ⟨a, b, rfl⟩ : ∃ (a : Fin 16) (b : Fin 5632), y = ix2 a b := ⟨y 0, y 1, eq_ix2 y⟩
    have ea : a = r := Fin.ext h0
    have eb : b = ⟨0 + c.val, by omega⟩ := Fin.ext (h1.trans (Nat.zero_add _).symm)
    rw [ea, eb]
    exact tile_t x0 x1 0 (ld_w0 x2) _ c _

theorem outC_at (y : S512x5632.Idx) : (outC i x0 x1 x2 x3 d y : EReal) = cB i x0 x1 x2 x3 d (y 0) (y 1) := by
  unfold outC
  canon_tiles x h
  case piece0 =>
    obtain ⟨r, c, rfl⟩ : ∃ (r : Fin 512) (c : Fin 1408), x = ix2 r c := ⟨x 0, x 1, eq_ix2 x⟩
    obtain ⟨a, b, rfl⟩ : ∃ (a : Fin 512) (b : Fin 5632), y = ix2 a b := ⟨y 0, y 1, eq_ix2 y⟩
    have ea : a = r := Fin.ext h0
    have eb : b = ⟨4224 + c.val, by omega⟩ := Fin.ext h1
    rw [ea, eb]
    exact at_c4224 i x0 x1 x2 x3 d _ c _
  case piece1 =>
    obtain ⟨r, c, rfl⟩ : ∃ (r : Fin 512) (c : Fin 1408), x = ix2 r c := ⟨x 0, x 1, eq_ix2 x⟩
    obtain ⟨a, b, rfl⟩ : ∃ (a : Fin 512) (b : Fin 5632), y = ix2 a b := ⟨y 0, y 1, eq_ix2 y⟩
    have ea : a = r := Fin.ext h0
    have eb : b = ⟨1408 + c.val, by omega⟩ := Fin.ext h1
    rw [ea, eb]
    exact at_c1408 i x0 x1 x2 x3 d _ c _
  case piece2 =>
    obtain ⟨r, c, rfl⟩ : ∃ (r : Fin 512) (c : Fin 1408), x = ix2 r c := ⟨x 0, x 1, eq_ix2 x⟩
    obtain ⟨a, b, rfl⟩ : ∃ (a : Fin 512) (b : Fin 5632), y = ix2 a b := ⟨y 0, y 1, eq_ix2 y⟩
    have ea : a = r := Fin.ext h0
    have eb : b = ⟨2816 + c.val, by omega⟩ := Fin.ext h1
    rw [ea, eb]
    exact at_c2816 i x0 x1 x2 x3 d _ c _
  case piece3 =>
    obtain ⟨r, c, rfl⟩ : ∃ (r : Fin 512) (c : Fin 1408), x = ix2 r c := ⟨x 0, x 1, eq_ix2 x⟩
    obtain ⟨a, b, rfl⟩ : ∃ (a : Fin 512) (b : Fin 5632), y = ix2 a b := ⟨y 0, y 1, eq_ix2 y⟩
    have ea : a = r := Fin.ext h0
    have eb : b = ⟨0 + c.val, by omega⟩ := Fin.ext (h1.trans (Nat.zero_add _).symm)
    rw [ea, eb]
    exact at_c0 i x0 x1 x2 x3 d _ c _

theorem gate_at (g v : FVec Ideal S512x1408 .f32) (r : Fin 512) (c : Fin 1408) :
    (gate g v (ix2 r c) : EReal) = g (ix2 r c) * Ideal.logistic (g (ix2 r c)) * v (ix2 r c) := by
  pointwise

theorem outF_at (r : Fin 512) (n : Fin 2816) : (outF i x0 x1 x2 x3 d (ix2 r n) : EReal)
    = cB i x0 x1 x2 x3 d r ⟨n.val, by omega⟩ * Ideal.logistic (cB i x0 x1 x2 x3 d r ⟨n.val, by omega⟩) * cB i x0 x1 x2 x3 d r ⟨2816 + n.val, by omega⟩ := by
  unfold outF
  generalize hy : (ix2 r n : S512x2816.Idx) = y
  have y0 : (y 0).val = r.val := by rw [← hy]; rfl
  have y1 : (y 1).val = n.val := by rw [← hy]; rfl
  canon_tiles x h
  case piece0 =>
    obtain ⟨r', c, rfl⟩ : ∃ (r : Fin 512) (c : Fin 1408), x = ix2 r c := ⟨x 0, x 1, eq_ix2 x⟩
    have ea : r' = r := Fin.ext (h0.symm.trans y0)
    have eb : n.val = 1408 + c.val := y1.symm.trans h1
    have e1 : (⟨n.val, by omega⟩ : Fin 5632) = ⟨1408 + c.val, by omega⟩ := Fin.ext eb
    have e2 : (⟨2816 + n.val, by omega⟩ : Fin 5632) = ⟨4224 + c.val, by omega⟩ := Fin.ext (by dsimp only; omega)
    subst ea
    rw [e1, e2]
    refine (gate_at _ _ _ c).trans ?_
    rw [at_c1408 i x0 x1 x2 x3 d _ c (by omega), at_c4224 i x0 x1 x2 x3 d _ c (by omega)]
  case piece1 =>
    obtain ⟨r', c, rfl⟩ : ∃ (r : Fin 512) (c : Fin 1408), x = ix2 r c := ⟨x 0, x 1, eq_ix2 x⟩
    have ea : r' = r := Fin.ext (h0.symm.trans y0)
    have eb : n.val = 0 + c.val := y1.symm.trans (h1.trans (Nat.zero_add _).symm)
    have e1 : (⟨n.val, by omega⟩ : Fin 5632) = ⟨0 + c.val, by omega⟩ := Fin.ext eb
    have e2 : (⟨2816 + n.val, by omega⟩ : Fin 5632) = ⟨2816 + c.val, by omega⟩ := Fin.ext (by dsimp only; omega)
    subst ea
    rw [e1, e2]
    refine (gate_at _ _ _ c).trans ?_
    rw [at_c0 i x0 x1 x2 x3 d _ c (by omega), at_c2816 i x0 x1 x2 x3 d _ c (by omega)]

end

end Cert.Kernel9Ideal.Up

end
-- ==== Proof.UpSpec.lean ====
/-
  The gated block's forward values as functions of row and column, and what the forward kernel leaves in its four arrays.
-/
module

public import proofs.«01_k».proof.Proof.UpBlock
public import proofs.«01_k».proof.Proof.UpRun
public import Idealize.ShloMosaic.Lib.Pipeline.ValueKit
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.Kernel9Ideal.Up

open Cert.Kernel9Ideal Cert.Kernel9Ideal.Gen

/-- The operands by row and column. -/
structure Ops where
  x : ℕ → ℕ → EReal
  g : ℕ → EReal
  w : ℕ → ℕ → EReal
  cw : ℕ → ℕ → EReal
  cb : ℕ → EReal

namespace Ops
variable (I : Ops)

/-- The normalised rows. -/
def h (t k : ℕ) : EReal := I.x t k * nrm (fun k => I.x t k.val) * I.g k
/-- The up projection. -/
def z (t n : ℕ) : EReal := ∑ k : Fin 1024, I.h t k.val * I.w k.val n
/-- The up projection under two rows of zeros. -/
def zp (t n : ℕ) : EReal := if t < 2 then 0 else I.z (t - 2) n
/-- The convolution. -/
def c (t n : ℕ) : EReal := I.cb n + I.zp t n * I.cw 0 n + I.zp (t + 1) n * I.cw 1 n + I.z t n * I.cw 2 n
/-- The gated values. -/
def f (t n : ℕ) : EReal := I.c t n * Ideal.logistic (I.c t n) * I.c t (2816 + n)

/-- The arrays hold these operands. -/
structure Holds (x : FVec Ideal S8192x1024 .f32) (g : FVec Ideal S1024 .f32) (w : FVec Ideal S1024x5632 .bf16) (cw : FVec Ideal S3x5632 .f32) (cb : FVec Ideal S5632 .f32) : Prop where
  x : ∀ (t : Fin 8192) (k : Fin 1024), (x (ix2 t k) : EReal) = I.x t.val k.val
  g : ∀ k : Fin 1024, (g (ix1 k) : EReal) = I.g k.val
  w : ∀ (k : Fin 1024) (n : Fin 5632), (w (ix2 k n) : EReal) = I.w k.val n.val
  cw : ∀ (j : Fin 3) (n : Fin 5632), (cw (ix2 j n) : EReal) = I.cw j.val n.val
  cb : ∀ n : Fin 5632, (cb (ix1 n) : EReal) = I.cb n.val
end Ops

/-- The operands some arrays hold. -/
def opsOf (x : FVec Ideal S8192x1024 .f32) (g : FVec Ideal S1024 .f32) (w : FVec Ideal S1024x5632 .bf16) (cw : FVec Ideal S3x5632 .f32) (cb : FVec Ideal S5632 .f32) : Ops where
  x t k := if h : t < 8192 ∧ k < 1024 then x (ix2 ⟨t, h.1⟩ ⟨k, h.2⟩) else 0
  g k := if h : k < 1024 then g (ix1 ⟨k, h⟩) else 0
  w k n := if h : k < 1024 ∧ n < 5632 then w (ix2 ⟨k, h.1⟩ ⟨n, h.2⟩) else 0
  cw j n := if h : j < 3 ∧ n < 5632 then cw (ix2 ⟨j, h.1⟩ ⟨n, h.2⟩) else 0
  cb n := if h : n < 5632 then cb (ix1 ⟨n, h⟩) else 0

theorem holds_of (x : FVec Ideal S8192x1024 .f32) (g : FVec Ideal S1024 .f32) (w : FVec Ideal S1024x5632 .bf16) (cw : FVec Ideal S3x5632 .f32) (cb : FVec Ideal S5632 .f32) :
    (opsOf x g w cw cb).Holds x g w cw cb :=
  ⟨fun t k => by dsimp only [opsOf]; rw [dif_pos ⟨t.isLt, k.isLt⟩], fun k => by dsimp only [opsOf]; rw [dif_pos k.isLt], fun k n => by dsimp only [opsOf]; rw [dif_pos ⟨k.isLt, n.isLt⟩],
    fun j n => by dsimp only [opsOf]; rw [dif_pos ⟨j.isLt, n.isLt⟩], fun n => by dsimp only [opsOf]; rw [dif_pos n.isLt]⟩

/-- Which block each point works on. -/
theorem idx : ∀ t : Fin cfg0.N, win0_0.index t = ![t.val, 0] ∧ win0_1.index t = ![0, 0] ∧ win0_2.index t = ![0, 0] ∧ win0_3.index t = ![0, 0]
    ∧ win0_4.index t = ![t.val, 0] ∧ win0_5.index t = ![t.val, 0] ∧ win0_6.index t = ![t.val, 0] ∧ win0_7.index t = ![t.val, 0] :=
  (by decide +kernel : ∀ t : Fin grid0.N, _)

theorem fst_later : ∀ t : Fin cfg0.N, t.val ≠ 0 → fst (grid0.coords t) = 0#1 := (by decide +kernel : ∀ t : Fin grid0.N, _)

theorem sel_one {α : Type} (a b : α) : Scalar.select 1#1 a b = a := rfl
theorem sel_zero {α : Type} (a b : α) : Scalar.select 0#1 a b = b := rfl

theorem point_lt (t : Fin cfg0.N) : t.val < 16 := t.isLt

section
variable (m : (ℓ : Loc nD τ sig) → Buf (Elt Ideal) ℓ) (c : Dev nD)

/-- The convolution's weights and bias in one array of eight rows. -/
def hostCwb (cw : FVec Ideal S3x5632 .f32) (cb : FVec Ideal S5632 .f32) : FVec Ideal S8x5632 .f32 :=
  concatenate S8x5632 0 [⟨S3x5632, cw⟩, ⟨S1x5632, broadcastInDim S1x5632 ![1] bcast_S5632_S1x5632_1 cb⟩, ⟨S4x5632, broadcastInDim S4x5632 ![] bcast_S_S4x5632 (constant S_ .f32 0x00000000#32)⟩]
    concatenates_S3x5632_S1x5632_S4x5632_S8x5632_d0

theorem V_cwb : V m c main_v2 = hostCwb (m ((c : Thread nD τ).loc main_arg3)) (m ((c : Thread nD τ).loc main_arg4)) := by
  show StableHlo.after hostOps0 (fun b => m (c, b)) (Proc.devRef .tc main_v2) = _
  after_reads_simp
  rfl

theorem V_g : V m c main_v3 = (broadcastInDim S1x1024 ![1] bcast_S1024_S1x1024_1 (m ((c : Thread nD τ).loc main_arg1) : FVec Ideal S1024 .f32) : FVec Ideal S1x1024 .f32) := by
  entry_read; rfl

theorem blk0 (t : Fin cfg0.N) (r : Fin 512) (k : Fin 1024) (h : 512 * t.val + r.val < 8192) :
    iblk m c 0 t (ix2 r k) = V m c main_arg0 (ix2 ⟨512 * t.val + r.val, h⟩ k) := by
  blk_ext [iblk, idx t]

theorem blk1 (t : Fin cfg0.N) (k : Fin 1024) : iblk m c 1 t (ix2 0 k) = V m c main_v3 (ix2 0 k) := by
  blk_ext [iblk, idx t]

theorem blk2 (t : Fin cfg0.N) (j : Fin 1024) (k : Fin 5632) : iblk m c 2 t (ix2 j k) = V m c main_arg2 (ix2 j k) := by
  blk_ext [iblk, idx t]

theorem blk3 (t : Fin cfg0.N) (j : Fin 8) (k : Fin 5632) : iblk m c 3 t (ix2 j k) = V m c main_v2 (ix2 j k) := by
  blk_ext [iblk, idx t]

/-- The arguments hold the operands `I`. -/
def Args (I : Ops) : Prop :=
  I.Holds (m ((c : Thread nD τ).loc main_arg0)) (m ((c : Thread nD τ).loc main_arg1)) (m ((c : Thread nD τ).loc main_arg2)) (m ((c : Thread nD τ).loc main_arg3)) (m ((c : Thread nD τ).loc main_arg4))

variable {m c} {I : Ops} (H : Args m c I)

include H

theorem x_at (t : Fin cfg0.N) (r : Fin 512) (k : Fin 1024) : (iblk m c 0 t (ix2 r k) : EReal) = I.x (512 * t.val + r.val) k.val := by
  have ht := point_lt t
  refine (blk0 m c t r k (by omega)).trans ?_
  rw [V_main_arg0]
  exact H.x _ k

theorem g_at (t : Fin cfg0.N) (k : Fin 1024) : (iblk m c 1 t (ix2 0 k) : EReal) = I.g k.val := by
  refine (blk1 m c t k).trans ?_
  rw [V_g]
  pointwise
  exact H.g k

theorem w_at (t : Fin cfg0.N) (j : Fin 1024) (k : Fin 5632) : (iblk m c 2 t (ix2 j k) : EReal) = I.w j.val k.val := by
  refine (blk2 m c t j k).trans ?_
  rw [V_main_arg2]
  exact H.w j k

theorem hostCwb_at (j : Fin 8) (n : Fin 5632) (h : j.val < 3) : (hostCwb (m ((c : Thread nD τ).loc main_arg3)) (m ((c : Thread nD τ).loc main_arg4)) (ix2 j n) : EReal) = I.cw j.val n.val := by
  pointwise [hostCwb]
  simp only [h, ↓reduceDIte, ↓reduceIte]
  exact H.cw ⟨j.val, h⟩ n

theorem hostCwb_at3 (n : Fin 5632) : (hostCwb (m ((c : Thread nD τ).loc main_arg3)) (m ((c : Thread nD τ).loc main_arg4)) (ix2 3 n) : EReal) = I.cb n.val := by
  pointwise [hostCwb]
  exact H.cb n

theorem cw_at (t : Fin cfg0.N) (j : Fin 8) (n : Fin 5632) (h : j.val < 3) : (iblk m c 3 t (ix2 j n) : EReal) = I.cw j.val n.val := by
  refine (blk3 m c t j n).trans ?_
  rw [V_cwb]
  exact hostCwb_at H j n h

theorem cb_at (t : Fin cfg0.N) (n : Fin 5632) : (iblk m c 3 t (ix2 3 n) : EReal) = I.cb n.val := by
  refine (blk3 m c t 3 n).trans ?_
  rw [V_cwb]
  exact hostCwb_at3 H n

theorem h_at (t : Fin cfg0.N) (r : Fin 512) (k : Fin 1024) : (hB (iblk m c 0 t) (iblk m c 1 t) (ix2 r k) : EReal) = I.h (512 * t.val + r.val) k.val := by
  rw [hB_at]
  simp only [x_at H t, g_at H t]
  rfl

theorem z_at (t : Fin cfg0.N) (r : Fin 512) (n : Fin 5632) : (zB (iblk m c 0 t) (iblk m c 1 t) (iblk m c 2 t) r n : EReal) = I.z (512 * t.val + r.val) n.val := by
  unfold zB
  simp only [h_at H t, w_at H t]
  rfl

theorem tail_at (t : Fin cfg0.N) (j : Fin 16) (n : Fin 5632) : (tailAt m c t (ix2 j n) : EReal) = I.z (512 * t.val + (496 + j.val)) n.val := by
  refine (outT_at _ _ _ _).trans ?_
  exact z_at H t _ n

theorem e_at (t : Fin cfg0.N) (q : Fin 528) (n : Fin 5632) (hq : 14 ≤ q.val) :
    (eB (grid0.coords t) (iblk m c 0 t) (iblk m c 1 t) (iblk m c 2 t) (tailAt m c (before t)) q n : EReal) = I.zp (512 * t.val + q.val - 14) n.val := by
  unfold eB Ops.zp
  by_cases h : q.val < 16
  · rw [dif_pos h]
    by_cases h0 : t.val = 0
    · rw [fst_zero ((coord t).trans h0), sel_one, if_pos (by omega)]
    · have e := fst_later t h0
      rw [e, sel_zero, if_neg (by omega)]
      refine (tail_at H (before t) _ n).trans ?_
      refine congrArg (fun s => I.z s n.val) ?_
      show 512 * (t.val - 1) + (496 + q.val) = _
      omega
  · rw [dif_neg h, if_neg (by omega), z_at H t]
    refine congrArg (fun s => I.z s n.val) ?_
    show 512 * t.val + (q.val - 16) = _
    omega

theorem c_at (t : Fin cfg0.N) (r : Fin 512) (n : Fin 5632) :
    (cB (grid0.coords t) (iblk m c 0 t) (iblk m c 1 t) (iblk m c 2 t) (iblk m c 3 t) (tailAt m c (before t)) r n : EReal) = I.c (512 * t.val + r.val) n.val := by
  unfold cB Ops.c
  rw [e_at H t _ n (by show 14 ≤ r.val + 14; omega), e_at H t _ n (by show 14 ≤ r.val + 15; omega), z_at H t, cb_at H t, cw_at H t 0 n (by decide), cw_at H t 1 n (by decide), cw_at H t 2 n (by decide)]
  rfl

theorem f_at (t : Fin cfg0.N) (r : Fin 512) (n : Fin 2816) :
    (outF (grid0.coords t) (iblk m c 0 t) (iblk m c 1 t) (iblk m c 2 t) (iblk m c 3 t) (tailAt m c (before t)) (ix2 r n) : EReal) = I.f (512 * t.val + r.val) n.val := by
  rw [outF_at, c_at H t, c_at H t]
  rfl

/-- The normalised rows after the run. -/
theorem final4 : (dats m 0 c).arrAt 4 (cfgs 0).N = fun y : S8192x1024.Idx => I.h (y 0).val (y 1).val := by
  refine (dats m 0 c).arrAt_eq_of_covers 4 _ (by decide +kernel) fun t hf y => ?_
  blk_simp
  rw [after0_4]
  obtain ⟨r, n, rfl⟩ : ∃ (r : Fin 512) (n : Fin 1024), y = ix2 r n := ⟨y 0, y 1, eq_ix2 y⟩
  refine (outH_at _ _ _).trans ((h_at H t _ _).trans ?_)
  rw [(idx t).2.2.2.2.1]
  show _ = I.h (t.val * 512 + r.val) (0 * 1024 + n.val)
  rw [Nat.zero_add, Nat.mul_comm]

/-- The up projection after the run. -/
theorem final5 : (dats m 0 c).arrAt 5 (cfgs 0).N = fun y : S8192x5632.Idx => I.z (y 0).val (y 1).val := by
  refine (dats m 0 c).arrAt_eq_of_covers 5 _ (by decide +kernel) fun t hf y => ?_
  blk_simp
  rw [after0_5]
  obtain ⟨r, n, rfl⟩ : ∃ (r : Fin 512) (n : Fin 5632), y = ix2 r n := ⟨y 0, y 1, eq_ix2 y⟩
  refine (outZ_at _ _ _ _).trans ((z_at H t _ _).trans ?_)
  rw [(idx t).2.2.2.2.2.1]
  show _ = I.z (t.val * 512 + r.val) (0 * 5632 + n.val)
  rw [Nat.zero_add, Nat.mul_comm]
  rfl

/-- The convolution after the run. -/
theorem final6 : (dats m 0 c).arrAt 6 (cfgs 0).N = fun y : S8192x5632.Idx => I.c (y 0).val (y 1).val := by
  refine (dats m 0 c).arrAt_eq_of_covers 6 _ (by decide +kernel) fun t hf y => ?_
  blk_simp
  rw [after0_6]
  obtain ⟨r, n, rfl⟩ : ∃ (r : Fin 512) (n : Fin 5632), y = ix2 r n := ⟨y 0, y 1, eq_ix2 y⟩
  refine (outC_at _ _ _ _ _ _ _).trans ((c_at H t _ _).trans ?_)
  rw [(idx t).2.2.2.2.2.2.1]
  show _ = I.c (t.val * 512 + r.val) (0 * 5632 + n.val)
  rw [Nat.zero_add, Nat.mul_comm]
  rfl

/-- The gated values after the run. -/
theorem final7 : (dats m 0 c).arrAt 7 (cfgs 0).N = fun y : S8192x2816.Idx => I.f (y 0).val (y 1).val := by
  refine (dats m 0 c).arrAt_eq_of_covers 7 _ (by decide +kernel) fun t hf y => ?_
  blk_simp
  rw [after0_7]
  obtain ⟨r, n, rfl⟩ : ∃ (r : Fin 512) (n : Fin 2816), y = ix2 r n := ⟨y 0, y 1, eq_ix2 y⟩
  refine (f_at H t r n).trans ?_
  rw [(idx t).2.2.2.2.2.2.2]
  show _ = I.f (t.val * 512 + r.val) (0 * 2816 + n.val)
  rw [Nat.zero_add, Nat.mul_comm]

end

section
variable (m : (ℓ : Loc nD τ sig) → Buf (Elt Ideal) ℓ) (ρ : Dev nD → PrngReg)

/-- The run with each output array after it named, the arguments unchanged. -/
theorem run_blocks : θ_run defs (onTc (τ := τ) (main (F := Ideal))) ⟨m, fun _ => 0, ρ⟩ fun r => ∀ c : Dev nD,
      r.2.mem ((c.tc : Thread nD τ).loc main_v4_0) = (dats m 0 c).arrAt 4 cfg0.N
      ∧ r.2.mem ((c.tc : Thread nD τ).loc main_v4_1) = (dats m 0 c).arrAt 5 cfg0.N
      ∧ r.2.mem ((c.tc : Thread nD τ).loc main_v4_2) = (dats m 0 c).arrAt 6 cfg0.N
      ∧ r.2.mem ((c.tc : Thread nD τ).loc main_v4_3) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1 4, (h c).1 5, (h c).1 6, (h c).1 7,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) (run_main m ρ)
end

end Cert.Kernel9Ideal.Up

end
-- ==== Proof.UpRef.lean ====
/-
  The reference of the gated block's forward pass, entry by entry.
-/
module

public import proofs.«01_k».proof.Proof.UpSpec
public import proofs.«01_k».proof.Proof.Gen.Reference9Ideal
public import proofs.«01_k».proof.Proof.Gen.Reference9Ideal.Run

@[expose] public section

set_option maxRecDepth 16384

noncomputable section

open Idealize.ShloMosaic Idealize.ShloMosaic.TcCoe Idealize.SL.Sem

namespace Cert.Reference9Ideal.Up

open Cert.Reference9Ideal Cert.Reference9Ideal.Gen Cert.Reference9Ideal.Value
open Cert.Kernel9Ideal.Up (Ops)

/-- The rows' inverse root mean squares. -/
def rs (x : FVec Ideal S8192x1024 .f32) : FVec Ideal S8192x1 .f32 :=
  Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))

/-- The normalised rows. -/
def hR (x : FVec Ideal S8192x1024 .f32) (g : FVec Ideal S1024 .f32) : FVec Ideal S8192x1024 .f32 :=
  mulf (mulf x (broadcastInDim S8192x1024 ![0, 1] bcast_S8192x1_S8192x1024_0_1 (rs x)))
    (broadcastInDim S8192x1024 ![0, 1] bcast_S1x1024_S8192x1024_0_1 (broadcastInDim S1x1024 ![1] bcast_S1024_S1x1024_1 g))

/-- The up projection. -/
def zR (x : FVec Ideal S8192x1024 .f32) (g : FVec Ideal S1024 .f32) (w : FVec Ideal S1024x5632 .bf16) : FVec Ideal S8192x5632 .f32 :=
  Host.dotGeneral dot_S8192x1024_S1024x5632_S8192x5632_1_0_0_1_n_n none (hR x g) (extf .f32 w bitsLt_bf16_f32 : FVec Ideal S1024x5632 .f32)

/-- The up projection under two rows of zeros. -/
def zpR (z : FVec Ideal S8192x5632 .f32) : FVec Ideal S8194x5632 .f32 :=
  concatenate S8194x5632 0 [⟨S2x5632, broadcastInDim S2x5632 ![] bcast_S_S2x5632 (constant S_ .f32 0x00000000#32)⟩, ⟨S8192x5632, z⟩] concatenates_S2x5632_S8192x5632_S8194x5632_d0

/-- A row of the convolution's weights over all rows. -/
def tapR (w : FVec Ideal S1x5632 .f32) : FVec Ideal S8192x5632 .f32 :=
  broadcastInDim S8192x5632 ![0, 1] bcast_S1x5632_S8192x5632_0_1 (broadcastInDim S1x5632 ![1] bcast_S5632_S1x5632_1 (shapeCast S5632 w shapeCasts_S1x5632_S5632))

/-- The convolution. -/
def cR (zp : FVec Ideal S8194x5632 .f32) (cw : FVec Ideal S3x5632 .f32) (cb : FVec Ideal S5632 .f32) : FVec Ideal S8192x5632 .f32 :=
  addf (addf (addf (broadcastInDim S8192x5632 ![0, 1] bcast_S1x5632_S8192x5632_0_1 (broadcastInDim S1x5632 ![1] bcast_S5632_S1x5632_1 cb))
    (mulf (extractStridedSlice S8192x5632 ![0, 0] zp slices_S8194x5632_S8192x5632_0_0) (tapR (extractStridedSlice S1x5632 ![0, 0] cw slices_S3x5632_S1x5632_0_0))))
    (mulf (extractStridedSlice S8192x5632 ![1, 0] zp slices_S8194x5632_S8192x5632_1_0) (tapR (extractStridedSlice S1x5632 ![1, 0] cw slices_S3x5632_S1x5632_1_0))))
    (mulf (extractStridedSlice S8192x5632 ![2, 0] zp slices_S8194x5632_S8192x5632_2_0) (tapR (extractStridedSlice S1x5632 ![2, 0] cw slices_S3x5632_S1x5632_2_0)))

/-- The gate of one half. -/
def gR (v : FVec Ideal S8192x2816 .f32) : FVec Ideal S8192x2816 .f32 :=
  mulf v (Host.divf (broadcastInDim S8192x2816 ![] bcast_S_S8192x2816 (constant S_ .f32 0x3F800000#32)) (addf (broadcastInDim S8192x2816 ![] bcast_S_S8192x2816 (constant S_ .f32 0x3F800000#32)) (Host.exp (Host.negf v))))

/-- The gated values. -/
def fR (z : FVec Ideal S8192x5632 .f32) : FVec Ideal S8192x2816 .f32 :=
  mulf (gR (extractStridedSlice S8192x2816 ![0, 0] z slices_S8192x5632_S8192x2816_0_0)) (extractStridedSlice S8192x2816 ![0, 2816] z slices_S8192x5632_S8192x2816_0_2816)

section
variable {I : Ops} {x : FVec Ideal S8192x1024 .f32} {g : FVec Ideal S1024 .f32} {w : FVec Ideal S1024x5632 .bf16} {cw : FVec Ideal S3x5632 .f32}
  {cb : FVec Ideal S5632 .f32} (H : I.Holds x g w cw cb)

include H

theorem rs_at (t : Fin 8192) (z : Fin 1) : (rs x (ix2 t z) : EReal) = Cert.Kernel9Ideal.Up.nrm (fun k => I.x t.val k.val) := by
  pointwise [rs]
  simp only [H.x]
  rfl

theorem hR_at (t : Fin 8192) (k : Fin 1024) : (hR x g (ix2 t k) : EReal) = I.h t.val k.val := by
  pointwise [hR]
  simp only [H.x, H.g, rs_at H]
  rfl

theorem zR_at (t : Fin 8192) (n : Fin 5632) : (zR x g w (ix2 t n) : EReal) = I.z t.val n.val := by
  pointwise [zR]
  simp only [hR_at H, H.w]
  rfl

theorem zpR_at (t : Fin 8194) (n : Fin 5632) : (zpR (zR x g w) (ix2 t n) : EReal) = I.zp t.val n.val := by
  pointwise [zpR]
  unfold Ops.zp
  by_cases h : t.val < 2
  · rw [if_pos h]
    simp only [h, ↓reduceDIte, ↓reduceIte]
  · rw [if_neg h]
    simp only [h, ↓reduceDIte, ↓reduceIte]
    exact zR_at H ⟨t.val - 2, by omega⟩ n

theorem cR_at (t : Fin 8192) (n : Fin 5632) : (cR (zpR (zR x g w)) cw cb (ix2 t n) : EReal) = I.c t.val n.val := by
  pointwise [cR, tapR]
  simp only [zpR_at H, H.cw, H.cb]
  unfold Ops.c
  have e : I.zp (2 + t.val) n.val = I.z t.val n.val := by
    unfold Ops.zp
    rw [if_neg (by omega), Nat.add_sub_cancel_left]
  simp only [e, Nat.zero_add, Nat.add_zero, Nat.add_comm 1 t.val]
  rfl

theorem fR_at (t : Fin 8192) (n : Fin 2816) : (fR (cR (zpR (zR x g w)) cw cb) (ix2 t n) : EReal) = I.f t.val n.val := by
  pointwise [fR, gR]
  simp only [cR_at H]
  rfl

end

section
variable {I : Ops} (m : (ℓ : Loc nD τ sig) → Buf (Elt Ideal) ℓ) (c : Dev nD)
  (H : I.Holds (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))

include H

theorem h_ref : (truncf .bf16 (hR (m ((c.tc : Thread nD τ).loc main_arg0)) (m ((c.tc : Thread nD τ).loc main_arg1))) bitsLt_bf16_f32 : FVec Ideal S8192x1024 .bf16) = fun y : S8192x1024.Idx => I.h (y 0).val (y 1).val :=
  funext fun y => by
    rw [eq_ix2 y]
    exact hR_at H _ _

theorem z_ref : (truncf .bf16 (zR (m ((c.tc : Thread nD τ).loc main_arg0)) (m ((c.tc : Thread nD τ).loc main_arg1)) (m ((c.tc : Thread nD τ).loc main_arg2))) bitsLt_bf16_f32 : FVec Ideal S8192x5632 .bf16) = fun y : S8192x5632.Idx => I.z (y 0).val (y 1).val :=
  funext fun y => by
    rw [eq_ix2 y]
    exact zR_at H _ _

theorem c_ref : res_main_v46 m c = fun y : S8192x5632.Idx => I.c (y 0).val (y 1).val :=
  funext fun y => by
    rw [eq_ix2 y]
    exact cR_at H _ _

theorem f_ref : res_main_v47 m c = fun y : S8192x2816.Idx => I.f (y 0).val (y 1).val :=
  funext fun y => by
    rw [eq_ix2 y]
    exact fR_at H _ _
end

end Cert.Reference9Ideal.Up

end
-- ==== Proof.UpSame.lean ====
module

public import proofs.«01_k».proof.Kernel9
public import proofs.«01_k».proof.Kernel9Ideal
public import proofs.«01_k».proof.Proof.Gen.Kernel9
public import proofs.«01_k».proof.Proof.Gen.Kernel9Ideal
public import Idealize.ShloMosaic.PureOps.BitExact

/-
  The gated block's forward kernel and its idealized form are one text: read at the machine's floats they are the same program.
-/

@[expose] public section

set_option maxRecDepth 16384

noncomputable section

namespace Cert.Proof

open Idealize.ShloMosaic

/-- The bodies. -/
theorem same_body9 : @Cert.Kernel9.cc0_up_proj_gate Bits _ _ = @Cert.Kernel9Ideal.cc0_up_proj_gate Bits _ _ := rfl

/-- The table of the bodies. -/
theorem same_defs₀9 : @Cert.Kernel9.defs₀ Bits _ _ = @Cert.Kernel9Ideal.defs₀ Bits _ _ := by
  unfold Kernel9.defs₀ Kernel9Ideal.defs₀
  refine congrArg Defs.onTc (funext fun l => funext fun a => ?_)
  match l, a with
  | 0, (t, s) => exact congrFun (congrFun (congrFun (congrFun (congrFun (congrFun (congrFun (congrFun (congrFun (congrFun (congrFun (congrFun (congrFun (congrFun (congrFun (congrFun (congrFun (congrFun (congrFun same_body9 _) _) _) _) _) _) _) _) _) _) _) _) _) _) _) _) _) _) _

/-- The table with the pipeline. -/
theorem same_defs9 : @Cert.Kernel9.defs Bits _ _ = @Cert.Kernel9Ideal.defs Bits _ _ :=
  congrArg (Pipeline.defs (@Cert.Kernel9Ideal.pcfgs Bits _)) same_defs₀9

set_option maxHeartbeats 0 in
/-- The programs. -/
theorem same_main9 : @Cert.Kernel9.main Bits _ _ = @Cert.Kernel9Ideal.main Bits _ _ := rfl

end Cert.Proof

end
-- ==== Proof.MixHost.lean ====
/-
  What the host operations hand the mixer's output call.
-/
module

public import proofs.«01_k».proof.Proof.Gen.Kernel10Ideal.Frame
public import Idealize.ShloMosaic.Lib.Pipeline.ValueKit
public import Idealize.ShloMosaic.Lib.Claim
public import Idealize.ShloMosaic.Lib.StableHlo.RunRead
public import Idealize.ShloMosaic.Lib.WordCmp

@[expose] public section

set_option maxRecDepth 16384

noncomputable section

open Idealize.ShloMosaic Idealize.ShloMosaic.TcCoe Idealize.SL.Sem
open Idealize.ShloMosaic.Pipeline (Dat)

namespace Cert.Kernel10Ideal.Mix

open Cert.Kernel10Ideal Cert.Kernel10Ideal.Gen

variable (m : (ℓ : Loc nD τ sig) → Buf (Elt Ideal) ℓ) (c : Dev nD)

/-- The gains as one row. -/
theorem V_g : V m c main_v0 = (broadcastInDim S1x1024 ![1] bcast_S1024_S1x1024_1 (m ((c : Thread nD τ).loc main_arg3) : FVec Ideal S1024 .f32) : FVec Ideal S1x1024 .f32) := by
  entry_read; rfl

/-- The whole quotient by 64, as the host's operations on words take it. -/
def quot (i : Fin 128) : BitVec 32 :=
  Scalar.select
    (IntOp.andi
      (IntOp.cmpi CmpIPredicate.ne
        (if BitVec.ofNat 32 i.val = 0 then (0 : BitVec 32) else if (BitVec.ofNat 32 i.val).msb = true then -1 else 1)
        (if (64#32 : BitVec 32) = 0 then (0 : BitVec 32) else if BitVec.msb (64#32) = true then -1 else 1))
      (IntOp.cmpi CmpIPredicate.ne (IntOp.remsi ArithUnit.host (BitVec.ofNat 32 i.val) 64#32) 0#32))
    (IntOp.subi (IntOp.divsi ArithUnit.host (BitVec.ofNat 32 i.val) 64#32) 1#32)
    (IntOp.divsi ArithUnit.host (BitVec.ofNat 32 i.val) 64#32)

theorem quot_eq : ∀ i j : Fin 128, IntOp.cmpi .eq (quot i) (quot j) = if i.val / 64 = j.val / 64 then 1#1 else 0#1 := by
  decide +kernel

/-- The grouping matrix's entries. -/
theorem V_gmat (i j : Fin 128) : (V m c main_v10 (ix2 i j) : EReal) = if i.val / 64 = j.val / 64 then Ideal.ofBits .f32 0x3C800000#32 else 0 := by
  show (StableHlo.after (List.flatten [hostOps0, hostOps0_1, hostOps0_2, hostOps0_3, hostOps0_4, hostOps0_5, hostOps0_6]) (fun b => m (c, b)) (Proc.devRef .tc main_v10) : FVec Ideal S128x128 .bf16) (ix2 i j) = _
  after_reads_simp
  simp only [StableHlo.TRef.toBuf, StableHlo.TRef.ofBuf, cast_eq]
  pointwise
  show Scalar.select (IntOp.cmpi .eq (quot i) (quot j)) (Ideal.ofBits .f32 0x3C800000#32 : EReal) 0 = _
  rw [quot_eq]
  split
  · exact if_pos rfl
  · exact if_neg (by decide)

end Cert.Kernel10Ideal.Mix

end
-- ==== Proof.MixSpec.lean ====
/-
  The mixer's output as functions of row and column, and one block of the kernel at them.
-/
module

public import proofs.«01_k».proof.Proof.MixHost

@[expose] public section

set_option maxRecDepth 16384

noncomputable section

open Idealize.ShloMosaic Idealize.ShloMosaic.TcCoe Idealize.SL.Sem
open Idealize.ShloMosaic.Pipeline (Dat)

namespace Cert.Kernel10Ideal.Mix

open Cert.Kernel10Ideal Cert.Kernel10Ideal.Gen

/-- A row's inverse root mean square over the group of 64 columns that holds column `c`. -/
def nrm (y : ℕ → EReal) (c : ℕ) : EReal :=
  Ideal.rsqrt (Ideal.div (∑ l : Fin 64, y (64 * (c / 64) + l.val) * y (64 * (c / 64) + l.val)) (Ideal.ofBits .f32 0x42800000#32) + Ideal.ofBits .f32 0x358637BD#32)

/-- The operands by row and column. -/
structure Ops where
  ya : ℕ → ℕ → EReal
  yb : ℕ → ℕ → EReal
  yc : ℕ → ℕ → EReal
  g : ℕ → EReal
  w : ℕ → ℕ → EReal
  x : ℕ → ℕ → EReal

namespace Ops
variable (I : Ops)

/-- The heads side by side. -/
def y (t c : ℕ) : EReal := if c < 256 then I.ya t c else if c < 768 then I.yb t (c - 256) else I.yc t (c - 768)
/-- The normalised heads. -/
def n (t c : ℕ) : EReal := I.y t c * nrm (I.y t) c * I.g c
/-- The residual stream. -/
def o (t c : ℕ) : EReal := I.x t c + ∑ k : Fin 1024, I.n t k.val * I.w k.val c
end Ops

theorem ofBits_part : Ideal.ofBits .f32 0x3C800000#32 = ((1 / 64 : ℝ) : EReal) := by
  simp [Ideal.ofBits, Ideal.ieee, -EReal.coe_mul]; norm_num

theorem ofBits_size : Ideal.ofBits .f32 0x42800000#32 = ((64 : ℝ) : EReal) := by
  simp [Ideal.ofBits, Ideal.ieee, -EReal.coe_mul]; norm_num

theorem sum_mul_real {n : ℕ} (r : ℝ) (hr : 0 ≤ r) (a : Fin n → EReal) : ∑ i, a i * (r : EReal) = (∑ i, a i) * (r : EReal) := by
  classical
  refine Finset.induction_on (Finset.univ : Finset (Fin n)) (by simp) fun i s hi ih => ?_
  rw [Finset.sum_insert hi, Finset.sum_insert hi, ih, EReal.right_distrib_of_nonneg_of_ne_top (by exact_mod_cast hr) (EReal.coe_ne_top r)]

/-- The product with a column of the grouping matrix is the mean over the column's group. -/
theorem group_mean (a : ℕ → EReal) (q : ℕ) (hq : q < 128) :
    ∑ k : Fin 128, a k.val * (if k.val / 64 = q / 64 then Ideal.ofBits .f32 0x3C800000#32 else 0)
      = Ideal.div (∑ l : Fin 64, a (64 * (q / 64) + l.val)) (Ideal.ofBits .f32 0x42800000#32) := by
  rw [ofBits_part, ofBits_size]
  have e : Ideal.div (∑ l : Fin 64, a (64 * (q / 64) + l.val)) ((64 : ℝ) : EReal) = ∑ l : Fin 64, a (64 * (q / 64) + l.val) * ((1 / 64 : ℝ) : EReal) := by
    rw [sum_mul_real _ (by norm_num), Ideal.div_coe (by norm_num)]
  rw [e]
  refine (Fin.sum_univ_add (a := 64) (b := 64) (fun k : Fin (64 + 64) => a k.val * (if k.val / 64 = q / 64 then ((1 / 64 : ℝ) : EReal) else 0))).trans ?_
  have hl (l : Fin 64) : (Fin.castAdd 64 l).val / 64 = 0 := Nat.div_eq_of_lt l.isLt
  have hr (l : Fin 64) : (Fin.natAdd 64 l).val / 64 = 1 := by
    show (64 + l.val) / 64 = 1
    omega
  simp only [hl, hr]
  rcases Nat.lt_or_ge q 64 with h | h
  · have hz : q / 64 = 0 := by omega
    simp only [hz, Nat.mul_zero, Nat.zero_add, one_ne_zero, ↓reduceIte, mul_zero, Finset.sum_const_zero, add_zero]
    rfl
  · have hz : q / 64 = 1 := by omega
    simp only [hz, Nat.mul_one, zero_ne_one, ↓reduceIte, mul_zero, Finset.sum_const_zero, zero_add]
    rfl

/-- The heads of a block side by side. -/
def catK (v0 : Vec Ideal S512x256 .f32) (v1 : Vec Ideal S512x512 .f32) (v2 : Vec Ideal S512x256 .f32) : FVec Ideal S512x1024 .f32 :=
  concatenate S512x1024 1 [⟨S512x256, v0⟩, ⟨S512x512, v1⟩, ⟨S512x256, v2⟩] concatenates_S512x256_S512x512_S512x256_S512x1024_d1

/-- The grouping product of 128 columns. -/
abbrev mmK (q : FVec Ideal S512x128 .bf16) (gm : FVec Ideal S128x128 .bf16) : FVec Ideal S512x128 .f32 :=
  matmul dot_S512x128_S128x128_S512x128_1_0_0_1_n_n none q gm (constant S512x128 .f32 0x00000000#32)

/-- The grouping products side by side. -/
def grpK (q : FVec Ideal S512x1024 .bf16) (gm : FVec Ideal S128x128 .bf16) : FVec Ideal S512x1024 .f32 :=
  concatenate S512x1024 1 [
    ⟨S512x128, mmK (extractStridedSlice S512x128 ![0, 0] q slices_S512x1024_o0_0_S512x128) gm⟩,
    ⟨S512x128, mmK (extractStridedSlice S512x128 ![0, 128] q slices_S512x1024_o0_128_S512x128) gm⟩,
    ⟨S512x128, mmK (extractStridedSlice S512x128 ![0, 256] q slices_S512x1024_o0_256_S512x128) gm⟩,
    ⟨S512x128, mmK (extractStridedSlice S512x128 ![0, 384] q slices_S512x1024_o0_384_S512x128) gm⟩,
    ⟨S512x128, mmK (extractStridedSlice S512x128 ![0, 512] q slices_S512x1024_o0_512_S512x128) gm⟩,
    ⟨S512x128, mmK (extractStridedSlice S512x128 ![0, 640] q slices_S512x1024_o0_640_S512x128) gm⟩,
    ⟨S512x128, mmK (extractStridedSlice S512x128 ![0, 768] q slices_S512x1024_o0_768_S512x128) gm⟩,
    ⟨S512x128, mmK (extractStridedSlice S512x128 ![0, 896] q slices_S512x1024_o0_896_S512x128) gm⟩]
    concatenates_S512x128_S512x128_S512x128_S512x128_S512x128_S512x128_S512x128_S512x128_S512x1024_d1

/-- The normalised block over the heads and the groups' means. -/
def normK (v3 v24 : FVec Ideal S512x1024 .f32) (v29 : Vec Ideal S1x1024 .f32) : FVec Ideal S512x1024 .bf16 :=
  truncf .bf16 (mulf (mulf v3 (rsqrt (addf v24 (broadcast S512x1024 (Scalar.ofBits .f32 0x358637BD#32 : Ideal .f32)))))
    (broadcastTo S512x1024 (shapeCast S1x1024 v29 shapeCasts_S1x1024_S1x1024) broadcasts_S1x1024_S512x1024)) bitsLt_bf16_f32

theorem pay2_eq (v0 : Vec Ideal S512x256 .f32) (v1 : Vec Ideal S512x512 .f32) (v2 : Vec Ideal S512x256 .f32) (v5 : Vec Ideal S128x128 .bf16) (v29 : Vec Ideal S1x1024 .f32) :
    k0_pay2 v0 v1 v2 v5 v29 = normK (catK v0 v1 v2) (grpK (truncf .bf16 (mulf (catK v0 v1 v2) (catK v0 v1 v2)) bitsLt_bf16_f32) (shapeCast S128x128 v5 shapeCasts_S128x128_S128x128)) v29 := rfl

theorem cat_at (v0 : Vec Ideal S512x256 .f32) (v1 : Vec Ideal S512x512 .f32) (v2 : Vec Ideal S512x256 .f32) (A B C : ℕ → EReal) (r : Fin 512)
    (h0 : ∀ c, (v0 (ix2 r c) : EReal) = A c.val) (h1 : ∀ c, (v1 (ix2 r c) : EReal) = B c.val) (h2 : ∀ c, (v2 (ix2 r c) : EReal) = C c.val) (c : Fin 1024) :
    (catK v0 v1 v2 (ix2 r c) : EReal) = if c.val < 256 then A c.val else if c.val < 768 then B (c.val - 256) else C (c.val - 768) := by
  pointwise [catK]
  simp only [h0, h1, h2]
  by_cases h : c.val < 256
  · rw [dif_pos h, if_pos h]
  · rw [dif_neg h, if_neg h]
    by_cases h' : c.val < 768
    · rw [dif_pos (by omega), if_pos h']
    · rw [dif_neg (by omega), if_neg h', Nat.sub_sub]

theorem grp_at (q : FVec Ideal S512x1024 .bf16) (gm : FVec Ideal S128x128 .bf16) (Q : ℕ → EReal) (G : ℕ → ℕ → EReal) (r : Fin 512)
    (hq : ∀ c, (q (ix2 r c) : EReal) = Q c.val) (hg : ∀ i j, (gm (ix2 i j) : EReal) = G i.val j.val) (c : Fin 1024) :
    (grpK q gm (ix2 r c) : EReal) = ∑ k : Fin 128, Q (128 * (c.val / 128) + k.val) * G k.val (c.val % 128) := by
  pointwise [grpK, mmK]
  simp only [hq, hg]
  have hc := c.isLt
  split_ifs
  all_goals
    refine Finset.sum_congr rfl fun k _ => ?_
    refine congrArg₂ (· * ·) (congrArg Q ?_) (congrArg (G k.val) ?_) <;> omega

theorem norm_at (v3 v24 : FVec Ideal S512x1024 .f32) (v29 : Vec Ideal S1x1024 .f32) (y : S512x1024.Idx) :
    (normK v3 v24 v29 y : EReal) = v3 y * Ideal.rsqrt (v24 y + Ideal.ofBits .f32 0x358637BD#32) * v29 (ix2 0 (y 1)) := by
  pointwise [normK]

theorem pay1_at (v33 : FVec Ideal S512x1024 .bf16) (v35 : Vec Ideal S512x1024 .f32) (v36 : Vec Ideal S1024x1024 .bf16) (y : S512x1024.Idx) :
    (k0_pay1 v33 v35 v36 y : EReal) = v35 y + ∑ k : Fin 1024, v33 (ix2 (y 0) k) * v36 (ix2 k (y 1)) := by
  pointwise [k0_pay1]

/-- A row of the normalised block. -/
theorem row_at (v0 : Vec Ideal S512x256 .f32) (v1 : Vec Ideal S512x512 .f32) (v2 : Vec Ideal S512x256 .f32) (v5 : Vec Ideal S128x128 .bf16) (v29 : Vec Ideal S1x1024 .f32)
    (I : Ops) (t : ℕ) (r : Fin 512) (h0 : ∀ c, (v0 (ix2 r c) : EReal) = I.ya t c.val) (h1 : ∀ c, (v1 (ix2 r c) : EReal) = I.yb t c.val) (h2 : ∀ c, (v2 (ix2 r c) : EReal) = I.yc t c.val)
    (h5 : ∀ i j, (v5 (ix2 i j) : EReal) = if i.val / 64 = j.val / 64 then Ideal.ofBits .f32 0x3C800000#32 else 0) (h29 : ∀ c, (v29 (ix2 0 c) : EReal) = I.g c.val) (c : Fin 1024) :
    (k0_pay2 v0 v1 v2 v5 v29 (ix2 r c) : EReal) = I.n t c.val := by
  have hy : ∀ c : Fin 1024, (catK v0 v1 v2 (ix2 r c) : EReal) = I.y t c.val := fun c => cat_at v0 v1 v2 _ _ _ r h0 h1 h2 c
  rw [pay2_eq, norm_at, hy]
  refine (congrArg₂ (fun a b : EReal => I.y t c.val * Ideal.rsqrt (a + Ideal.ofBits .f32 0x358637BD#32) * b)
    (grp_at _ _ (fun k => I.y t k * I.y t k) (fun i j => if i / 64 = j / 64 then Ideal.ofBits .f32 0x3C800000#32 else 0) r ?_ ?_ c) (h29 c)).trans ?_
  · intro k
    pointwise
    rw [hy]
  · intro i j
    pointwise
    exact h5 i j
  · refine congrArg (fun a : EReal => I.y t c.val * Ideal.rsqrt (a + Ideal.ofBits .f32 0x358637BD#32) * I.g c.val) ?_
    refine (group_mean (fun k => I.y t (128 * (c.val / 128) + k) * I.y t (128 * (c.val / 128) + k)) (c.val % 128) (by omega)).trans ?_
    refine congrArg (fun s : EReal => Ideal.div s (Ideal.ofBits .f32 0x42800000#32)) (Finset.sum_congr rfl fun l _ => ?_)
    have e : 128 * (c.val / 128) + (64 * (c.val % 128 / 64) + l.val) = 64 * (c.val / 64) + l.val := by omega
    simp only [e]

namespace Ops
/-- The arrays hold these operands. -/
structure Holds (I : Ops) (ya : FVec Ideal S8192x256 .f32) (yb : FVec Ideal S8192x512 .f32) (yc : FVec Ideal S8192x256 .f32) (g : FVec Ideal S1024 .f32) (w : FVec Ideal S1024x1024 .bf16) (x : FVec Ideal S8192x1024 .f32) : Prop where
  ya : ∀ (t : Fin 8192) (k : Fin 256), (ya (ix2 t k) : EReal) = I.ya t.val k.val
  yb : ∀ (t : Fin 8192) (k : Fin 512), (yb (ix2 t k) : EReal) = I.yb t.val k.val
  yc : ∀ (t : Fin 8192) (k : Fin 256), (yc (ix2 t k) : EReal) = I.yc t.val k.val
  g : ∀ k : Fin 1024, (g (ix1 k) : EReal) = I.g k.val
  w : ∀ (k : Fin 1024) (n : Fin 1024), (w (ix2 k n) : EReal) = I.w k.val n.val
  x : ∀ (t : Fin 8192) (k : Fin 1024), (x (ix2 t k) : EReal) = I.x t.val k.val
end Ops

/-- The operands some arrays hold. -/
def opsOf (ya : FVec Ideal S8192x256 .f32) (yb : FVec Ideal S8192x512 .f32) (yc : FVec Ideal S8192x256 .f32) (g : FVec Ideal S1024 .f32) (w : FVec Ideal S1024x1024 .bf16) (x : FVec Ideal S8192x1024 .f32) : Ops where
  ya t k := if h : t < 8192 ∧ k < 256 then ya (ix2 ⟨t, h.1⟩ ⟨k, h.2⟩) else 0
  yb t k := if h : t < 8192 ∧ k < 512 then yb (ix2 ⟨t, h.1⟩ ⟨k, h.2⟩) else 0
  yc t k := if h : t < 8192 ∧ k < 256 then yc (ix2 ⟨t, h.1⟩ ⟨k, h.2⟩) else 0
  g k := if h : k < 1024 then g (ix1 ⟨k, h⟩) else 0
  w k n := if h : k < 1024 ∧ n < 1024 then w (ix2 ⟨k, h.1⟩ ⟨n, h.2⟩) else 0
  x t k := if h : t < 8192 ∧ k < 1024 then x (ix2 ⟨t, h.1⟩ ⟨k, h.2⟩) else 0

theorem holds_of (ya : FVec Ideal S8192x256 .f32) (yb : FVec Ideal S8192x512 .f32) (yc : FVec Ideal S8192x256 .f32) (g : FVec Ideal S1024 .f32) (w : FVec Ideal S1024x1024 .bf16) (x : FVec Ideal S8192x1024 .f32) :
    (opsOf ya yb yc g w x).Holds ya yb yc g w x :=
  ⟨fun t k => by dsimp only [opsOf]; rw [dif_pos ⟨t.isLt, k.isLt⟩], fun t k => by dsimp only [opsOf]; rw [dif_pos ⟨t.isLt, k.isLt⟩], fun t k => by dsimp only [opsOf]; rw [dif_pos ⟨t.isLt, k.isLt⟩],
    fun k => by dsimp only [opsOf]; rw [dif_pos k.isLt], fun k n => by dsimp only [opsOf]; rw [dif_pos ⟨k.isLt, n.isLt⟩], fun t k => by dsimp only [opsOf]; rw [dif_pos ⟨t.isLt, k.isLt⟩]⟩

/-- Which block each point works on. -/
theorem idx : ∀ t : Fin cfg0.N, win0_0.index t = ![t.val, 0] ∧ win0_1.index t = ![t.val, 0] ∧ win0_2.index t = ![t.val, 0] ∧ win0_3.index t = ![0, 0]
    ∧ win0_4.index t = ![0, 0] ∧ win0_5.index t = ![t.val, 0] ∧ win0_6.index t = ![0, 0] ∧ win0_7.index t = ![t.val, 0] ∧ win0_8.index t = ![t.val, 0] :=
  (by decide +kernel : ∀ t : Fin grid0.N, _)

theorem point_lt (t : Fin cfg0.N) : t.val < 16 := t.isLt

section
variable (m : (ℓ : Loc nD τ sig) → Buf (Elt Ideal) ℓ) (c : Dev nD)

theorem blk0 (t : Fin cfg0.N) (r : Fin 512) (k : Fin 256) (h : 512 * t.val + r.val < 8192) :
    iblk m c 0 t (ix2 r k) = V m c main_arg0 (ix2 ⟨512 * t.val + r.val, h⟩ k) := by
  blk_ext [iblk, idx t]

theorem blk1 (t : Fin cfg0.N) (r : Fin 512) (k : Fin 512) (h : 512 * t.val + r.val < 8192) :
    iblk m c 1 t (ix2 r k) = V m c main_arg1 (ix2 ⟨512 * t.val + r.val, h⟩ k) := by
  blk_ext [iblk, idx t]

theorem blk2 (t : Fin cfg0.N) (r : Fin 512) (k : Fin 256) (h : 512 * t.val + r.val < 8192) :
    iblk m c 2 t (ix2 r k) = V m c main_arg2 (ix2 ⟨512 * t.val + r.val, h⟩ k) := by
  blk_ext [iblk, idx t]

theorem blk3 (t : Fin cfg0.N) (k : Fin 1024) : iblk m c 3 t (ix2 0 k) = V m c main_v0 (ix2 0 k) := by
  blk_ext [iblk, idx t]

theorem blk4 (t : Fin cfg0.N) (j : Fin 1024) (k : Fin 1024) : iblk m c 4 t (ix2 j k) = V m c main_arg4 (ix2 j k) := by
  blk_ext [iblk, idx t]

theorem blk5 (t : Fin cfg0.N) (r : Fin 512) (k : Fin 1024) (h : 512 * t.val + r.val < 8192) :
    iblk m c 5 t (ix2 r k) = V m c main_arg5 (ix2 ⟨512 * t.val + r.val, h⟩ k) := by
  blk_ext [iblk, idx t]

theorem blk6 (t : Fin cfg0.N) (j : Fin 128) (k : Fin 128) : iblk m c 6 t (ix2 j k) = V m c main_v10 (ix2 j k) := by
  blk_ext [iblk, idx t]

/-- The arguments hold the operands `I`. -/
def Args (I : Ops) : Prop :=
  I.Holds (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

variable {m c} {I : Ops} (H : Args m c I)

include H

/-- A row of the normalised block at a point. -/
theorem n_at (t : Fin cfg0.N) (r : Fin 512) (k : Fin 1024) :
    (k0_pay2 (iblk m c 0 t) (iblk m c 1 t) (iblk m c 2 t) (iblk m c 6 t) (iblk m c 3 t) (ix2 r k) : EReal) = I.n (512 * t.val + r.val) k.val := by
  have ht := point_lt t
  refine row_at _ _ _ _ _ I (512 * t.val + r.val) r (fun k => ?_) (fun k => ?_) (fun k => ?_) (fun i j => ?_) (fun k => ?_) k
  · refine (blk0 m c t r k (by omega)).trans ?_
    rw [V_main_arg0]
    exact H.ya _ k
  · refine (blk1 m c t r k (by omega)).trans ?_
    rw [V_main_arg1]
    exact H.yb _ k
  · refine (blk2 m c t r k (by omega)).trans ?_
    rw [V_main_arg2]
    exact H.yc _ k
  · exact (blk6 m c t i j).trans (V_gmat m c i j)
  · refine (blk3 m c t k).trans ?_
    rw [V_g]
    pointwise
    exact H.g k

theorem x_at (t : Fin cfg0.N) (r : Fin 512) (k : Fin 1024) : (iblk m c 5 t (ix2 r k) : EReal) = I.x (512 * t.val + r.val) k.val := by
  have ht := point_lt t
  refine (blk5 m c t r k (by omega)).trans ?_
  rw [V_main_arg5]
  exact H.x _ k

theorem w_at (t : Fin cfg0.N) (j : Fin 1024) (k : Fin 1024) : (iblk m c 4 t (ix2 j k) : EReal) = I.w j.val k.val := by
  refine (blk4 m c t j k).trans ?_
  rw [V_main_arg4]
  exact H.w j k

/-- The normalised heads after the run. -/
theorem final8 : (dats m 0 c).arrAt 8 (cfgs 0).N = fun y : S8192x1024.Idx => I.n (y 0).val (y 1).val := by
  refine (dats m 0 c).arrAt_eq_of_covers 8 _ (by decide +kernel) fun t hf y => ?_
  blk_simp
  rw [after0_8]
  frame_out
  obtain ⟨r, n, rfl⟩ : ∃ (r : Fin 512) (n : Fin 1024), y = ix2 r n := ⟨y 0, y 1, eq_ix2 y⟩
  refine (n_at H t r n).trans ?_
  rw [(idx t).2.2.2.2.2.2.2.2]
  show _ = I.n (t.val * 512 + r.val) (0 * 1024 + n.val)
  rw [Nat.zero_add, Nat.mul_comm]

/-- The residual stream after the run. -/
theorem final7 : (dats m 0 c).arrAt 7 (cfgs 0).N = fun y : S8192x1024.Idx => I.o (y 0).val (y 1).val := by
  refine (dats m 0 c).arrAt_eq_of_covers 7 _ (by decide +kernel) fun t hf y => ?_
  blk_simp
  rw [after0_7]
  frame_out
  obtain ⟨r, n, rfl⟩ : ∃ (r : Fin 512) (n : Fin 1024), y = ix2 r n := ⟨y 0, y 1, eq_ix2 y⟩
  refine (pay1_at _ _ _ _).trans ?_
  refine (congrArg₂ (fun a b : EReal => a + b) (x_at H t r n) (Finset.sum_congr rfl fun k _ => congrArg₂ (fun a b : EReal => a * b) (n_at H t r k) (w_at H t k n))).trans ?_
  rw [(idx t).2.2.2.2.2.2.2.1]
  show _ = I.o (t.val * 512 + r.val) (0 * 1024 + n.val)
  rw [Nat.zero_add, Nat.mul_comm]
  rfl

end

section
variable (m : (ℓ : Loc nD τ sig) → Buf (Elt Ideal) ℓ) (ρ : Dev nD → PrngReg)

/-- The run with each output array after it named, the arguments unchanged. -/
theorem run_blocks : θ_run defs (onTc (τ := τ) (main (F := Ideal))) ⟨m, fun _ => 0, ρ⟩ fun r => ∀ c : Dev nD,
      r.2.mem ((c.tc : Thread nD τ).loc main_v11_0) = (dats m 0 c).arrAt 7 cfg0.N
      ∧ r.2.mem ((c.tc : Thread nD τ).loc main_v11_1) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1 7, (h c).1 8,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c)))⟩) (run_main m ρ)
end

end Cert.Kernel10Ideal.Mix

end
-- ==== Proof.MixRef.lean ====
/-
  The reference of the mixer's output, entry by entry.
-/
module

public import proofs.«01_k».proof.Proof.MixSpec
public import proofs.«01_k».proof.Proof.Gen.Reference10Ideal
public import proofs.«01_k».proof.Proof.Gen.Reference10Ideal.Run

@[expose] public section

set_option maxRecDepth 16384

noncomputable section

open Idealize.ShloMosaic Idealize.ShloMosaic.TcCoe Idealize.SL.Sem

namespace Cert.Reference10Ideal.Mix

open Cert.Reference10Ideal Cert.Reference10Ideal.Gen Cert.Reference10Ideal.Value
open Cert.Kernel10Ideal.Mix (Ops)

/-- The heads side by side. -/
def catR (ya : FVec Ideal S8192x256 .f32) (yb : FVec Ideal S8192x512 .f32) (yc : FVec Ideal S8192x256 .f32) : FVec Ideal S8192x1024 .f32 :=
  concatenate S8192x1024 1 [⟨S8192x256, ya⟩, ⟨S8192x512, yb⟩, ⟨S8192x256, yc⟩] concatenates_S8192x256_S8192x512_S8192x256_S8192x1024_d1

/-- The heads' inverse root mean squares. -/
def rsR (y : FVec Ideal S8192x16x64 .f32) : FVec Ideal S8192x16x1 .f32 :=
  Host.rsqrt (addf (Host.divf (broadcastInDim S8192x16x1 ![0, 1] bcast_S8192x16_S8192x16x1_0_1 (Host.reduceAdd (mulf y y) (constant S_ .f32 0x00000000#32) reducesTo_S8192x16x64_S8192x16_d2 h_S_)) (broadcastInDim S8192x16x1 ![] bcast_S_S8192x16x1 (constant S_ .f32 0x42800000#32))) (broadcastInDim S8192x16x1 ![] bcast_S_S8192x16x1 (constant S_ .f32 0x358637BD#32)))

/-- The normalised heads, each by itself. -/
def nR (y : FVec Ideal S8192x16x64 .f32) (g : FVec Ideal S1024 .f32) : FVec Ideal S8192x16x64 .f32 :=
  mulf (mulf y (broadcastInDim S8192x16x64 ![0, 1, 2] bcast_S8192x16x1_S8192x16x64_0_1_2 (rsR y)))
    (broadcastInDim S8192x16x64 ![0, 1, 2] bcast_S1x16x64_S8192x16x64_0_1_2 (broadcastInDim S1x16x64 ![1, 2] bcast_S16x64_S1x16x64_1_2 (shapeCast S16x64 g shapeCasts_S1024_S16x64)))

/-- The normalised heads side by side. -/
def nfR (ya : FVec Ideal S8192x256 .f32) (yb : FVec Ideal S8192x512 .f32) (yc : FVec Ideal S8192x256 .f32) (g : FVec Ideal S1024 .f32) : FVec Ideal S8192x1024 .f32 :=
  shapeCast S8192x1024 (nR (shapeCast S8192x16x64 (catR ya yb yc) shapeCasts_S8192x1024_S8192x16x64) g) shapeCasts_S8192x16x64_S8192x1024

/-- The residual stream. -/
def oR (n : FVec Ideal S8192x1024 .f32) (w : FVec Ideal S1024x1024 .bf16) (x : FVec Ideal S8192x1024 .f32) : FVec Ideal S8192x1024 .f32 :=
  addf x (Host.dotGeneral dot_S8192x1024_S1024x1024_S8192x1024_1_0_0_1_n_n none n (extf .f32 w bitsLt_bf16_f32 : FVec Ideal S1024x1024 .f32))

section
variable {I : Ops} {ya : FVec Ideal S8192x256 .f32} {yb : FVec Ideal S8192x512 .f32} {yc : FVec Ideal S8192x256 .f32} {g : FVec Ideal S1024 .f32}
  {w : FVec Ideal S1024x1024 .bf16} {x : FVec Ideal S8192x1024 .f32} (H : I.Holds ya yb yc g w x)

include H

theorem cat_at (t : Fin 8192) (c : Fin 1024) : (catR ya yb yc (ix2 t c) : EReal) = I.y t.val c.val := by
  pointwise [catR]
  simp only [H.ya, H.yb, H.yc]
  unfold Ops.y
  by_cases h : c.val < 256
  · rw [dif_pos h, if_pos h]
  · rw [dif_neg h, if_neg h]
    by_cases h' : c.val < 768
    · rw [dif_pos (by omega), if_pos h']
    · rw [dif_neg (by omega), if_neg h', Nat.sub_sub]

theorem y_at (t : Fin 8192) (a : Fin 16) (b : Fin 64) :
    (shapeCast S8192x16x64 (catR ya yb yc) shapeCasts_S8192x1024_S8192x16x64 (ix3 t a b) : EReal) = I.y t.val (64 * a.val + b.val) := by
  pointwise
  refine (cat_at H t _).trans ?_
  show I.y t.val (a.val * 64 + b.val) = _
  rw [Nat.mul_comm a.val 64]

theorem nR_at (t : Fin 8192) (a : Fin 16) (b : Fin 64) :
    (nR (shapeCast S8192x16x64 (catR ya yb yc) shapeCasts_S8192x1024_S8192x16x64) g (ix3 t a b) : EReal) = I.n t.val (64 * a.val + b.val) := by
  generalize hY : (shapeCast S8192x16x64 (catR ya yb yc) shapeCasts_S8192x1024_S8192x16x64) = Y
  have hy : ∀ (t : Fin 8192) (a : Fin 16) (b : Fin 64), (Y (ix3 t a b) : EReal) = I.y t.val (64 * a.val + b.val) := fun t a b => by
    rw [← hY]; exact y_at H t a b
  pointwise [nR, rsR]
  simp only [hy, H.g]
  unfold Ops.n Cert.Kernel10Ideal.Mix.nrm
  have e : (64 * a.val + b.val) / 64 = a.val := by omega
  rw [e, Nat.mul_comm a.val 64]

theorem nfR_at (t : Fin 8192) (c : Fin 1024) : (nfR ya yb yc g (ix2 t c) : EReal) = I.n t.val c.val := by
  pointwise [nfR]
  refine (nR_at H t _ _).trans ?_
  show I.n t.val (64 * (c.val / 64) + c.val % 64) = _
  rw [Nat.div_add_mod]

theorem oR_at (t : Fin 8192) (c : Fin 1024) : (oR (nfR ya yb yc g) w x (ix2 t c) : EReal) = I.o t.val c.val := by
  pointwise [oR]
  simp only [nfR_at H, H.w, H.x]
  rfl

end

section
variable {I : Ops} (m : (ℓ : Loc nD τ sig) → Buf (Elt Ideal) ℓ) (c : Dev nD)
  (H : I.Holds (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))

include H

theorem o_ref : (oR (nfR (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) (m ((c.tc : Thread nD τ).loc main_arg5)) : FVec Ideal S8192x1024 .f32) = fun y : S8192x1024.Idx => I.o (y 0).val (y 1).val :=
  funext fun y => by
    rw [eq_ix2 y]
    exact oR_at H _ _

theorem n_ref : (truncf .bf16 (nfR (m ((c.tc : Thread nD τ).loc main_arg0)) (m ((c.tc : Thread nD τ).loc main_arg1)) (m ((c.tc : Thread nD τ).loc main_arg2)) (m ((c.tc : Thread nD τ).loc main_arg3))) bitsLt_bf16_f32 : FVec Ideal S8192x1024 .bf16) = fun y : S8192x1024.Idx => I.n (y 0).val (y 1).val :=
  funext fun y => by
    rw [eq_ix2 y]
    exact nfR_at H _ _
end

end Cert.Reference10Ideal.Mix

end
-- ==== Proof.lean ====
/-
  The claims of the gradient of stick-breaking attention, put together: the run of the kernel is Proof/Run.lean's, read at
  either program's values; the reference's run is its host operations'. At finite inputs both runs end with the same three
  gradients. The weight gradients of the projections are accumulated products, and are the reference's at every input.
  The gated block's backward kernel is read in Proof/GateFinal.lean and its reference in Proof/GateRef.lean, both at one
  record of real operands; at finite inputs they end with the same four gradients. The gated block's forward kernel is read
  in Proof/UpSpec.lean and its reference in Proof/UpRef.lean, both at one record of operands; they end with the same four
  arrays at every input.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Frame
public import proofs.«01_k».proof.Proof.Gen.Reference9Ideal
public import proofs.«01_k».proof.Proof.Gen.Reference9Ideal.Run
public import proofs.«01_k».proof.Proof.Weight2
public import proofs.«01_k».proof.Proof.Weight3
public import proofs.«01_k».proof.Proof.Weight4
public import proofs.«01_k».proof.Proof.Weight5
public import proofs.«01_k».proof.Proof.Weight6
public import proofs.«01_k».proof.Proof.Run
public import proofs.«01_k».proof.Proof.Same
public import proofs.«01_k».proof.Proof.EqIdeal
public import proofs.«01_k».proof.Proof.PreIdeal
public import proofs.«01_k».proof.Proof.GateFinal
public import proofs.«01_k».proof.Proof.GateRef
public import proofs.«01_k».proof.Proof.GatePre
public import proofs.«01_k».proof.Proof.Down8
public import Idealize.ShloMosaic.Adequacy
public import Idealize.ShloMosaic.Init
public import Idealize.ShloMosaic.Lib.Claim
public import proofs.«01_k».proof.Proof.UpRef
public import proofs.«01_k».proof.Proof.UpSame
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Reference10Ideal
public import proofs.«01_k».proof.Proof.Gen.Reference10Ideal.Run
public import proofs.«01_k».proof.Proof.MixRef

@[expose] public section

noncomputable section

namespace Cert.Proof

open Idealize.ShloMosaic Idealize.SL.Sem

/-- The kernel's frame: the run at the machine's floats. -/
theorem frame_kernel : Cert.quiescent_Kernel := by
  intro m ρ _
  rw [same_defs, same_main]
  exact frame_run (F := Bits) m ρ

/-- The idealized kernel's frame: the run at the extended reals. -/
theorem frame_kernelIdeal : Cert.quiescent_KernelIdeal := fun m ρ _ => frame_run (F := Ideal) m ρ

/-- The reference's frame: its host operations run through, and it declares no semaphore. -/
theorem frame_referenceIdeal : Cert.quiescent_ReferenceIdeal := fun m ρ _ =>
  (θ_run Cert.ReferenceIdeal.defs _ _).mono (fun r h => ⟨fun c => ⟨(h c).2.2.2.1, (h c).2.2.2.2⟩, sem_eq_zero_of_no_sems (by decide) r.2⟩)
    (Cert.ReferenceIdeal.Value.run (F := Ideal) m ρ)

section
open Idealize.ShloMosaic.TcCoe
variable [hP : Cert.Pre_finite_inputs.Facts] (m : (ℓ : Loc Cert.KernelIdeal.nD Cert.KernelIdeal.τ Cert.KernelIdeal.sig) → Buf (Elt Ideal) ℓ)
  (c : Dev Cert.KernelIdeal.nD)

/-- The queries a device starts from. -/
abbrev qOf : ℕ → ℕ → ℝ := realsFrom 512 (m ((c : Thread Cert.KernelIdeal.nD Cert.KernelIdeal.τ).loc Cert.KernelIdeal.main_arg0))

/-- The keys a device starts from. -/
abbrev kOf : ℕ → ℕ → ℝ := realsFrom 1024 (m ((c : Thread Cert.KernelIdeal.nD Cert.KernelIdeal.τ).loc Cert.KernelIdeal.main_arg0))

/-- The values a device starts from. -/
abbrev vOf : ℕ → ℕ → ℝ := realsFrom 1536 (m ((c : Thread Cert.KernelIdeal.nD Cert.KernelIdeal.τ).loc Cert.KernelIdeal.main_arg0))

/-- The output gradients a device starts from. -/
abbrev dOf : ℕ → ℕ → ℝ := realsOf (m ((c : Thread Cert.KernelIdeal.nD Cert.KernelIdeal.τ).loc Cert.KernelIdeal.main_arg1))

end

set_option maxRecDepth 16384 in
/-- At finite inputs the kernel and the reference end with the same gradients. -/
theorem algebraic [hP : Cert.Pre_finite_inputs.Facts] : Cert.algebraic_KernelIdeal_ReferenceIdeal_pre_finite_inputs := by
  intro m g m' g' hpre hagree
  have hq := fun c => realsFrom_at _ _ (hpre c) 512 (by omega) (by omega)
  have hk := fun c => realsFrom_at _ _ (hpre c) 1024 (by omega) (by omega)
  have hv := fun c => realsFrom_at _ _ (hpre c) 1536 (by omega) (by omega)
  have hd := fun c => realsOf_at _ _ (hpre c)
  refine ⟨fun c => arrDq (qOf m c) (kOf m c) (vOf m c) (dOf m c), fun c => arrDk (qOf m c) (kOf m c) (vOf m c) (dOf m c), fun c => arrDv (qOf m c) (kOf m c) (dOf m c), ?_, ?_⟩
  · refine (θ_run Cert.KernelIdeal.defs _ _).mono (fun r h c => ⟨?_, ?_, ?_, ?_, ?_⟩) (θ_run_and (run_main m g) (frame_run m g))
    · exact ((h.1.1 c).1 7).trans (final7 m c _ _ _ _ (hq c) (hk c) (hv c) (hd c))
    · exact ((h.1.1 c).1 8).trans (final8 m c _ _ _ _ (hq c) (hk c) (hv c) (hd c))
    · exact ((h.1.1 c).1 9).trans (final9 m c _ _ _ _ (hq c) (hk c) (hv c) (hd c))
    · exact (h.2.1 c).1
    · exact (h.2.1 c).2
  · refine (θ_run Cert.ReferenceIdeal.defs _ _).mono (fun r h c => ⟨(h c).1.trans ?_, (h c).2.1.trans ?_, (h c).2.2.1.trans ?_, (h c).2.2.2.1, (h c).2.2.2.2⟩)
      (Cert.ReferenceIdeal.Value.run (F := Ideal) m' g')
    · exact refDq _ _ _ _ _ (fun t j h => (congrFun (hagree c).1 _).trans (hq c t j h)) (fun t j h => (congrFun (hagree c).1 _).trans (hk c t j h))
        (fun t j h => (congrFun (hagree c).1 _).trans (hv c t j h)) (fun t j => (congrFun (hagree c).2 _).trans (hd c t j))
    · exact refDk _ _ _ _ _ (fun t j h => (congrFun (hagree c).1 _).trans (hq c t j h)) (fun t j h => (congrFun (hagree c).1 _).trans (hk c t j h))
        (fun t j h => (congrFun (hagree c).1 _).trans (hv c t j h)) (fun t j => (congrFun (hagree c).2 _).trans (hd c t j))
    · exact refDv _ _ _ _ _ (fun t j h => (congrFun (hagree c).1 _).trans (hq c t j h)) (fun t j h => (congrFun (hagree c).1 _).trans (hk c t j h))
        (fun t j h => (congrFun (hagree c).1 _).trans (hv c t j h)) (fun t j => (congrFun (hagree c).2 _).trans (hd c t j))

set_option maxRecDepth 16384 in
/-- The weight gradient of the up projection is the reference's. -/
theorem algebraic2 : Cert.algebraic_Kernel2Ideal_Reference2Ideal := by
  pair_intro
  · run_from Cert.Kernel2Ideal.Gen.run_main m g
  · run_from Cert.Reference2Ideal.Value.run m' g'
    exact (Cert.Kernel2Ideal.Weight.final m c).symm

/-- That reference's frame. -/
theorem frame_reference2Ideal : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

set_option maxRecDepth 16384 in
/-- The weight gradient of the down projection is the reference's. -/
theorem algebraic3 : Cert.algebraic_Kernel3Ideal_Reference3Ideal := by
  pair_intro
  · run_from Cert.Kernel3Ideal.Gen.run_main m g
  · run_from Cert.Reference3Ideal.Value.run m' g'
    exact (Cert.Kernel3Ideal.Weight.final m c).symm

/-- That reference's frame. -/
theorem frame_reference3Ideal : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

set_option maxRecDepth 16384 in
/-- The weight gradient of the attention's output projection is the reference's. -/
theorem algebraic4 : Cert.algebraic_Kernel4Ideal_Reference4Ideal := by
  pair_intro
  · run_from Cert.Kernel4Ideal.Gen.run_main m g
  · run_from Cert.Reference4Ideal.Value.run m' g'
    exact (Cert.Kernel4Ideal.Weight.final m c).symm

/-- That reference's frame. -/
theorem frame_reference4Ideal : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

set_option maxRecDepth 16384 in
/-- The weight gradient of the input projection's first columns is the reference's. -/
theorem algebraic5 : Cert.algebraic_Kernel5Ideal_Reference5Ideal := by
  pair_intro
  · run_from Cert.Kernel5Ideal.Gen.run_main m g
  · run_from Cert.Reference5Ideal.Value.run m' g'
    exact (Cert.Kernel5Ideal.Weight.final m c).symm

/-- That reference's frame. -/
theorem frame_reference5Ideal : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

set_option maxRecDepth 16384 in
/-- The weight gradient of the input projection's other columns is the reference's. -/
theorem algebraic6 : Cert.algebraic_Kernel6Ideal_Reference6Ideal := by
  pair_intro
  · run_from Cert.Kernel6Ideal.Gen.run_main m g
  · run_from Cert.Reference6Ideal.Value.run m' g'
    exact (Cert.Kernel6Ideal.Weight.final m c).symm

/-- That reference's frame. -/
theorem frame_reference6Ideal : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The gated block's operands a device starts from, as real numbers. -/
abbrev gateOf (m : (ℓ : Loc Cert.Kernel7Ideal.nD Cert.Kernel7Ideal.τ Cert.Kernel7Ideal.sig) → Buf (Elt Ideal) ℓ) (c : Dev Cert.Kernel7Ideal.nD) : Ins :=
  insOf (m (c.tc.loc Cert.Kernel7Ideal.main_arg0)) (m (c.tc.loc Cert.Kernel7Ideal.main_arg1))
    (m (c.tc.loc Cert.Kernel7Ideal.main_arg2)) (m (c.tc.loc Cert.Kernel7Ideal.main_arg3))
    (m (c.tc.loc Cert.Kernel7Ideal.main_arg4)) (m (c.tc.loc Cert.Kernel7Ideal.main_arg5))
    (m (c.tc.loc Cert.Kernel7Ideal.main_arg6))

set_option maxRecDepth 16384 in
/-- At finite inputs the gated block's gradients are the reference's. -/
theorem algebraic7 [hP : Cert.Pre_finite_inputs7.Facts] : Cert.algebraic_Kernel7Ideal_Reference7Ideal_pre_finite_inputs7 := by
  intro m g m' g' hpre hagree
  have hk : ∀ c, Cert.Kernel7Ideal.Gate.Args m c (gateOf m c) := fun c => holds_of _ _ _ _ _ _ _ (hpre c)
  have hr : ∀ c : Dev Cert.Kernel7Ideal.nD, Cert.Kernel7Ideal.Gate.Holds (gateOf m c) (StableHlo.launchContents m' c (Proc.devRef .tc Cert.Reference7Ideal.main_arg0)) (StableHlo.launchContents m' c (Proc.devRef .tc Cert.Reference7Ideal.main_arg1))
      (StableHlo.launchContents m' c (Proc.devRef .tc Cert.Reference7Ideal.main_arg2)) (StableHlo.launchContents m' c (Proc.devRef .tc Cert.Reference7Ideal.main_arg3)) (StableHlo.launchContents m' c (Proc.devRef .tc Cert.Reference7Ideal.main_arg4))
      (StableHlo.launchContents m' c (Proc.devRef .tc Cert.Reference7Ideal.main_arg5)) (StableHlo.launchContents m' c (Proc.devRef .tc Cert.Reference7Ideal.main_arg6)) := fun c =>
    ⟨fun t k => (congrFun (hagree c).1 _).trans ((hk c).x t k), fun t => (congrFun (hagree c).2.1 _).trans ((hk c).g t), fun t k => (congrFun (hagree c).2.2.1 _).trans ((hk c).w t k), fun t k => (congrFun (hagree c).2.2.2.1 _).trans ((hk c).cw t k), fun t => (congrFun (hagree c).2.2.2.2.1 _).trans ((hk c).cb t), fun t k => (congrFun (hagree c).2.2.2.2.2.1 _).trans ((hk c).wd t k), fun t k => (congrFun (hagree c).2.2.2.2.2.2 _).trans ((hk c).dy t k)⟩
  refine ⟨fun c => (Cert.Kernel7Ideal.Gen.dats m 0 c).arrAt 10 (Cert.Kernel7Ideal.cfgs 0).N, fun c => (Cert.Kernel7Ideal.Gen.dats m 0 c).arrAt 11 (Cert.Kernel7Ideal.cfgs 0).N,
    fun c => (Cert.Kernel7Ideal.Gen.dats m 0 c).arrAt 12 (Cert.Kernel7Ideal.cfgs 0).N, fun c => (Cert.Kernel7Ideal.Gen.dats m 0 c).arrAt 13 (Cert.Kernel7Ideal.cfgs 0).N, ?_, ?_⟩
  · exact Cert.Kernel7Ideal.Value.run_blocks m g
  · refine (θ_run Cert.Reference7Ideal.defs _ _).mono (fun r h c => ⟨(h c).1.trans ?_, (h c).2.1.trans ?_, (h c).2.2.1.trans ?_, (h c).2.2.2.1.trans ?_, (h c).2.2.2.2⟩)
      (Cert.Reference7Ideal.Value.run (F := Ideal) m' g')
    · exact (funext fun y => Cert.Reference7Ideal.Gate.dz_at (hr c) y).trans (Cert.Kernel7Ideal.Gate.final10 (hk c)).symm
    · exact (funext fun y => Cert.Reference7Ideal.Gate.tap_at (hr c) y).trans (Cert.Kernel7Ideal.Gate.final11 (hk c)).symm
    · exact (funext fun y => Cert.Reference7Ideal.Gate.dx_at (hr c) y).trans (Cert.Kernel7Ideal.Gate.final12 (hk c)).symm
    · exact (funext fun y => Cert.Reference7Ideal.Gate.dg_at (hr c) y).trans (Cert.Kernel7Ideal.Gate.final13 (hk c)).symm

set_option maxRecDepth 16384 in
/-- The down projection with the residual added is the reference's. -/
theorem algebraic8 : Cert.algebraic_Kernel8Ideal_Reference8Ideal := by
  pair_intro
  · run_from Cert.Kernel8Ideal.Gen.run_main m g
  · run_from Cert.Reference8Ideal.Value.run m' g'
    exact (Cert.Kernel8Ideal.Down.final m c).symm

/-- That reference's frame. -/
theorem frame_reference8Ideal : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- That reference's frame. -/
theorem frame_reference7Ideal : Cert.quiescent_Reference7Ideal := fun m ρ _ =>
  (θ_run Cert.Reference7Ideal.defs _ _).mono (fun r h => ⟨fun c => (h c).2.2.2.2, sem_eq_zero_of_no_sems (by decide) r.2⟩)
    (Cert.Reference7Ideal.Value.run (F := Ideal) m ρ)

/-- The gated block's forward kernel at the machine's floats runs through, its arguments unchanged. -/
theorem frame_kernel9 : Cert.quiescent_Kernel9 := by
  intro m ρ _
  rw [same_defs9, same_main9]
  exact Cert.Kernel9Ideal.Up.frame_run (F := Bits) m ρ

/-- The same at the extended reals. -/
theorem frame_kernel9Ideal : Cert.quiescent_Kernel9Ideal := fun m ρ _ => Cert.Kernel9Ideal.Up.frame_run (F := Ideal) m ρ

/-- That reference's frame. -/
theorem frame_reference9Ideal : Cert.quiescent_Reference9Ideal := fun m ρ _ =>
  (θ_run Cert.Reference9Ideal.defs _ _).mono (fun r h => ⟨fun c => (h c).2.2.2.2, sem_eq_zero_of_no_sems (by decide) r.2⟩)
    (Cert.Reference9Ideal.Value.run (F := Ideal) m ρ)

/-- The gated block's forward operands a device starts from. -/
abbrev upOf (m : (ℓ : Loc Cert.Kernel9Ideal.nD Cert.Kernel9Ideal.τ Cert.Kernel9Ideal.sig) → Buf (Elt Ideal) ℓ) (c : Dev Cert.Kernel9Ideal.nD) : Cert.Kernel9Ideal.Up.Ops :=
  Cert.Kernel9Ideal.Up.opsOf (m (c.tc.loc Cert.Kernel9Ideal.main_arg0)) (m (c.tc.loc Cert.Kernel9Ideal.main_arg1)) (m (c.tc.loc Cert.Kernel9Ideal.main_arg2))
    (m (c.tc.loc Cert.Kernel9Ideal.main_arg3)) (m (c.tc.loc Cert.Kernel9Ideal.main_arg4))

set_option maxRecDepth 16384 in
/-- The gated block's forward values are the reference's. -/
theorem algebraic9 : Cert.algebraic_Kernel9Ideal_Reference9Ideal := by
  intro m g m' g' hpre hagree
  have hk : ∀ c, Cert.Kernel9Ideal.Up.Args m c (upOf m c) := fun c => Cert.Kernel9Ideal.Up.holds_of _ _ _ _ _
  have hr : ∀ c : Dev Cert.Kernel9Ideal.nD, (upOf m c).Holds (m' (c.tc.loc Cert.Reference9Ideal.main_arg0)) (m' (c.tc.loc Cert.Reference9Ideal.main_arg1)) (m' (c.tc.loc Cert.Reference9Ideal.main_arg2))
      (m' (c.tc.loc Cert.Reference9Ideal.main_arg3)) (m' (c.tc.loc Cert.Reference9Ideal.main_arg4)) := fun c =>
    ⟨fun t k => (congrFun (hagree c).1 _).trans ((hk c).x t k), fun k => (congrFun (hagree c).2.1 _).trans ((hk c).g k), fun k n => (congrFun (hagree c).2.2.1 _).trans ((hk c).w k n),
      fun j n => (congrFun (hagree c).2.2.2.1 _).trans ((hk c).cw j n), fun n => (congrFun (hagree c).2.2.2.2 _).trans ((hk c).cb n)⟩
  refine ⟨fun c => (Cert.Kernel9Ideal.Up.dats m 0 c).arrAt 4 (Cert.Kernel9Ideal.cfgs 0).N, fun c => (Cert.Kernel9Ideal.Up.dats m 0 c).arrAt 5 (Cert.Kernel9Ideal.cfgs 0).N,
    fun c => (Cert.Kernel9Ideal.Up.dats m 0 c).arrAt 6 (Cert.Kernel9Ideal.cfgs 0).N, fun c => (Cert.Kernel9Ideal.Up.dats m 0 c).arrAt 7 (Cert.Kernel9Ideal.cfgs 0).N, ?_, ?_⟩
  · exact Cert.Kernel9Ideal.Up.run_blocks m g
  · refine (θ_run Cert.Reference9Ideal.defs _ _).mono (fun r h c => ⟨(h c).1.trans ?_, (h c).2.1.trans ?_, (h c).2.2.1.trans ?_, (h c).2.2.2.1.trans ?_, (h c).2.2.2.2⟩)
      (Cert.Reference9Ideal.Value.run (F := Ideal) m' g')
    · exact (Cert.Reference9Ideal.Up.h_ref m' c (hr c)).trans (Cert.Kernel9Ideal.Up.final4 (hk c)).symm
    · exact (Cert.Reference9Ideal.Up.z_ref m' c (hr c)).trans (Cert.Kernel9Ideal.Up.final5 (hk c)).symm
    · exact (Cert.Reference9Ideal.Up.c_ref m' c (hr c)).trans (Cert.Kernel9Ideal.Up.final6 (hk c)).symm
    · exact (Cert.Reference9Ideal.Up.f_ref m' c (hr c)).trans (Cert.Kernel9Ideal.Up.final7 (hk c)).symm

/-- That reference's frame. -/
theorem frame_reference10Ideal : Cert.quiescent_Reference10Ideal := fun m ρ _ =>
  (θ_run Cert.Reference10Ideal.defs _ _).mono (fun r h => ⟨fun c => (h c).2.2, sem_eq_zero_of_no_sems (by decide) r.2⟩)
    (Cert.Reference10Ideal.Value.run (F := Ideal) m ρ)

/-- The mixer output's operands a device starts from. -/
abbrev mixOf (m : (ℓ : Loc Cert.Kernel10Ideal.nD Cert.Kernel10Ideal.τ Cert.Kernel10Ideal.sig) → Buf (Elt Ideal) ℓ) (c : Dev Cert.Kernel10Ideal.nD) : Cert.Kernel10Ideal.Mix.Ops :=
  Cert.Kernel10Ideal.Mix.opsOf (m (c.tc.loc Cert.Kernel10Ideal.main_arg0)) (m (c.tc.loc Cert.Kernel10Ideal.main_arg1)) (m (c.tc.loc Cert.Kernel10Ideal.main_arg2))
    (m (c.tc.loc Cert.Kernel10Ideal.main_arg3)) (m (c.tc.loc Cert.Kernel10Ideal.main_arg4)) (m (c.tc.loc Cert.Kernel10Ideal.main_arg5))

set_option maxRecDepth 16384 in
/-- The mixer's output is the reference's. -/
theorem algebraic10 : Cert.algebraic_Kernel10Ideal_Reference10Ideal := by
  intro m g m' g' hpre hagree
  have hk : ∀ c, Cert.Kernel10Ideal.Mix.Args m c (mixOf m c) := fun c => Cert.Kernel10Ideal.Mix.holds_of _ _ _ _ _ _
  have hr : ∀ c : Dev Cert.Kernel10Ideal.nD, (mixOf m c).Holds (m' (c.tc.loc Cert.Reference10Ideal.main_arg0)) (m' (c.tc.loc Cert.Reference10Ideal.main_arg1)) (m' (c.tc.loc Cert.Reference10Ideal.main_arg2))
      (m' (c.tc.loc Cert.Reference10Ideal.main_arg3)) (m' (c.tc.loc Cert.Reference10Ideal.main_arg4)) (m' (c.tc.loc Cert.Reference10Ideal.main_arg5)) := fun c =>
    ⟨fun t k => (congrFun (hagree c).1 _).trans ((hk c).ya t k), fun t k => (congrFun (hagree c).2.1 _).trans ((hk c).yb t k), fun t k => (congrFun (hagree c).2.2.1 _).trans ((hk c).yc t k),
      fun k => (congrFun (hagree c).2.2.2.1 _).trans ((hk c).g k), fun k n => (congrFun (hagree c).2.2.2.2.1 _).trans ((hk c).w k n), fun t k => (congrFun (hagree c).2.2.2.2.2 _).trans ((hk c).x t k)⟩
  refine ⟨fun c => (Cert.Kernel10Ideal.Gen.dats m 0 c).arrAt 7 (Cert.Kernel10Ideal.cfgs 0).N, fun c => (Cert.Kernel10Ideal.Gen.dats m 0 c).arrAt 8 (Cert.Kernel10Ideal.cfgs 0).N, ?_, ?_⟩
  · exact Cert.Kernel10Ideal.Mix.run_blocks m g
  · refine (θ_run Cert.Reference10Ideal.defs _ _).mono (fun r h c => ⟨(h c).1.trans ?_, (h c).2.1.trans ?_, (h c).2.2⟩)
      (Cert.Reference10Ideal.Value.run (F := Ideal) m' g')
    · exact (Cert.Reference10Ideal.Mix.o_ref m' c (hr c)).trans (Cert.Kernel10Ideal.Mix.final7 (hk c)).symm
    · exact (Cert.Reference10Ideal.Mix.n_ref m' c (hr c)).trans (Cert.Kernel10Ideal.Mix.final8 (hk c)).symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts,
  preFacts, preFacts7,
  frame_kernel, frame_kernelIdeal, fun m ρ _ => frame_kernelIdeal m ρ trivial, frame_referenceIdeal, fun m ρ _ => frame_referenceIdeal m ρ trivial,
  fun m ρ _ => Cert.Kernel2.Gen.frame m ρ, fun m ρ _ => Cert.Kernel2Ideal.Gen.frame m ρ, frame_reference2Ideal,
  fun m ρ _ => Cert.Kernel3.Gen.frame m ρ, fun m ρ _ => Cert.Kernel3Ideal.Gen.frame m ρ, frame_reference3Ideal,
  fun m ρ _ => Cert.Kernel4.Gen.frame m ρ, fun m ρ _ => Cert.Kernel4Ideal.Gen.frame m ρ, frame_reference4Ideal,
  fun m ρ _ => Cert.Kernel5.Gen.frame m ρ, fun m ρ _ => Cert.Kernel5Ideal.Gen.frame m ρ, frame_reference5Ideal,
  fun m ρ _ => Cert.Kernel6.Gen.frame m ρ, fun m ρ _ => Cert.Kernel6Ideal.Gen.frame m ρ, frame_reference6Ideal,
  fun m ρ _ => Cert.Kernel7.Gen.frame m ρ, fun m ρ _ => Cert.Kernel7Ideal.Gen.frame m ρ, fun m ρ _ => Cert.Kernel7Ideal.Gen.frame m ρ, frame_reference7Ideal, fun m ρ _ => frame_reference7Ideal m ρ trivial,
  fun m ρ _ => Cert.Kernel8.Gen.frame m ρ, fun m ρ _ => Cert.Kernel8Ideal.Gen.frame m ρ, frame_reference8Ideal,
  frame_kernel9, frame_kernel9Ideal, frame_reference9Ideal,
  fun m ρ _ => Cert.Kernel10.Gen.frame m ρ, fun m ρ _ => Cert.Kernel10Ideal.Gen.frame m ρ, frame_reference10Ideal,
  trivial, algebraic (hP := preFacts), trivial, algebraic2, trivial, algebraic3, trivial, algebraic4, trivial, algebraic5, trivial, algebraic6, trivial, algebraic7 (hP := preFacts7), trivial, algebraic8, trivial, algebraic9, trivial, algebraic10⟩

end Cert.Proof

end
